-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_padded18 [hPre_padded18 : Cert.Pre_padded18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_padded18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_padded18 [hPre_padded18 : Cert.Pre_padded18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_padded18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_padded19 [hPre_padded19 : Cert.Pre_padded19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_padded19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_padded19 [hPre_padded19 : Cert.Pre_padded19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_padded19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_padded20 [hPre_padded20 : Cert.Pre_padded20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_padded20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_padded20 [hPre_padded20 : Cert.Pre_padded20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_padded20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_padded21 [hPre_padded21 : Cert.Pre_padded21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_padded21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_padded21 [hPre_padded21 : Cert.Pre_padded21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_padded21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_padded22 [hPre_padded22 : Cert.Pre_padded22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_padded22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_padded22 [hPre_padded22 : Cert.Pre_padded22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_padded22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Kernel18Ideal_pre_padded18 [hKernel18Ideal : Cert.Kernel18Ideal.Facts] [hPre_padded18 : Cert.Pre_padded18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_padded18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Reference18Ideal_pre_padded18 [hReference18Ideal : Cert.Reference18Ideal.Facts] [hPre_padded18 : Cert.Pre_padded18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_padded18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Kernel19Ideal_pre_padded19 [hKernel19Ideal : Cert.Kernel19Ideal.Facts] [hPre_padded19 : Cert.Pre_padded19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_padded19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Reference19Ideal_pre_padded19 [hReference19Ideal : Cert.Reference19Ideal.Facts] [hPre_padded19 : Cert.Pre_padded19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_padded19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Kernel20Ideal_pre_padded20 [hKernel20Ideal : Cert.Kernel20Ideal.Facts] [hPre_padded20 : Cert.Pre_padded20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_padded20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Reference20Ideal_pre_padded20 [hReference20Ideal : Cert.Reference20Ideal.Facts] [hPre_padded20 : Cert.Pre_padded20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_padded20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Kernel21Ideal_pre_padded21 [hKernel21Ideal : Cert.Kernel21Ideal.Facts] [hPre_padded21 : Cert.Pre_padded21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_padded21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_padded21 [hReference21Ideal : Cert.Reference21Ideal.Facts] [hPre_padded21 : Cert.Pre_padded21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_padded21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_padded22 [hKernel22Ideal : Cert.Kernel22Ideal.Facts] [hPre_padded22 : Cert.Pre_padded22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_padded22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_padded22 [hReference22Ideal : Cert.Reference22Ideal.Facts] [hPre_padded22 : Cert.Pre_padded22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_padded22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_v35) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v31) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_padded18 [hKernel18Ideal : Cert.Kernel18Ideal.Facts] [hReference18Ideal : Cert.Reference18Ideal.Facts] [hPre_padded18 : Cert.Pre_padded18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_padded18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_padded19 [hKernel19Ideal : Cert.Kernel19Ideal.Facts] [hReference19Ideal : Cert.Reference19Ideal.Facts] [hPre_padded19 : Cert.Pre_padded19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_padded19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_padded20 [hKernel20Ideal : Cert.Kernel20Ideal.Facts] [hReference20Ideal : Cert.Reference20Ideal.Facts] [hPre_padded20 : Cert.Pre_padded20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_padded20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_padded21 [hKernel21Ideal : Cert.Kernel21Ideal.Facts] [hReference21Ideal : Cert.Reference21Ideal.Facts] [hPre_padded21 : Cert.Pre_padded21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_padded21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_padded22 [hKernel22Ideal : Cert.Kernel22Ideal.Facts] [hReference22Ideal : Cert.Reference22Ideal.Facts] [hPre_padded22 : Cert.Pre_padded22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_padded22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v46) = v0 c
          ∧ r.2.mem ((c.tc : Thread Cert.Reference22Ideal.nD Cert.Reference22Ideal.τ).loc Cert.Reference22Ideal.main_v47) = v1 c
          ∧ r.2.mem ((c.tc : Thread Cert.Reference22Ideal.nD Cert.Reference22Ideal.τ).loc Cert.Reference22Ideal.main_v29) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v40) = v0 c
          ∧ r.2.mem ((c.tc : Thread Cert.Reference23Ideal.nD Cert.Reference23Ideal.τ).loc Cert.Reference23Ideal.main_v41) = v1 c
          ∧ r.2.mem ((c.tc : Thread Cert.Reference23Ideal.nD Cert.Reference23Ideal.τ).loc Cert.Reference23Ideal.main_v23) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v8) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite6 : Cert.Pre_finite6.Facts) (hPre_finite7 : Cert.Pre_finite7.Facts) (hPre_padded18 : Cert.Pre_padded18.Facts) (hPre_padded19 : Cert.Pre_padded19.Facts) (hPre_padded20 : Cert.Pre_padded20.Facts) (hPre_padded21 : Cert.Pre_padded21.Facts) (hPre_padded22 : Cert.Pre_padded22.Facts) (hPre_finite23 : Cert.Pre_finite23.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_padded18 (hKernel18Ideal := hKernel18Ideal) (hPre_padded18 := hPre_padded18)
    ∧ quiescent_Reference18Ideal (hReference18Ideal := hReference18Ideal)
    ∧ quiescent_Reference18Ideal_pre_padded18 (hReference18Ideal := hReference18Ideal) (hPre_padded18 := hPre_padded18)
    ∧ quiescent_Kernel19 (hKernel19 := hKernel19)
    ∧ quiescent_Kernel19Ideal (hKernel19Ideal := hKernel19Ideal)
    ∧ quiescent_Kernel19Ideal_pre_padded19 (hKernel19Ideal := hKernel19Ideal) (hPre_padded19 := hPre_padded19)
    ∧ quiescent_Reference19Ideal (hReference19Ideal := hReference19Ideal)
    ∧ quiescent_Reference19Ideal_pre_padded19 (hReference19Ideal := hReference19Ideal) (hPre_padded19 := hPre_padded19)
    ∧ quiescent_Kernel20 (hKernel20 := hKernel20)
    ∧ quiescent_Kernel20Ideal (hKernel20Ideal := hKernel20Ideal)
    ∧ quiescent_Kernel20Ideal_pre_padded20 (hKernel20Ideal := hKernel20Ideal) (hPre_padded20 := hPre_padded20)
    ∧ quiescent_Reference20Ideal (hReference20Ideal := hReference20Ideal)
    ∧ quiescent_Reference20Ideal_pre_padded20 (hReference20Ideal := hReference20Ideal) (hPre_padded20 := hPre_padded20)
    ∧ quiescent_Kernel21 (hKernel21 := hKernel21)
    ∧ quiescent_Kernel21Ideal (hKernel21Ideal := hKernel21Ideal)
    ∧ quiescent_Kernel21Ideal_pre_padded21 (hKernel21Ideal := hKernel21Ideal) (hPre_padded21 := hPre_padded21)
    ∧ quiescent_Reference21Ideal (hReference21Ideal := hReference21Ideal)
    ∧ quiescent_Reference21Ideal_pre_padded21 (hReference21Ideal := hReference21Ideal) (hPre_padded21 := hPre_padded21)
    ∧ quiescent_Kernel22 (hKernel22 := hKernel22)
    ∧ quiescent_Kernel22Ideal (hKernel22Ideal := hKernel22Ideal)
    ∧ quiescent_Kernel22Ideal_pre_padded22 (hKernel22Ideal := hKernel22Ideal) (hPre_padded22 := hPre_padded22)
    ∧ quiescent_Reference22Ideal (hReference22Ideal := hReference22Ideal)
    ∧ quiescent_Reference22Ideal_pre_padded22 (hReference22Ideal := hReference22Ideal) (hPre_padded22 := hPre_padded22)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_padded18 (hKernel18Ideal := hKernel18Ideal) (hReference18Ideal := hReference18Ideal) (hPre_padded18 := hPre_padded18)
    ∧ preserves_Kernel19_Kernel19Ideal
    ∧ algebraic_Kernel19Ideal_Reference19Ideal_pre_padded19 (hKernel19Ideal := hKernel19Ideal) (hReference19Ideal := hReference19Ideal) (hPre_padded19 := hPre_padded19)
    ∧ preserves_Kernel20_Kernel20Ideal
    ∧ algebraic_Kernel20Ideal_Reference20Ideal_pre_padded20 (hKernel20Ideal := hKernel20Ideal) (hReference20Ideal := hReference20Ideal) (hPre_padded20 := hPre_padded20)
    ∧ preserves_Kernel21_Kernel21Ideal
    ∧ algebraic_Kernel21Ideal_Reference21Ideal_pre_padded21 (hKernel21Ideal := hKernel21Ideal) (hReference21Ideal := hReference21Ideal) (hPre_padded21 := hPre_padded21)
    ∧ preserves_Kernel22_Kernel22Ideal
    ∧ algebraic_Kernel22Ideal_Reference22Ideal_pre_padded22 (hKernel22Ideal := hKernel22Ideal) (hReference22Ideal := hReference22Ideal) (hPre_padded22 := hPre_padded22)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite23.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x128 .bf16) (main_arg1 : FVec F S128x1024 .bf16) (main_arg2 : FVec F S8192x1024 .f32) (main_arg3 : FVec F S8192x1024 .f32) (main_arg4 : FVec F S1x1024 .f32) (main_arg5 : FVec F S8192x1024 .f32) : IVec S_ 1 :=
  let main_v0 : FVec F S8192x128 .bf16 := Host.absf main_arg0
  let main_cst : FVec F S_ .bf16 := constant S_ .bf16 0x7F80#16
  let main_v1 : FVec F S8192x128 .bf16 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x1024 .bf16 := Host.absf main_arg1
  let main_cst_0 : FVec F S_ .bf16 := constant S_ .bf16 0x7F80#16
  let main_v5 : FVec F S128x1024 .bf16 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_finite6.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .bf16 := Host.absf main_arg3
  let main_cst_2 : FVec F S_ .bf16 := constant S_ .bf16 0x7F80#16
  let main_v10 : FVec F S8192x2816 .bf16 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== Pre_finite7.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩

class Facts : Prop where
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S2x8192x2816 .bf16) (main_arg1 : FVec F S5632x1024 .bf16) (main_arg2 : FVec F S8192x1024 .f32) (main_arg3 : FVec F S1x1024 .f32) (main_arg4 : FVec F S8192x1024 .f32) : IVec S_ 1 :=
  let main_v0 : FVec F S2x8192x2816 .bf16 := Host.absf main_arg0
  let main_cst : FVec F S_ .bf16 := constant S_ .bf16 0x7F80#16
  let main_v1 : FVec F S2x8192x2816 .bf16 := broadcastInDim S2x8192x2816 ![] bcast_S_S2x8192x2816 main_cst
  let main_v2 : IVec S2x8192x2816 1 := cmpf .olt main_v0 main_v1
  let main_c : IVec S_ 1 := constantI S_ 1 1#1
  let main_v3 : IVec S_ 1 := (fun x v => Host.reduce IntOp.andi x v reducesTo_S2x8192x2816_S_d0_1_2 h_S_) main_v2 main_c
  let main_v4 : FVec F S5632x1024 .bf16 := Host.absf main_arg1
  let main_cst_0 : FVec F S_ .bf16 := constant S_ .bf16 0x7F80#16
  let main_v5 : FVec F S5632x1024 .bf16 := broadcastInDim S5632x1024 ![] bcast_S_S5632x1024 main_cst_0
  let main_v6 : IVec S5632x1024 1 := cmpf .olt main_v4 main_v5
  let main_c_1 : IVec S_ 1 := constantI S_ 1 1#1
  let main_v7 : IVec S_ 1 := (fun x v => Host.reduce IntOp.andi x v reducesTo_S5632x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_padded18.lean ====
abbrev S3x8192x1024 : Shape := ⟨3, ![3, 8192, 1024]⟩
abbrev S8192x1024 : Shape := ⟨2, ![8192, 1024]⟩
abbrev S3x8192x8x128 : Shape := ⟨4, ![3, 8192, 8, 128]⟩
abbrev S3x8192x8x64 : Shape := ⟨4, ![3, 8192, 8, 64]⟩
abbrev S_ : Shape := ⟨0, ![]⟩

class Facts : Prop where
  shapeCasts_S3x8192x1024_S3x8192x8x128 : S3x8192x1024.ShapeCasts S3x8192x8x128
  slices_S3x8192x8x128_S3x8192x8x64_0_0_0_64 : S3x8192x8x128.Slices ![0, 0, 0, 64] S3x8192x8x64
  bcast_S_S3x8192x8x64 : S_.BroadcastsInDim S3x8192x8x64 (![] : Fin 0 → Fin S3x8192x8x64.rank)
  reducesTo_S3x8192x8x64_S_d0_1_2_3 : S3x8192x8x64.ReducesTo [0, 1, 2, 3] S_
  h_S_ : 0 < S_.numel

variable [Facts]

def fn {F : FTy → Type} [FloatOps F] (main_arg0 : FVec F S3x8192x1024 .bf16) (main_arg1 : FVec F S8192x1024 .bf16) : IVec S_ 1 :=
  let main_v0 : FVec F S3x8192x8x128 .bf16 := shapeCast S3x8192x8x128 main_arg0 shapeCasts_S3x8192x1024_S3x8192x8x128
  let main_v1 : FVec F S3x8192x8x64 .bf16 := (extractStridedSlice S3x8192x8x64 ![0, 0, 0, 64] · slices_S3x8192x8x128_S3x8192x8x64_0_0_0_64) main_v0
  let main_cst : FVec F S_ .bf16 := constant S_ .bf16 0x0000#16
  let main_v2 : FVec F S3x8192x8x64 .bf16 := broadcastInDim S3x8192x8x64 ![] bcast_S_S3x8192x8x64 main_cst
  let main_v3 : IVec S3x8192x8x64 1 := cmpf .oeq main_v1 main_v2
  let main_c : IVec S_ 1 := constantI S_ 1 1#1
  let main_v4 : IVec S_ 1 := (fun x v => Host.reduce IntOp.andi x v reducesTo_S3x8192x8x64_S_d0_1_2_3 h_S_) main_v3 main_c
  main_v4
-- ==== Pre_padded19.lean ====
abbrev S8192x3072 : Shape := ⟨2, ![8192, 3072]⟩
abbrev S8192x1024 : Shape := ⟨2, ![8192, 1024]⟩
abbrev S8192x24x128 : Shape := ⟨3, ![8192, 24, 128]⟩
abbrev S8192x24x64 : Shape := ⟨3, ![8192, 24, 64]⟩
abbrev S_ : Shape := ⟨0, ![]⟩

class Facts : Prop where
  shapeCasts_S8192x3072_S8192x24x128 : S8192x3072.ShapeCasts S8192x24x128
  slices_S8192x24x128_S8192x24x64_0_0_64 : S8192x24x128.Slices ![0, 0, 64] S8192x24x64
  bcast_S_S8192x24x64 : S_.BroadcastsInDim S8192x24x64 (![] : Fin 0 → Fin S8192x24x64.rank)
  reducesTo_S8192x24x64_S_d0_1_2 : S8192x24x64.ReducesTo [0, 1, 2] S_
  h_S_ : 0 < S_.numel

variable [Facts]

def fn {F : FTy → Type} [FloatOps F] (main_arg0 : FVec F S8192x3072 .bf16) (main_arg1 : FVec F S8192x1024 .bf16) : IVec S_ 1 :=
  let main_v0 : FVec F S8192x24x128 .bf16 := shapeCast S8192x24x128 main_arg0 shapeCasts_S8192x3072_S8192x24x128
  let main_v1 : FVec F S8192x24x64 .bf16 := (extractStridedSlice S8192x24x64 ![0, 0, 64] · slices_S8192x24x128_S8192x24x64_0_0_64) main_v0
  let main_cst : FVec F S_ .bf16 := constant S_ .bf16 0x0000#16
  let main_v2 : FVec F S8192x24x64 .bf16 := broadcastInDim S8192x24x64 ![] bcast_S_S8192x24x64 main_cst
  let main_v3 : IVec S8192x24x64 1 := cmpf .oeq main_v1 main_v2
  let main_c : IVec S_ 1 := constantI S_ 1 1#1
  let main_v4 : IVec S_ 1 := (fun x v => Host.reduce IntOp.andi x v reducesTo_S8192x24x64_S_d0_1_2 h_S_) main_v3 main_c
  main_v4
-- ==== Pre_padded20.lean ====
abbrev S8192x3072 : Shape := ⟨2, ![8192, 3072]⟩
abbrev S1536x1024 : Shape := ⟨2, ![1536, 1024]⟩
abbrev S8192x24x128 : Shape := ⟨3, ![8192, 24, 128]⟩
abbrev S8192x24x64 : Shape := ⟨3, ![8192, 24, 64]⟩
abbrev S_ : Shape := ⟨0, ![]⟩

class Facts : Prop where
  shapeCasts_S8192x3072_S8192x24x128 : S8192x3072.ShapeCasts S8192x24x128
  slices_S8192x24x128_S8192x24x64_0_0_64 : S8192x24x128.Slices ![0, 0, 64] S8192x24x64
  bcast_S_S8192x24x64 : S_.BroadcastsInDim S8192x24x64 (![] : Fin 0 → Fin S8192x24x64.rank)
  reducesTo_S8192x24x64_S_d0_1_2 : S8192x24x64.ReducesTo [0, 1, 2] S_
  h_S_ : 0 < S_.numel

variable [Facts]

def fn {F : FTy → Type} [FloatOps F] (main_arg0 : FVec F S8192x3072 .bf16) (main_arg1 : FVec F S1536x1024 .bf16) : IVec S_ 1 :=
  let main_v0 : FVec F S8192x24x128 .bf16 := shapeCast S8192x24x128 main_arg0 shapeCasts_S8192x3072_S8192x24x128
  let main_v1 : FVec F S8192x24x64 .bf16 := (extractStridedSlice S8192x24x64 ![0, 0, 64] · slices_S8192x24x128_S8192x24x64_0_0_64) main_v0
  let main_cst : FVec F S_ .bf16 := constant S_ .bf16 0x0000#16
  let main_v2 : FVec F S8192x24x64 .bf16 := broadcastInDim S8192x24x64 ![] bcast_S_S8192x24x64 main_cst
  let main_v3 : IVec S8192x24x64 1 := cmpf .oeq main_v1 main_v2
  let main_c : IVec S_ 1 := constantI S_ 1 1#1
  let main_v4 : IVec S_ 1 := (fun x v => Host.reduce IntOp.andi x v reducesTo_S8192x24x64_S_d0_1_2 h_S_) main_v3 main_c
  main_v4
-- ==== Pre_padded21.lean ====
abbrev S3x8192x1024 : Shape := ⟨3, ![3, 8192, 1024]⟩
abbrev S1536x1024 : Shape := ⟨2, ![1536, 1024]⟩
abbrev S8192x1024 : Shape := ⟨2, ![8192, 1024]⟩
abbrev S3x8192x8x128 : Shape := ⟨4, ![3, 8192, 8, 128]⟩
abbrev S3x8192x8x64 : Shape := ⟨4, ![3, 8192, 8, 64]⟩
abbrev S_ : Shape := ⟨0, ![]⟩

class Facts : Prop where
  shapeCasts_S3x8192x1024_S3x8192x8x128 : S3x8192x1024.ShapeCasts S3x8192x8x128
  slices_S3x8192x8x128_S3x8192x8x64_0_0_0_64 : S3x8192x8x128.Slices ![0, 0, 0, 64] S3x8192x8x64
  bcast_S_S3x8192x8x64 : S_.BroadcastsInDim S3x8192x8x64 (![] : Fin 0 → Fin S3x8192x8x64.rank)
  reducesTo_S3x8192x8x64_S_d0_1_2_3 : S3x8192x8x64.ReducesTo [0, 1, 2, 3] S_
  h_S_ : 0 < S_.numel

variable [Facts]

def fn {F : FTy → Type} [FloatOps F] (main_arg0 : FVec F S3x8192x1024 .bf16) (main_arg1 : FVec F S1536x1024 .bf16) (main_arg2 : FVec F S8192x1024 .f32) : IVec S_ 1 :=
  let main_v0 : FVec F S3x8192x8x128 .bf16 := shapeCast S3x8192x8x128 main_arg0 shapeCasts_S3x8192x1024_S3x8192x8x128
  let main_v1 : FVec F S3x8192x8x64 .bf16 := (extractStridedSlice S3x8192x8x64 ![0, 0, 0, 64] · slices_S3x8192x8x128_S3x8192x8x64_0_0_0_64) main_v0
  let main_cst : FVec F S_ .bf16 := constant S_ .bf16 0x0000#16
  let main_v2 : FVec F S3x8192x8x64 .bf16 := broadcastInDim S3x8192x8x64 ![] bcast_S_S3x8192x8x64 main_cst
  let main_v3 : IVec S3x8192x8x64 1 := cmpf .oeq main_v1 main_v2
  let main_c : IVec S_ 1 := constantI S_ 1 1#1
  let main_v4 : IVec S_ 1 := (fun x v => Host.reduce IntOp.andi x v reducesTo_S3x8192x8x64_S_d0_1_2_3 h_S_) main_v3 main_c
  main_v4
-- ==== Pre_padded22.lean ====
abbrev S3x8192x1024 : Shape := ⟨3, ![3, 8192, 1024]⟩
abbrev S1536x1024 : Shape := ⟨2, ![1536, 1024]⟩
abbrev S8192x1024 : Shape := ⟨2, ![8192, 1024]⟩
abbrev S1x1024 : Shape := ⟨2, ![1, 1024]⟩
abbrev S_ : Shape := ⟨0, ![]⟩
abbrev S3x8192x8x128 : Shape := ⟨4, ![3, 8192, 8, 128]⟩
abbrev S3x8192x8x64 : Shape := ⟨4, ![3, 8192, 8, 64]⟩

class Facts : Prop where
  bcast_S_S3x8192x1024 : S_.BroadcastsInDim S3x8192x1024 (![] : Fin 0 → Fin S3x8192x1024.rank)
  reducesTo_S3x8192x1024_S_d0_1_2 : S3x8192x1024.ReducesTo [0, 1, 2] S_
  h_S_ : 0 < S_.numel
  bcast_S_S1536x1024 : S_.BroadcastsInDim S1536x1024 (![] : Fin 0 → Fin S1536x1024.rank)
  reducesTo_S1536x1024_S_d0_1 : S1536x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  shapeCasts_S3x8192x1024_S3x8192x8x128 : S3x8192x1024.ShapeCasts S3x8192x8x128
  slices_S3x8192x8x128_S3x8192x8x64_0_0_0_64 : S3x8192x8x128.Slices ![0, 0, 0, 64] S3x8192x8x64
  bcast_S_S3x8192x8x64 : S_.BroadcastsInDim S3x8192x8x64 (![] : Fin 0 → Fin S3x8192x8x64.rank)
  reducesTo_S3x8192x8x64_S_d0_1_2_3 : S3x8192x8x64.ReducesTo [0, 1, 2, 3] S_

variable [Facts]

def fn_part1 {F : FTy → Type} [FloatOps F] (main_arg0 : FVec F S3x8192x1024 .bf16) (main_arg4 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S3x8192x8x128 .bf16 := shapeCast S3x8192x8x128 main_arg0 shapeCasts_S3x8192x1024_S3x8192x8x128
  let main_v25 : FVec F S3x8192x8x64 .bf16 := (extractStridedSlice S3x8192x8x64 ![0, 0, 0, 64] · slices_S3x8192x8x128_S3x8192x8x64_0_0_0_64) main_v24
  let main_cst_8 : FVec F S_ .bf16 := constant S_ .bf16 0x0000#16
  let main_v26 : FVec F S3x8192x8x64 .bf16 := broadcastInDim S3x8192x8x64 ![] bcast_S_S3x8192x8x64 main_cst_8
  let main_v27 : IVec S3x8192x8x64 1 := cmpf .oeq main_v25 main_v26
  let main_c_9 : IVec S_ 1 := constantI S_ 1 1#1
  let main_v28 : IVec S_ 1 := (fun x v => Host.reduce IntOp.andi x v reducesTo_S3x8192x8x64_S_d0_1_2_3 h_S_) main_v27 main_c_9
  let main_v29 : IVec S_ 1 := andi main_v23 main_v28
  main_v29

def fn {F : FTy → Type} [FloatOps F] (main_arg0 : FVec F S3x8192x1024 .bf16) (main_arg1 : FVec F S1536x1024 .bf16) (main_arg2 : FVec F S8192x1024 .f32) (main_arg3 : FVec F S8192x1024 .f32) (main_arg4 : FVec F S1x1024 .f32) (main_arg5 : FVec F S8192x1024 .f32) : IVec S_ 1 :=
  let main_v0 : FVec F S3x8192x1024 .bf16 := Host.absf main_arg0
  let main_cst : FVec F S_ .bf16 := constant S_ .bf16 0x7F80#16
  let main_v1 : FVec F S3x8192x1024 .bf16 := broadcastInDim S3x8192x1024 ![] bcast_S_S3x8192x1024 main_cst
  let main_v2 : IVec S3x8192x1024 1 := cmpf .olt main_v0 main_v1
  let main_c : IVec S_ 1 := constantI S_ 1 1#1
  let main_v3 : IVec S_ 1 := (fun x v => Host.reduce IntOp.andi x v reducesTo_S3x8192x1024_S_d0_1_2 h_S_) main_v2 main_c
  let main_v4 : FVec F S1536x1024 .bf16 := Host.absf main_arg1
  let main_cst_0 : FVec F S_ .bf16 := constant S_ .bf16 0x7F80#16
  let main_v5 : FVec F S1536x1024 .bf16 := broadcastInDim S1536x1024 ![] bcast_S_S1536x1024 main_cst_0
  let main_v6 : IVec S1536x1024 1 := cmpf .olt main_v4 main_v5
  let main_c_1 : IVec S_ 1 := constantI S_ 1 1#1
  let main_v7 : IVec S_ 1 := (fun x v => Host.reduce IntOp.andi x v reducesTo_S1536x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg0 main_arg4 main_v13 main_v16
-- ==== Kernel.lean ====
abbrev S8192x1024 : Shape := ⟨2, ![8192, 1024]⟩
abbrev S128x1024 : Shape := ⟨2, ![128, 1024]⟩
abbrev S128x128 : Shape := ⟨2, ![128, 128]⟩
abbrev S1x128x128 : Shape := ⟨3, ![1, 128, 128]⟩
abbrev S8x128x128 : Shape := ⟨3, ![8, 128, 128]⟩

abbrev nBuf : Space → Nat
  | .hbm => 15
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .bf16⟩
  | .local _ .vmem, ⟨36, _⟩ => ⟨S128x1024, .bf16⟩
  | .local _ .vmem, ⟨37, _⟩ => ⟨S128x1024, .bf16⟩
  | .local _ .vmem, ⟨38, _⟩ => ⟨S128x1024, .bf16⟩
  | .local _ .vmem, ⟨39, _⟩ => ⟨S128x1024, .bf16⟩
  | .local _ .vmem, ⟨40, _⟩ => ⟨S128x1024, .bf16⟩
  | .local _ .vmem, ⟨41, _⟩ => ⟨S128x1024, .bf16⟩
  | .local _ .vmem, ⟨42, _⟩ => ⟨S128x1024, .bf16⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8192x1024 : Shape := ⟨2, ![8192, 1024]⟩
abbrev S_ : Shape := ⟨0, ![]⟩
abbrev S8x128x128 : Shape := ⟨3, ![8, 128, 128]⟩
abbrev S64x128x8x128 : Shape := ⟨4, ![64, 128, 8, 128]⟩
abbrev S64x8x128x128 : Shape := ⟨4, ![64, 8, 128, 128]⟩
abbrev S1x8x128x128 : Shape := ⟨4, ![1, 8, 128, 128]⟩

abbrev nBuf : Space → Nat
  | .hbm => 250
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S8192x1024, .bf16⟩
  | 4 => ⟨S8192x1024, .bf16⟩
  | 5 => ⟨S8192x1024, .f32⟩
  | 6 => ⟨S8192x1024, .f32⟩
  | 7 => ⟨S_, .f32⟩
  | 8 => ⟨S8x128x128, .f32⟩
  | 9 => ⟨S64x128x8x128, .f32⟩
  | 10 => ⟨S64x8x128x128, .f32⟩
  | 11 => ⟨S8192x1024, .f32⟩
  | 12 => ⟨S64x128x8x128, .f32⟩
  | 13 => ⟨S64x8x128x128, .f32⟩
  | 14 => ⟨S8192x1024, .f32⟩
  | 15 => ⟨S64x128x8x128, .f32⟩
  | 16 => ⟨S64x8x128x128, .f32⟩
  | 17 => ⟨S8192x1024, .f32⟩
  | 18 => ⟨S64x128x8x128, .f32⟩
  | 19 => ⟨S64x8x128x128, .f32⟩
  | 20 => ⟨S8192x1024, .f32⟩
  | 21 => ⟨S64x128x8x128, .f32⟩
  | 22 => ⟨S64x8x128x128, .f32⟩
  | 23 => ⟨S64x128x8x128, .f32⟩
  | 24 => ⟨S64x8x128x128, .f32⟩
  | 25 => ⟨S_, .f32⟩
  | 26 => ⟨S64x8x128x128, .f32⟩
  | 27 => ⟨S_, .f32⟩
  | 28 => ⟨S64x8x128x128, .f32⟩
  | 29 => ⟨S_, .f32⟩
  | 30 => ⟨S64x8x128x128, .f32⟩
  | 31 => ⟨S_, .i32⟩
  | 32 => ⟨S64x8x128x128, .f32⟩
  | 33 => ⟨S64x8x128x128, .f32⟩
  | 34 => ⟨S64x8x128x128, .f32⟩
  | 35 => ⟨S64x8x128x128, .f32⟩
  | 36 => ⟨S64x8x128x128, .f32⟩
  | 37 => ⟨S64x8x128x128, .f32⟩
  | 38 => ⟨S_, .i32⟩
  | 39 => ⟨S8x128x128, .f32⟩
  | 40 => ⟨S64x8x128x128, .f32⟩
  | 41 => ⟨S64x8x128x128, .f32⟩
  | 42 => ⟨S64x8x128x128, .f32⟩
  | 43 => ⟨S_, .i32⟩
  | 44 => ⟨S_, .i1⟩
  | 45 => ⟨S_, .i32⟩
  | 46 => ⟨S_, .i32⟩
  | 47 => ⟨S_, .i32⟩
  | 48 => ⟨S1x8x128x128, .f32⟩
  | 49 => ⟨S8x128x128, .f32⟩
  | 50 => ⟨S_, .i32⟩
  | 51 => ⟨S_, .i32⟩
  | 52 => ⟨S_, .i32⟩
  | 53 => ⟨S1x8x128x128, .f32⟩
  | 54 => ⟨S8x128x128, .f32⟩
  | 55 => ⟨S_, .i32⟩
  | 56 => ⟨S_, .i32⟩
  | 57 => ⟨S_, .i32⟩
  | 58 => ⟨S1x8x128x128, .f32⟩
  | 59 => ⟨S8x128x128, .f32⟩
  | 60 => ⟨S_, .i32⟩
  | 61 => ⟨S_, .i32⟩
  | 62 => ⟨S_, .i32⟩
  | 63 => ⟨S1x8x128x128, .f32⟩
  | 64 => ⟨S8x128x128, .f32⟩
  | 65 => ⟨S_, .i32⟩
  | 66 => ⟨S_, .i32⟩
  | 67 => ⟨S_, .i32⟩
  | 68 => ⟨S1x8x128x128, .f32⟩
  | 69 => ⟨S8x128x128, .f32⟩
  | 70 => ⟨S_, .i32⟩
  | 71 => ⟨S_, .i32⟩
  | 72 => ⟨S_, .i32⟩
  | 73 => ⟨S1x8x128x128, .f32⟩
  | 74 => ⟨S8x128x128, .f32⟩
  | 75 => ⟨S8x128x128, .f32⟩
  | 76 => ⟨S8x128x128, .f32⟩
  | 77 => ⟨S8x128x128, .f32⟩
  | 78 => ⟨S8x128x128, .f32⟩
  | 79 => ⟨S8x128x128, .f32⟩
  | 80 => ⟨S8x128x128, .f32⟩
  | 81 => ⟨S8x128x128, .f32⟩
  | 82 => ⟨S8x128x128, .f32⟩
  | 83 => ⟨S1x8x128x128, .f32⟩
  | 84 => ⟨S_, .i32⟩
  | 85 => ⟨S_, .i32⟩
  | 86 => ⟨S_, .i32⟩
  | 87 => ⟨S64x8x128x128, .f32⟩
  | 88 => ⟨S1x8x128x128, .f32⟩
  | 89 => ⟨S_, .i32⟩
  | 90 => ⟨S_, .i32⟩
  | 91 => ⟨S_, .i32⟩
  | 92 => ⟨S64x8x128x128, .f32⟩
  | 93 => ⟨S1x8x128x128, .f32⟩
  | 94 => ⟨S_, .i32⟩
  | 95 => ⟨S_, .i32⟩
  | 96 => ⟨S_, .i32⟩
  | 97 => ⟨S64x8x128x128, .f32⟩
  | 98 => ⟨S_, .i32⟩
  | 99 => ⟨S_, .i32⟩
  | 100 => ⟨S64x128x8x128, .f32⟩
  | 101 => ⟨S8192x1024, .f32⟩
  | 102 => ⟨S_, .f32⟩
  | 103 => ⟨S8x128x128, .f32⟩
  | 104 => ⟨S64x128x8x128, .f32⟩
  | 105 => ⟨S64x8x128x128, .f32⟩
  | 106 => ⟨S_, .f32⟩
  | 107 => ⟨S8x128x128, .f32⟩
  | 108 => ⟨S_, .f32⟩
  | 109 => ⟨S64x8x128x128, .f32⟩
  | 110 => ⟨S_, .f32⟩
  | 111 => ⟨S64x8x128x128, .f32⟩
  | 112 => ⟨S_, .f32⟩
  | 113 => ⟨S64x8x128x128, .f32⟩
  | 114 => ⟨S_, .f32⟩
  | 115 => ⟨S64x8x128x128, .f32⟩
  | 116 => ⟨S_, .f32⟩
  | 117 => ⟨S64x8x128x128, .f32⟩
  | 118 => ⟨S_, .f32⟩
  | 119 => ⟨S64x8x128x128, .f32⟩
  | 120 => ⟨S_, .i32⟩
  | 121 => ⟨S64x8x128x128, .f32⟩
  | 122 => ⟨S64x8x128x128, .f32⟩
  | 123 => ⟨S64x8x128x128, .f32⟩
  | 124 => ⟨S64x8x128x128, .f32⟩
  | 125 => ⟨S64x8x128x128, .f32⟩
  | 126 => ⟨S64x8x128x128, .f32⟩
  | 127 => ⟨S64x8x128x128, .f32⟩
  | _ => ⟨S8192x1024, .f32⟩

abbrev hbmTy0_1 (i : Nat) : BufTy := match i % 128 with
  | 0 => ⟨S64x8x128x128, .f32⟩
  | 1 => ⟨S_, .i32⟩
  | 2 => ⟨S8x128x128, .f32⟩
  | 3 => ⟨S64x8x128x128, .f32⟩
  | 4 => ⟨S64x8x128x128, .f32⟩
  | 5 => ⟨S64x8x128x128, .f32⟩
  | 6 => ⟨S64x8x128x128, .f32⟩
  | 7 => ⟨S64x8x128x128, .f32⟩
  | 8 => ⟨S64x8x128x128, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x8x128x128, .f32⟩
  | 19 => ⟨S8x128x128, .f32⟩
  | 20 => ⟨S_, .i32⟩
  | 21 => ⟨S_, .i32⟩
  | 22 => ⟨S_, .i32⟩
  | 23 => ⟨S1x8x128x128, .f32⟩
  | 24 => ⟨S8x128x128, .f32⟩
  | 25 => ⟨S_, .i32⟩
  | 26 => ⟨S_, .i32⟩
  | 27 => ⟨S_, .i32⟩
  | 28 => ⟨S1x8x128x128, .f32⟩
  | 29 => ⟨S8x128x128, .f32⟩
  | 30 => ⟨S_, .i32⟩
  | 31 => ⟨S_, .i32⟩
  | 32 => ⟨S_, .i32⟩
  | 33 => ⟨S1x8x128x128, .f32⟩
  | 34 => ⟨S8x128x128, .f32⟩
  | 35 => ⟨S_, .i32⟩
  | 36 => ⟨S_, .i32⟩
  | 37 => ⟨S_, .i32⟩
  | 38 => ⟨S1x8x128x128, .f32⟩
  | 39 => ⟨S8x128x128, .f32⟩
  | 40 => ⟨S_, .i32⟩
  | 41 => ⟨S_, .i32⟩
  | 42 => ⟨S_, .i32⟩
  | 43 => ⟨S1x8x128x128, .f32⟩
  | 44 => ⟨S8x128x128, .f32⟩
  | 45 => ⟨S_, .i32⟩
  | 46 => ⟨S_, .i32⟩
  | 47 => ⟨S_, .i32⟩
  | 48 => ⟨S1x8x128x128, .f32⟩
  | 49 => ⟨S8x128x128, .f32⟩
  | 50 => ⟨S_, .i32⟩
  | 51 => ⟨S_, .i32⟩
  | 52 => ⟨S_, .i32⟩
  | 53 => ⟨S1x8x128x128, .f32⟩
  | 54 => ⟨S8x128x128, .f32⟩
  | 55 => ⟨S8x128x128, .f32⟩
  | 56 => ⟨S8x128x128, .f32⟩
  | 57 => ⟨S8x128x128, .f32⟩
  | 58 => ⟨S8x128x128, .f32⟩
  | 59 => ⟨S8x128x128, .f32⟩
  | 60 => ⟨S8x128x128, .f32⟩
  | 61 => ⟨S8x128x128, .f32⟩
  | 62 => ⟨S8x128x128, .f32⟩
  | 63 => ⟨S8x128x128, .f32⟩
  | 64 => ⟨S8x128x128, .f32⟩
  | 65 => ⟨S8x128x128, .f32⟩
  | 66 => ⟨S8x128x128, .f32⟩
  | 67 => ⟨S8x128x128, .f32⟩
  | 68 => ⟨S8x128x128, .f32⟩
  | 69 => ⟨S8x128x128, .f32⟩
  | 70 => ⟨S8x128x128, .f32⟩
  | 71 => ⟨S8x128x128, .f32⟩
  | 72 => ⟨S8x128x128, .f32⟩
  | 73 => ⟨S8x128x128, .f32⟩
  | 74 => ⟨S1x8x128x128, .f32⟩
  | 75 => ⟨S_, .i32⟩
  | 76 => ⟨S_, .i32⟩
  | 77 => ⟨S_, .i32⟩
  | 78 => ⟨S64x8x128x128, .f32⟩
  | 79 => ⟨S1x8x128x128, .f32⟩
  | 80 => ⟨S_, .i32⟩
  | 81 => ⟨S_, .i32⟩
  | 82 => ⟨S_, .i32⟩
  | 83 => ⟨S64x8x128x128, .f32⟩
  | 84 => ⟨S1x8x128x128, .f32⟩
  | 85 => ⟨S_, .i32⟩
  | 86 => ⟨S_, .i32⟩
  | 87 => ⟨S_, .i32⟩
  | 88 => ⟨S64x8x128x128, .f32⟩
  | 89 => ⟨S1x8x128x128, .f32⟩
  | 90 => ⟨S_, .i32⟩
  | 91 => ⟨S_, .i32⟩
  | 92 => ⟨S_, .i32⟩
  | 93 => ⟨S64x8x128x128, .f32⟩
  | 94 => ⟨S1x8x128x128, .f32⟩
  | 95 => ⟨S_, .i32⟩
  | 96 => ⟨S_, .i32⟩
  | 97 => ⟨S_, .i32⟩
  | 98 => ⟨S64x8x128x128, .f32⟩
  | 99 => ⟨S1x8x128x128, .f32⟩
  | 100 => ⟨S_, .i32⟩
  | 101 => ⟨S_, .i32⟩
  | 102 => ⟨S_, .i32⟩
  | 103 => ⟨S64x8x128x128, .f32⟩
  | 104 => ⟨S_, .i32⟩
  | 105 => ⟨S_, .i32⟩
  | 106 => ⟨S64x128x8x128, .f32⟩
  | 107 => ⟨S8192x1024, .f32⟩
  | 108 => ⟨S64x128x8x128, .f32⟩
  | 109 => ⟨S8192x1024, .f32⟩
  | 110 => ⟨S8192x1024, .bf16⟩
  | 111 => ⟨S64x128x8x128, .f32⟩
  | 112 => ⟨S8192x1024, .f32⟩
  | 113 => ⟨S8192x1024, .bf16⟩
  | 114 => ⟨S64x128x8x128, .f32⟩
  | 115 => ⟨S8192x1024, .f32⟩
  | 116 => ⟨S8192x1024, .bf16⟩
  | 117 => ⟨S64x128x8x128, .f32⟩
  | 118 => ⟨S8192x1024, .f32⟩
  | 119 => ⟨S8192x1024, .bf16⟩
  | 120 => ⟨S64x128x8x128, .f32⟩
  | 121 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_c : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev main_v20_9 : Ref sig .tc := ⟨.hbm, 41, rfl⟩
abbrev main_v20_10 : Ref sig .tc := ⟨.hbm, 42, rfl⟩
abbrev main_while0c_c_22 : Ref sig .tc := ⟨.hbm, 43, rfl⟩
abbrev main_while0c_v50 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v50 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v51 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v52 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v53 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v54 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_call5_v0 : Ref sig .tc := ⟨.hbm, 73, rfl⟩
abbrev main_while0b_v55 : Ref sig .tc := ⟨.hbm, 74, rfl⟩
abbrev main_while0b_v56 : Ref sig .tc := ⟨.hbm, 75, rfl⟩
abbrev main_while0b_v57 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v64 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_v65 : Ref sig .tc := ⟨.hbm, 92, rfl⟩
abbrev main_while0b_call8_v0 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_v66 : Ref sig .tc := ⟨.hbm, 97, rfl⟩
abbrev main_while0b_c_22 : Ref sig .tc := ⟨.hbm, 98, rfl⟩
abbrev main_while0b_v67 : Ref sig .tc := ⟨.hbm, 99, rfl⟩
abbrev main_v21 : Ref sig .tc := ⟨.hbm, 100, rfl⟩
abbrev main_v22 : Ref sig .tc := ⟨.hbm, 101, rfl⟩
abbrev main_cst_3 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_cst_4 : Ref sig .tc := ⟨.hbm, 106, rfl⟩
abbrev main_v26 : Ref sig .tc := ⟨.hbm, 107, rfl⟩
abbrev main_cst_5 : Ref sig .tc := ⟨.hbm, 108, rfl⟩
abbrev main_v27 : Ref sig .tc := ⟨.hbm, 109, rfl⟩
abbrev main_cst_6 : Ref sig .tc := ⟨.hbm, 110, rfl⟩
abbrev main_v28 : Ref sig .tc := ⟨.hbm, 111, rfl⟩
abbrev main_cst_7 : Ref sig .tc := ⟨.hbm, 112, rfl⟩
abbrev main_v29 : Ref sig .tc := ⟨.hbm, 113, rfl⟩
abbrev main_cst_8 : Ref sig .tc := ⟨.hbm, 114, rfl⟩
abbrev main_v30 : Ref sig .tc := ⟨.hbm, 115, rfl⟩
abbrev main_cst_9 : Ref sig .tc := ⟨.hbm, 116, rfl⟩
abbrev main_v31 : Ref sig .tc := ⟨.hbm, 117, rfl⟩
abbrev main_cst_10 : Ref sig .tc := ⟨.hbm, 118, rfl⟩
abbrev main_v32 : Ref sig .tc := ⟨.hbm, 119, rfl⟩
abbrev main_c_11 : Ref sig .tc := ⟨.hbm, 120, rfl⟩
abbrev main_v33_0 : Ref sig .tc := ⟨.hbm, 121, rfl⟩
abbrev main_v33_1 : Ref sig .tc := ⟨.hbm, 122, rfl⟩
abbrev main_v33_2 : Ref sig .tc := ⟨.hbm, 123, rfl⟩
abbrev main_v33_3 : Ref sig .tc := ⟨.hbm, 124, rfl⟩
abbrev main_v33_4 : Ref sig .tc := ⟨.hbm, 125, rfl⟩
abbrev main_v33_5 : Ref sig .tc := ⟨.hbm, 126, rfl⟩
abbrev main_v33_6 : Ref sig .tc := ⟨.hbm, 127, rfl⟩
abbrev main_v33_7 : Ref sig .tc := ⟨.hbm, 128, rfl⟩
abbrev main_v33_8 : Ref sig .tc := ⟨.hbm, 129, rfl⟩
abbrev main_v33_9 : Ref sig .tc := ⟨.hbm, 130, rfl⟩
abbrev main_v33_10 : Ref sig .tc := ⟨.hbm, 131, rfl⟩
abbrev main_v33_11 : Ref sig .tc := ⟨.hbm, 132, rfl⟩
abbrev main_v33_12 : Ref sig .tc := ⟨.hbm, 133, rfl⟩
abbrev main_v33_13 : Ref sig .tc := ⟨.hbm, 134, rfl⟩
abbrev main_v33_14 : Ref sig .tc := ⟨.hbm, 135, rfl⟩
abbrev main_v33_15 : Ref sig .tc := ⟨.hbm, 136, rfl⟩
abbrev main_while1c_c_27 : Ref sig .tc := ⟨.hbm, 137, rfl⟩
abbrev main_while1c_v50 : Ref sig .tc := ⟨.hbm, 138, rfl⟩
abbrev main_while1b_c_27 : Ref sig .tc := ⟨.hbm, 139, rfl⟩
abbrev main_while1b_v50 : Ref sig .tc := ⟨.hbm, 140, rfl⟩
abbrev main_while1b_c_28 : Ref sig .tc := ⟨.hbm, 141, rfl⟩
abbrev main_while1b_v51 : Ref sig .tc := ⟨.hbm, 142, rfl⟩
abbrev main_while1b_call9_c : Ref sig .tc := ⟨.hbm, 143, rfl⟩
abbrev main_while1b_call9_c_0 : Ref sig .tc := ⟨.hbm, 144, rfl⟩
abbrev main_while1b_call9_c_1 : Ref sig .tc := ⟨.hbm, 145, rfl⟩
abbrev main_while1b_call9_v0 : Ref sig .tc := ⟨.hbm, 146, rfl⟩
abbrev main_while1b_v52 : Ref sig .tc := ⟨.hbm, 147, rfl⟩
abbrev main_while1b_call10_c : Ref sig .tc := ⟨.hbm, 148, rfl⟩
abbrev main_while1b_call10_c_0 : Ref sig .tc := ⟨.hbm, 149, rfl⟩
abbrev main_while1b_call10_c_1 : Ref sig .tc := ⟨.hbm, 150, rfl⟩
abbrev main_while1b_call10_v0 : Ref sig .tc := ⟨.hbm, 151, rfl⟩
abbrev main_while1b_v53 : Ref sig .tc := ⟨.hbm, 152, rfl⟩
abbrev main_while1b_call11_c : Ref sig .tc := ⟨.hbm, 153, rfl⟩
abbrev main_while1b_call11_c_0 : Ref sig .tc := ⟨.hbm, 154, rfl⟩
abbrev main_while1b_call11_c_1 : Ref sig .tc := ⟨.hbm, 155, rfl⟩
abbrev main_while1b_call11_v0 : Ref sig .tc := ⟨.hbm, 156, rfl⟩
abbrev main_while1b_v54 : Ref sig .tc := ⟨.hbm, 157, rfl⟩
abbrev main_while1b_call12_c : Ref sig .tc := ⟨.hbm, 158, rfl⟩
abbrev main_while1b_call12_c_0 : Ref sig .tc := ⟨.hbm, 159, rfl⟩
abbrev main_while1b_call12_c_1 : Ref sig .tc := ⟨.hbm, 160, rfl⟩
abbrev main_while1b_call12_v0 : Ref sig .tc := ⟨.hbm, 161, rfl⟩
abbrev main_while1b_v55 : Ref sig .tc := ⟨.hbm, 162, rfl⟩
abbrev main_while1b_call13_c : Ref sig .tc := ⟨.hbm, 163, rfl⟩
abbrev main_while1b_call13_c_0 : Ref sig .tc := ⟨.hbm, 164, rfl⟩
abbrev main_while1b_call13_c_1 : Ref sig .tc := ⟨.hbm, 165, rfl⟩
abbrev main_while1b_call13_v0 : Ref sig .tc := ⟨.hbm, 166, rfl⟩
abbrev main_while1b_v56 : Ref sig .tc := ⟨.hbm, 167, rfl⟩
abbrev main_while1b_call14_c : Ref sig .tc := ⟨.hbm, 168, rfl⟩
abbrev main_while1b_call14_c_0 : Ref sig .tc := ⟨.hbm, 169, rfl⟩
abbrev main_while1b_call14_c_1 : Ref sig .tc := ⟨.hbm, 170, rfl⟩
abbrev main_while1b_call14_v0 : Ref sig .tc := ⟨.hbm, 171, rfl⟩
abbrev main_while1b_v57 : Ref sig .tc := ⟨.hbm, 172, rfl⟩
abbrev main_while1b_call15_c : Ref sig .tc := ⟨.hbm, 173, rfl⟩
abbrev main_while1b_call15_c_0 : Ref sig .tc := ⟨.hbm, 174, rfl⟩
abbrev main_while1b_call15_c_1 : Ref sig .tc := ⟨.hbm, 175, rfl⟩
abbrev main_while1b_call15_v0 : Ref sig .tc := ⟨.hbm, 176, rfl⟩
abbrev main_while1b_v58 : Ref sig .tc := ⟨.hbm, 177, rfl⟩
abbrev main_while1b_call16_c : Ref sig .tc := ⟨.hbm, 178, rfl⟩
abbrev main_while1b_call16_c_0 : Ref sig .tc := ⟨.hbm, 179, rfl⟩
abbrev main_while1b_call16_c_1 : Ref sig .tc := ⟨.hbm, 180, rfl⟩
abbrev main_while1b_call16_v0 : Ref sig .tc := ⟨.hbm, 181, rfl⟩
abbrev main_while1b_v59 : Ref sig .tc := ⟨.hbm, 182, rfl⟩
abbrev main_while1b_v60 : Ref sig .tc := ⟨.hbm, 183, rfl⟩
abbrev main_while1b_v61 : Ref sig .tc := ⟨.hbm, 184, rfl⟩
abbrev main_while1b_v62 : Ref sig .tc := ⟨.hbm, 185, rfl⟩
abbrev main_while1b_v63 : Ref sig .tc := ⟨.hbm, 186, rfl⟩
abbrev main_while1b_v64 : Ref sig .tc := ⟨.hbm, 187, rfl⟩
abbrev main_while1b_v65 : Ref sig .tc := ⟨.hbm, 188, rfl⟩
abbrev main_while1b_v66 : Ref sig .tc := ⟨.hbm, 189, rfl⟩
abbrev main_while1b_v67 : Ref sig .tc := ⟨.hbm, 190, rfl⟩
abbrev main_while1b_v68 : Ref sig .tc := ⟨.hbm, 191, rfl⟩
abbrev main_while1b_v69 : Ref sig .tc := ⟨.hbm, 192, rfl⟩
abbrev main_while1b_v70 : Ref sig .tc := ⟨.hbm, 193, rfl⟩
abbrev main_while1b_v71 : Ref sig .tc := ⟨.hbm, 194, rfl⟩
abbrev main_while1b_v72 : Ref sig .tc := ⟨.hbm, 195, rfl⟩
abbrev main_while1b_v73 : Ref sig .tc := ⟨.hbm, 196, rfl⟩
abbrev main_while1b_v74 : Ref sig .tc := ⟨.hbm, 197, rfl⟩
abbrev main_while1b_v75 : Ref sig .tc := ⟨.hbm, 198, rfl⟩
abbrev main_while1b_v76 : Ref sig .tc := ⟨.hbm, 199, rfl⟩
abbrev main_while1b_v77 : Ref sig .tc := ⟨.hbm, 200, rfl⟩
abbrev main_while1b_v78 : Ref sig .tc := ⟨.hbm, 201, rfl⟩
abbrev main_while1b_call17_v0 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_c_1 : Ref sig .tc := ⟨.hbm, 205, rfl⟩
abbrev main_while1b_v79 : Ref sig .tc := ⟨.hbm, 206, rfl⟩
abbrev main_while1b_call18_v0 : Ref sig .tc := ⟨.hbm, 207, rfl⟩
abbrev main_while1b_call18_c : Ref sig .tc := ⟨.hbm, 208, rfl⟩
abbrev main_while1b_call18_c_0 : Ref sig .tc := ⟨.hbm, 209, rfl⟩
abbrev main_while1b_call18_c_1 : Ref sig .tc := ⟨.hbm, 210, rfl⟩
abbrev main_while1b_v80 : Ref sig .tc := ⟨.hbm, 211, rfl⟩
abbrev main_while1b_call19_v0 : Ref sig .tc := ⟨.hbm, 212, rfl⟩
abbrev main_while1b_call19_c : Ref sig .tc := ⟨.hbm, 213, rfl⟩
abbrev main_while1b_call19_c_0 : Ref sig .tc := ⟨.hbm, 214, rfl⟩
abbrev main_while1b_call19_c_1 : Ref sig .tc := ⟨.hbm, 215, rfl⟩
abbrev main_while1b_v81 : Ref sig .tc := ⟨.hbm, 216, rfl⟩
abbrev main_while1b_call20_v0 : Ref sig .tc := ⟨.hbm, 217, rfl⟩
abbrev main_while1b_call20_c : Ref sig .tc := ⟨.hbm, 218, rfl⟩
abbrev main_while1b_call20_c_0 : Ref sig .tc := ⟨.hbm, 219, rfl⟩
abbrev main_while1b_call20_c_1 : Ref sig .tc := ⟨.hbm, 220, rfl⟩
abbrev main_while1b_v82 : Ref sig .tc := ⟨.hbm, 221, rfl⟩
abbrev main_while1b_call21_v0 : Ref sig .tc := ⟨.hbm, 222, rfl⟩
abbrev main_while1b_call21_c : Ref sig .tc := ⟨.hbm, 223, rfl⟩
abbrev main_while1b_call21_c_0 : Ref sig .tc := ⟨.hbm, 224, rfl⟩
abbrev main_while1b_call21_c_1 : Ref sig .tc := ⟨.hbm, 225, rfl⟩
abbrev main_while1b_v83 : Ref sig .tc := ⟨.hbm, 226, rfl⟩
abbrev main_while1b_call22_v0 : Ref sig .tc := ⟨.hbm, 227, rfl⟩
abbrev main_while1b_call22_c : Ref sig .tc := ⟨.hbm, 228, rfl⟩
abbrev main_while1b_call22_c_0 : Ref sig .tc := ⟨.hbm, 229, rfl⟩
abbrev main_while1b_call22_c_1 : Ref sig .tc := ⟨.hbm, 230, rfl⟩
abbrev main_while1b_v84 : Ref sig .tc := ⟨.hbm, 231, rfl⟩
abbrev main_while1b_c_29 : Ref sig .tc := ⟨.hbm, 232, rfl⟩
abbrev main_while1b_v85 : Ref sig .tc := ⟨.hbm, 233, rfl⟩
abbrev main_v34 : Ref sig .tc := ⟨.hbm, 234, rfl⟩
abbrev main_v35 : Ref sig .tc := ⟨.hbm, 235, rfl⟩
abbrev main_v36 : Ref sig .tc := ⟨.hbm, 236, rfl⟩
abbrev main_v37 : Ref sig .tc := ⟨.hbm, 237, rfl⟩
abbrev main_v38 : Ref sig .tc := ⟨.hbm, 238, rfl⟩
abbrev main_v39 : Ref sig .tc := ⟨.hbm, 239, rfl⟩
abbrev main_v40 : Ref sig .tc := ⟨.hbm, 240, rfl⟩
abbrev main_v41 : Ref sig .tc := ⟨.hbm, 241, rfl⟩
abbrev main_v42 : Ref sig .tc := ⟨.hbm, 242, rfl⟩
abbrev main_v43 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_v49 : Ref sig .tc := ⟨.hbm, 249, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2x8192x2816 : Shape := ⟨3, ![2, 8192, 2816]⟩
abbrev S8192x1024 : Shape := ⟨2, ![8192, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x2816 : Shape := ⟨3, ![2, 8192, 2816]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S2x8192x2816, .f32⟩
  | .hbm, ⟨3, _⟩ => ⟨S_, .f32⟩
  | .hbm, ⟨4, _⟩ => ⟨S5632x1024, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S1x8192x2816, .f32⟩
  | .hbm, ⟨11, _⟩ => ⟨S8192x2816, .f32⟩
  | .hbm, ⟨12, _⟩ => ⟨S1x8192x2816, .f32⟩
  | .hbm, ⟨13, _⟩ => ⟨S8192x2816, .f32⟩
  | .hbm, ⟨14, _⟩ => ⟨S_, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S5632x1024, .f32⟩
  | .hbm, ⟨20, _⟩ => ⟨S1024x5632, .f32⟩
  | .hbm, ⟨21, _⟩ => ⟨S5632x1024, .f32⟩
  | .hbm, ⟨22, _⟩ => ⟨S5632x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S8192x1024 : Shape := ⟨2, ![8192, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S8192x1024 : Shape := ⟨2, ![8192, 1024]⟩
abbrev S2816x1024 : Shape := ⟨2, ![2816, 1024]⟩
abbrev S8192x2816 : Shape := ⟨2, ![8192, 2816]⟩
abbrev S2x8192x2816 : Shape := ⟨3, ![2, 8192, 2816]⟩
abbrev S1024x1024 : Shape := ⟨2, ![1024, 1024]⟩
abbrev S1408x1024 : Shape := ⟨2, ![1408, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2x8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1024x1408, .bf16⟩
  | .local _ .vmem, ⟨9, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S1x8192x2816, .f32⟩
  | .hbm, ⟨31, _⟩ => ⟨S1x8192x2816, .f32⟩
  | .hbm, ⟨32, _⟩ => ⟨S2x8192x2816, .f32⟩
  | .hbm, ⟨33, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel7.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S1x512x2816 : Shape := ⟨3, ![1, 512, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32 : BitVec 32 := 0#32
  let v4 : BitVec 1 := Scalar.cmpi .eq arg0 c0_i32
  let v50 : BitVec 32 := Scalar.extui v4
  let c0_i32_27 : BitVec 32 := 0#32
  let v51 : BitVec 1 := Scalar.cmpi .ne v50 c0_i32_27
  v51

def k0_cond5 (i : grid0.Coords) : BitVec 1 :=
  let arg0 : BitVec 32 := BitVec.ofNat 32 (i 0).val
  let c0_i32 : BitVec 32 := 0#32
  let v4 : BitVec 1 := Scalar.cmpi .eq arg0 c0_i32
  let v_true : BitVec 1 := 1#1
  let v52 : BitVec 1 := Scalar.xori v4 v_true
  let v53 : BitVec 32 := Scalar.extui v52
  let c0_i32_28 : BitVec 32 := 0#32
  let v54 : BitVec 1 := Scalar.cmpi .ne v53 c0_i32_28
  v54

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference7Ideal.lean ====
abbrev S2x8192x2816 : Shape := ⟨3, ![2, 8192, 2816]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S2x8192x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S5632x1024, .f32⟩
  | .hbm, ⟨26, _⟩ => ⟨S1024x5632, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S1x8192x2816, .f32⟩
  | .hbm, ⟨31, _⟩ => ⟨S8192x2816, .f32⟩
  | .hbm, ⟨32, _⟩ => ⟨S1x8192x2816, .f32⟩
  | .hbm, ⟨33, _⟩ => ⟨S8192x2816, .f32⟩
  | .hbm, ⟨34, _⟩ => ⟨S_, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel8.lean ====
abbrev S8192x1024 : Shape := ⟨2, ![8192, 1024]⟩
abbrev S4112x1024 : Shape := ⟨2, ![4112, 1024]⟩
abbrev S8192x4096 : Shape := ⟨2, ![8192, 4096]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4112x1024, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S4112x1024 : Shape := ⟨2, ![4112, 1024]⟩
abbrev S4096x1024 : Shape := ⟨2, ![4096, 1024]⟩
abbrev S1024x4096 : Shape := ⟨2, ![1024, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4112x1024, .bf16⟩
  | .hbm, ⟨2, _⟩ => ⟨S8192x1024, .f32⟩
  | .hbm, ⟨3, _⟩ => ⟨S4112x1024, .f32⟩
  | .hbm, ⟨4, _⟩ => ⟨S4096x1024, .f32⟩
  | .hbm, ⟨5, _⟩ => ⟨S1024x4096, .f32⟩
  | .hbm, ⟨6, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x3072 : Shape := ⟨2, ![8192, 3072]⟩
abbrev S4112x1024 : Shape := ⟨2, ![4112, 1024]⟩
abbrev S8192x1024 : Shape := ⟨2, ![8192, 1024]⟩
abbrev S1024x3072 : Shape := ⟨2, ![1024, 3072]⟩
abbrev S3072x1024 : Shape := ⟨2, ![3072, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S4112x1024, .bf16⟩
  | .hbm, ⟨2, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x3072 : Shape := ⟨2, ![8192, 3072]⟩
abbrev S4112x1024 : Shape := ⟨2, ![4112, 1024]⟩
abbrev S_ : Shape := ⟨0, ![]⟩
abbrev S8192x1024 : Shape := ⟨2, ![8192, 1024]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4112x1024, .bf16⟩
  | .hbm, ⟨2, _⟩ => ⟨S_, .f32⟩
  | .hbm, ⟨3, _⟩ => ⟨S8192x1024, .f32⟩
  | .hbm, ⟨4, _⟩ => ⟨S4112x1024, .f32⟩
  | .hbm, ⟨5, _⟩ => ⟨S3072x1024, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S4112x1024 : Shape := ⟨2, ![4112, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4112x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S4112x1024 : Shape := ⟨2, ![4112, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4112x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S4112x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024 : Shape := ⟨2, ![1, 1024]⟩
abbrev S8x128 : Shape := ⟨2, ![8, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1x1024 : Shape := ⟨2, ![1, 1024]⟩
abbrev S8x128 : Shape := ⟨2, ![8, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel17.lean ====
abbrev S8192x1024 : Shape := ⟨2, ![8192, 1024]⟩
abbrev S1536x1024 : Shape := ⟨2, ![1536, 1024]⟩
abbrev S8192x3072 : Shape := ⟨2, ![8192, 3072]⟩
abbrev S2048x1024 : Shape := ⟨2, ![2048, 1024]⟩
abbrev S512x1024 : Shape := ⟨2, ![512, 1024]⟩
abbrev S8x128 : Shape := ⟨2, ![8, 128]⟩
abbrev S2048x512 : Shape := ⟨2, ![2048, 512]⟩
abbrev S2048x128 : Shape := ⟨2, ![2048, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1536x1024 : Shape := ⟨2, ![1536, 1024]⟩
abbrev S1024x1536 : Shape := ⟨2, ![1024, 1536]⟩
abbrev S8192x1536 : Shape := ⟨2, ![8192, 1536]⟩
abbrev S8192x24x64 : Shape := ⟨3, ![8192, 24, 64]⟩
abbrev S_ : Shape := ⟨0, ![]⟩
abbrev S8192x24x128 : Shape := ⟨3, ![8192, 24, 128]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1024, .f32⟩
  | .hbm, ⟨3, _⟩ => ⟨S1536x1024, .f32⟩
  | .hbm, ⟨4, _⟩ => ⟨S1024x1536, .f32⟩
  | .hbm, ⟨5, _⟩ => ⟨S8192x1536, .f32⟩
  | .hbm, ⟨6, _⟩ => ⟨S8192x24x64, .f32⟩
  | .hbm, ⟨7, _⟩ => ⟨S_, .i32⟩
  | .hbm, ⟨8, _⟩ => ⟨S_, .f32⟩
  | .hbm, ⟨9, _⟩ => ⟨S8192x24x128, .f32⟩
  | .hbm, ⟨10, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S3x8192x1024 : Shape := ⟨3, ![3, 8192, 1024]⟩
abbrev S8192x1024 : Shape := ⟨2, ![8192, 1024]⟩
abbrev S1536x1024 : Shape := ⟨2, ![1536, 1024]⟩
abbrev S1x2048x1024 : Shape := ⟨3, ![1, 2048, 1024]⟩
abbrev S2048x1024 : Shape := ⟨2, ![2048, 1024]⟩
abbrev S512x1024 : Shape := ⟨2, ![512, 1024]⟩
abbrev S2048x128 : Shape := ⟨2, ![2048, 128]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S1536x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_10 : BitVec 32 := 0#32
  let v31 : BitVec 1 := Scalar.cmpi .ne v30 c0_i32_10
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S3x8192x1024 : Shape := ⟨3, ![3, 8192, 1024]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩
abbrev S8192x1536 : Shape := ⟨2, ![8192, 1536]⟩
abbrev S8192x3x8x64 : Shape := ⟨4, ![8192, 3, 8, 64]⟩
abbrev S3x8192x8x64 : Shape := ⟨4, ![3, 8192, 8, 64]⟩
abbrev S3x8192x8x128 : Shape := ⟨4, ![3, 8192, 8, 128]⟩

abbrev nBuf : Space → Nat
  | .hbm => 18
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x3x8x64, .f32⟩
  | .hbm, ⟨8, _⟩ => ⟨S3x8192x8x64, .f32⟩
  | .hbm, ⟨9, _⟩ => ⟨S3x8192x1024, .f32⟩
  | .hbm, ⟨10, _⟩ => ⟨S3x8192x8x128, .f32⟩
  | .hbm, ⟨11, _⟩ => ⟨S3x8192x8x64, .f32⟩
  | .hbm, ⟨12, _⟩ => ⟨S8192x3x8x64, .f32⟩
  | .hbm, ⟨13, _⟩ => ⟨S8192x1536, .f32⟩
  | .hbm, ⟨14, _⟩ => ⟨S1536x1024, .f32⟩
  | .hbm, ⟨15, _⟩ => ⟨S1024x1536, .f32⟩
  | .hbm, ⟨16, _⟩ => ⟨S1536x1024, .f32⟩
  | .hbm, ⟨17, _⟩ => ⟨S1536x1024, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel19.lean ====
abbrev S8192x3072 : Shape := ⟨2, ![8192, 3072]⟩
abbrev S8192x1024 : Shape := ⟨2, ![8192, 1024]⟩
abbrev S1536x1024 : Shape := ⟨2, ![1536, 1024]⟩
abbrev S2048x1024 : Shape := ⟨2, ![2048, 1024]⟩
abbrev S512x1024 : Shape := ⟨2, ![512, 1024]⟩
abbrev S2048x128 : Shape := ⟨2, ![2048, 128]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S1536x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_9 : BitVec 32 := 0#32
  let v30 : BitVec 1 := Scalar.cmpi .ne v29 c0_i32_9
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x3072 : Shape := ⟨2, ![8192, 3072]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩
abbrev S8192x1536 : Shape := ⟨2, ![8192, 1536]⟩
abbrev S8192x24x64 : Shape := ⟨3, ![8192, 24, 64]⟩
abbrev S8192x24x128 : Shape := ⟨3, ![8192, 24, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x24x64, .f32⟩
  | .hbm, ⟨8, _⟩ => ⟨S8192x3072, .f32⟩
  | .hbm, ⟨9, _⟩ => ⟨S8192x24x128, .f32⟩
  | .hbm, ⟨10, _⟩ => ⟨S8192x24x64, .f32⟩
  | .hbm, ⟨11, _⟩ => ⟨S8192x1536, .f32⟩
  | .hbm, ⟨12, _⟩ => ⟨S1536x1024, .f32⟩
  | .hbm, ⟨13, _⟩ => ⟨S1024x1536, .f32⟩
  | .hbm, ⟨14, _⟩ => ⟨S1536x1024, .f32⟩
  | .hbm, ⟨15, _⟩ => ⟨S1536x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel20.lean ====
abbrev S8192x3072 : Shape := ⟨2, ![8192, 3072]⟩
abbrev S1536x1024 : Shape := ⟨2, ![1536, 1024]⟩
abbrev S8192x1024 : Shape := ⟨2, ![8192, 1024]⟩
abbrev S1024x3072 : Shape := ⟨2, ![1024, 3072]⟩
abbrev S1024x1024 : Shape := ⟨2, ![1024, 1024]⟩
abbrev S8x128 : Shape := ⟨2, ![8, 128]⟩
abbrev S1024x128 : Shape := ⟨2, ![1024, 128]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S1536x1024, .bf16⟩
  | .hbm, ⟨2, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x3072 : Shape := ⟨2, ![8192, 3072]⟩
abbrev S1536x1024 : Shape := ⟨2, ![1536, 1024]⟩
abbrev S_ : Shape := ⟨0, ![]⟩
abbrev S8192x1024 : Shape := ⟨2, ![8192, 1024]⟩
abbrev S1024x1536 : Shape := ⟨2, ![1024, 1536]⟩
abbrev S8192x1536 : Shape := ⟨2, ![8192, 1536]⟩
abbrev S8192x24x64 : Shape := ⟨3, ![8192, 24, 64]⟩
abbrev S8192x24x128 : Shape := ⟨3, ![8192, 24, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1536x1024, .bf16⟩
  | .hbm, ⟨2, _⟩ => ⟨S_, .f32⟩
  | .hbm, ⟨3, _⟩ => ⟨S8192x1024, .f32⟩
  | .hbm, ⟨4, _⟩ => ⟨S1536x1024, .f32⟩
  | .hbm, ⟨5, _⟩ => ⟨S1024x1536, .f32⟩
  | .hbm, ⟨6, _⟩ => ⟨S8192x1536, .f32⟩
  | .hbm, ⟨7, _⟩ => ⟨S8192x24x64, .f32⟩
  | .hbm, ⟨8, _⟩ => ⟨S8192x3072, .f32⟩
  | .hbm, ⟨9, _⟩ => ⟨S8192x24x128, .f32⟩
  | .hbm, ⟨10, _⟩ => ⟨S8192x24x64, .f32⟩
  | .hbm, ⟨11, _⟩ => ⟨S8192x1536, .f32⟩
  | .hbm, ⟨12, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel21.lean ====
abbrev S3x8192x1024 : Shape := ⟨3, ![3, 8192, 1024]⟩
abbrev S1536x1024 : Shape := ⟨2, ![1536, 1024]⟩
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩
abbrev S1024x128 : Shape := ⟨2, ![1024, 128]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S3x8192x1024, .bf16⟩
  | .hbm, ⟨1, _⟩ => ⟨S1536x1024, .bf16⟩
  | .hbm, ⟨2, _⟩ => ⟨S8192x1024, .f32⟩
  | .hbm, ⟨3, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_10 : BitVec 32 := 0#32
  let v31 : BitVec 1 := Scalar.cmpi .ne v30 c0_i32_10
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S3x8192x1024 : Shape := ⟨3, ![3, 8192, 1024]⟩
abbrev S1536x1024 : Shape := ⟨2, ![1536, 1024]⟩
abbrev S8192x1024 : Shape := ⟨2, ![8192, 1024]⟩
abbrev S_ : Shape := ⟨0, ![]⟩
abbrev S1024x1536 : Shape := ⟨2, ![1024, 1536]⟩
abbrev S8192x1536 : Shape := ⟨2, ![8192, 1536]⟩
abbrev S8192x3x8x64 : Shape := ⟨4, ![8192, 3, 8, 64]⟩
abbrev S3x8192x8x64 : Shape := ⟨4, ![3, 8192, 8, 64]⟩
abbrev S3x8192x8x128 : Shape := ⟨4, ![3, 8192, 8, 128]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1536x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1536x1024, .f32⟩
  | .hbm, ⟨6, _⟩ => ⟨S1024x1536, .f32⟩
  | .hbm, ⟨7, _⟩ => ⟨S8192x1536, .f32⟩
  | .hbm, ⟨8, _⟩ => ⟨S8192x3x8x64, .f32⟩
  | .hbm, ⟨9, _⟩ => ⟨S3x8192x8x64, .f32⟩
  | .hbm, ⟨10, _⟩ => ⟨S3x8192x1024, .f32⟩
  | .hbm, ⟨11, _⟩ => ⟨S3x8192x8x128, .f32⟩
  | .hbm, ⟨12, _⟩ => ⟨S3x8192x8x64, .f32⟩
  | .hbm, ⟨13, _⟩ => ⟨S8192x3x8x64, .f32⟩
  | .hbm, ⟨14, _⟩ => ⟨S8192x1536, .f32⟩
  | .hbm, ⟨15, _⟩ => ⟨S8192x1024, .f32⟩
  | .hbm, ⟨16, _⟩ => ⟨S8192x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel22.lean ====
abbrev S3x8192x1024 : Shape := ⟨3, ![3, 8192, 1024]⟩
abbrev S1536x1024 : Shape := ⟨2, ![1536, 1024]⟩
abbrev S8192x1024 : Shape := ⟨2, ![8192, 1024]⟩
abbrev S1x1024 : Shape := ⟨2, ![1, 1024]⟩
abbrev S1x512x1024 : Shape := ⟨3, ![1, 512, 1024]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S3x8192x1024, .bf16⟩
  | .hbm, ⟨1, _⟩ => ⟨S1536x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v30 : BitVec 1 := Scalar.cmpi .eq arg2 c2_i32
  let v31 : BitVec 32 := Scalar.extui v30
  let c0_i32_11 : BitVec 32 := 0#32
  let v32 : BitVec 1 := Scalar.cmpi .ne v31 c0_i32_11
  v32

def k0_cond4 (i : grid0.Coords) : BitVec 1 :=
  let arg0 : BitVec 32 := BitVec.ofNat 32 (i 0).val
  let c0_i32 : BitVec 32 := 0#32
  let v23 : BitVec 1 := Scalar.cmpi .eq arg0 c0_i32
  let v71 : BitVec 32 := Scalar.extui v23
  let c0_i32_32 : BitVec 32 := 0#32
  let v72 : BitVec 1 := Scalar.cmpi .ne v71 c0_i32_32
  v72

def k0_cond5 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v73 : BitVec 1 := Scalar.xori v23 v_true
  let v74 : BitVec 32 := Scalar.extui v73
  let c0_i32_33 : BitVec 32 := 0#32
  let v75 : BitVec 1 := Scalar.cmpi .ne v74 c0_i32_33
  v75

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference22Ideal.lean ====
abbrev S3x8192x1024 : Shape := ⟨3, ![3, 8192, 1024]⟩
abbrev S1536x1024 : Shape := ⟨2, ![1536, 1024]⟩
abbrev S8192x1024 : Shape := ⟨2, ![8192, 1024]⟩
abbrev S1x1024 : Shape := ⟨2, ![1, 1024]⟩
abbrev S3x8192x8x128 : Shape := ⟨4, ![3, 8192, 8, 128]⟩
abbrev S3x8192x8x64 : Shape := ⟨4, ![3, 8192, 8, 64]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S8192x1536 : Shape := ⟨2, ![8192, 1536]⟩
abbrev S8192x3x8x64 : Shape := ⟨4, ![8192, 3, 8, 64]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1536x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S3x8192x1024, .f32⟩
  | .hbm, ⟨7, _⟩ => ⟨S3x8192x8x128, .f32⟩
  | .hbm, ⟨8, _⟩ => ⟨S3x8192x8x64, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1536x1024, .f32⟩
  | .hbm, ⟨29, _⟩ => ⟨S1024x1536, .f32⟩
  | .hbm, ⟨30, _⟩ => ⟨S8192x1536, .f32⟩
  | .hbm, ⟨31, _⟩ => ⟨S8192x3x8x64, .f32⟩
  | .hbm, ⟨32, _⟩ => ⟨S3x8192x8x64, .f32⟩
  | .hbm, ⟨33, _⟩ => ⟨S8192x3x8x64, .f32⟩
  | .hbm, ⟨34, _⟩ => ⟨S8192x1536, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel23.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S512x128 : Shape := ⟨2, ![512, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S128x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S8x128, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v41 : BitVec 32 := Scalar.extui v3
  let c0_i32_21 : BitVec 32 := 0#32
  let v42 : BitVec 1 := Scalar.cmpi .ne v41 c0_i32_21
  v42

def k0_cond2 (i : grid0.Coords) : BitVec 1 :=
  let arg0 : BitVec 32 := BitVec.ofNat 32 (i 0).val
  let c0_i32 : BitVec 32 := 0#32
  let v3 : BitVec 1 := Scalar.cmpi .eq arg0 c0_i32
  let v_true : BitVec 1 := 1#1
  let v43 : BitVec 1 := Scalar.xori v3 v_true
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference23Ideal.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S128x1024, .f32⟩
  | .hbm, ⟨26, _⟩ => ⟨S1024x128, .f32⟩
  | .hbm, ⟨27, _⟩ => ⟨S8192x128, .f32⟩
  | .hbm, ⟨28, _⟩ => ⟨S8192x128, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel24.lean ====
abbrev S8192x1024 : Shape := ⟨2, ![8192, 1024]⟩
abbrev S128x1024 : Shape := ⟨2, ![128, 1024]⟩
abbrev S8192x128 : Shape := ⟨2, ![8192, 128]⟩
abbrev S2048x1024 : Shape := ⟨2, ![2048, 1024]⟩
abbrev S2048x128 : Shape := ⟨2, ![2048, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S2048x128, .f32⟩
  | .local _ .vmem, ⟨4, _⟩ => ⟨S2048x128, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S128x1024, .f32⟩
  | .hbm, ⟨9, _⟩ => ⟨S1024x128, .f32⟩
  | .hbm, ⟨10, _⟩ => ⟨S128x1024, .f32⟩
  | .hbm, ⟨11, _⟩ => ⟨S128x1024, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.GwOut.lean ====
/- The weight gradient of the feed-forward layer's second projection: what the tiled product leaves is the whole product. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

noncomputable section

namespace Cert.GwOut

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)

/-- The first tile's product is stored. -/
theorem sout_A
    (c0 : cond0_0 i) (c1 : ¬cond0_1 i) (c2 : ¬cond0_2 i) (x0 : Vec F S2048x1408 .bf16) (x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S2048x1408) hz, View.ld_unit_zero (S := S2048x1024) hz, shapeCast_self]

/-- A middle tile's product is added. -/
theorem sout_B
    (c0 : ¬cond0_0 i) (c1 : cond0_1 i) (c2 : ¬cond0_2 i) (x0 : Vec F S2048x1408 .bf16) (x1 : Vec F S2048x1024 .bf16) (xs : Vec F S1408x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S2048x1408) hz, View.ld_unit_zero (S := S2048x1024) hz, View.ld_unit_zero (S := S1408x1024) hz, shapeCast_self]

/-- The last tile's product is added, and the sum is the result's block. -/
theorem out_C
    (c0 : ¬cond0_0 i) (c1 : cond0_1 i) (c2 : cond0_2 i) (x0 : Vec F S2048x1408 .bf16) (x1 : Vec F S2048x1024 .bf16) (xs : Vec F S1408x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S1408x1024) _ hz]
  unfold k0_pay4 k0_pay3
  simp only [View.readAt_eq_ld, h3.read_unread, h4.read_unread, h6.read_unread, View.ld_unit_zero (S := S2048x1408) hz, View.ld_unit_zero (S := S2048x1024) hz, View.ld_unit_zero (S := S1408x1024) hz, shapeCast_self]

variable (m : (ℓ : Loc nD τ sig) → Buf (Elt F) ℓ)

/-- The product of the tiles staged at point `t`. -/
abbrev part (c : Dev nD) (t : Fin cfg0.N) : Vec F S1408x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 2) (y : S1408x1024.Idx) :
    (outsAt0 m c (4 * q.val + 3) (show _ < 8 by omega)).1 y
      = ∑ j : Fin 4, part m c ⟨4 * q.val + j.val, show _ < 8 by omega⟩ y := by
  rw [out_last m c ⟨4 * q.val + 3, show _ < 8 by omega⟩ (by dsimp only; omega)]
  have e2 := acc_next m c ⟨4 * q.val + 2, show _ < 8 by omega⟩ (by dsimp only; omega)
  have e1 := acc_next m c ⟨4 * q.val + 1, show _ < 8 by omega⟩ (by dsimp only; omega)
  have e0 := acc_first m c ⟨4 * q.val + 0, show _ < 8 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val % 4 ∧ win0_0.index t 1 = t.val / 4 ∧ win0_1.index t 0 = t.val % 4 ∧ win0_1.index t 1 = 0 ∧ win0_2.index t 0 = t.val / 4 ∧ win0_2.index t 1 = 0 := by
  decide +kernel

/-- The product of the transpose of `A` with `B`. -/
def prod (A : FVec Ideal S8192x2816 .bf16) (B : FVec Ideal S8192x1024 .bf16) : FVec Ideal S2816x1024 .bf16 :=
  fun i => ∑ k : Fin 8192, A (ix2 k (i 0)) * B (ix2 k (i 1))

/-- The product of the tiles staged at point `4 q + j`, at an index. -/
theorem part_apply (c : Dev nD) (A : FVec Ideal S8192x2816 .bf16) (B : FVec Ideal S8192x1024 .bf16)
    (hA : m (c.tc.loc main_arg0) = A) (hB : m (c.tc.loc main_arg1) = B) (q : Fin 2) (j : Fin 4) (y : S1408x1024.Idx) :
    part m c ⟨4 * q.val + j.val, show _ < 8 by omega⟩ y
      = ∑ k : Fin 2048, A (ix2 ⟨j.val * 2048 + k.val, show _ < 8192 by omega⟩ ⟨1408 * q.val + (y 0).val, by have : (y 0).val < 1408 := (y 0).isLt; show _ < 2816; omega⟩)
          * B (ix2 ⟨j.val * 2048 + k.val, show _ < 8192 by omega⟩ (y 1)) := by
  obtain ⟨e0, e1, e2, e3, -, -⟩ := idx_facts ⟨4 * q.val + j.val, show _ < 8 by omega⟩
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 1408 + 1 * (y 0).val = _; rw [e1]; show (4 * q.val + j.val) / 4 * 1408 + _ = 1408 * q.val + (y 0).val; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * (y 1).val = _; rw [e3]; show _ = (y 1).val; omega

/-- Where the result's block `q` lies. -/
theorem emb2 (q : Fin 2) (t : Fin cfg0.N) (ht : t.val = 4 * q.val + 3) (y : S1408x1024.Idx) :
    ((cfg0.win 2).blk t).view.emb y = ix2 ⟨1408 * q.val + (y 0).val, by have : (y 0).val < 1408 := (y 0).isLt; show _ < 2816; omega⟩ (y 1) := by
  obtain ⟨-, -, -, -, e4, e5⟩ := idx_facts t
  refine funext fun a => Fin.ext ?_
  match a with
  | ⟨0, _⟩ => show win0_2.index _ 0 * 1408 + 1 * (y 0).val = _; rw [e4]; show t.val / 4 * 1408 + _ = 1408 * q.val + (y 0).val; omega
  | ⟨1, _⟩ => show win0_2.index _ 1 * 1024 + 1 * (y 1).val = _; rw [e5]; show _ = (y 1).val; omega

/-- The result's block `q`, as the pipeline leaves it. -/
theorem final_at (c : Dev nD) (A : FVec Ideal S8192x2816 .bf16) (B : FVec Ideal S8192x1024 .bf16)
    (hA : m (c.tc.loc main_arg0) = A) (hB : m (c.tc.loc main_arg1) = B) (q : Fin 2) (t : Fin cfg0.N) (e : t = ⟨4 * q.val + 3, show _ < 8 by omega⟩) (y : S1408x1024.Idx) :
    (dats m 0 c).after 2 t y = prod A B (((cfg0.win 2).blk t).view.emb y) := by
  subst e
  rw [emb2 q _ rfl, after0_2]
  refine (out_sum m c q y).trans ?_
  unfold prod
  rw [Fin.sum_univ_tiles (N := 8192) 4 2048 rfl]
  exact Finset.sum_congr rfl fun j _ => part_apply m c A B hA hB q j y

/-- What the result array ends holding: the whole product. -/
theorem final (c : Dev nD) (A : FVec Ideal S8192x2816 .bf16) (B : FVec Ideal S8192x1024 .bf16)
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 8 := t.isLt
  exact final_at m c A B hA hB ⟨t.val / 4, by omega⟩ t (Fin.ext (by dsimp only; omega)) y

open Idealize.ShloMosaic.StableHlo in
/-- The reference's product. -/
theorem reference (A : FVec Ideal S8192x2816 .bf16) (B : FVec Ideal S8192x1024 .bf16) :
    truncf .bf16 (transpose Cert.Reference2Ideal.S2816x1024 [1, 0] (Host.dotGeneral Cert.Reference2Ideal.dot_S8192x1024_S8192x2816_S1024x2816_0_0_1_1_n_n none (extf .f32 B Cert.Reference2Ideal.Gen.bitsLt_bf16_f32) (extf .f32 A Cert.Reference2Ideal.Gen.bitsLt_bf16_f32)) Cert.Reference2Ideal.Gen.transposes_S1024x2816_S2816x1024_1_0) Cert.Reference2Ideal.Gen.bitsLt_bf16_f32 = prod A B := by
  funext i
  unfold prod
  pointwise
  exact Finset.sum_congr rfl fun k _ => mul_comm _ _

end Cert.GwOut
-- ==== Proof.GwIn.lean ====
/- The weight gradient of the feed-forward layer's first projection: what the tiled product leaves is the whole product. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

noncomputable section

namespace Cert.GwIn

open Cert.Kernel3Ideal Cert.Kernel3Ideal.Gen Idealize.ShloMosaic Idealize.ShloMosaic.TcCoe Idealize.SL.Sem

theorem hz3 : (![0, 0, 0] : Fin 3 → Nat) = fun _ => 0 := funext fun a => by fin_cases a <;> rfl
theorem hz : (![0, 0] : Fin 2 → Nat) = fun _ => 0 := funext fun a => by fin_cases a <;> rfl

section
variable {F : FTy → Type} [FloatOps F]
variable (c : Dev nD) (i : grid0.Coords) (a3 : Memref sig .tc .vmem S1x2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)

/-- The first tile's product is stored. -/
theorem sout_A
    (c0 : cond0_0 i) (c1 : ¬cond0_1 i) (c2 : ¬cond0_2 i) (x0 : Vec F S1x2048x1408 .bf16) (x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S1x2048x1408) hz3, View.ld_unit_zero (S := S2048x1024) hz, shapeCast_self]

/-- A middle tile's product is added. -/
theorem sout_B
    (c0 : ¬cond0_0 i) (c1 : cond0_1 i) (c2 : ¬cond0_2 i) (x0 : Vec F S1x2048x1408 .bf16) (x1 : Vec F S2048x1024 .bf16) (xs : Vec F S1408x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S1x2048x1408) hz3, View.ld_unit_zero (S := S2048x1024) hz, View.ld_unit_zero (S := S1408x1024) hz, shapeCast_self]

/-- The last tile's product is added, and the sum is the result's block. -/
theorem out_C
    (c0 : ¬cond0_0 i) (c1 : cond0_1 i) (c2 : cond0_2 i) (x0 : Vec F S1x2048x1408 .bf16) (x1 : Vec F S2048x1024 .bf16) (xs : Vec F S1408x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S1408x1024) _ hz]
  unfold k0_pay4 k0_pay3
  simp only [View.readAt_eq_ld, h3.read_unread, h4.read_unread, h6.read_unread, View.ld_unit_zero (S := S1x2048x1408) hz3, View.ld_unit_zero (S := S2048x1024) hz, View.ld_unit_zero (S := S1408x1024) hz, shapeCast_self]

variable (m : (ℓ : Loc nD τ sig) → Buf (Elt F) ℓ)

/-- The product of the tiles staged at point `t`. -/
abbrev part (c : Dev nD) (t : Fin cfg0.N) : Vec F S1408x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 4) (y : S1408x1024.Idx) :
    (outsAt0 m c (4 * q.val + 3) (show _ < 16 by omega)).1 y
      = ∑ j : Fin 4, part m c ⟨4 * q.val + j.val, show _ < 16 by omega⟩ y := by
  rw [out_last m c ⟨4 * q.val + 3, show _ < 16 by omega⟩ (by dsimp only; omega)]
  have e2 := acc_next m c ⟨4 * q.val + 2, show _ < 16 by omega⟩ (by dsimp only; omega)
  have e1 := acc_next m c ⟨4 * q.val + 1, show _ < 16 by omega⟩ (by dsimp only; omega)
  have e0 := acc_first m c ⟨4 * q.val + 0, show _ < 16 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val / 8 ∧ win0_0.index t 1 = t.val % 4 ∧ win0_0.index t 2 = t.val / 4 % 2 ∧ win0_1.index t 0 = t.val % 4 ∧ win0_1.index t 1 = 0 ∧ win0_2.index t 0 = t.val / 4 ∧ win0_2.index t 1 = 0 := by
  decide +kernel

/-- The product of the transpose of `A` with `B`. -/
def prod (A : FVec Ideal S2x8192x2816 .bf16) (B : FVec Ideal S8192x1024 .bf16) : FVec Ideal S5632x1024 .bf16 :=
  fun i => ∑ k : Fin 8192, A (ix3 ⟨(i 0).val / 2816, by have : (i 0).val < 5632 := (i 0).isLt; show _ < 2; omega⟩ k ⟨(i 0).val % 2816, Nat.mod_lt _ (by decide)⟩) * B (ix2 k (i 1))

/-- The product of the tiles staged at point `4 q + j`, at an index. -/
theorem part_apply (c : Dev nD) (A : FVec Ideal S2x8192x2816 .bf16) (B : FVec Ideal S8192x1024 .bf16)
    (hA : m (c.tc.loc main_arg0) = A) (hB : m (c.tc.loc main_arg1) = B) (q j : Fin 4) (y : S1408x1024.Idx) :
    part m c ⟨4 * q.val + j.val, show _ < 16 by omega⟩ y
      = ∑ k : Fin 2048, A (ix3 ⟨(1408 * q.val + (y 0).val) / 2816, by have : (y 0).val < 1408 := (y 0).isLt; show _ < 2; omega⟩ ⟨j.val * 2048 + k.val, show _ < 8192 by omega⟩ ⟨(1408 * q.val + (y 0).val) % 2816, Nat.mod_lt _ (by decide)⟩)
          * B (ix2 ⟨j.val * 2048 + k.val, show _ < 8192 by omega⟩ (y 1)) := by
  have hy : (y 0).val < 1408 := (y 0).isLt
  obtain ⟨e0, e1, e6, e2, e3, -, -⟩ := idx_facts ⟨4 * q.val + j.val, show _ < 16 by omega⟩
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1 + 1 * 0 = _; rw [e0]; show (4 * q.val + j.val) / 8 * 1 + 1 * 0 = (1408 * q.val + (y 0).val) / 2816; omega
    | ⟨1, _⟩ => show win0_0.index _ 1 * 2048 + 1 * k.val = _; rw [e1]; show (4 * q.val + j.val) % 4 * 2048 + _ = j.val * 2048 + k.val; omega
    | ⟨2, _⟩ => show win0_0.index _ 2 * 1408 + 1 * (y 0).val = _; rw [e6]; show (4 * q.val + j.val) / 4 % 2 * 1408 + _ = (1408 * q.val + (y 0).val) % 2816; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * (y 1).val = _; rw [e3]; show _ = (y 1).val; omega

/-- Where the result's block `q` lies. -/
theorem emb2 (q : Fin 4) (t : Fin cfg0.N) (ht : t.val = 4 * q.val + 3) (y : S1408x1024.Idx) :
    ((cfg0.win 2).blk t).view.emb y = ix2 ⟨1408 * q.val + (y 0).val, by have : (y 0).val < 1408 := (y 0).isLt; show _ < 5632; omega⟩ (y 1) := by
  obtain ⟨-, -, -, -, -, e4, e5⟩ := idx_facts t
  refine funext fun a => Fin.ext ?_
  match a with
  | ⟨0, _⟩ => show win0_2.index _ 0 * 1408 + 1 * (y 0).val = _; rw [e4]; show t.val / 4 * 1408 + _ = 1408 * q.val + (y 0).val; omega
  | ⟨1, _⟩ => show win0_2.index _ 1 * 1024 + 1 * (y 1).val = _; rw [e5]; show _ = (y 1).val; omega

/-- The result's block `q`, as the pipeline leaves it. -/
theorem final_at (c : Dev nD) (A : FVec Ideal S2x8192x2816 .bf16) (B : FVec Ideal S8192x1024 .bf16)
    (hA : m (c.tc.loc main_arg0) = A) (hB : m (c.tc.loc main_arg1) = B) (q : Fin 4) (t : Fin cfg0.N) (e : t = ⟨4 * q.val + 3, show _ < 16 by omega⟩) (y : S1408x1024.Idx) :
    (dats m 0 c).after 2 t y = prod A B (((cfg0.win 2).blk t).view.emb y) := by
  subst e
  rw [emb2 q _ rfl, after0_2]
  refine (out_sum m c q y).trans ?_
  unfold prod
  rw [Fin.sum_univ_tiles (N := 8192) 4 2048 rfl]
  exact Finset.sum_congr rfl fun j _ => part_apply m c A B hA hB q j y

/-- What the result array ends holding: the whole product. -/
theorem final (c : Dev nD) (A : FVec Ideal S2x8192x2816 .bf16) (B : FVec Ideal S8192x1024 .bf16)
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 16 := t.isLt
  exact final_at m c A B hA hB ⟨t.val / 4, by omega⟩ t (Fin.ext (by dsimp only; omega)) y

end Cert.GwIn

namespace Cert.GwIn

open Cert.Reference3Ideal Cert.Reference3Ideal.Gen Idealize.ShloMosaic Idealize.ShloMosaic.StableHlo

/-- The reference's product. -/
theorem reference (A : FVec Ideal S2x8192x2816 .bf16) (B : FVec Ideal S8192x1024 .bf16) :
    truncf .bf16 (transpose S5632x1024 [1, 0] (transpose S1024x5632 [1, 0] (Host.dotGeneral dot_S8192x5632_S8192x1024_S5632x1024_0_0_1_1_n_n none (addf (pad S8192x5632 ![0, 2816] ![0, 0] ![0, 0] (shapeCast _ (extractStridedSlice S1x8192x2816 ![1, 0, 0] (extf .f32 A bitsLt_bf16_f32) slices_S2x8192x2816_S1x8192x2816_1_0_0) shapeCasts_S1x8192x2816_S8192x2816) (constant S_ .f32 0x00000000#32) pads_S8192x2816_S8192x5632_000_281600 h_S_) (pad S8192x5632 ![0, 0] ![0, 2816] ![0, 0] (shapeCast _ (extractStridedSlice S1x8192x2816 ![0, 0, 0] (extf .f32 A bitsLt_bf16_f32) slices_S2x8192x2816_S1x8192x2816_0_0_0) shapeCasts_S1x8192x2816_S8192x2816) (constant S_ .f32 0x00000000#32) pads_S8192x2816_S8192x5632_000_028160 h_S_)) (extf .f32 B bitsLt_bf16_f32)) transposes_S5632x1024_S1024x5632_1_0) transposes_S1024x5632_S5632x1024_1_0) bitsLt_bf16_f32 = prod A B := by
  funext i
  idx_vars i
  unfold prod
  pointwise
  refine Finset.sum_congr rfl fun k _ => congrArg (fun a : EReal => a * B (ix2 k i1)) ?_
  have hi : i0.val < 5632 := i0.isLt
  by_cases h : 2816 ≤ i0.val
  · rw [dif_pos ⟨h, by omega⟩, dif_neg (by omega), add_zero]
    exact congrArg A (congrArg₂ (fun a b => ix3 a k b) (Fin.ext (by show 1 = i0.val / 2816; omega)) (Fin.ext (by show i0.val - 2816 = i0.val % 2816; omega)))
  · rw [dif_neg (fun hc => h hc.1), dif_pos (by omega), zero_add]
    exact congrArg A (congrArg₂ (fun a b => ix3 a k b) (Fin.ext (by show 0 = i0.val / 2816; omega)) (Fin.ext (by show i0.val = i0.val % 2816; omega)))

end Cert.GwIn
-- ==== Proof.FfnIn.lean ====
/- The feed-forward layer's first projection and its gate: what the blocks hold, and the same of the plain products. -/
module

public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.Pipeline.ValueKit

@[expose] public section

noncomputable section

namespace Cert.FfnIn

open Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl

/-- One entry of the projection: a row of the activations with a row of the weights. -/
def proj (A : FVec Ideal S8192x1024 .bf16) (B : FVec Ideal S5632x1024 .bf16) (i : Fin 8192) (j : Fin 5632) : EReal :=
  ∑ k : Fin 1024, A (ix2 i k) * B (ix2 j k)

/-- The gate: the weights' first half. -/
def gate (A : FVec Ideal S8192x1024 .bf16) (B : FVec Ideal S5632x1024 .bf16) : FVec Ideal S8192x2816 .bf16 := fun i =>
  proj A B (i 0) ⟨(i 1).val, by have : (i 1).val < 2816 := (i 1).isLt; omega⟩

/-- The other factor: the weights' second half. -/
def up (A : FVec Ideal S8192x1024 .bf16) (B : FVec Ideal S5632x1024 .bf16) : FVec Ideal S8192x2816 .bf16 := fun i =>
  proj A B (i 0) ⟨(i 1).val + 2816, by have : (i 1).val < 2816 := (i 1).isLt; omega⟩

/-- The activation. -/
def act (A : FVec Ideal S8192x1024 .bf16) (B : FVec Ideal S5632x1024 .bf16) : FVec Ideal S8192x2816 .bf16 := fun i =>
  Ideal.div (gate A B i) ((1 : EReal) + Ideal.exp ((0 : EReal) - gate A B i)) * up A B i

/-- The exponential is not negative, so the sigmoid's denominator is not zero. -/
theorem denominator_ne (z : EReal) : (1 : EReal) + Ideal.exp z ≠ 0 := by
  have h : (0 : EReal) ≤ Ideal.exp z := by
    induction z with
    | bot => exact le_refl _
    | top => exact le_top
    | coe r => exact EReal.coe_nonneg.mpr (Real.exp_pos r).le
  exact (lt_of_lt_of_le zero_lt_one (le_add_of_nonneg_right h)).ne'

variable {m : (ℓ : Loc nD τ sig) → Buf (Elt Ideal) ℓ}

/-- Which block each window stages at each point. -/
theorem idx_facts : ∀ t : Fin cfg0.N, win0_0.index t 0 = t.val % 8 ∧ win0_0.index t 1 = 0 ∧ win0_1.index t 0 = t.val / 8 ∧ win0_1.index t 1 = 0
    ∧ win0_2.index t 0 = t.val / 8 + 2 ∧ win0_2.index t 1 = 0 ∧ win0_3.index t 0 = t.val % 8 ∧ win0_3.index t 1 = t.val / 8
    ∧ win0_4.index t 0 = t.val % 8 ∧ win0_4.index t 1 = t.val / 8 ∧ win0_5.index t 0 = t.val % 8 ∧ win0_5.index t 1 = t.val / 8 := by decide +kernel

variable (c : Dev nD) (A : FVec Ideal S8192x1024 .bf16) (B : FVec Ideal S5632x1024 .bf16)

/-- An entry of the first product's block. -/
theorem pay1_apply (hA : m (c.tc.loc main_arg0) = A) (hB : m (c.tc.loc main_arg1) = B) (t : Fin cfg0.N) (y : S1024x1408.Idx)
    (i : Fin 8192) (j : Fin 5632) (hi : i.val = t.val % 8 * 1024 + (y 0).val) (hj : j.val = t.val / 8 * 1408 + (y 1).val) :
    k0_pay1 (iblk m c 0 t) (iblk m c 1 t) y = proj A B i j := by
  obtain ⟨e0, e1, e2, e3, -⟩ := idx_facts t
  unfold k0_pay1 proj
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * (y 0).val = i.val; rw [e0, hi, one_mul]
    | ⟨1, _⟩ => show win0_0.index _ 1 * 1024 + 1 * k.val = k.val; rw [e1]; omega
  · rw [← hB]
    refine congrArg (m (c.tc.loc main_arg1)) (funext fun a => Fin.ext ?_)
    match a with
    | ⟨0, _⟩ => show win0_1.index _ 0 * 1408 + 1 * (y 1).val = j.val; rw [e2, hj, one_mul]
    | ⟨1, _⟩ => show win0_1.index _ 1 * 1024 + 1 * k.val = k.val; rw [e3]; omega

/-- An entry of the second product's block. -/
theorem pay2_apply (hA : m (c.tc.loc main_arg0) = A) (hB : m (c.tc.loc main_arg1) = B) (t : Fin cfg0.N) (y : S1024x1408.Idx)
    (i : Fin 8192) (j : Fin 5632) (hi : i.val = t.val % 8 * 1024 + (y 0).val) (hj : j.val = t.val / 8 * 1408 + (y 1).val + 2816) :
    k0_pay2 (iblk m c 0 t) (iblk m c 2 t) y = proj A B i j := by
  obtain ⟨e0, e1, -, -, e2, e3, -⟩ := idx_facts t
  unfold k0_pay2 proj
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * (y 0).val = i.val; rw [e0, hi, one_mul]
    | ⟨1, _⟩ => show win0_0.index _ 1 * 1024 + 1 * k.val = k.val; rw [e1]; omega
  · rw [← hB]
    refine congrArg (m (c.tc.loc main_arg1)) (funext fun a => Fin.ext ?_)
    match a with
    | ⟨0, _⟩ => show win0_2.index _ 0 * 1408 + 1 * (y 1).val = j.val; rw [e2, hj]; omega
    | ⟨1, _⟩ => show win0_2.index _ 1 * 1024 + 1 * k.val = k.val; rw [e3]; omega

/-- Where a result's block lies. -/
theorem emb3 (t : Fin cfg0.N) (y : S1024x1408.Idx) : ((((cfg0.win 3).blk t).view.emb y) 0).val = t.val % 8 * 1024 + (y 0).val ∧ ((((cfg0.win 3).blk t).view.emb y) 1).val = t.val / 8 * 1408 + (y 1).val := by
  obtain ⟨-, -, -, -, -, -, e0, e1, -⟩ := idx_facts t
  constructor
  · show win0_3.index _ 0 * 1024 + 1 * (y 0).val = _; rw [e0, one_mul]
  · show win0_3.index _ 1 * 1408 + 1 * (y 1).val = _; rw [e1, one_mul]

theorem emb4 (t : Fin cfg0.N) (y : S1024x1408.Idx) : ((((cfg0.win 4).blk t).view.emb y) 0).val = t.val % 8 * 1024 + (y 0).val ∧ ((((cfg0.win 4).blk t).view.emb y) 1).val = t.val / 8 * 1408 + (y 1).val := by
  obtain ⟨-, -, -, -, -, -, -, -, e0, e1, -⟩ := idx_facts t
  constructor
  · show win0_4.index _ 0 * 1024 + 1 * (y 0).val = _; rw [e0, one_mul]
  · show win0_4.index _ 1 * 1408 + 1 * (y 1).val = _; rw [e1, one_mul]

theorem emb5 (t : Fin cfg0.N) (y : S1024x1408.Idx) : ((((cfg0.win 5).blk t).view.emb y) 0).val = t.val % 8 * 1024 + (y 0).val ∧ ((((cfg0.win 5).blk t).view.emb y) 1).val = t.val / 8 * 1408 + (y 1).val := by
  obtain ⟨-, -, -, -, -, -, -, -, -, -, e0, e1⟩ := idx_facts t
  constructor
  · show win0_5.index _ 0 * 1024 + 1 * (y 0).val = _; rw [e0, one_mul]
  · show win0_5.index _ 1 * 1408 + 1 * (y 1).val = _; rw [e1, one_mul]

/-- The first result array ends holding the gate. -/
theorem final3 (hA : m (c.tc.loc main_arg0) = A) (hB : m (c.tc.loc main_arg1) = B) : (dats m 0 c).arrAt 3 cfg0.N = gate A B := by
  refine (dats m 0 c).arrAt_eq_of_covers 3 _ (by decide +kernel) fun t hf y => ?_
  rw [after0_3]
  unfold out0_3
  rw [View.canon_unit_zero hz]
  simp only [View.ld_unit_zero (S := S1024x1024) hz, View.ld_unit_zero (S := S1408x1024) hz]
  exact pay1_apply c A B hA hB t y _ _ (emb3 t y).1 (emb3 t y).2

/-- The second result array ends holding the other factor. -/
theorem final4 (hA : m (c.tc.loc main_arg0) = A) (hB : m (c.tc.loc main_arg1) = B) : (dats m 0 c).arrAt 4 cfg0.N = up A B := by
  refine (dats m 0 c).arrAt_eq_of_covers 4 _ (by decide +kernel) fun t hf y => ?_
  rw [after0_4]
  unfold out0_4
  rw [View.canon_unit_zero hz]
  simp only [View.ld_unit_zero (S := S1024x1024) hz, View.ld_unit_zero (S := S1408x1024) hz]
  exact pay2_apply c A B hA hB t y _ _ (emb4 t y).1 (congrArg (· + 2816) (emb4 t y).2)

/-- The third result array ends holding the activation. -/
theorem final5 (hA : m (c.tc.loc main_arg0) = A) (hB : m (c.tc.loc main_arg1) = B) : (dats m 0 c).arrAt 5 cfg0.N = act A B := by
  refine (dats m 0 c).arrAt_eq_of_covers 5 _ (by decide +kernel) fun t hf y => ?_
  have h1 : k0_pay1 (iblk m c 0 t) (iblk m c 1 t) y = gate A B (((cfg0.win 5).blk t).view.emb y) := pay1_apply c A B hA hB t y _ _ (emb5 t y).1 (emb5 t y).2
  have h2 : k0_pay2 (iblk m c 0 t) (iblk m c 2 t) y = up A B (((cfg0.win 5).blk t).view.emb y) := pay2_apply c A B hA hB t y _ _ (emb5 t y).1 (congrArg (· + 2816) (emb5 t y).2)
  rw [after0_5]
  unfold out0_5
  rw [View.canon_unit_zero hz]
  simp only [View.ld_unit_zero (S := S1024x1024) hz, View.ld_unit_zero (S := S1408x1024) hz]
  unfold act k0_pay5
  rw [← h1, ← h2]
  pointwise
  rfl

end Cert.FfnIn

namespace Cert.FfnIn

open Cert.Reference4Ideal Cert.Reference4Ideal.Gen Idealize.ShloMosaic Idealize.ShloMosaic.StableHlo

variable (A : FVec Ideal S8192x1024 .bf16) (B : FVec Ideal S5632x1024 .bf16)

/-- The reference's product. -/
abbrev ref : FVec Ideal S8192x5632 .f32 := Host.dotGeneral dot_S8192x1024_S1024x5632_S8192x5632_1_0_0_1_n_n none (extf .f32 A bitsLt_bf16_f32) (transpose S1024x5632 [1, 0] (extf .f32 B bitsLt_bf16_f32) transposes_S5632x1024_S1024x5632_1_0)

theorem ref_apply (i : Fin 8192) (j : Fin 5632) : ref A B (ix2 i j) = proj A B i j := by
  unfold ref proj
  pointwise

theorem ref_gate : truncf .bf16 (extractStridedSlice S8192x2816 ![0, 0] (ref A B) slices_S8192x5632_S8192x2816_0_0) bitsLt_bf16_f32 = gate A B := by
  funext i
  idx_vars i
  refine Eq.trans ?_ (ref_apply A B i0 ⟨i1.val, by have := i1.isLt; omega⟩)
  generalize ref A B = r
  pointwise

theorem ref_up : truncf .bf16 (extractStridedSlice S8192x2816 ![0, 2816] (ref A B) slices_S8192x5632_S8192x2816_0_2816) bitsLt_bf16_f32 = up A B := by
  funext i
  idx_vars i
  refine Eq.trans ?_ (ref_apply A B i0 ⟨i1.val + 2816, by have := i1.isLt; omega⟩)
  generalize ref A B = r
  pointwise
  exact congrArg (fun j => r (ix2 i0 j)) (Fin.ext (Nat.add_comm _ _))

theorem ref_act : truncf .bf16 (mulf (mulf (extractStridedSlice S8192x2816 ![0, 0] (ref A B) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (ref A B) slices_S8192x5632_S8192x2816_0_0)))))) (extractStridedSlice S8192x2816 ![0, 2816] (ref A B) slices_S8192x5632_S8192x2816_0_2816)) bitsLt_bf16_f32 = act A B := by
  unfold act
  rw [← ref_gate, ← ref_up]
  funext i
  idx_vars i
  generalize ref A B = r
  pointwise
  rw [Ideal.mul_one_div (denominator_ne _), zero_sub, show (⟨2816 + i1.val, by have := i1.isLt; omega⟩ : Fin 5632) = ⟨i1.val + 2816, by have := i1.isLt; omega⟩ from Fin.ext (Nat.add_comm _ _)]

end Cert.FfnIn
-- ==== Proof.FfnOut.lean ====
/- The feed-forward layer's second projection with the residual and the next layer's normalization. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

noncomputable section

namespace Cert.FfnOut

open Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .bf16) (h8 : a8.IsWhole) (a9 : Memref sig .tc .vmem S8x128 .f32) (h9 : a9.IsWhole)

/-- The first result's block is the first payload. -/
theorem out_y
    (x0 : Vec F S512x2816 .bf16) (x1 : Vec F S2816x1024 .bf16) (x2 : Vec F S512x1024 .f32) (x3 : Vec F S1x1024 .f32) :
    out0_A_4 c i a3 h3 a4 h4 a5 h5 a6 h6 a7 h7 a8 h8 a9 h9 x0 x1 x2 x3 = k0_pay1 x0 x1 x2 := by
  unfold out0_A_4
  rw [View.read_writes_eq_canon _ _ _ (by apply cover0_A_4)]
  unfold kernelRun0_A
  dsimp only
  sl_unfold_words
  rw [View.canon_unit_zero hz]
  simp only [View.readAt_eq_ld, h3.read_unread, h4.read_unread, h5.read_unread, h6.read_unread, View.ld_unit_zero (S := S512x2816) hz, View.ld_unit_zero (S := S2816x1024) hz, View.ld_unit_zero (S := S512x1024) hz, View.ld_unit_zero (S := S1x1024) hz]

/-- The second result's block is the second payload. -/
theorem out_h
    (x0 : Vec F S512x2816 .bf16) (x1 : Vec F S2816x1024 .bf16) (x2 : Vec F S512x1024 .f32) (x3 : Vec F S1x1024 .f32) :
    out0_A_5 c i a3 h3 a4 h4 a5 h5 a6 h6 a7 h7 a8 h8 a9 h9 x0 x1 x2 x3 = k0_pay2 x0 x1 x2 x3 := by
  unfold out0_A_5
  rw [View.read_writes_eq_canon _ _ _ (by apply cover0_A_5)]
  unfold kernelRun0_A
  dsimp only
  sl_unfold_words
  rw [View.canon_unit_zero hz]
  simp only [View.readAt_eq_ld, h3.read_unread, h4.read_unread, h5.read_unread, h6.read_unread, View.ld_unit_zero (S := S512x2816) hz, View.ld_unit_zero (S := S2816x1024) hz, View.ld_unit_zero (S := S512x1024) hz, View.ld_unit_zero (S := S1x1024) hz]

end

/-- One entry of the projection with the residual. -/
def entry (A : FVec Ideal S8192x2816 .bf16) (B : FVec Ideal S2816x1024 .bf16) (X : FVec Ideal S8192x1024 .f32) (i : Fin 8192) (j : Fin 1024) : EReal :=
  (∑ k : Fin 2816, A (ix2 i k) * B (ix2 k j)) + X (ix2 i j)

/-- The projection with the residual. -/
def sumOf (A : FVec Ideal S8192x2816 .bf16) (B : FVec Ideal S2816x1024 .bf16) (X : FVec Ideal S8192x1024 .f32) : FVec Ideal S8192x1024 .f32 := fun i =>
  entry A B X (i 0) (i 1)

/-- Its rows normalized and scaled. -/
def normOf (A : FVec Ideal S8192x2816 .bf16) (B : FVec Ideal S2816x1024 .bf16) (X : FVec Ideal S8192x1024 .f32) (W : FVec Ideal S1x1024 .f32) : FVec Ideal S8192x1024 .bf16 := fun i =>
  entry A B X (i 0) (i 1) * Ideal.rsqrt (Ideal.div (∑ j : Fin 1024, entry A B X (i 0) j * entry A B X (i 0) j) (Ideal.ofBits .f32 0x44800000#32) + Ideal.ofBits .f32 0x358637BD#32) * W (ix2 0 (i 1))

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0 := by decide +kernel

variable (c : Dev nD) (A : FVec Ideal S8192x2816 .bf16) (B : FVec Ideal S2816x1024 .bf16) (X : FVec Ideal S8192x1024 .f32) (W : FVec Ideal S1x1024 .f32)

/-- An entry of the first payload. -/
theorem pay1_apply (hA : m (c.tc.loc main_arg0) = A) (hB : m (c.tc.loc main_arg1) = B) (hX : m (c.tc.loc main_arg2) = X) (t : Fin cfg0.N) (y0 : Fin 512) (y1 : Fin 1024)
    (i : Fin 8192) (hi : i.val = t.val * 512 + y0.val) :
    k0_pay1 (iblk m c 0 t) (iblk m c 1 t) (iblk m c 2 t) (ix2 y0 y1) = entry A B X i y1 := by
  obtain ⟨e0, e1, e2, e3, e4, e5, -⟩ := idx_facts t
  unfold k0_pay1 entry
  pointwise
  refine congrArg₂ (fun a b : EReal => a + b) (Finset.sum_congr rfl fun k _ => congrArg₂ (fun a b : EReal => a * b) ?_ ?_) ?_
  · rw [← hA]
    refine congrArg (m (c.tc.loc main_arg0)) (funext fun a => Fin.ext ?_)
    match a with
    | ⟨0, _⟩ => show win0_0.index _ 0 * 512 + 1 * y0.val = i.val; rw [e0, hi, one_mul]
    | ⟨1, _⟩ => show win0_0.index _ 1 * 2816 + 1 * k.val = k.val; rw [e1]; omega
  · rw [← hB]
    refine congrArg (m (c.tc.loc main_arg1)) (funext fun a => Fin.ext ?_)
    match a with
    | ⟨0, _⟩ => show win0_1.index _ 0 * 2816 + 1 * k.val = k.val; rw [e2]; omega
    | ⟨1, _⟩ => show win0_1.index _ 1 * 1024 + 1 * y1.val = y1.val; rw [e3]; omega
  · rw [← hX]
    refine congrArg (m (c.tc.loc main_arg2)) (funext fun a => Fin.ext ?_)
    match a with
    | ⟨0, _⟩ => show win0_2.index _ 0 * 512 + 1 * y0.val = i.val; rw [e4, hi, one_mul]
    | ⟨1, _⟩ => show win0_2.index _ 1 * 1024 + 1 * y1.val = y1.val; rw [e5]; omega

/-- The first result array ends holding the sum. -/
theorem final4 (hA : m (c.tc.loc main_arg0) = A) (hB : m (c.tc.loc main_arg1) = B) (hX : m (c.tc.loc main_arg2) = X) : (dats m 0 c).arrAt 4 cfg0.N = sumOf A B X := by
  refine (dats m 0 c).arrAt_eq_of_covers 4 _ (by decide +kernel) fun t hf y => ?_
  obtain ⟨-, -, -, -, -, -, -, -, e0, e1, -⟩ := idx_facts t
  rw [after0_4]
  unfold outsAt0
  dsimp only
  rw [out_y]
  idx_vars y
  refine (pay1_apply c A B X hA hB hX t y0 y1 ((((cfg0.win 4).blk t).view.emb (ix2 y0 y1)) 0) ?_).trans ?_
  · show win0_4.index _ 0 * 512 + 1 * y0.val = _; rw [e0, one_mul]
  · refine congrArg (entry A B X _) (Fin.ext ?_)
    show y1.val = win0_4.index _ 1 * 1024 + 1 * y1.val; rw [e1]; omega

/-- The second result array ends holding the normalized rows. -/
theorem final5 (hA : m (c.tc.loc main_arg0) = A) (hB : m (c.tc.loc main_arg1) = B) (hX : m (c.tc.loc main_arg2) = X) (hW : m (c.tc.loc main_arg3) = W) : (dats m 0 c).arrAt 5 cfg0.N = normOf A B X W := by
  refine (dats m 0 c).arrAt_eq_of_covers 5 _ (by decide +kernel) fun t hf y => ?_
  obtain ⟨-, -, -, -, -, -, e6, e7, -, -, e0, e1⟩ := idx_facts t
  rw [after0_5]
  unfold outsAt0
  dsimp only
  rw [out_h]
  idx_vars y
  obtain ⟨i, hi⟩ : ∃ i : Fin 8192, i = (((cfg0.win 5).blk t).view.emb (ix2 y0 y1)) 0 := ⟨_, rfl⟩
  have hiv : i.val = t.val * 512 + y0.val := by
    rw [hi]; show win0_5.index _ 0 * 512 + 1 * y0.val = _; rw [e0, one_mul]
  have hj : (((cfg0.win 5).blk t).view.emb (ix2 y0 y1)) 1 = y1 := Fin.ext (by show win0_5.index _ 1 * 1024 + 1 * y1.val = y1.val; rw [e1]; omega)
  have hp : ∀ j : Fin 1024, k0_pay1 (iblk m c 0 t) (iblk m c 1 t) (iblk m c 2 t) (ix2 y0 j) = entry A B X i j := fun j => pay1_apply c A B X hA hB hX t y0 j i hiv
  unfold normOf
  rw [← hi, hj]
  have hw : iblk m c 3 t (ix2 0 y1) = W (ix2 0 y1) := by
    rw [← hW]
    refine congrArg (m (c.tc.loc main_arg3)) (funext fun a => Fin.ext ?_)
    match a with
    | ⟨0, _⟩ => show win0_3.index _ 0 * 1 + 1 * 0 = 0; rw [e6]
    | ⟨1, _⟩ => show win0_3.index _ 1 * 1024 + 1 * y1.val = y1.val; rw [e7]; omega
  show k0_pay2 _ _ _ _ (ix2 y0 y1) = _
  unfold k0_pay2
  generalize k0_pay1 (iblk m c 0 t) (iblk m c 1 t) (iblk m c 2 t) = p at hp
  generalize iblk m c 3 t = w at hw
  simp only [← hp]
  rw [← hw]
  pointwise

end Cert.FfnOut

namespace Cert.FfnOut

open Cert.Reference5Ideal Cert.Reference5Ideal.Gen Idealize.ShloMosaic Idealize.ShloMosaic.StableHlo

variable (A : FVec Ideal S8192x2816 .bf16) (B : FVec Ideal S2816x1024 .bf16) (X : FVec Ideal S8192x1024 .f32) (W : FVec Ideal S1x1024 .f32)

/-- The reference's sum. -/
abbrev ref : FVec Ideal S8192x1024 .f32 := addf X (Host.dotGeneral dot_S8192x2816_S2816x1024_S8192x1024_1_0_0_1_n_n none (extf .f32 A bitsLt_bf16_f32) (extf .f32 B bitsLt_bf16_f32))

theorem ref_apply (i : Fin 8192) (j : Fin 1024) : ref A B X (ix2 i j) = entry A B X i j := by
  unfold ref entry
  pointwise
  exact add_comm _ _

theorem ref_sum : ref A B X = sumOf A B X := by
  funext i
  idx_vars i
  exact ref_apply A B X i0 i1

theorem ref_norm : truncf .bf16 (mulf (mulf (ref A B X) (broadcastInDim S8192x1024 ![0, 1] bcast_S8192x1_S8192x1024_0_1 (Host.rsqrt (addf (Host.divf (broadcastInDim S8192x1 ![0] bcast_S8192_S8192x1_0 (Host.reduceAdd (mulf (ref A B X) (ref A B X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 W)) bitsLt_bf16_f32 = normOf A B X W := by
  funext i
  idx_vars i
  have hp : ∀ j : Fin 1024, ref A B X (ix2 i0 j) = entry A B X i0 j := fun j => ref_apply A B X i0 j
  show _ = entry A B X i0 i1 * Ideal.rsqrt (Ideal.div (∑ j : Fin 1024, entry A B X i0 j * entry A B X i0 j) (Ideal.ofBits .f32 0x44800000#32) + Ideal.ofBits .f32 0x358637BD#32) * W (ix2 0 i1)
  simp only [← hp]
  generalize ref A B X = r
  pointwise

end Cert.FfnOut
-- ==== Proof.FfnDact.lean ====
/- The gradient of the feed-forward layer's activation: what the blocks hold. -/
module

public import proofs.«01_k».proof.Proof.Gen.Kernel6Ideal.Value
public import proofs.«01_k».proof.Proof.Gen.Reference6Ideal.Run
public import proofs.«01_k».proof.Proof.Gen.Pre_finite6
public import Idealize.ShloMosaic.Lib.Pointwise
public import Idealize.ShloMosaic.Lib.ReduceAll
public import Idealize.ShloMosaic.Lib.IdealHost
public import Idealize.ShloMosaic.Lib.Pipeline.ValueKit

@[expose] public section

noncomputable section

namespace Cert.FfnDact

open Cert.Kernel6Ideal Cert.Kernel6Ideal.Gen Idealize.ShloMosaic Idealize.ShloMosaic.TcCoe Idealize.SL.Sem

theorem hz : (![0, 0] : Fin 2 → Nat) = fun _ => 0 := funext fun a => by fin_cases a <;> rfl

/-- One entry of the activation's gradient: a row of the output's gradient with a row of the weights. -/
def back (A : FVec Ideal S8192x1024 .bf16) (B : FVec Ideal S2816x1024 .bf16) (i : Fin 8192) (j : Fin 2816) : EReal :=
  ∑ k : Fin 1024, A (ix2 i k) * B (ix2 j k)

/-- The sigmoid. -/
def sgm (z : EReal) : EReal := Ideal.div 1 (1 + Ideal.exp (0 - z))

/-- One entry of the gate's gradient (slab zero) or the other factor's (slab one). -/
def cell (p g u : EReal) (n : ℕ) : EReal :=
  if n = 0 then p * u * (sgm g + g * sgm g * (1 - sgm g)) else p * (g * sgm g)

/-- The gate's gradient in slab zero, the other factor's in slab one. -/
def both (A : FVec Ideal S8192x1024 .bf16) (B : FVec Ideal S2816x1024 .bf16) (G U : FVec Ideal S8192x2816 .bf16) : FVec Ideal S2x8192x2816 .bf16 := fun i =>
  cell (back A B (i 1) (i 2)) (G (ix2 (i 1) (i 2))) (U (ix2 (i 1) (i 2))) (i 0).val

theorem both_apply (A : FVec Ideal S8192x1024 .bf16) (B : FVec Ideal S2816x1024 .bf16) (G U : FVec Ideal S8192x2816 .bf16) (y : Fin 2) (i : Fin 8192) (j : Fin 2816) :
    both A B G U (ix3 y i j) = cell (back A B i j) (G (ix2 i j)) (U (ix2 i j)) y.val := rfl

variable {m : (ℓ : Loc nD τ sig) → Buf (Elt Ideal) ℓ}

/-- Which block each window stages at each point. -/
theorem idx_facts : ∀ t : Fin cfg0.N, win0_0.index t 0 = t.val % 8 ∧ win0_0.index t 1 = 0 ∧ win0_1.index t 0 = t.val / 8 ∧ win0_1.index t 1 = 0
    ∧ win0_2.index t 0 = t.val % 8 ∧ win0_2.index t 1 = t.val / 8 ∧ win0_3.index t 0 = t.val % 8 ∧ win0_3.index t 1 = t.val / 8
    ∧ win0_4.index t 0 = 0 ∧ win0_4.index t 1 = t.val % 8 ∧ win0_4.index t 2 = t.val / 8 := by decide +kernel

variable (c : Dev nD) (A : FVec Ideal S8192x1024 .bf16) (B : FVec Ideal S2816x1024 .bf16) (G U : FVec Ideal S8192x2816 .bf16)

/-- An entry of the product's block. -/
theorem pay1_apply (hA : m (c.tc.loc main_arg0) = A) (hB : m (c.tc.loc main_arg1) = B) (t : Fin cfg0.N) (y0 : Fin 1024) (y1 : Fin 1408)
    (i : Fin 8192) (j : Fin 2816) (hi : i.val = t.val % 8 * 1024 + y0.val) (hj : j.val = t.val / 8 * 1408 + y1.val) :
    k0_pay1 (iblk m c 0 t) (iblk m c 1 t) (ix2 y0 y1) = back A B i j := by
  obtain ⟨e0, e1, e2, e3, -⟩ := idx_facts t
  unfold k0_pay1 back
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * y0.val = i.val; rw [e0, hi, one_mul]
    | ⟨1, _⟩ => show win0_0.index _ 1 * 1024 + 1 * k.val = k.val; rw [e1]; omega
  · rw [← hB]
    refine congrArg (m (c.tc.loc main_arg1)) (funext fun a => Fin.ext ?_)
    match a with
    | ⟨0, _⟩ => show win0_1.index _ 0 * 1408 + 1 * y1.val = j.val; rw [e2, hj, one_mul]
    | ⟨1, _⟩ => show win0_1.index _ 1 * 1024 + 1 * k.val = k.val; rw [e3]; omega

/-- An entry of the gate's block. -/
theorem g_apply (hG : m (c.tc.loc main_arg2) = G) (t : Fin cfg0.N) (y0 : Fin 1024) (y1 : Fin 1408)
    (i : Fin 8192) (j : Fin 2816) (hi : i.val = t.val % 8 * 1024 + y0.val) (hj : j.val = t.val / 8 * 1408 + y1.val) : iblk m c 2 t (ix2 y0 y1) = G (ix2 i j) := by
  obtain ⟨-, -, -, -, e0, e1, -⟩ := idx_facts t
  rw [← hG]
  refine congrArg (m (c.tc.loc main_arg2)) (funext fun a => Fin.ext ?_)
  match a with
  | ⟨0, _⟩ => show win0_2.index _ 0 * 1024 + 1 * y0.val = i.val; rw [e0, hi, one_mul]
  | ⟨1, _⟩ => show win0_2.index _ 1 * 1408 + 1 * y1.val = j.val; rw [e1, hj, one_mul]

/-- An entry of the other factor's block. -/
theorem u_apply (hU : m (c.tc.loc main_arg3) = U) (t : Fin cfg0.N) (y0 : Fin 1024) (y1 : Fin 1408)
    (i : Fin 8192) (j : Fin 2816) (hi : i.val = t.val % 8 * 1024 + y0.val) (hj : j.val = t.val / 8 * 1408 + y1.val) : iblk m c 3 t (ix2 y0 y1) = U (ix2 i j) := by
  obtain ⟨-, -, -, -, -, -, e0, e1, -⟩ := idx_facts t
  rw [← hU]
  refine congrArg (m (c.tc.loc main_arg3)) (funext fun a => Fin.ext ?_)
  match a with
  | ⟨0, _⟩ => show win0_3.index _ 0 * 1024 + 1 * y0.val = i.val; rw [e0, hi, one_mul]
  | ⟨1, _⟩ => show win0_3.index _ 1 * 1408 + 1 * y1.val = j.val; rw [e1, hj, one_mul]

/-- Where the result's block lies. -/
theorem emb4 (t : Fin cfg0.N) (y0 : Fin 2) (y1 : Fin 1024) (y2 : Fin 1408) :
    ∃ (i : Fin 8192) (j : Fin 2816), i.val = t.val % 8 * 1024 + y1.val ∧ j.val = t.val / 8 * 1408 + y2.val ∧ ((cfg0.win 4).blk t).view.emb (ix3 y0 y1 y2) = ix3 y0 i j := by
  obtain ⟨-, -, -, -, -, -, -, -, e0, e1, e2⟩ := idx_facts t
  have ht : t.val < 16 := t.isLt
  refine ⟨⟨t.val % 8 * 1024 + y1.val, by omega⟩, ⟨t.val / 8 * 1408 + y2.val, by omega⟩, rfl, rfl, funext fun a => Fin.ext ?_⟩
  match a with
  | ⟨0, _⟩ => show win0_4.index _ 0 * 2 + 1 * y0.val = y0.val; rw [e0]; omega
  | ⟨1, _⟩ => show win0_4.index _ 1 * 1024 + 1 * y1.val = t.val % 8 * 1024 + y1.val; rw [e1, one_mul]
  | ⟨2, _⟩ => show win0_4.index _ 2 * 1408 + 1 * y2.val = t.val / 8 * 1408 + y2.val; rw [e2, one_mul]

/-- What the two stores leave at an index. -/
theorem out_apply (x0 : Vec Ideal S1024x1024 .bf16) (x1 : Vec Ideal S1408x1024 .bf16) (x2 x3 : Vec Ideal S1024x1408 .bf16) (y0 : Fin 2) (y1 : Fin 1024) (y2 : Fin 1408) :
    out0_4 x0 x1 x2 x3 (ix3 y0 y1 y2) = if y0.val = 0 then k0_pay5 x0 x1 x2 x3 (ix3 0 y1 y2) else k0_pay6 x0 x1 x2 (ix3 0 y1 y2) := by
  unfold out0_4
  simp only [View.ld_unit_zero (S := S1024x1024) hz, View.ld_unit_zero (S := S1408x1024) hz, View.ld_unit_zero (S := S1024x1408) hz]
  refine View.canon_eq_of_allAt _ _ _ (cover0_4 _ _ _) ?_
  refine View.allAt_cons_unit _ _ _ _ _ (fun x hx => ?_) (View.allAt_cons_unit _ _ _ _ _ (fun x hx => ?_) (View.allAt_nil _ _))
  · have h0 : y0.val = 1 + (x 0).val := hx 0
    have h1 : y1.val = 0 + (x 1).val := hx 1
    have h2 : y2.val = 0 + (x 2).val := hx 2
    have hx0 : (x 0).val < 1 := (x 0).isLt
    rw [if_neg (by omega)]
    refine congrArg (k0_pay6 x0 x1 x2) (funext fun a => Fin.ext ?_)
    match a with
    | ⟨0, _⟩ => show (x 0).val = 0; omega
    | ⟨1, _⟩ => show (x 1).val = y1.val; omega
    | ⟨2, _⟩ => show (x 2).val = y2.val; omega
  · have h0 : y0.val = 0 + (x 0).val := hx 0
    have h1 : y1.val = 0 + (x 1).val := hx 1
    have h2 : y2.val = 0 + (x 2).val := hx 2
    have hx0 : (x 0).val < 1 := (x 0).isLt
    rw [if_pos (by omega)]
    refine congrArg (k0_pay5 x0 x1 x2 x3) (funext fun a => Fin.ext ?_)
    match a with
    | ⟨0, _⟩ => show (x 0).val = 0; omega
    | ⟨1, _⟩ => show (x 1).val = y1.val; omega
    | ⟨2, _⟩ => show (x 2).val = y2.val; omega

/-- That is the two gradients of the block. -/
theorem blk_apply (x0 : Vec Ideal S1024x1024 .bf16) (x1 : Vec Ideal S1408x1024 .bf16) (x2 x3 : Vec Ideal S1024x1408 .bf16) (y0 : Fin 2) (y1 : Fin 1024) (y2 : Fin 1408) :
    out0_4 x0 x1 x2 x3 (ix3 y0 y1 y2) = cell (k0_pay1 x0 x1 (ix2 y1 y2)) (x2 (ix2 y1 y2)) (x3 (ix2 y1 y2)) y0.val := by
  rw [out_apply]
  unfold cell sgm k0_pay5 k0_pay6 k0_pay4 k0_pay3 k0_pay2
  generalize k0_pay1 x0 x1 = p
  pointwise

/-- What one point leaves at an index of its block. -/
theorem point (hA : m (c.tc.loc main_arg0) = A) (hB : m (c.tc.loc main_arg1) = B) (hG : m (c.tc.loc main_arg2) = G) (hU : m (c.tc.loc main_arg3) = U)
    (t : Fin cfg0.N) (y0 : Fin 2) (y1 : Fin 1024) (y2 : Fin 1408) : out0_4 (iblk m c 0 t) (iblk m c 1 t) (iblk m c 2 t) (iblk m c 3 t) (ix3 y0 y1 y2) = both A B G U (((cfg0.win 4).blk t).view.emb (ix3 y0 y1 y2)) := by
  obtain ⟨i, j, hi, hj, e⟩ := emb4 t y0 y1 y2
  have h := blk_apply (iblk m c 0 t) (iblk m c 1 t) (iblk m c 2 t) (iblk m c 3 t) y0 y1 y2
  have hp := pay1_apply c A B hA hB t y1 y2 i j hi hj
  have hg := g_apply c G hG t y1 y2 i j hi hj
  have hu := u_apply c U hU t y1 y2 i j hi hj
  refine h.trans (Eq.trans ?_ (congrArg (both A B G U) e).symm)
  rw [both_apply]
  exact congrFun (congr (congr (congrArg cell hp) hg) hu) y0.val

/-- The result array ends holding both gradients. -/
theorem final (hA : m (c.tc.loc main_arg0) = A) (hB : m (c.tc.loc main_arg1) = B) (hG : m (c.tc.loc main_arg2) = G) (hU : m (c.tc.loc main_arg3) = U) :
    (dats m 0 c).arrAt 4 cfg0.N = both A B G U := by
  refine (dats m 0 c).arrAt_eq_of_covers 4 _ (by decide +kernel) fun t hf y => ?_
  obtain ⟨y0, y1, y2, rfl⟩ : ∃ (y0 : Fin 2) (y1 : Fin 1024) (y2 : Fin 1408), y = ix3 y0 y1 y2 := ⟨y 0, y 1, y 2, funext fun a => by fin_cases a <;> rfl⟩
  refine (congrFun (after0_4 m c t) _).trans ?_
  exact point c A B G U hA hB hG hU t y0 y1 y2

end Cert.FfnDact

namespace Cert.FfnDact

open Cert.Reference6Ideal Cert.Reference6Ideal.Gen Idealize.ShloMosaic Idealize.ShloMosaic.StableHlo

variable (A : FVec Ideal S8192x1024 .bf16) (B : FVec Ideal S2816x1024 .bf16) (G U : FVec Ideal S8192x2816 .bf16)

/-- The reference's product. -/
abbrev ref : FVec Ideal S8192x2816 .f32 := Host.dotGeneral dot_S8192x1024_S2816x1024_S8192x2816_1_1_0_0_n_n none (extf .f32 A bitsLt_bf16_f32) (extf .f32 B bitsLt_bf16_f32)

theorem ref_apply (i : Fin 8192) (j : Fin 2816) : ref A B (ix2 i j) = back A B i j := by
  unfold ref back
  pointwise

/-- Over a real factor the two forms of the gate's gradient agree, whatever the gate. -/
theorem gate_grad (r : ℝ) (g : EReal) : (r : EReal) * sgm g + g * (r : EReal) * (sgm g * (1 - sgm g)) = (r : EReal) * (sgm g + g * sgm g * (1 - sgm g)) := by
  induction g with
  | bot =>
    have h : sgm ⊥ = 0 := by
      unfold sgm
      rw [zero_sub, EReal.neg_bot, Ideal.exp_top, EReal.add_top_of_ne_bot (by decide)]
      unfold Ideal.div
      rw [if_neg (by decide), EReal.inv_top, mul_zero]
    rw [h]
    simp only [mul_zero, zero_mul, add_zero]
  | top =>
    have h : sgm ⊤ = 1 := by
      unfold sgm
      rw [zero_sub, EReal.neg_top, Ideal.exp_bot, add_zero, ← EReal.coe_one, Ideal.div_coe one_ne_zero, div_one, EReal.coe_one, one_mul]
    have h0 : (1 : EReal) - 1 = 0 := by rw [← EReal.coe_one, ← EReal.coe_sub, sub_self, EReal.coe_zero]
    rw [h, h0]
    simp only [mul_zero, add_zero]
  | coe z =>
    obtain ⟨s, hs⟩ : ∃ s : ℝ, sgm (z : EReal) = (s : EReal) := by
      refine ⟨1 / (1 + Real.exp (0 - z)), ?_⟩
      unfold sgm
      rw [← EReal.coe_zero, ← EReal.coe_sub, Ideal.exp_coe, ← EReal.coe_one, ← EReal.coe_add, Ideal.div_coe (by positivity), EReal.coe_one, one_mul]
    rw [hs, ← EReal.coe_one]
    norm_cast
    ring

/-- A number whose absolute value is less than infinity is real. -/
theorem real_of_lt (x : EReal) (h : max x (-x) < ⊤) : ∃ r : ℝ, x = (r : EReal) := by
  induction x with
  | bot => exact absurd h (by simp)
  | top => exact absurd h (by simp)
  | coe r => exact ⟨r, rfl⟩

/-- The precondition's comparison, read at one entry. -/
theorem real_of_cmp (x : EReal) (h : Ideal.cmp .olt (max x (-x)) (Ideal.ofBits .bf16 0x7F80#16) = 1#1) : ∃ r : ℝ, x = (r : EReal) := by
  have e : Ideal.ofBits .bf16 0x7F80#16 = (⊤ : EReal) := by
    show Ideal.ieee 8 7 0x7F80#16 = ⊤
    unfold Ideal.ieee
    simp
  rw [e] at h
  refine real_of_lt x ?_
  by_contra hc
  unfold Ideal.cmp at h
  rw [decide_eq_false hc] at h
  have h2 : (BitVec.ofBool false : BitVec 1) = 1#1 := h
  exact absurd h2 (by decide)

/-- Where the precondition holds the entries of the three arrays it names are real. -/
theorem reals (h : Cert.Pre_finite6.fn (F := Ideal) A B G U = fun _ => 1#1) :
    (∀ i, ∃ r : ℝ, A i = (r : EReal)) ∧ (∀ i, ∃ r : ℝ, B i = (r : EReal)) ∧ ∀ i, ∃ r : ℝ, U i = (r : EReal) := by
  have h0 := congrFun h ix0
  unfold Cert.Pre_finite6.fn at h0
  dsimp only at h0
  have hb : ∀ a b : BitVec 1, IntOp.andi a b = 1#1 → a = 1#1 ∧ b = 1#1 := by decide
  obtain ⟨h01, h2⟩ := hb _ _ h0
  obtain ⟨h0, h1⟩ := hb _ _ h01
  haveI : Subsingleton Cert.Pre_finite6.S_.Idx := ⟨fun a b => funext fun x => x.elim0⟩
  refine ⟨fun i => ?_, fun i => ?_, fun i => ?_⟩
  · have e := Host.reduce_andi_all _ _ _ _ _ h0 i
    exact real_of_cmp _ e
  · have e := Host.reduce_andi_all _ _ _ _ _ h1 i
    exact real_of_cmp _ e
  · have e := Host.reduce_andi_all _ _ _ _ _ h2 i
    exact real_of_cmp _ e

/-- A finite sum of reals is real. -/
theorem sum_real {n : ℕ} (f : Fin n → EReal) (h : ∀ k, ∃ r : ℝ, f k = (r : EReal)) : ∃ r : ℝ, (∑ k, f k) = (r : EReal) := by
  choose g hg using h
  refine ⟨∑ k, g k, ?_⟩
  rw [Finset.sum_congr rfl fun k _ => hg k]
  induction (Finset.univ : Finset (Fin n)) using Finset.induction_on with
  | empty => rw [Finset.sum_empty, Finset.sum_empty, EReal.coe_zero]
  | insert a s ha ih => rw [Finset.sum_insert ha, Finset.sum_insert ha, ih, EReal.coe_add]

/-- So the activation's gradient times the other factor is real. -/
theorem back_real (hA : ∀ i, ∃ r : ℝ, A i = (r : EReal)) (hB : ∀ i, ∃ r : ℝ, B i = (r : EReal)) (hU : ∀ i, ∃ r : ℝ, U i = (r : EReal)) (i : Fin 8192) (j : Fin 2816) :
    ∃ r : ℝ, back A B i j * U (ix2 i j) = (r : EReal) := by
  obtain ⟨p, hp⟩ : ∃ r : ℝ, back A B i j = (r : EReal) := sum_real _ fun k => by
    obtain ⟨a, ha⟩ := hA (ix2 i k)
    obtain ⟨b, hb⟩ := hB (ix2 j k)
    exact ⟨a * b, by rw [ha, hb, EReal.coe_mul]⟩
  obtain ⟨u, hu⟩ := hU (ix2 i j)
  exact ⟨p * u, by rw [hp, hu, EReal.coe_mul]⟩

/-- The reference's two gradients. -/
theorem reference (hr : ∀ i j, ∃ r : ℝ, back A B i j * U (ix2 i j) = (r : EReal)) :
    truncf .bf16 (concatenate S2x8192x2816 0 [⟨S1x8192x2816, (broadcastInDim S1x8192x2816 ![1, 2] bcast_S8192x2816_S1x8192x2816_1_2 (addf (mulf (mulf (ref A B) (extf .f32 U bitsLt_bf16_f32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 G bitsLt_bf16_f32)))))) (mulf (mulf (extf .f32 G bitsLt_bf16_f32) (mulf (ref A B) (extf .f32 U bitsLt_bf16_f32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 G bitsLt_bf16_f32))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 G bitsLt_bf16_f32))))))))))⟩, ⟨S1x8192x2816, (broadcastInDim S1x8192x2816 ![1, 2] bcast_S8192x2816_S1x8192x2816_1_2 (mulf (mulf (extf .f32 G bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 G bitsLt_bf16_f32)))))) (ref A B)))⟩] concatenates_S1x8192x2816_S1x8192x2816_S2x8192x2816_d0) bitsLt_bf16_f32 = both A B G U := by
  funext i
  idx_vars i
  have hp := ref_apply A B i1 i2
  obtain ⟨r, hr⟩ := hr i1 i2
  show _ = cell (back A B i1 i2) (G (ix2 i1 i2)) (U (ix2 i1 i2)) i0.val
  unfold cell
  rw [hr, ← gate_grad, ← hr, ← hp]
  generalize ref A B = p
  pointwise
  unfold sgm
  simp only [zero_sub]
  by_cases h : i0.val = 0
  · rw [if_pos h, dif_pos (by omega)]
  · rw [if_neg h, dif_neg (by omega)]
    exact mul_comm _ _

end Cert.FfnDact
-- ==== Proof.FfnDhn.lean ====
/- The gradient through the feed-forward layer's first projection and the norm before it. -/
module

public import proofs.«01_k».proof.Proof.Gen.Kernel7Ideal.Value
public import proofs.«01_k».proof.Proof.Gen.Reference7Ideal.Run
public import proofs.«01_k».proof.Proof.Gen.Pre_finite7
public import Idealize.ShloMosaic.Lib.Pointwise
public import Idealize.ShloMosaic.Lib.IdealHost
public import Idealize.ShloMosaic.Lib.ReduceAll
public import Idealize.ShloMosaic.Lib.Pipeline.ValueKit

@[expose] public section

noncomputable section

namespace Cert.FfnDhn

open Cert.Kernel7Ideal Cert.Kernel7Ideal.Gen Idealize.ShloMosaic Idealize.ShloMosaic.TcCoe Idealize.SL.Sem

theorem hz3 : (![0, 0, 0] : Fin 3 → Nat) = fun _ => 0 := funext fun a => by fin_cases a <;> rfl
theorem hz : (![0, 0] : Fin 2 → Nat) = fun _ => 0 := funext fun a => by fin_cases a <;> rfl

section
variable {F : FTy → Type} [FloatOps F]
variable (c : Dev nD) (i : grid0.Coords) (a3 : Memref sig .tc .vmem S1x512x2816 .bf16) (h3 : a3.IsWhole) (a4 : Memref sig .tc .vmem S2816x1024 .bf16) (h4 : a4.IsWhole)
  (a5 : Memref sig .tc .vmem S512x1024 .f32) (h5 : a5.IsWhole) (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
  (a11 : Memref sig .tc .vmem S512x1024 .f32) (h11 : a11.IsWhole)
  (x0 : Vec F S1x512x2816 .bf16) (x1 : Vec F S2816x1024 .bf16) (x2 : Vec F S512x1024 .f32) (x3 : Vec F S1x1024 .f32) (x4 : Vec F S512x1024 .f32) (xo : Vec F S1x1024 .f32) (xs : Vec F S512x1024 .f32)

/-- The first half's product is stored. -/
theorem sout_A (c0 : cond0_0 i) (c1 : ¬cond0_1 i) (c2 : ¬cond0_2 i) :
    sout0_A_0 c i a3 h3 a4 h4 a5 h5 a6 h6 a7 h7 a8 h8 a9 h9 a10 h10 a11 h11 c0 c1 c2 x0 x1 x2 x3 x4 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S1x512x2816) hz3, View.ld_unit_zero (S := S2816x1024) hz, shapeCast_self]

/-- At a first half the gain's gradient stays as it was. -/
theorem out_A7 (c0 : cond0_0 i) (c1 : ¬cond0_1 i) (c2 : ¬cond0_2 i) :
    out0_A_7 c i a3 h3 a4 h4 a5 h5 a6 h6 a7 h7 a8 h8 a9 h9 a10 h10 a11 h11 c0 c1 c2 x0 x1 x2 x3 x4 xo = xo := rfl

/-- At the first second half the three results are set. -/
theorem out_B (c0 : ¬cond0_0 i) (c1 : cond0_1 i) (c2 : cond0_2 i) (c3 : cond0_3 i) (c4 : ¬cond0_4 i) :
    out0_B_5 c i a3 h3 a4 h4 a5 h5 a6 h6 a7 h7 a8 h8 a9 h9 a10 h10 a11 h11 c0 c1 c2 c3 c4 x0 x1 x2 x3 x4 xs = k0_pay6 (addf xs (k0_pay1 x0 x1)) x2 x3 x4
    ∧ out0_B_6 c i a3 h3 a4 h4 a5 h5 a6 h6 a7 h7 a8 h8 a9 h9 a10 h10 a11 h11 c0 c1 c2 c3 c4 x0 x1 x2 x3 x4 xs = k0_pay7 (addf xs (k0_pay1 x0 x1)) x2 x3 x4
    ∧ out0_B_7 c i a3 h3 a4 h4 a5 h5 a6 h6 a7 h7 a8 h8 a9 h9 a10 h10 a11 h11 c0 c1 c2 c3 c4 x0 x1 x2 x3 x4 xs = k0_pay8 (addf xs (k0_pay1 x0 x1)) x2 := by
  unfold out0_B_5 out0_B_6 out0_B_7
  rw [View.read_writes_eq_canon _ _ _ (cover0_B_5 c i a3 h3 a4 h4 a5 h5 a6 h6 a7 h7 a8 h8 a9 h9 a10 h10 a11 h11 c0 c1 c2 c3 c4 x0 x1 x2 x3 x4 xs),
    View.read_writes_eq_canon _ _ _ (cover0_B_6 c i a3 h3 a4 h4 a5 h5 a6 h6 a7 h7 a8 h8 a9 h9 a10 h10 a11 h11 c0 c1 c2 c3 c4 x0 x1 x2 x3 x4 xs),
    View.read_writes_eq_canon _ _ _ (cover0_B_7 c i a3 h3 a4 h4 a5 h5 a6 h6 a7 h7 a8 h8 a9 h9 a10 h10 a11 h11 c0 c1 c2 c3 c4 x0 x1 x2 x3 x4 xs)]
  unfold kernelRun0_B
  dsimp only
  sl_unfold_words
  refine ⟨?_, ?_, ?_⟩ <;> rw [View.canon_unit_zero hz, View.readCov_unit_zero (S := S512x1024) _ hz] <;> unfold k0_pay3 <;>
  simp only [View.readAt_eq_ld, h3.read_unread, h4.read_unread, h5.read_unread, h6.read_unread, h7.read_unread, h11.read_unread, View.ld_unit_zero (S := S1x512x2816) hz3, View.ld_unit_zero (S := S2816x1024) hz, View.ld_unit_zero (S := S512x1024) hz, View.ld_unit_zero (S := S1x1024) hz, shapeCast_self]

/-- At a later second half the gain's gradient is added to. -/
theorem out_C (c0 : ¬cond0_0 i) (c1 : cond0_1 i) (c2 : cond0_2 i) (c3 : ¬cond0_3 i) (c4 : cond0_4 i) :
    out0_C_5 c i a3 h3 a4 h4 a5 h5 a6 h6 a7 h7 a8 h8 a9 h9 a10 h10 a11 h11 c0 c1 c2 c3 c4 x0 x1 x2 x3 x4 xo xs = k0_pay6 (addf xs (k0_pay1 x0 x1)) x2 x3 x4
    ∧ out0_C_6 c i a3 h3 a4 h4 a5 h5 a6 h6 a7 h7 a8 h8 a9 h9 a10 h10 a11 h11 c0 c1 c2 c3 c4 x0 x1 x2 x3 x4 xo xs = k0_pay7 (addf xs (k0_pay1 x0 x1)) x2 x3 x4
    ∧ out0_C_7 c i a3 h3 a4 h4 a5 h5 a6 h6 a7 h7 a8 h8 a9 h9 a10 h10 a11 h11 c0 c1 c2 c3 c4 x0 x1 x2 x3 x4 xo xs = addf xo (k0_pay8 (addf xs (k0_pay1 x0 x1)) x2) := by
  unfold out0_C_5 out0_C_6 out0_C_7
  rw [View.read_writes_eq_canon _ _ _ (cover0_C_5 c i a3 h3 a4 h4 a5 h5 a6 h6 a7 h7 a8 h8 a9 h9 a10 h10 a11 h11 c0 c1 c2 c3 c4 x0 x1 x2 x3 x4 xo xs),
    View.read_writes_eq_canon _ _ _ (cover0_C_6 c i a3 h3 a4 h4 a5 h5 a6 h6 a7 h7 a8 h8 a9 h9 a10 h10 a11 h11 c0 c1 c2 c3 c4 x0 x1 x2 x3 x4 xo xs),
    View.read_writes_eq_canon _ _ _ (cover0_C_7 c i a3 h3 a4 h4 a5 h5 a6 h6 a7 h7 a8 h8 a9 h9 a10 h10 a11 h11 c0 c1 c2 c3 c4 x0 x1 x2 x3 x4 xo xs)]
  unfold kernelRun0_C
  dsimp only
  sl_unfold_words
  refine ⟨?_, ?_, ?_⟩ <;> rw [View.canon_unit_zero hz, View.readCov_unit_zero (S := S512x1024) _ hz] <;> (try unfold k0_pay4) <;> unfold k0_pay3 <;>
  simp only [View.readAt_eq_ld, h3.read_unread, h4.read_unread, h5.read_unread, h6.read_unread, h7.read_unread, h10.read_unread, h11.read_unread, View.ld_unit_zero (S := S1x512x2816) hz3, View.ld_unit_zero (S := S2816x1024) hz, View.ld_unit_zero (S := S512x1024) hz, View.ld_unit_zero (S := S1x1024) hz, shapeCast_self]

variable (m : (ℓ : Loc nD τ sig) → Buf (Elt F) ℓ)

/-- The product of the blocks staged at point `t`. -/
abbrev part (c : Dev nD) (t : Fin cfg0.N) : Vec F S512x1024 .f32 := k0_pay1 (iblk m c 0 t) (iblk m c 1 t)

/-- The two halves' products added, at the second half's point. -/
abbrev both (c : Dev nD) (t : Fin cfg0.N) : Vec F S512x1024 .f32 :=
  addf (F := F) (φ := .f32) (part m c ⟨t.val - 1, Nat.lt_of_le_of_lt (Nat.sub_le _ _) t.isLt⟩) (part m c t)

theorem acc_first (c : Dev nD) (t : Fin cfg0.N) (h : t.val % 2 = 0) : (outsAt0 m c t.val t.isLt).2.2.2 = part m c t := by
  rw [outsAt0_A m c t h (by omega) (by omega)]
  dsimp only
  rw [sout_A]

theorem keep7 (c : Dev nD) (t : Fin cfg0.N) (h : t.val % 2 = 0) :
    (outsAt0 m c t.val t.isLt).2.2.1 = (outsAt0 m c (t.val - 1) (Nat.lt_of_le_of_lt (Nat.sub_le _ _) t.isLt)).2.2.1 := by
  rw [outsAt0_A m c t h (by omega) (by omega)]
  rfl

theorem acc_prev (c : Dev nD) (t : Fin cfg0.N) (h : t.val % 2 = 1) :
    (outsAt0 m c (t.val - 1) (Nat.lt_of_le_of_lt (Nat.sub_le _ _) t.isLt)).2.2.2 = part m c ⟨t.val - 1, Nat.lt_of_le_of_lt (Nat.sub_le _ _) t.isLt⟩ :=
  acc_first m c ⟨t.val - 1, Nat.lt_of_le_of_lt (Nat.sub_le _ _) t.isLt⟩ (by dsimp only; omega)

theorem out5 (c : Dev nD) (t : Fin cfg0.N) (h : t.val % 2 = 1) :
    (outsAt0 m c t.val t.isLt).1 = k0_pay6 (both m c t) (iblk m c 2 t) (iblk m c 3 t) (iblk m c 4 t) := by
  have e := acc_prev m c t h
  by_cases hl : t.val < 2
  · rw [outsAt0_B m c t (by omega) h h hl (by omega)]
    dsimp only
    rw [(out_B ..).1, e]
  · rw [outsAt0_C m c t (by omega) h h hl (by omega)]
    dsimp only
    rw [(out_C ..).1, e]

theorem out6 (c : Dev nD) (t : Fin cfg0.N) (h : t.val % 2 = 1) :
    (outsAt0 m c t.val t.isLt).2.1 = k0_pay7 (both m c t) (iblk m c 2 t) (iblk m c 3 t) (iblk m c 4 t) := by
  have e := acc_prev m c t h
  by_cases hl : t.val < 2
  · rw [outsAt0_B m c t (by omega) h h hl (by omega)]
    dsimp only
    rw [(out_B ..).2.1, e]
  · rw [outsAt0_C m c t (by omega) h h hl (by omega)]
    dsimp only
    rw [(out_C ..).2.1, e]

theorem out7_first (c : Dev nD) (t : Fin cfg0.N) (h : t.val % 2 = 1) (hl : t.val < 2) :
    (outsAt0 m c t.val t.isLt).2.2.1 = k0_pay8 (both m c t) (iblk m c 2 t) := by
  have e := acc_prev m c t h
  rw [outsAt0_B m c t (by omega) h h hl (by omega)]
  dsimp only
  rw [(out_B ..).2.2, e]

theorem out7_next (c : Dev nD) (t : Fin cfg0.N) (h : t.val % 2 = 1) (hl : 2 ≤ t.val) :
    (outsAt0 m c t.val t.isLt).2.2.1 = addf (F := F) (φ := .f32) (outsAt0 m c (t.val - 2) (Nat.lt_of_le_of_lt (Nat.sub_le _ _) t.isLt)).2.2.1 (k0_pay8 (both m c t) (iblk m c 2 t)) := by
  have e := acc_prev m c t h
  have e2 := keep7 m c ⟨t.val - 1, Nat.lt_of_le_of_lt (Nat.sub_le _ _) t.isLt⟩ (by dsimp only; omega)
  simp only [show t.val - 1 - 1 = t.val - 2 by omega] at e2
  rw [outsAt0_C m c t (by omega) h h (by omega) hl]
  dsimp only
  rw [(out_C ..).2.2, e, e2]

end

/-- An entry of the product of the two halves with the two halves of the weight. -/
def dh (A : FVec Ideal S2x8192x2816 .bf16) (B : FVec Ideal S5632x1024 .bf16) (i : Fin 8192) (j : Fin 1024) : EReal :=
  (∑ k : Fin 2816, A (ix3 0 i k) * B (ix2 ⟨k.val, show k.val < 5632 by omega⟩ j)) + ∑ k : Fin 2816, A (ix3 1 i k) * B (ix2 ⟨2816 + k.val, show _ < 5632 by omega⟩ j)

/-- The reciprocal root of a row's mean square. -/
def rr (X : FVec Ideal S8192x1024 .f32) (i : Fin 8192) : EReal :=
  Ideal.rsqrt (Ideal.div (∑ j : Fin 1024, X (ix2 i j) * X (ix2 i j)) (Ideal.ofBits .f32 0x44800000#32) + Ideal.ofBits .f32 0x358637BD#32)

/-- An entry of the gradient through the norm, added to the other gradient. -/
def entry (H : Fin 8192 → Fin 1024 → EReal) (X : FVec Ideal S8192x1024 .f32) (W : FVec Ideal S1x1024 .f32) (D : FVec Ideal S8192x1024 .f32) (i : Fin 8192) (j : Fin 1024) : EReal :=
  rr X i * (H i j * W (ix2 0 j)) - X (ix2 i j) * (rr X i * rr X i * rr X i * Ideal.div (∑ k : Fin 1024, H i k * W (ix2 0 k) * X (ix2 i k)) (Ideal.ofBits .f32 0x44800000#32)) + D (ix2 i j)

def grad (H : Fin 8192 → Fin 1024 → EReal) (X : FVec Ideal S8192x1024 .f32) (W : FVec Ideal S1x1024 .f32) (D : FVec Ideal S8192x1024 .f32) : FVec Ideal S8192x1024 .f32 := fun i => entry H X W D (i 0) (i 1)

/-- The gradient of the gain. -/
def gain (H : Fin 8192 → Fin 1024 → EReal) (X : FVec Ideal S8192x1024 .f32) : FVec Ideal S1x1024 .f32 := fun i => ∑ k : Fin 8192, H k (i 1) * X (ix2 k (i 1)) * rr X k

abbrev total (A : FVec Ideal S2x8192x2816 .bf16) (B : FVec Ideal S5632x1024 .bf16) (X : FVec Ideal S8192x1024 .f32) (W : FVec Ideal S1x1024 .f32) (D : FVec Ideal S8192x1024 .f32) : FVec Ideal S8192x1024 .f32 := grad (dh A B) X W D

abbrev scales (A : FVec Ideal S2x8192x2816 .bf16) (B : FVec Ideal S5632x1024 .bf16) (X : FVec Ideal S8192x1024 .f32) : FVec Ideal S1x1024 .f32 := gain (dh A B) X

/-- Where the blocks lie. -/
theorem idx_facts : ∀ t : Fin cfg0.N, win0_0.index t 0 = t.val % 2 ∧ win0_0.index t 1 = t.val / 2 ∧ win0_0.index t 2 = 0 ∧ win0_1.index t 0 = t.val % 2 ∧ win0_1.index t 1 = 0
    ∧ win0_2.index t 0 = t.val / 2 ∧ win0_2.index t 1 = 0 ∧ win0_3.index t 0 = 0 ∧ win0_3.index t 1 = 0 ∧ win0_4.index t 0 = t.val / 2 ∧ win0_4.index t 1 = 0
    ∧ win0_5.index t 0 = t.val / 2 ∧ win0_5.index t 1 = 0 ∧ win0_6.index t 0 = t.val / 2 ∧ win0_6.index t 1 = 0 ∧ win0_7.index t 0 = 0 ∧ win0_7.index t 1 = 0 := by
  decide +kernel

variable {m : (ℓ : Loc nD τ sig) → Buf (Elt Ideal) ℓ} (c : Dev nD)
variable (A : FVec Ideal S2x8192x2816 .bf16) (B : FVec Ideal S5632x1024 .bf16) (X : FVec Ideal S8192x1024 .f32) (W : FVec Ideal S1x1024 .f32) (D : FVec Ideal S8192x1024 .f32)

theorem part_apply (hA : m (c.tc.loc main_arg0) = A) (hB : m (c.tc.loc main_arg1) = B) (t : Fin cfg0.N) (y0 : Fin 512) (y1 : Fin 1024) (h : Fin 2) (i : Fin 8192)
    (hh : h.val = t.val % 2) (hi : i.val = t.val / 2 * 512 + y0.val) :
    part m c t (ix2 y0 y1) = ∑ k : Fin 2816, A (ix3 h i k) * B (ix2 ⟨h.val * 2816 + k.val, show _ < 5632 by omega⟩ y1) := by
  obtain ⟨e0, e1, e2, e3, e4, -⟩ := idx_facts t
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1 + 1 * 0 = h.val; rw [e0, hh]; omega
    | ⟨1, _⟩ => show win0_0.index _ 1 * 512 + 1 * y0.val = i.val; rw [e1, hi, one_mul]
    | ⟨2, _⟩ => show win0_0.index _ 2 * 2816 + 1 * k.val = k.val; rw [e2]; omega
  · rw [← hB]
    refine congrArg (m (c.tc.loc main_arg1)) (funext fun a => Fin.ext ?_)
    match a with
    | ⟨0, _⟩ => show win0_1.index _ 0 * 2816 + 1 * k.val = h.val * 2816 + k.val; rw [e3, hh, one_mul]
    | ⟨1, _⟩ => show win0_1.index _ 1 * 1024 + 1 * y1.val = y1.val; rw [e4]; omega

theorem both_apply (hA : m (c.tc.loc main_arg0) = A) (hB : m (c.tc.loc main_arg1) = B) (t : Fin cfg0.N) (ht : t.val % 2 = 1) (y0 : Fin 512) (y1 : Fin 1024) (i : Fin 8192)
    (hi : i.val = t.val / 2 * 512 + y0.val) : both m c t (ix2 y0 y1) = dh A B i y1 := by
  have p0 := part_apply c A B hA hB ⟨t.val - 1, Nat.lt_of_le_of_lt (Nat.sub_le _ _) t.isLt⟩ y0 y1 0 i (by show 0 = (t.val - 1) % 2; omega) (by dsimp only; omega)
  have p1 := part_apply c A B hA hB t y0 y1 1 i (by show 1 = t.val % 2; omega) hi
  unfold both dh
  refine (congrArg₂ (fun a b : EReal => a + b) p0 p1).trans ?_
  refine congrArg₂ (fun a b : EReal => a + b) (Finset.sum_congr rfl fun k _ => congrArg (fun r => A (ix3 0 i k) * B (ix2 r y1)) (Fin.ext ?_)) (Finset.sum_congr rfl fun k _ => congrArg (fun r => A (ix3 1 i k) * B (ix2 r y1)) (Fin.ext ?_))
  · show 0 * 2816 + k.val = k.val; omega
  · show 1 * 2816 + k.val = 2816 + k.val; omega

theorem x_apply (hX : m (c.tc.loc main_arg2) = X) (t : Fin cfg0.N) (y0 : Fin 512) (y1 : Fin 1024) (i : Fin 8192) (hi : i.val = t.val / 2 * 512 + y0.val) : iblk m c 2 t (ix2 y0 y1) = X (ix2 i y1) := by
  obtain ⟨-, -, -, -, -, e0, e1, -⟩ := idx_facts t
  rw [← hX]
  refine congrArg (m (c.tc.loc main_arg2)) (funext fun a => Fin.ext ?_)
  match a with
  | ⟨0, _⟩ => show win0_2.index _ 0 * 512 + 1 * y0.val = i.val; rw [e0, hi, one_mul]
  | ⟨1, _⟩ => show win0_2.index _ 1 * 1024 + 1 * y1.val = y1.val; rw [e1]; omega

theorem w_apply (hW : m (c.tc.loc main_arg3) = W) (t : Fin cfg0.N) (y1 : Fin 1024) : iblk m c 3 t (ix2 0 y1) = W (ix2 0 y1) := by
  obtain ⟨-, -, -, -, -, -, -, e0, e1, -⟩ := idx_facts t
  rw [← hW]
  refine congrArg (m (c.tc.loc main_arg3)) (funext fun a => Fin.ext ?_)
  match a with
  | ⟨0, _⟩ => show win0_3.index _ 0 * 1 + 1 * 0 = 0; rw [e0]
  | ⟨1, _⟩ => show win0_3.index _ 1 * 1024 + 1 * y1.val = y1.val; rw [e1]; omega

theorem d_apply (hD : m (c.tc.loc main_arg4) = D) (t : Fin cfg0.N) (y0 : Fin 512) (y1 : Fin 1024) (i : Fin 8192) (hi : i.val = t.val / 2 * 512 + y0.val) : iblk m c 4 t (ix2 y0 y1) = D (ix2 i y1) := by
  obtain ⟨-, -, -, -, -, -, -, -, -, e0, e1, -⟩ := idx_facts t
  rw [← hD]
  refine congrArg (m (c.tc.loc main_arg4)) (funext fun a => Fin.ext ?_)
  match a with
  | ⟨0, _⟩ => show win0_4.index _ 0 * 512 + 1 * y0.val = i.val; rw [e0, hi, one_mul]
  | ⟨1, _⟩ => show win0_4.index _ 1 * 1024 + 1 * y1.val = y1.val; rw [e1]; omega

/-- The first payload over blocks that hold one row's entries. -/
theorem pay6_apply (H : Fin 8192 → Fin 1024 → EReal) (s x : Vec Ideal S512x1024 .f32) (w : Vec Ideal S1x1024 .f32) (d : Vec Ideal S512x1024 .f32) (y0 : Fin 512) (y1 : Fin 1024) (i : Fin 8192)
    (hs : ∀ j, s (ix2 y0 j) = H i j) (hx : ∀ j, x (ix2 y0 j) = X (ix2 i j)) (hw : ∀ j, w (ix2 0 j) = W (ix2 0 j)) (hd : d (ix2 y0 y1) = D (ix2 i y1)) :
    k0_pay6 s x w d (ix2 y0 y1) = entry H X W D i y1 := by
  unfold entry rr
  simp only [← hs, ← hx, ← hw, ← hd]
  unfold k0_pay6 k0_pay5
  pointwise

/-- The gain's payload, likewise, a sum over the block's rows. -/
theorem pay8_apply (H : Fin 8192 → Fin 1024 → EReal) (s x : Vec Ideal S512x1024 .f32) (y1 : Fin 1024) (i : Fin 512 → Fin 8192)
    (hs : ∀ k j, s (ix2 k j) = H (i k) j) (hx : ∀ k j, x (ix2 k j) = X (ix2 (i k) j)) :
    k0_pay8 s x (ix2 0 y1) = ∑ k : Fin 512, H (i k) y1 * X (ix2 (i k) y1) * rr X (i k) := by
  unfold rr
  simp only [← hs, ← hx]
  unfold k0_pay8 k0_pay5
  pointwise

/-- The first result array ends holding the gradient. -/
theorem final5 (hA : m (c.tc.loc main_arg0) = A) (hB : m (c.tc.loc main_arg1) = B) (hX : m (c.tc.loc main_arg2) = X) (hW : m (c.tc.loc main_arg3) = W)
    (hD : m (c.tc.loc main_arg4) = D) : (dats m 0 c).arrAt 5 cfg0.N = total A B X W D := by
  refine (dats m 0 c).arrAt_eq_of_covers 5 _ (by decide +kernel) fun t hf y => ?_
  have ht : t.val % 2 = 1 := (flush0_5 t).mp hf
  idx_vars y
  obtain ⟨-, -, -, -, -, -, -, -, -, -, -, e0, e1, -⟩ := idx_facts t
  obtain ⟨i, hi, e⟩ : ∃ i : Fin 8192, i.val = t.val / 2 * 512 + y0.val ∧ ((cfg0.win 5).blk t).view.emb (ix2 y0 y1) = ix2 i y1 := by
    have hN : t.val < 32 := t.isLt
    refine ⟨⟨t.val / 2 * 512 + y0.val, by omega⟩, rfl, funext fun a => Fin.ext ?_⟩
    match a with
    | ⟨0, _⟩ => show win0_5.index _ 0 * 512 + 1 * y0.val = t.val / 2 * 512 + y0.val; rw [e0, one_mul]
    | ⟨1, _⟩ => show win0_5.index _ 1 * 1024 + 1 * y1.val = _; rw [e1]; show 0 * 1024 + 1 * y1.val = y1.val; omega
  refine (congrFun (after0_5 m c t) _).trans ((congrFun (out5 m c t ht) _).trans (Eq.trans ?_ (congrArg (total A B X W D) e).symm))
  exact pay6_apply X W D (dh A B) _ _ _ _ y0 y1 i (fun j => both_apply c A B hA hB t ht y0 j i hi) (fun j => x_apply c X hX t y0 j i hi) (fun j => w_apply c W hW t j) (d_apply c D hD t y0 y1 i hi)

/-- The second result array ends holding the gradient. -/
theorem final6 (hA : m (c.tc.loc main_arg0) = A) (hB : m (c.tc.loc main_arg1) = B) (hX : m (c.tc.loc main_arg2) = X) (hW : m (c.tc.loc main_arg3) = W)
    (hD : m (c.tc.loc main_arg4) = D) : (dats m 0 c).arrAt 6 cfg0.N = total A B X W D := by
  refine (dats m 0 c).arrAt_eq_of_covers 6 _ (by decide +kernel) fun t hf y => ?_
  have ht : t.val % 2 = 1 := (flush0_6 t).mp hf
  idx_vars y
  obtain ⟨-, -, -, -, -, -, -, -, -, -, -, -, -, e0, e1, -⟩ := idx_facts t
  obtain ⟨i, hi, e⟩ : ∃ i : Fin 8192, i.val = t.val / 2 * 512 + y0.val ∧ ((cfg0.win 6).blk t).view.emb (ix2 y0 y1) = ix2 i y1 := by
    have hN : t.val < 32 := t.isLt
    refine ⟨⟨t.val / 2 * 512 + y0.val, by omega⟩, rfl, funext fun a => Fin.ext ?_⟩
    match a with
    | ⟨0, _⟩ => show win0_6.index _ 0 * 512 + 1 * y0.val = t.val / 2 * 512 + y0.val; rw [e0, one_mul]
    | ⟨1, _⟩ => show win0_6.index _ 1 * 1024 + 1 * y1.val = _; rw [e1]; show 0 * 1024 + 1 * y1.val = y1.val; omega
  refine (congrFun (after0_6 m c t) _).trans ((congrFun (out6 m c t ht) _).trans (Eq.trans ?_ (congrArg (total A B X W D) e).symm))
  exact pay6_apply X W D (dh A B) _ _ _ _ y0 y1 i (fun j => both_apply c A B hA hB t ht y0 j i hi) (fun j => x_apply c X hX t y0 j i hi) (fun j => w_apply c W hW t j) (d_apply c D hD t y0 y1 i hi)

/-- What a block of rows adds to the gain's gradient. -/
def rows (H : Fin 8192 → Fin 1024 → EReal) (X : FVec Ideal S8192x1024 .f32) (y1 : Fin 1024) (b : Fin 16) : EReal :=
  ∑ k : Fin 512, H ⟨b.val * 512 + k.val, show _ < 8192 by omega⟩ y1 * X (ix2 ⟨b.val * 512 + k.val, show _ < 8192 by omega⟩ y1) * rr X ⟨b.val * 512 + k.val, show _ < 8192 by omega⟩

/-- The blocks' sums make the gain's gradient. -/
theorem gain_rows (H : Fin 8192 → Fin 1024 → EReal) (y1 : Fin 1024) : gain H X (ix2 0 y1) = ∑ b : Fin 16, rows H X y1 b := by
  show (∑ k : Fin 8192, H k y1 * X (ix2 k y1) * rr X k) = _
  rw [Fin.sum_univ_tiles (N := 8192) 16 512 rfl]
  rfl

/-- What is carried from block to block ends as the sum. -/
theorem acc_sum (r o : Fin 16 → EReal) (h0 : o 0 = r 0) (hn : ∀ (n : ℕ) (h : n + 1 < 16), o ⟨n + 1, h⟩ = o ⟨n, by omega⟩ + r ⟨n + 1, h⟩) : o 15 = ∑ b, r b := by
  have key : ∀ (n : ℕ) (h : n < 16), o ⟨n, h⟩ = ∑ b : Fin (n + 1), r ⟨b.val, by omega⟩ := by
    intro n
    induction n with
    | zero => intro h; rw [Fin.sum_univ_one]; exact h0
    | succ n ih => intro h; rw [Fin.sum_univ_castSucc, hn n h, ih (by omega)]; rfl
  exact key 15 (by omega)

theorem rows_apply (hA : m (c.tc.loc main_arg0) = A) (hB : m (c.tc.loc main_arg1) = B) (hX : m (c.tc.loc main_arg2) = X)
    (b : Fin 16) (t : Fin cfg0.N) (ht : t.val = 2 * b.val + 1) (y1 : Fin 1024) : k0_pay8 (both m c t) (iblk m c 2 t) (ix2 0 y1) = rows (dh A B) X y1 b :=
  pay8_apply X (dh A B) _ _ y1 (fun k => ⟨b.val * 512 + k.val, show _ < 8192 by omega⟩) (fun k j => both_apply c A B hA hB t (by omega) k j _ (by dsimp only; omega)) fun k j => x_apply c X hX t k j _ (by dsimp only; omega)

theorem rows_first (hA : m (c.tc.loc main_arg0) = A) (hB : m (c.tc.loc main_arg1) = B) (hX : m (c.tc.loc main_arg2) = X)
    (t : Fin cfg0.N) (ht : t.val = 1) (y1 : Fin 1024) : (outsAt0 m c t.val t.isLt).2.2.1 (ix2 0 y1) = rows (dh A B) X y1 0 := by
  rw [out7_first m c t (by omega) (by omega)]
  exact rows_apply c A B X hA hB hX 0 t (by rw [ht]; rfl) y1

theorem rows_next (hA : m (c.tc.loc main_arg0) = A) (hB : m (c.tc.loc main_arg1) = B) (hX : m (c.tc.loc main_arg2) = X)
    (b : Fin 16) (t s : Fin cfg0.N) (ht : t.val = 2 * b.val + 1) (hb : b.val ≠ 0) (hs : s.val = t.val - 2) (y1 : Fin 1024) :
    (outsAt0 m c t.val t.isLt).2.2.1 (ix2 0 y1) = (outsAt0 m c s.val s.isLt).2.2.1 (ix2 0 y1) + rows (dh A B) X y1 b := by
  obtain rfl : s = ⟨t.val - 2, Nat.lt_of_le_of_lt (Nat.sub_le _ _) t.isLt⟩ := Fin.ext hs
  rw [out7_next m c t (by omega) (by omega), ← rows_apply c A B X hA hB hX b t ht y1]
  rfl

/-- After all blocks of rows the gain's gradient holds their sum. -/
theorem rows_sum (hA : m (c.tc.loc main_arg0) = A) (hB : m (c.tc.loc main_arg1) = B) (hX : m (c.tc.loc main_arg2) = X) (y1 : Fin 1024)
    (t : Fin cfg0.N) (ht : t.val = 31) : (outsAt0 m c t.val t.isLt).2.2.1 (ix2 0 y1) = gain (dh A B) X (ix2 0 y1) := by
  obtain rfl : t = ⟨31, show 31 < 32 from by decide⟩ := Fin.ext ht
  rw [gain_rows]
  exact acc_sum (rows (dh A B) X y1) (fun b => (outsAt0 m c (2 * b.val + 1) (show _ < 32 by omega)).2.2.1 (ix2 0 y1)) (rows_first c A B X hA hB hX ⟨1, show _ < 32 by omega⟩ rfl y1)
    fun n h => rows_next c A B X hA hB hX ⟨n + 1, h⟩ ⟨2 * (n + 1) + 1, show _ < 32 by omega⟩ ⟨2 * n + 1, show _ < 32 by omega⟩ rfl (Nat.succ_ne_zero n) (by dsimp only; omega) y1

/-- The third result array ends holding the gain's gradient. -/
theorem final7 (hA : m (c.tc.loc main_arg0) = A) (hB : m (c.tc.loc main_arg1) = B) (hX : m (c.tc.loc main_arg2) = X) : (dats m 0 c).arrAt 7 cfg0.N = scales A B X := by
  refine (dats m 0 c).arrAt_eq_of_covers 7 _ (by decide +kernel) fun t hf y => ?_
  have ht : t.val % 32 = 31 := (flush0_7 t).mp hf
  have hN : t.val < 32 := t.isLt
  idx_vars y
  obtain rfl : y0 = 0 := Subsingleton.elim _ _
  obtain ⟨-, -, -, -, -, -, -, -, -, -, -, -, -, -, -, e0, e1⟩ := idx_facts t
  have e : ((cfg0.win 7).blk t).view.emb (ix2 0 y1) = ix2 0 y1 := by
    refine funext fun a => Fin.ext ?_
    match a with
    | ⟨0, _⟩ => show win0_7.index _ 0 * 1 + 1 * 0 = _; rw [e0]; rfl
    | ⟨1, _⟩ => show win0_7.index _ 1 * 1024 + 1 * y1.val = _; rw [e1]; show 0 * 1024 + 1 * y1.val = y1.val; omega
  refine (congrFun (after0_7 m c t) _).trans ((rows_sum c A B X hA hB hX y1 t (by omega)).trans (congrArg (scales A B X) e).symm)

end Cert.FfnDhn

namespace Cert.FfnDhn

open Cert.Reference7Ideal Cert.Reference7Ideal.Gen Idealize.ShloMosaic Idealize.ShloMosaic.StableHlo

variable (A : FVec Ideal S2x8192x2816 .bf16) (B : FVec Ideal S5632x1024 .bf16) (X : FVec Ideal S8192x1024 .f32) (W : FVec Ideal S1x1024 .f32) (D : FVec Ideal S8192x1024 .f32)

/-- The reference's product. -/
abbrev ref : FVec Ideal S8192x1024 .f32 := Host.dotGeneral dot_S8192x5632_S1024x5632_S8192x1024_1_1_0_0_n_n none (addf (pad S8192x5632 ![0, 2816] ![0, 0] ![0, 0] (shapeCast _ (extractStridedSlice S1x8192x2816 ![1, 0, 0] (extf .f32 A bitsLt_bf16_f32) slices_S2x8192x2816_S1x8192x2816_1_0_0) shapeCasts_S1x8192x2816_S8192x2816) (constant S_ .f32 0x00000000#32) pads_S8192x2816_S8192x5632_000_281600 h_S_) (pad S8192x5632 ![0, 0] ![0, 2816] ![0, 0] (shapeCast _ (extractStridedSlice S1x8192x2816 ![0, 0, 0] (extf .f32 A bitsLt_bf16_f32) slices_S2x8192x2816_S1x8192x2816_0_0_0) shapeCasts_S1x8192x2816_S8192x2816) (constant S_ .f32 0x00000000#32) pads_S8192x2816_S8192x5632_000_028160 h_S_)) (transpose S1024x5632 [1, 0] (extf .f32 B bitsLt_bf16_f32) transposes_S5632x1024_S1024x5632_1_0)

/-- Of the two padded halves only one is met at an index. -/
theorem pick_low (f g : Fin 2816 → EReal) (v : ℕ) (k : Fin 2816) (h : v = k.val) :
    ((if h : 2816 ≤ v ∧ v - 2816 < 2816 then f ⟨v - 2816, h.2⟩ else 0) + if h : v < 2816 then g ⟨v, h⟩ else 0) = g k := by
  subst h
  rw [dif_neg (by omega), dif_pos k.isLt, zero_add]

theorem pick_high (f g : Fin 2816 → EReal) (v : ℕ) (k : Fin 2816) (h : v = 2816 + k.val) :
    ((if h : 2816 ≤ v ∧ v - 2816 < 2816 then f ⟨v - 2816, h.2⟩ else 0) + if h : v < 2816 then g ⟨v, h⟩ else 0) = f k := by
  subst h
  rw [dif_pos (by omega), dif_neg (by omega), add_zero]
  exact congrArg f (Fin.ext (by dsimp only; omega))

theorem ref_apply (i : Fin 8192) (j : Fin 1024) : ref A B (ix2 i j) = dh A B i j := by
  unfold ref dh
  pointwise
  rw [Fin.sum_univ_tiles (N := 5632) 2 2816 rfl, Fin.sum_univ_two]
  refine congrArg₂ (fun a b : EReal => a + b) (Finset.sum_congr rfl fun k _ => ?_) (Finset.sum_congr rfl fun k _ => ?_)
  · exact congrArg₂ (fun a b : EReal => a * b) (pick_low (fun r => A (ix3 1 i r)) (fun r => A (ix3 0 i r)) _ k (by show 0 * 2816 + k.val = k.val; omega)) (congrArg (fun r => B (ix2 r j)) (Fin.ext (by show 0 * 2816 + k.val = k.val; omega)))
  · exact congrArg₂ (fun a b : EReal => a * b) (pick_high (fun r => A (ix3 1 i r)) (fun r => A (ix3 0 i r)) _ k (by show 1 * 2816 + k.val = 2816 + k.val; omega)) (congrArg (fun r => B (ix2 r j)) (Fin.ext (by show 1 * 2816 + k.val = 2816 + k.val; omega)))

/-- A row's mean square with the small constant. -/
abbrev sq : FVec Ideal S8192x1 .f32 := addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem gain_ref (r : FVec Ideal S8192x1024 .f32) (H : Fin 8192 → Fin 1024 → EReal) (hr : ∀ i j, r (ix2 i j) = H i j) :
    shapeCast _ (Host.reduceAdd (mulf (mulf X (broadcastInDim S8192x1024 ![0, 1] bcast_S8192x1_S8192x1024_0_1 (Host.rsqrt (sq X)))) r) (constant S_ .f32 0x00000000#32) reducesTo_S8192x1024_S1024_d0 h_S_) shapeCasts_S1024_S1x1024 = gain H X := by
  funext i
  idx_vars i
  show _ = ∑ k : Fin 8192, H k i1 * X (ix2 k i1) * rr X k
  unfold rr
  simp only [← hr]
  pointwise
  refine Finset.sum_congr rfl fun k _ => ?_
  rw [mul_comm, mul_assoc]

theorem ref_w :  shapeCast _ (Host.reduceAdd (mulf (mulf X (broadcastInDim S8192x1024 ![0, 1] bcast_S8192x1_S8192x1024_0_1 (Host.rsqrt (sq X)))) (ref A B)) (constant S_ .f32 0x00000000#32) reducesTo_S8192x1024_S1024_d0 h_S_) shapeCasts_S1024_S1x1024 = scales A B X := gain_ref X (ref A B) (dh A B) (ref_apply A B)

/-- A finite sum of reals, as a real. -/
theorem sum_coe {n : ℕ} (g : Fin n → ℝ) : (∑ k, (g k : EReal)) = ((∑ k, g k : ℝ) : EReal) := by
  induction (Finset.univ : Finset (Fin n)) using Finset.induction_on with
  | empty => rw [Finset.sum_empty, Finset.sum_empty, EReal.coe_zero]
  | insert a s ha ih => rw [Finset.sum_insert ha, Finset.sum_insert ha, ih, EReal.coe_add]

theorem lit_width : Ideal.ofBits .f32 0x44800000#32 = ((1024 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem lit_small : ∃ e : ℝ, 0 < e ∧ Ideal.ofBits .f32 0x358637BD#32 = (e : EReal) := by
  refine ⟨8796093 * (2 : ℝ) ^ (-43 : Int), by positivity, ?_⟩
  simp [Ideal.ofBits, Ideal.ieee, -EReal.coe_mul]

/-- The two forms of the norm's gradient agree over the reals. -/
theorem norm_grad (d w x c s : ℝ) (D : EReal) (hs : 0 < s) :
    D + (d : EReal) * w * Ideal.rsqrt s + x * Ideal.div (c * (((-(1 / 2) : ℝ) : EReal) * Ideal.div (Ideal.rsqrt s) s)) ((1024 : ℝ) : EReal)
        + Ideal.div (c * (((-(1 / 2) : ℝ) : EReal) * Ideal.div (Ideal.rsqrt s) s)) ((1024 : ℝ) : EReal) * x
      = Ideal.rsqrt s * (d * w) - x * (Ideal.rsqrt s * Ideal.rsqrt s * Ideal.rsqrt s * Ideal.div c ((1024 : ℝ) : EReal)) + D := by
  rw [Ideal.rsqrt_coe, if_neg (not_lt.mpr hs.le), if_neg hs.ne']
  have hr : (Real.sqrt s)⁻¹ * (Real.sqrt s)⁻¹ = 1 / s := by
    rw [← mul_inv, Real.mul_self_sqrt hs.le, one_div]
  generalize (Real.sqrt s)⁻¹ = r at hr
  rw [Ideal.div_coe hs.ne', Ideal.div_coe (by norm_num), Ideal.div_coe (by norm_num)]
  simp only [← EReal.coe_mul, ← EReal.coe_sub, add_assoc]
  simp only [← EReal.coe_add]
  rw [add_comm D]
  refine congrArg (fun a : ℝ => (a : EReal) + D) ?_
  rw [← hr]
  ring

/-- The precondition's comparison of a single-precision entry. -/
theorem real_of_cmp (x : EReal) (h : Ideal.cmp .olt (max x (-x)) ⊤ = 1#1) : ∃ r : ℝ, x = (r : EReal) := by
  induction x with
  | coe r => exact ⟨r, rfl⟩
  | bot =>
    have h2 : (BitVec.ofBool (decide ((max ⊥ (-⊥) : EReal) < ⊤)) : BitVec 1) = 1#1 := h
    rw [decide_eq_false (by simp)] at h2
    exact absurd h2 (by decide)
  | top =>
    have h2 : (BitVec.ofBool (decide ((max ⊤ (-⊤) : EReal) < ⊤)) : BitVec 1) = 1#1 := h
    rw [decide_eq_false (by simp)] at h2
    exact absurd h2 (by decide)

theorem inf16 : Ideal.ofBits .bf16 0x7F80#16 = (⊤ : EReal) := by simp [Ideal.ofBits, Ideal.ieee]
theorem inf32 : Ideal.ofBits .f32 0x7F800000#32 = (⊤ : EReal) := by simp [Ideal.ofBits, Ideal.ieee]

theorem real16 (x : EReal) (h : Ideal.cmp .olt (max x (-x)) (Ideal.ofBits .bf16 0x7F80#16) = 1#1) : ∃ r : ℝ, x = (r : EReal) := real_of_cmp x (inf16 ▸ h)
theorem real32 (x : EReal) (h : Ideal.cmp .olt (max x (-x)) (Ideal.ofBits .f32 0x7F800000#32) = 1#1) : ∃ r : ℝ, x = (r : EReal) := real_of_cmp x (inf32 ▸ h)

/-- Where the precondition holds the entries of the four arrays it names are real. -/
theorem reals (h : Cert.Pre_finite7.fn (F := Ideal) A B X W D = fun _ => 1#1) :
    (∀ i, ∃ r : ℝ, A i = (r : EReal)) ∧ (∀ i, ∃ r : ℝ, B i = (r : EReal)) ∧ (∀ i, ∃ r : ℝ, X i = (r : EReal)) ∧ ∀ i, ∃ r : ℝ, W i = (r : EReal) := by
  have h0 := congrFun h ix0
  unfold Cert.Pre_finite7.fn Cert.Pre_finite7.fn_part1 at h0
  dsimp only at h0
  have hb : ∀ a b : BitVec 1, IntOp.andi a b = 1#1 → a = 1#1 ∧ b = 1#1 := by decide
  obtain ⟨h012, h3⟩ := hb _ _ h0
  obtain ⟨h01, h2⟩ := hb _ _ h012
  obtain ⟨h0, h1⟩ := hb _ _ h01
  haveI : Subsingleton Cert.Pre_finite7.S_.Idx := ⟨fun a b => funext fun x => x.elim0⟩
  exact ⟨fun i => real16 (A i) (Host.reduce_andi_all _ _ _ _ _ h0 i), fun i => real16 (B i) (Host.reduce_andi_all _ _ _ _ _ h1 i), fun i => real32 (X i) (Host.reduce_andi_all _ _ _ _ _ h2 i), fun i => real32 (W i) (Host.reduce_andi_all _ _ _ _ _ h3 i)⟩

/-- The weighted gradient. -/
abbrev wref (r : FVec Ideal S8192x1024 .f32) : FVec Ideal S8192x1024 .f32 := mulf r (broadcastInDim S8192x1024 ![0, 1] bcast_S1x1024_S8192x1024_0_1 W)

/-- The gradient of a row's sum of squares, over the row's length. -/
abbrev msq (r : FVec Ideal S8192x1024 .f32) : FVec Ideal S8192 .f32 := Host.reduceAdd (Host.divf (mulf (shapeCast _ (Host.reduceAdd (mulf X (wref W r)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (sq X)) (sq X)))) (broadcastInDim S8192x1 ![] bcast_S_S8192x1 (constant S_ .f32 0x44800000#32))) (constant S_ .f32 0x00000000#32) reducesTo_S8192x1_S8192_d1 h_S_

/-- The reference's gradient. -/
abbrev gref (r : FVec Ideal S8192x1024 .f32) : FVec Ideal S8192x1024 .f32 := addf (addf (addf D (mulf (wref W r) (broadcastInDim S8192x1024 ![0, 1] bcast_S8192x1_S8192x1024_0_1 (Host.rsqrt (sq X))))) (mulf X (broadcastInDim S8192x1024 ![0] bcast_S8192_S8192x1024_0 (msq X W r)))) (mulf (broadcastInDim S8192x1024 ![0] bcast_S8192_S8192x1024_0 (msq X W r)) X)

theorem grad_ref (r : FVec Ideal S8192x1024 .f32) (H : Fin 8192 → Fin 1024 → EReal) (hr : ∀ i j, r (ix2 i j) = H i j) (hH : ∀ i j, ∃ d : ℝ, H i j = (d : EReal)) (hX : ∀ i, ∃ r : ℝ, X i = (r : EReal)) (hW : ∀ i, ∃ r : ℝ, W i = (r : EReal)) :
    gref X W D r = grad H X W D := by
  funext i
  idx_vars i
  show _ = entry H X W D i0 i1
  choose x hx using hX
  choose w hw using hW
  obtain ⟨e, he, hl⟩ := lit_small
  choose d hd using hH i0
  unfold entry rr
  have hv : ∀ j : Fin 1024, r (ix2 i0 j) = (d j : EReal) := fun j => (hr i0 j).trans (hd j)
  unfold gref msq wref sq
  pointwise
  simp only [Fin.sum_univ_one, hv, hd, hx, hw, lit_width, lit_half, hl, ← EReal.coe_mul, sum_coe]
  rw [Ideal.div_coe (by norm_num : (1024 : ℝ) ≠ 0) ((∑ k, x (ix2 i0 k) * x (ix2 i0 k) : ℝ) : EReal)]
  simp only [← EReal.coe_mul, ← EReal.coe_add]
  have h := norm_grad (d i1) (w (ix2 0 i1)) (x (ix2 i0 i1)) (∑ k, d k * w (ix2 0 k) * x (ix2 i0 k)) ((∑ k, x (ix2 i0 k) * x (ix2 i0 k)) * (1 / 1024) + e) (D (ix2 i0 i1))
    (add_pos_of_nonneg_of_pos (mul_nonneg (Finset.sum_nonneg fun k _ => mul_self_nonneg _) (by norm_num)) he)
  have hc : (∑ k : Fin 1024, x (ix2 i0 k) * (d k * w (ix2 0 k))) = ∑ k, d k * w (ix2 0 k) * x (ix2 i0 k) := Finset.sum_congr rfl fun k _ => mul_comm _ _
  rw [hc]
  simp only [← EReal.coe_mul] at h
  exact h

theorem grad_ref16 (r : FVec Ideal S8192x1024 .f32) (H : Fin 8192 → Fin 1024 → EReal) (hr : ∀ i j, r (ix2 i j) = H i j) (hH : ∀ i j, ∃ d : ℝ, H i j = (d : EReal)) (hX : ∀ i, ∃ r : ℝ, X i = (r : EReal)) (hW : ∀ i, ∃ r : ℝ, W i = (r : EReal)) :
    truncf .bf16 (gref X W D r) bitsLt_bf16_f32 = grad H X W D :=
  (show truncf .bf16 (gref X W D r) bitsLt_bf16_f32 = gref X W D r from rfl).trans (grad_ref X W D r H hr hH hX hW)

theorem real_dh (hA : ∀ i, ∃ r : ℝ, A i = (r : EReal)) (hB : ∀ i, ∃ r : ℝ, B i = (r : EReal)) (i : Fin 8192) (j : Fin 1024) : ∃ d : ℝ, dh A B i j = (d : EReal) := by
  choose a ha using hA
  choose b hb using hB
  unfold dh
  simp only [ha, hb, ← EReal.coe_mul, sum_coe, ← EReal.coe_add]
  exact ⟨_, rfl⟩

theorem ref_x (hr : (∀ i, ∃ r : ℝ, A i = (r : EReal)) ∧ (∀ i, ∃ r : ℝ, B i = (r : EReal)) ∧ (∀ i, ∃ r : ℝ, X i = (r : EReal)) ∧ ∀ i, ∃ r : ℝ, W i = (r : EReal)) : gref X W D (ref A B) = total A B X W D :=
  grad_ref X W D (ref A B) (dh A B) (ref_apply A B) (real_dh A B hr.1 hr.2.1) hr.2.2.1 hr.2.2.2

theorem ref_x16 (hr : (∀ i, ∃ r : ℝ, A i = (r : EReal)) ∧ (∀ i, ∃ r : ℝ, B i = (r : EReal)) ∧ (∀ i, ∃ r : ℝ, X i = (r : EReal)) ∧ ∀ i, ∃ r : ℝ, W i = (r : EReal)) : truncf .bf16 (gref X W D (ref A B)) bitsLt_bf16_f32 = total A B X W D :=
  grad_ref16 X W D (ref A B) (dh A B) (ref_apply A B) (real_dh A B hr.1 hr.2.1) hr.2.2.1 hr.2.2.2

end Cert.FfnDhn
-- ==== Proof.GdnProj.lean ====
/- The gated layer's main projection. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

noncomputable section

namespace Cert.GdnProj

open Cert.Kernel8Ideal Cert.Kernel8Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S8x128 .f32) (h6 : a6.IsWhole)
  (x0 x1 : Vec F S1024x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S1024x1024) hz]

end

/-- One entry of the result. -/
def entry (A : FVec Ideal S8192x1024 .bf16) (B : FVec Ideal S4112x1024 .bf16) (i : Fin 8192) (j : Fin 4096) : EReal :=
  ∑ k : Fin 1024, A (ix2 i k) * B (ix2 ⟨j.val, by omega⟩ k)

/-- The result. -/
def prod (A : FVec Ideal S8192x1024 .bf16) (B : FVec Ideal S4112x1024 .bf16) : FVec Ideal S8192x4096 .f32 := fun i => entry A B (i 0) (i 1)

variable {m : (ℓ : Loc nD τ sig) → Buf (Elt Ideal) ℓ}

/-- Which block each window stages at each point. -/
theorem idx_facts : ∀ t : Fin cfg0.N, win0_0.index t 0 = t.val / 4 ∧ win0_0.index t 1 = 0 ∧ win0_1.index t 0 = t.val % 4 ∧ win0_1.index t 1 = 0 ∧ win0_2.index t 0 = t.val / 4 ∧ win0_2.index t 1 = t.val % 4 := by decide +kernel

variable (c : Dev nD) (A : FVec Ideal S8192x1024 .bf16) (B : FVec Ideal S4112x1024 .bf16)

/-- The weights' window reaches no row outside its array, so its buffer holds the block. -/
theorem staged (t : Fin cfg0.N) (y : S1024x1024.Idx) (z : S4112x1024.Idx) (hB : m (c.tc.loc main_arg1) = B)
    (h0 : win0_1.index t 0 * 1024 + (y 0).val = (z 0).val) (h1 : win0_1.index t 1 * 1024 + (y 1).val = (z 1).val) : X0_1 m c t y = B z := by
  unfold X0_1 Pipeline.Window.fill
  rw [dif_pos (moved0_1 t y), ← hB]
  refine congrArg (m (c.tc.loc main_arg1)) (funext fun a => Fin.ext ?_)
  match a with
  | ⟨0, _⟩ => show win0_1.index t 0 * 1024 + 1 * (y 0).val = (z 0).val; omega
  | ⟨1, _⟩ => show win0_1.index t 1 * 1024 + 1 * (y 1).val = (z 1).val; omega

/-- An entry of the first payload. -/
theorem pay1_apply (hA : m (c.tc.loc main_arg0) = A) (hB : m (c.tc.loc main_arg1) = B) (t : Fin cfg0.N) (y0 y1 : Fin 1024)
    (i : Fin 8192) (j : Fin 4096) (hi : i.val = t.val / 4 * 1024 + y0.val) (hj : j.val = t.val % 4 * 1024 + y1.val) :
    k0_pay1 (iblk m c 0 t) (X0_1 m c t) (ix2 y0 y1) = entry A B i j := by
  obtain ⟨p0, q0, p1, q1, p2, q2⟩ := idx_facts t
  unfold k0_pay1 entry
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · refine staged c B t (ix2 y1 k) _ hB ?_ ?_
    · show win0_1.index t 0 * 1024 + y1.val = j.val; omega
    · show win0_1.index t 1 * 1024 + k.val = k.val; omega

/-- The result array ends holding the product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 1024 + 1 * y0.val = t.val / 4 * 1024 + y0.val; rw [p2, one_mul]
  · show win0_2.index _ 1 * 1024 + 1 * y1.val = t.val % 4 * 1024 + y1.val; rw [q2, one_mul]

end Cert.GdnProj

namespace Cert.GdnProj

open Cert.Reference8Ideal Cert.Reference8Ideal.Gen Idealize.ShloMosaic Idealize.ShloMosaic.StableHlo

variable (A : FVec Ideal S8192x1024 .bf16) (B : FVec Ideal S4112x1024 .bf16)

/-- The reference's product. -/
abbrev ref : FVec Ideal S8192x4096 .f32 := Host.dotGeneral dot_S8192x1024_S1024x4096_S8192x4096_1_0_0_1_n_n none (extf .f32 A bitsLt_bf16_f32) (transpose S1024x4096 [1, 0] (extractStridedSlice S4096x1024 ![0, 0] (extf .f32 B bitsLt_bf16_f32) slices_S4112x1024_S4096x1024_0_0) transposes_S4096x1024_S1024x4096_1_0)

theorem ref_apply (i : Fin 8192) (j : Fin 4096) : ref A B (ix2 i j) = entry A B i j := by
  unfold ref entry
  pointwise

theorem reference : ref A B = prod A B := by
  funext i
  idx_vars i
  exact ref_apply A B i0 i1

end Cert.GdnProj
-- ==== Proof.GdnGwQkv.lean ====
/- The weight gradient of the gated layer's projection to queries, keys and values: what the tiled product leaves is the whole product. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

noncomputable section

namespace Cert.GdnGwQkv

open Cert.Kernel9Ideal Cert.Kernel9Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)

/-- The first tile's product is stored. -/
theorem sout_A
    (c0 : cond0_0 i) (c1 : ¬cond0_1 i) (c2 : ¬cond0_2 i) (x0 x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S2048x1024) hz, View.ld_unit_zero (S := S2048x1024) hz, shapeCast_self]

/-- A middle tile's product is added. -/
theorem sout_B
    (c0 : ¬cond0_0 i) (c1 : cond0_1 i) (c2 : ¬cond0_2 i) (x0 x1 : Vec F S2048x1024 .bf16) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- The last tile's product is added, and the sum is the result's block. -/
theorem out_C
    (c0 : ¬cond0_0 i) (c1 : cond0_1 i) (c2 : cond0_2 i) (x0 x1 : Vec F S2048x1024 .bf16) (xs : Vec F S1024x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S1024x1024) _ hz]
  unfold k0_pay4 k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

variable (m : (ℓ : Loc nD τ sig) → Buf (Elt F) ℓ)

/-- The product of the tiles staged at point `t`. -/
abbrev part (c : Dev nD) (t : Fin cfg0.N) : Vec F S1024x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 3) (y : S1024x1024.Idx) :
    (outsAt0 m c (4 * q.val + 3) (show _ < 12 by omega)).1 y
      = ∑ j : Fin 4, part m c ⟨4 * q.val + j.val, show _ < 12 by omega⟩ y := by
  rw [out_last m c ⟨4 * q.val + 3, show _ < 12 by omega⟩ (by dsimp only; omega)]
  have e2 := acc_next m c ⟨4 * q.val + 2, show _ < 12 by omega⟩ (by dsimp only; omega)
  have e1 := acc_next m c ⟨4 * q.val + 1, show _ < 12 by omega⟩ (by dsimp only; omega)
  have e0 := acc_first m c ⟨4 * q.val + 0, show _ < 12 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val % 4 ∧ win0_0.index t 1 = t.val / 4 ∧ win0_1.index t 0 = t.val % 4 ∧ win0_1.index t 1 = 0 ∧ win0_2.index t 0 = t.val / 4 ∧ win0_2.index t 1 = 0 := by
  decide +kernel

/-- The product of the transpose of `A` with `B`. -/
def prod (A : FVec Ideal S8192x3072 .bf16) (B : FVec Ideal S8192x1024 .bf16) : FVec Ideal S3072x1024 .bf16 :=
  fun i => ∑ k : Fin 8192, A (ix2 k (i 0)) * B (ix2 k (i 1))

/-- The product of the tiles staged at point `4 q + j`, at an index. -/
theorem part_apply (c : Dev nD) (A : FVec Ideal S8192x3072 .bf16) (B : FVec Ideal S8192x1024 .bf16)
    (hA : m (c.tc.loc main_arg0) = A) (hB : m (c.tc.loc main_arg1) = B) (q : Fin 3) (j : Fin 4) (y : S1024x1024.Idx) :
    part m c ⟨4 * q.val + j.val, show _ < 12 by omega⟩ y
      = ∑ k : Fin 2048, A (ix2 ⟨j.val * 2048 + k.val, show _ < 8192 by omega⟩ ⟨1024 * q.val + (y 0).val, by have : (y 0).val < 1024 := (y 0).isLt; show _ < 3072; omega⟩)
          * B (ix2 ⟨j.val * 2048 + k.val, show _ < 8192 by omega⟩ (y 1)) := by
  obtain ⟨e0, e1, e2, e3, -, -⟩ := idx_facts ⟨4 * q.val + j.val, show _ < 12 by omega⟩
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 1024 + 1 * (y 0).val = _; rw [e1]; show (4 * q.val + j.val) / 4 * 1024 + _ = 1024 * q.val + (y 0).val; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * (y 1).val = _; rw [e3]; show _ = (y 1).val; omega

/-- Where the result's block `q` lies. -/
theorem emb2 (q : Fin 3) (t : Fin cfg0.N) (ht : t.val = 4 * q.val + 3) (y : S1024x1024.Idx) :
    ((cfg0.win 2).blk t).view.emb y = ix2 ⟨1024 * q.val + (y 0).val, by have : (y 0).val < 1024 := (y 0).isLt; show _ < 3072; omega⟩ (y 1) := by
  obtain ⟨-, -, -, -, e4, e5⟩ := idx_facts t
  refine funext fun a => Fin.ext ?_
  match a with
  | ⟨0, _⟩ => show win0_2.index _ 0 * 1024 + 1 * (y 0).val = _; rw [e4]; show t.val / 4 * 1024 + _ = 1024 * q.val + (y 0).val; omega
  | ⟨1, _⟩ => show win0_2.index _ 1 * 1024 + 1 * (y 1).val = _; rw [e5]; show _ = (y 1).val; omega

/-- The result's block `q`, as the pipeline leaves it. -/
theorem final_at (c : Dev nD) (A : FVec Ideal S8192x3072 .bf16) (B : FVec Ideal S8192x1024 .bf16)
    (hA : m (c.tc.loc main_arg0) = A) (hB : m (c.tc.loc main_arg1) = B) (q : Fin 3) (t : Fin cfg0.N) (e : t = ⟨4 * q.val + 3, show _ < 12 by omega⟩) (y : S1024x1024.Idx) :
    (dats m 0 c).after 2 t y = prod A B (((cfg0.win 2).blk t).view.emb y) := by
  subst e
  rw [emb2 q _ rfl, after0_2]
  refine (out_sum m c q y).trans ?_
  unfold prod
  rw [Fin.sum_univ_tiles (N := 8192) 4 2048 rfl]
  exact Finset.sum_congr rfl fun j _ => part_apply m c A B hA hB q j y

/-- What the result array ends holding: the whole product. -/
theorem final (c : Dev nD) (A : FVec Ideal S8192x3072 .bf16) (B : FVec Ideal S8192x1024 .bf16)
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 12 := t.isLt
  exact final_at m c A B hA hB ⟨t.val / 4, by omega⟩ t (Fin.ext (by dsimp only; omega)) y

open Idealize.ShloMosaic.StableHlo in
/-- The reference's product. -/
theorem reference (A : FVec Ideal S8192x3072 .bf16) (B : FVec Ideal S8192x1024 .bf16) :
    truncf .bf16 (transpose Cert.Reference9Ideal.S3072x1024 [1, 0] (transpose Cert.Reference9Ideal.S1024x3072 [1, 0] (Host.dotGeneral Cert.Reference9Ideal.dot_S8192x3072_S8192x1024_S3072x1024_0_0_1_1_n_n none (extf .f32 A Cert.Reference9Ideal.Gen.bitsLt_bf16_f32) (extf .f32 B Cert.Reference9Ideal.Gen.bitsLt_bf16_f32)) Cert.Reference9Ideal.Gen.transposes_S3072x1024_S1024x3072_1_0) Cert.Reference9Ideal.Gen.transposes_S1024x3072_S3072x1024_1_0) Cert.Reference9Ideal.Gen.bitsLt_bf16_f32 = prod A B := by
  funext i
  unfold prod
  pointwise

end Cert.GdnGwQkv
-- ==== Proof.GdnGwOut.lean ====
/- The weight gradient of a square projection: what the tiled product leaves is the whole product. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit

@[expose] public section

noncomputable section

namespace Cert.GdnGwOut

open Cert.Kernel10Ideal Cert.Kernel10Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)

/-- The first tile's product is stored. -/
theorem sout_A
    (c0 : cond0_0 i) (c1 : ¬cond0_1 i) (c2 : ¬cond0_2 i) (x0 x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S2048x1024) hz, View.ld_unit_zero (S := S2048x1024) hz, shapeCast_self]

/-- A middle tile's product is added. -/
theorem sout_B
    (c0 : ¬cond0_0 i) (c1 : cond0_1 i) (c2 : ¬cond0_2 i) (x0 x1 : Vec F S2048x1024 .bf16) (xs : Vec F S1024x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- The last tile's product is added, and the sum is the result's block. -/
theorem out_C
    (c0 : ¬cond0_0 i) (c1 : cond0_1 i) (c2 : cond0_2 i) (x0 x1 : Vec F S2048x1024 .bf16) (xs : Vec F S1024x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S1024x1024) _ hz]
  unfold k0_pay4 k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

variable (m : (ℓ : Loc nD τ sig) → Buf (Elt F) ℓ)

/-- The product of the tiles staged at point `t`. -/
abbrev part (c : Dev nD) (t : Fin cfg0.N) : Vec F S1024x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by have : t.val < 4 := t.isLt; omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 1) (y : S1024x1024.Idx) :
    (outsAt0 m c (4 * q.val + 3) (show _ < 4 by omega)).1 y
      = ∑ j : Fin 4, part m c ⟨4 * q.val + j.val, show _ < 4 by omega⟩ y := by
  rw [out_last m c ⟨4 * q.val + 3, show _ < 4 by omega⟩ (by dsimp only; omega)]
  have e2 := acc_next m c ⟨4 * q.val + 2, show _ < 4 by omega⟩ (by dsimp only; omega)
  have e1 := acc_next m c ⟨4 * q.val + 1, show _ < 4 by omega⟩ (by dsimp only; omega)
  have e0 := acc_first m c ⟨4 * q.val + 0, show _ < 4 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val % 4 ∧ win0_0.index t 1 = t.val / 4 ∧ win0_1.index t 0 = t.val % 4 ∧ win0_1.index t 1 = 0 ∧ win0_2.index t 0 = t.val / 4 ∧ win0_2.index t 1 = 0 := by
  decide +kernel

/-- The product of the transpose of `A` with `B`. -/
def prod (A B : FVec Ideal S8192x1024 .bf16) : FVec Ideal S1024x1024 .bf16 :=
  fun i => ∑ k : Fin 8192, A (ix2 k (i 0)) * B (ix2 k (i 1))

/-- The product of the tiles staged at point `4 q + j`, at an index. -/
theorem part_apply (c : Dev nD) (A B : FVec Ideal S8192x1024 .bf16)
    (hA : m (c.tc.loc main_arg0) = A) (hB : m (c.tc.loc main_arg1) = B) (q : Fin 1) (j : Fin 4) (y : S1024x1024.Idx) :
    part m c ⟨4 * q.val + j.val, show _ < 4 by omega⟩ y
      = ∑ k : Fin 2048, A (ix2 ⟨j.val * 2048 + k.val, show _ < 8192 by omega⟩ ⟨1024 * q.val + (y 0).val, by have : (y 0).val < 1024 := (y 0).isLt; show _ < 1024; omega⟩)
          * B (ix2 ⟨j.val * 2048 + k.val, show _ < 8192 by omega⟩ (y 1)) := by
  obtain ⟨e0, e1, e2, e3, -, -⟩ := idx_facts ⟨4 * q.val + j.val, show _ < 4 by omega⟩
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 1024 + 1 * (y 0).val = _; rw [e1]; show (4 * q.val + j.val) / 4 * 1024 + _ = (y 0).val; have := q.isLt; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * (y 1).val = _; rw [e3]; show _ = (y 1).val; omega

/-- Where the result's block `q` lies. -/
theorem emb2 (q : Fin 1) (t : Fin cfg0.N) (ht : t.val = 4 * q.val + 3) (y : S1024x1024.Idx) :
    ((cfg0.win 2).blk t).view.emb y = ix2 ⟨1024 * q.val + (y 0).val, by have : (y 0).val < 1024 := (y 0).isLt; show _ < 1024; omega⟩ (y 1) := by
  obtain ⟨-, -, -, -, e4, e5⟩ := idx_facts t
  refine funext fun a => Fin.ext ?_
  match a with
  | ⟨0, _⟩ => show win0_2.index _ 0 * 1024 + 1 * (y 0).val = _; rw [e4]; show t.val / 4 * 1024 + _ = 1024 * q.val + (y 0).val; omega
  | ⟨1, _⟩ => show win0_2.index _ 1 * 1024 + 1 * (y 1).val = _; rw [e5]; show _ = (y 1).val; omega

/-- The result's block `q`, as the pipeline leaves it. -/
theorem final_at (c : Dev nD) (A B : FVec Ideal S8192x1024 .bf16)
    (hA : m (c.tc.loc main_arg0) = A) (hB : m (c.tc.loc main_arg1) = B) (q : Fin 1) (t : Fin cfg0.N) (e : t = ⟨4 * q.val + 3, show _ < 4 by omega⟩) (y : S1024x1024.Idx) :
    (dats m 0 c).after 2 t y = prod A B (((cfg0.win 2).blk t).view.emb y) := by
  subst e
  rw [emb2 q _ rfl, after0_2]
  refine (out_sum m c q y).trans ?_
  unfold prod
  rw [Fin.sum_univ_tiles (N := 8192) 4 2048 rfl]
  exact Finset.sum_congr rfl fun j _ => part_apply m c A B hA hB q j y

/-- What the result array ends holding: the whole product. -/
theorem final (c : Dev nD) (A B : FVec Ideal S8192x1024 .bf16)
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 4 := t.isLt
  exact final_at m c A B hA hB ⟨t.val / 4, by omega⟩ t (Fin.ext (by dsimp only; omega)) y

open Idealize.ShloMosaic.StableHlo in
/-- The reference's product. -/
theorem reference (A B : FVec Ideal S8192x1024 .bf16) :
    truncf .bf16 (transpose Cert.Reference10Ideal.S1024x1024 [1, 0] (Host.dotGeneral Cert.Reference10Ideal.dot_S8192x1024_S8192x1024_S1024x1024_0_0_1_1_n_n none (extf .f32 B Cert.Reference10Ideal.Gen.bitsLt_bf16_f32) (extf .f32 A Cert.Reference10Ideal.Gen.bitsLt_bf16_f32)) Cert.Reference10Ideal.Gen.transposes_S1024x1024_S1024x1024_1_0) Cert.Reference10Ideal.Gen.bitsLt_bf16_f32 = prod A B := by
  funext i
  unfold prod
  pointwise
  exact Finset.sum_congr rfl fun k _ => mul_comm _ _

end Cert.GdnGwOut
-- ==== Proof.GdnDhnQkv.lean ====
/- The gradient through the gated layer's projection to queries, keys and values. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.ValueKit

@[expose] public section

noncomputable section

namespace Cert.GdnDhnQkv

open Cert.Kernel11Ideal Cert.Kernel11Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x3072 .bf16) (h3 : a3.IsWhole) (a4 : Memref sig .tc .vmem S3072x1024 .bf16) (h4 : a4.IsWhole) (a5 : Memref sig .tc .vmem S1024x1024 .f32) (h5 : a5.IsWhole) (a6 : Memref sig .tc .vmem S8x128 .f32) (h6 : a6.IsWhole)
  (x0 : Vec F S1024x3072 .bf16) (x1 : Vec F S3072x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S1024x3072) hz, View.ld_unit_zero (S := S3072x1024) hz]

end

/-- One entry of the result. -/
def entry (A : FVec Ideal S8192x3072 .bf16) (B : FVec Ideal S4112x1024 .bf16) (i : Fin 8192) (j : Fin 1024) : EReal :=
  ∑ k : Fin 3072, A (ix2 i k) * B (ix2 ⟨k.val, by omega⟩ j)

/-- The result. -/
def prod (A : FVec Ideal S8192x3072 .bf16) (B : FVec Ideal S4112x1024 .bf16) : FVec Ideal S8192x1024 .f32 := fun i => entry A B (i 0) (i 1)

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

variable (c : Dev nD) (A : FVec Ideal S8192x3072 .bf16) (B : FVec Ideal S4112x1024 .bf16)

/-- The weights' window reaches no row outside its array, so its buffer holds the block. -/
theorem staged (t : Fin cfg0.N) (y : S3072x1024.Idx) (z : S4112x1024.Idx) (hB : m (c.tc.loc main_arg1) = B)
    (h0 : win0_1.index t 0 * 3072 + (y 0).val = (z 0).val) (h1 : win0_1.index t 1 * 1024 + (y 1).val = (z 1).val) : X0_1 m c t y = B z := by
  unfold X0_1 Pipeline.Window.fill
  rw [dif_pos (moved0_1 t y), ← hB]
  refine congrArg (m (c.tc.loc main_arg1)) (funext fun a => Fin.ext ?_)
  match a with
  | ⟨0, _⟩ => show win0_1.index t 0 * 3072 + 1 * (y 0).val = (z 0).val; omega
  | ⟨1, _⟩ => show win0_1.index t 1 * 1024 + 1 * (y 1).val = (z 1).val; omega

/-- An entry of the first payload. -/
theorem pay1_apply (hA : m (c.tc.loc main_arg0) = A) (hB : m (c.tc.loc main_arg1) = B) (t : Fin cfg0.N) (y0 y1 : Fin 1024)
    (i : Fin 8192) (j : Fin 1024) (hi : i.val = t.val * 1024 + y0.val) (hj : j.val = 0 * 1024 + y1.val) :
    k0_pay1 (iblk m c 0 t) (X0_1 m c t) (ix2 y0 y1) = entry A B i j := by
  obtain ⟨p0, q0, p1, q1, p2, q2⟩ := idx_facts t
  unfold k0_pay1 entry
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 3072 + 1 * k.val = k.val; rw [q0]; omega
  · refine staged c B t (ix2 k y1) _ hB ?_ ?_
    · show win0_1.index t 0 * 3072 + k.val = k.val; omega
    · show win0_1.index t 1 * 1024 + y1.val = j.val; omega

/-- The result array ends holding the product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 1024 + 1 * y0.val = t.val * 1024 + y0.val; rw [p2, one_mul]
  · show win0_2.index _ 1 * 1024 + 1 * y1.val = 0 * 1024 + y1.val; rw [q2, one_mul]

end Cert.GdnDhnQkv

namespace Cert.GdnDhnQkv

open Cert.Reference11Ideal Cert.Reference11Ideal.Gen Idealize.ShloMosaic Idealize.ShloMosaic.StableHlo

variable (A : FVec Ideal S8192x3072 .bf16) (B : FVec Ideal S4112x1024 .bf16)

/-- The reference's product. -/
abbrev ref : FVec Ideal S8192x1024 .f32 := Host.dotGeneral dot_S8192x3072_S1024x3072_S8192x1024_1_1_0_0_n_n none (extf .f32 A bitsLt_bf16_f32) (transpose S1024x3072 [1, 0] (extractStridedSlice S3072x1024 ![0, 0] (extf .f32 B bitsLt_bf16_f32) slices_S4112x1024_S3072x1024_0_0) transposes_S3072x1024_S1024x3072_1_0)

theorem ref_apply (i : Fin 8192) (j : Fin 1024) : ref A B (ix2 i j) = entry A B i j := by
  unfold ref entry
  pointwise

theorem reference : ref A B = prod A B := by
  funext i
  idx_vars i
  exact ref_apply A B i0 i1

end Cert.GdnDhnQkv
-- ==== Proof.GdnDhnZ.lean ====
/- The gradient through the gated layer's projection to the output gate, added to a given one. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.ValueKit

@[expose] public section

noncomputable section

namespace Cert.GdnDhnZ

open Cert.Kernel12Ideal Cert.Kernel12Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S8x128 .f32) (h7 : a7.IsWhole)
  (x0 x1 : Vec F S1024x1024 .bf16) (x2 : Vec F S1024x1024 .f32)

/-- The first result's block is the first payload. -/
theorem out_0 : out0_A_3 c i a3 h3 a4 h4 a5 h5 a6 h6 a7 h7 x0 x1 x2 = k0_pay1 x0 x1 x2 := by
  unfold out0_A_3
  rw [View.read_writes_eq_canon _ _ _ (by apply cover0_A_3)]
  unfold kernelRun0_A
  dsimp only
  sl_unfold_words
  rw [View.canon_unit_zero hz]
  simp only [View.readAt_eq_ld, h3.read_unread, h4.read_unread, h5.read_unread, View.ld_unit_zero (S := S1024x1024) hz]

end

/-- One entry of the result. -/
def entry (A : FVec Ideal S8192x1024 .bf16) (B : FVec Ideal S4112x1024 .bf16) (X : FVec Ideal S8192x1024 .f32) (i : Fin 8192) (j : Fin 1024) : EReal :=
  (∑ k : Fin 1024, A (ix2 i k) * B (ix2 ⟨3072 + k.val, by omega⟩ j)) + X (ix2 i j)

/-- The result. -/
def prod (A : FVec Ideal S8192x1024 .bf16) (B : FVec Ideal S4112x1024 .bf16) (X : FVec Ideal S8192x1024 .f32) : FVec Ideal S8192x1024 .f32 := fun i => entry A B X (i 0) (i 1)

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 3 ∧ win0_1.index t 1 = 0 ∧ win0_2.index t 0 = t.val ∧ win0_2.index t 1 = 0 ∧ win0_3.index t 0 = t.val ∧ win0_3.index t 1 = 0 := by decide +kernel

variable (c : Dev nD) (A : FVec Ideal S8192x1024 .bf16) (B : FVec Ideal S4112x1024 .bf16) (X : FVec Ideal S8192x1024 .f32)

/-- The weights' window reaches no row outside its array, so its buffer holds the block. -/
theorem staged (t : Fin cfg0.N) (y : S1024x1024.Idx) (z : S4112x1024.Idx) (hB : m (c.tc.loc main_arg1) = B)
    (h0 : win0_1.index t 0 * 1024 + (y 0).val = (z 0).val) (h1 : win0_1.index t 1 * 1024 + (y 1).val = (z 1).val) : X0_1 m c t y = B z := by
  unfold X0_1 Pipeline.Window.fill
  rw [dif_pos (moved0_1 t y), ← hB]
  refine congrArg (m (c.tc.loc main_arg1)) (funext fun a => Fin.ext ?_)
  match a with
  | ⟨0, _⟩ => show win0_1.index t 0 * 1024 + 1 * (y 0).val = (z 0).val; omega
  | ⟨1, _⟩ => show win0_1.index t 1 * 1024 + 1 * (y 1).val = (z 1).val; omega

/-- An entry of the first payload. -/
theorem pay1_apply (hA : m (c.tc.loc main_arg0) = A) (hB : m (c.tc.loc main_arg1) = B) (hX : m (c.tc.loc main_arg2) = X) (t : Fin cfg0.N) (y0 y1 : Fin 1024)
    (i : Fin 8192) (j : Fin 1024) (hi : i.val = t.val * 1024 + y0.val) (hj : j.val = 0 * 1024 + y1.val) :
    k0_pay1 (iblk m c 0 t) (X0_1 m c t) (iblk m c 2 t) (ix2 y0 y1) = entry A B X i j := by
  obtain ⟨p0, q0, p1, q1, p2, q2, p3, q3⟩ := idx_facts t
  unfold k0_pay1 entry
  pointwise
  refine congrArg₂ (fun a b : EReal => a + b) (Finset.sum_congr rfl fun k _ => congrArg₂ (fun a b : EReal => a * b) ?_ ?_) ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · refine staged c B t (ix2 k y1) _ hB ?_ ?_
    · show win0_1.index t 0 * 1024 + k.val = 3072 + k.val; omega
    · show win0_1.index t 1 * 1024 + y1.val = j.val; omega
  · rw [← hX]
    refine congrArg (m (c.tc.loc main_arg2)) (funext fun a => Fin.ext ?_)
    match a with
    | ⟨0, _⟩ => show win0_2.index _ 0 * 1024 + 1 * y0.val = i.val; rw [p2, hi, one_mul]
    | ⟨1, _⟩ => show win0_2.index _ 1 * 1024 + 1 * y1.val = j.val; rw [q2]; omega

/-- The result array ends holding the sum. -/
theorem final (hA : m (c.tc.loc main_arg0) = A) (hB : m (c.tc.loc main_arg1) = B) (hX : m (c.tc.loc main_arg2) = X) : (dats m 0 c).arrAt 3 cfg0.N = prod A B X := by
  refine (dats m 0 c).arrAt_eq_of_covers 3 _ (by decide +kernel) fun t hf y => ?_
  obtain ⟨p0, q0, p1, q1, p2, q2, p3, q3⟩ := idx_facts t
  rw [after0_3]
  unfold outsAt0
  rw [out_0]
  idx_vars y
  refine pay1_apply c A B X hA hB hX t y0 y1 ((((cfg0.win 3).blk t).view.emb (ix2 y0 y1)) 0) ((((cfg0.win 3).blk t).view.emb (ix2 y0 y1)) 1) ?_ ?_
  · show win0_3.index _ 0 * 1024 + 1 * y0.val = t.val * 1024 + y0.val; rw [p3, one_mul]
  · show win0_3.index _ 1 * 1024 + 1 * y1.val = 0 * 1024 + y1.val; rw [q3, one_mul]

end Cert.GdnDhnZ

namespace Cert.GdnDhnZ

open Cert.Reference12Ideal Cert.Reference12Ideal.Gen Idealize.ShloMosaic Idealize.ShloMosaic.StableHlo

variable (A : FVec Ideal S8192x1024 .bf16) (B : FVec Ideal S4112x1024 .bf16) (X : FVec Ideal S8192x1024 .f32)

/-- The reference's sum. -/
abbrev ref : FVec Ideal S8192x1024 .f32 := addf X (Host.dotGeneral dot_S8192x1024_S1024x1024_S8192x1024_1_1_0_0_n_n none (extf .f32 A bitsLt_bf16_f32) (transpose S1024x1024 [1, 0] (extractStridedSlice S1024x1024 ![3072, 0] (extf .f32 B bitsLt_bf16_f32) slices_S4112x1024_S1024x1024_3072_0) transposes_S1024x1024_S1024x1024_1_0))

theorem ref_apply (i : Fin 8192) (j : Fin 1024) : ref A B X (ix2 i j) = entry A B X i j := by
  unfold ref entry
  pointwise
  exact add_comm _ _

theorem reference : ref A B X = prod A B X := by
  funext i
  idx_vars i
  exact ref_apply A B X i0 i1

end Cert.GdnDhnZ
-- ==== Proof.GdnDgate.lean ====
/- The gradient through the gated layer's output projection. -/
module

public import proofs.«01_k».proof.Proof.Gen.Kernel13Ideal.Value
public import proofs.«01_k».proof.Proof.Gen.Reference13Ideal.Run
public import Idealize.ShloMosaic.Lib.Pointwise
public import Idealize.ShloMosaic.Lib.Pipeline.ValueKit

@[expose] public section

noncomputable section

namespace Cert.GdnDgate

open Cert.Kernel13Ideal Cert.Kernel13Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S8x128 .f32) (h6 : a6.IsWhole)
  (x0 x1 : Vec F S1024x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S1024x1024) hz]

end

/-- One entry of the result. -/
def entry (A : FVec Ideal S8192x1024 .bf16) (B : FVec Ideal S1024x1024 .bf16) (i : Fin 8192) (j : Fin 1024) : EReal :=
  ∑ k : Fin 1024, A (ix2 i k) * B (ix2 j k)

/-- The result. -/
def prod (A : FVec Ideal S8192x1024 .bf16) (B : FVec Ideal S1024x1024 .bf16) : FVec Ideal S8192x1024 .f32 := fun i => entry A B (i 0) (i 1)

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

variable (c : Dev nD) (A : FVec Ideal S8192x1024 .bf16) (B : FVec Ideal S1024x1024 .bf16)

/-- An entry of the first payload. -/
theorem pay1_apply (hA : m (c.tc.loc main_arg0) = A) (hB : m (c.tc.loc main_arg1) = B) (t : Fin cfg0.N) (y0 y1 : Fin 1024)
    (i : Fin 8192) (j : Fin 1024) (hi : i.val = t.val * 1024 + y0.val) (hj : j.val = 0 * 1024 + y1.val) :
    k0_pay1 (iblk m c 0 t) (iblk m c 1 t) (ix2 y0 y1) = entry A B i j := by
  obtain ⟨p0, q0, p1, q1, p2, q2⟩ := idx_facts t
  unfold k0_pay1 entry
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 1024 + 1 * y1.val = j.val; rw [p1]; omega
    | ⟨1, _⟩ => show win0_1.index _ 1 * 1024 + 1 * k.val = k.val; rw [q1]; omega

/-- The result array ends holding the product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 1024 + 1 * y0.val = t.val * 1024 + y0.val; rw [p2, one_mul]
  · show win0_2.index _ 1 * 1024 + 1 * y1.val = 0 * 1024 + y1.val; rw [q2, one_mul]

end Cert.GdnDgate

namespace Cert.GdnDgate

open Cert.Reference13Ideal Cert.Reference13Ideal.Gen Idealize.ShloMosaic Idealize.ShloMosaic.StableHlo

variable (A : FVec Ideal S8192x1024 .bf16) (B : FVec Ideal S1024x1024 .bf16)

/-- The reference's product. -/
abbrev ref : FVec Ideal S8192x1024 .f32 := Host.dotGeneral dot_S8192x1024_S1024x1024_S8192x1024_1_1_0_0_n_n none (extf .f32 A bitsLt_bf16_f32) (extf .f32 B bitsLt_bf16_f32)

theorem ref_apply (i : Fin 8192) (j : Fin 1024) : ref A B (ix2 i j) = entry A B i j := by
  unfold ref entry
  pointwise

theorem reference : ref A B = prod A B := by
  funext i
  idx_vars i
  exact ref_apply A B i0 i1

end Cert.GdnDgate
-- ==== Proof.GdnOut.lean ====
/- The gated layer's output projection with the residual and the next layer's normalization. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.ValueKit

@[expose] public section

noncomputable section

namespace Cert.GdnOut

open Cert.Kernel14Ideal Cert.Kernel14Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S8x128 .f32) (h9 : a9.IsWhole)
  (x0 x1 : Vec F S1024x1024 .bf16) (x2 : Vec F S1024x1024 .f32) (x3 : Vec F S1x1024 .f32)

/-- The first result's block is the first payload. -/
theorem out_0 : out0_A_4 c i a3 h3 a4 h4 a5 h5 a6 h6 a7 h7 a8 h8 a9 h9 x0 x1 x2 x3 = k0_pay1 x0 x1 x2 := by
  unfold out0_A_4
  rw [View.read_writes_eq_canon _ _ _ (by apply cover0_A_4)]
  unfold kernelRun0_A
  dsimp only
  sl_unfold_words
  rw [View.canon_unit_zero hz]
  simp only [View.readAt_eq_ld, h3.read_unread, h4.read_unread, h5.read_unread, h6.read_unread, View.ld_unit_zero (S := S1024x1024) hz, View.ld_unit_zero (S := S1x1024) hz]

/-- The second result's block is the second payload. -/
theorem out_1 : out0_A_5 c i a3 h3 a4 h4 a5 h5 a6 h6 a7 h7 a8 h8 a9 h9 x0 x1 x2 x3 = k0_pay2 x0 x1 x2 x3 := by
  unfold out0_A_5
  rw [View.read_writes_eq_canon _ _ _ (by apply cover0_A_5)]
  unfold kernelRun0_A
  dsimp only
  sl_unfold_words
  rw [View.canon_unit_zero hz]
  simp only [View.readAt_eq_ld, h3.read_unread, h4.read_unread, h5.read_unread, h6.read_unread, View.ld_unit_zero (S := S1024x1024) hz, View.ld_unit_zero (S := S1x1024) hz]

end

/-- One entry of the result. -/
def entry (A : FVec Ideal S8192x1024 .bf16) (B : FVec Ideal S1024x1024 .bf16) (X : FVec Ideal S8192x1024 .f32) (i : Fin 8192) (j : Fin 1024) : EReal :=
  (∑ k : Fin 1024, A (ix2 i k) * B (ix2 k j)) + X (ix2 i j)

/-- The result. -/
def prod (A : FVec Ideal S8192x1024 .bf16) (B : FVec Ideal S1024x1024 .bf16) (X : FVec Ideal S8192x1024 .f32) : FVec Ideal S8192x1024 .f32 := fun i => entry A B X (i 0) (i 1)

/-- Its rows normalized and scaled. -/
def normOf (A : FVec Ideal S8192x1024 .bf16) (B : FVec Ideal S1024x1024 .bf16) (X : FVec Ideal S8192x1024 .f32) (W : FVec Ideal S1x1024 .f32) : FVec Ideal S8192x1024 .bf16 := fun i =>
  entry A B X (i 0) (i 1) * Ideal.rsqrt (Ideal.div (∑ j : Fin 1024, entry A B X (i 0) j * entry A B X (i 0) j) (Ideal.ofBits .f32 0x44800000#32) + Ideal.ofBits .f32 0x358637BD#32) * W (ix2 0 (i 1))

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 := by decide +kernel

variable (c : Dev nD) (A : FVec Ideal S8192x1024 .bf16) (B : FVec Ideal S1024x1024 .bf16) (X : FVec Ideal S8192x1024 .f32) (W : FVec Ideal S1x1024 .f32)

/-- An entry of the first payload. -/
theorem pay1_apply (hA : m (c.tc.loc main_arg0) = A) (hB : m (c.tc.loc main_arg1) = B) (hX : m (c.tc.loc main_arg2) = X) (t : Fin cfg0.N) (y0 y1 : Fin 1024)
    (i : Fin 8192) (j : Fin 1024) (hi : i.val = t.val * 1024 + y0.val) (hj : j.val = 0 * 1024 + y1.val) :
    k0_pay1 (iblk m c 0 t) (iblk m c 1 t) (iblk m c 2 t) (ix2 y0 y1) = entry A B X i j := by
  obtain ⟨p0, q0, p1, q1, p2, q2, p3, q3, p4, q4, p5, q5⟩ := idx_facts t
  unfold k0_pay1 entry
  pointwise
  refine congrArg₂ (fun a b : EReal => a + b) (Finset.sum_congr rfl fun k _ => congrArg₂ (fun a b : EReal => a * b) ?_ ?_) ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 1024 + 1 * k.val = k.val; rw [p1]; omega
    | ⟨1, _⟩ => show win0_1.index _ 1 * 1024 + 1 * y1.val = j.val; rw [q1]; omega
  · rw [← hX]
    refine congrArg (m (c.tc.loc main_arg2)) (funext fun a => Fin.ext ?_)
    match a with
    | ⟨0, _⟩ => show win0_2.index _ 0 * 1024 + 1 * y0.val = i.val; rw [p2, hi, one_mul]
    | ⟨1, _⟩ => show win0_2.index _ 1 * 1024 + 1 * y1.val = j.val; rw [q2]; omega

/-- The first result array ends holding the sum. -/
theorem final (hA : m (c.tc.loc main_arg0) = A) (hB : m (c.tc.loc main_arg1) = B) (hX : m (c.tc.loc main_arg2) = X) : (dats m 0 c).arrAt 4 cfg0.N = prod A B X := by
  refine (dats m 0 c).arrAt_eq_of_covers 4 _ (by decide +kernel) fun t hf y => ?_
  obtain ⟨p0, q0, p1, q1, p2, q2, p3, q3, p4, q4, p5, q5⟩ := idx_facts t
  rw [after0_4]
  unfold outsAt0
  dsimp only
  rw [out_0]
  idx_vars y
  refine pay1_apply c A B X hA hB hX t y0 y1 ((((cfg0.win 4).blk t).view.emb (ix2 y0 y1)) 0) ((((cfg0.win 4).blk t).view.emb (ix2 y0 y1)) 1) ?_ ?_
  · show win0_4.index _ 0 * 1024 + 1 * y0.val = t.val * 1024 + y0.val; rw [p4, one_mul]
  · show win0_4.index _ 1 * 1024 + 1 * y1.val = 0 * 1024 + y1.val; rw [q4, one_mul]

/-- The second result array ends holding the normalized rows. -/
theorem final_norm (hA : m (c.tc.loc main_arg0) = A) (hB : m (c.tc.loc main_arg1) = B) (hX : m (c.tc.loc main_arg2) = X) (hW : m (c.tc.loc main_arg3) = W) : (dats m 0 c).arrAt 5 cfg0.N = normOf A B X W := by
  refine (dats m 0 c).arrAt_eq_of_covers 5 _ (by decide +kernel) fun t hf y => ?_
  obtain ⟨p0, q0, p1, q1, p2, q2, p3, q3, p4, q4, p5, q5⟩ := idx_facts t
  rw [after0_5]
  unfold outsAt0
  dsimp only
  rw [out_1]
  idx_vars y
  obtain ⟨i, hi⟩ : ∃ i : Fin 8192, i = (((cfg0.win 5).blk t).view.emb (ix2 y0 y1)) 0 := ⟨_, rfl⟩
  have hiv : i.val = t.val * 1024 + y0.val := by
    rw [hi]; show win0_5.index _ 0 * 1024 + 1 * y0.val = _; rw [p5, one_mul]
  have hj : (((cfg0.win 5).blk t).view.emb (ix2 y0 y1)) 1 = y1 := Fin.ext (by show win0_5.index _ 1 * 1024 + 1 * y1.val = y1.val; rw [q5]; omega)
  have hp : ∀ j : Fin 1024, k0_pay1 (iblk m c 0 t) (iblk m c 1 t) (iblk m c 2 t) (ix2 y0 j) = entry A B X i j := fun j => pay1_apply c A B X hA hB hX t y0 j i j hiv (by omega)
  unfold normOf
  rw [← hi, hj]
  have hw : iblk m c 3 t (ix2 0 y1) = W (ix2 0 y1) := by
    rw [← hW]
    refine congrArg (m (c.tc.loc main_arg3)) (funext fun a => Fin.ext ?_)
    match a with
    | ⟨0, _⟩ => show win0_3.index _ 0 * 1 + 1 * 0 = 0; rw [p3]
    | ⟨1, _⟩ => show win0_3.index _ 1 * 1024 + 1 * y1.val = y1.val; rw [q3]; omega
  show k0_pay2 _ _ _ _ (ix2 y0 y1) = _
  unfold k0_pay2
  generalize k0_pay1 (iblk m c 0 t) (iblk m c 1 t) (iblk m c 2 t) = p at hp
  generalize iblk m c 3 t = w at hw
  simp only [← hp]
  rw [← hw]
  pointwise

end Cert.GdnOut

namespace Cert.GdnOut

open Cert.Reference14Ideal Cert.Reference14Ideal.Gen Idealize.ShloMosaic Idealize.ShloMosaic.StableHlo

variable (A : FVec Ideal S8192x1024 .bf16) (B : FVec Ideal S1024x1024 .bf16) (X : FVec Ideal S8192x1024 .f32) (W : FVec Ideal S1x1024 .f32)

/-- The reference's sum. -/
abbrev ref : FVec Ideal S8192x1024 .f32 := addf X (Host.dotGeneral dot_S8192x1024_S1024x1024_S8192x1024_1_0_0_1_n_n none (extf .f32 A bitsLt_bf16_f32) (extf .f32 B bitsLt_bf16_f32))

theorem ref_apply (i : Fin 8192) (j : Fin 1024) : ref A B X (ix2 i j) = entry A B X i j := by
  unfold ref entry
  pointwise
  exact add_comm _ _

theorem reference : ref A B X = prod A B X := by
  funext i
  idx_vars i
  exact ref_apply A B X i0 i1

theorem ref_norm : truncf .bf16 (mulf (mulf (ref A B X) (broadcastInDim S8192x1024 ![0, 1] bcast_S8192x1_S8192x1024_0_1 (Host.rsqrt (addf (Host.divf (broadcastInDim S8192x1 ![0] bcast_S8192_S8192x1_0 (Host.reduceAdd (mulf (ref A B X) (ref A B X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 W)) bitsLt_bf16_f32 = normOf A B X W := by
  funext i
  idx_vars i
  have hp : ∀ j : Fin 1024, ref A B X (ix2 i0 j) = entry A B X i0 j := fun j => ref_apply A B X i0 j
  show _ = entry A B X i0 i1 * Ideal.rsqrt (Ideal.div (∑ j : Fin 1024, entry A B X i0 j * entry A B X i0 j) (Ideal.ofBits .f32 0x44800000#32) + Ideal.ofBits .f32 0x358637BD#32) * W (ix2 0 i1)
  simp only [← hp]
  generalize ref A B X = r
  pointwise

end Cert.GdnOut
-- ==== Proof.DilDmerged.lean ====
/- The gradient through the attention's output projection. -/
module

public import proofs.«01_k».proof.Proof.Gen.Kernel15Ideal.Value
public import proofs.«01_k».proof.Proof.Gen.Reference15Ideal.Run
public import Idealize.ShloMosaic.Lib.Pointwise
public import Idealize.ShloMosaic.Lib.Pipeline.ValueKit

@[expose] public section

noncomputable section

namespace Cert.DilDmerged

open Cert.Kernel15Ideal Cert.Kernel15Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S8x128 .f32) (h6 : a6.IsWhole)
  (x0 x1 : Vec F S1024x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S1024x1024) hz]

end

/-- One entry of the result. -/
def entry (A : FVec Ideal S8192x1024 .bf16) (B : FVec Ideal S1024x1024 .bf16) (i : Fin 8192) (j : Fin 1024) : EReal :=
  ∑ k : Fin 1024, A (ix2 i k) * B (ix2 k j)

/-- The result. -/
def prod (A : FVec Ideal S8192x1024 .bf16) (B : FVec Ideal S1024x1024 .bf16) : FVec Ideal S8192x1024 .f32 := fun i => entry A B (i 0) (i 1)

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

variable (c : Dev nD) (A : FVec Ideal S8192x1024 .bf16) (B : FVec Ideal S1024x1024 .bf16)

/-- An entry of the first payload. -/
theorem pay1_apply (hA : m (c.tc.loc main_arg0) = A) (hB : m (c.tc.loc main_arg1) = B) (t : Fin cfg0.N) (y0 y1 : Fin 1024)
    (i : Fin 8192) (j : Fin 1024) (hi : i.val = t.val * 1024 + y0.val) (hj : j.val = 0 * 1024 + y1.val) :
    k0_pay1 (iblk m c 0 t) (iblk m c 1 t) (ix2 y0 y1) = entry A B i j := by
  obtain ⟨p0, q0, p1, q1, p2, q2⟩ := idx_facts t
  unfold k0_pay1 entry
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 1024 + 1 * k.val = k.val; rw [p1]; omega
    | ⟨1, _⟩ => show win0_1.index _ 1 * 1024 + 1 * y1.val = j.val; rw [q1]; omega

/-- The result array ends holding the product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 1024 + 1 * y0.val = t.val * 1024 + y0.val; rw [p2, one_mul]
  · show win0_2.index _ 1 * 1024 + 1 * y1.val = 0 * 1024 + y1.val; rw [q2, one_mul]

end Cert.DilDmerged

namespace Cert.DilDmerged

open Cert.Reference15Ideal Cert.Reference15Ideal.Gen Idealize.ShloMosaic Idealize.ShloMosaic.StableHlo

variable (A : FVec Ideal S8192x1024 .bf16) (B : FVec Ideal S1024x1024 .bf16)

/-- The reference's product. -/
abbrev ref : FVec Ideal S8192x1024 .f32 := Host.dotGeneral dot_S8192x1024_S1024x1024_S8192x1024_1_1_0_0_n_n none (extf .f32 A bitsLt_bf16_f32) (transpose S1024x1024 [1, 0] (extf .f32 B bitsLt_bf16_f32) transposes_S1024x1024_S1024x1024_1_0)

theorem ref_apply (i : Fin 8192) (j : Fin 1024) : ref A B (ix2 i j) = entry A B i j := by
  unfold ref entry
  pointwise

theorem reference : ref A B = prod A B := by
  funext i
  idx_vars i
  exact ref_apply A B i0 i1

end Cert.DilDmerged
-- ==== Proof.DilOut.lean ====
/- The attention's output projection with the residual and the next layer's normalization. -/
module

public import proofs.«01_k».proof.Proof.Gen.Kernel16Ideal.Value
public import proofs.«01_k».proof.Proof.Gen.Reference16Ideal.Run
public import Idealize.ShloMosaic.Lib.Pointwise
public import Idealize.ShloMosaic.Lib.Pipeline.ValueKit

@[expose] public section

noncomputable section

namespace Cert.DilOut

open Cert.Kernel16Ideal Cert.Kernel16Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S8x128 .f32) (h9 : a9.IsWhole)
  (x0 x1 : Vec F S1024x1024 .bf16) (x2 : Vec F S1024x1024 .f32) (x3 : Vec F S1x1024 .f32)

/-- The first result's block is the first payload. -/
theorem out_0 : out0_A_4 c i a3 h3 a4 h4 a5 h5 a6 h6 a7 h7 a8 h8 a9 h9 x0 x1 x2 x3 = k0_pay1 x0 x1 x2 := by
  unfold out0_A_4
  rw [View.read_writes_eq_canon _ _ _ (by apply cover0_A_4)]
  unfold kernelRun0_A
  dsimp only
  sl_unfold_words
  rw [View.canon_unit_zero hz]
  simp only [View.readAt_eq_ld, h3.read_unread, h4.read_unread, h5.read_unread, h6.read_unread, View.ld_unit_zero (S := S1024x1024) hz, View.ld_unit_zero (S := S1x1024) hz]

/-- The second result's block is the second payload. -/
theorem out_1 : out0_A_5 c i a3 h3 a4 h4 a5 h5 a6 h6 a7 h7 a8 h8 a9 h9 x0 x1 x2 x3 = k0_pay2 x0 x1 x2 x3 := by
  unfold out0_A_5
  rw [View.read_writes_eq_canon _ _ _ (by apply cover0_A_5)]
  unfold kernelRun0_A
  dsimp only
  sl_unfold_words
  rw [View.canon_unit_zero hz]
  simp only [View.readAt_eq_ld, h3.read_unread, h4.read_unread, h5.read_unread, h6.read_unread, View.ld_unit_zero (S := S1024x1024) hz, View.ld_unit_zero (S := S1x1024) hz]

end

/-- One entry of the result. -/
def entry (A : FVec Ideal S8192x1024 .bf16) (B : FVec Ideal S1024x1024 .bf16) (X : FVec Ideal S8192x1024 .f32) (i : Fin 8192) (j : Fin 1024) : EReal :=
  (∑ k : Fin 1024, A (ix2 i k) * B (ix2 j k)) + X (ix2 i j)

/-- The result. -/
def prod (A : FVec Ideal S8192x1024 .bf16) (B : FVec Ideal S1024x1024 .bf16) (X : FVec Ideal S8192x1024 .f32) : FVec Ideal S8192x1024 .f32 := fun i => entry A B X (i 0) (i 1)

/-- Its rows normalized and scaled. -/
def normOf (A : FVec Ideal S8192x1024 .bf16) (B : FVec Ideal S1024x1024 .bf16) (X : FVec Ideal S8192x1024 .f32) (W : FVec Ideal S1x1024 .f32) : FVec Ideal S8192x1024 .bf16 := fun i =>
  entry A B X (i 0) (i 1) * Ideal.rsqrt (Ideal.div (∑ j : Fin 1024, entry A B X (i 0) j * entry A B X (i 0) j) (Ideal.ofBits .f32 0x44800000#32) + Ideal.ofBits .f32 0x358637BD#32) * W (ix2 0 (i 1))

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 := by decide +kernel

variable (c : Dev nD) (A : FVec Ideal S8192x1024 .bf16) (B : FVec Ideal S1024x1024 .bf16) (X : FVec Ideal S8192x1024 .f32) (W : FVec Ideal S1x1024 .f32)

/-- An entry of the first payload. -/
theorem pay1_apply (hA : m (c.tc.loc main_arg0) = A) (hB : m (c.tc.loc main_arg1) = B) (hX : m (c.tc.loc main_arg2) = X) (t : Fin cfg0.N) (y0 y1 : Fin 1024)
    (i : Fin 8192) (j : Fin 1024) (hi : i.val = t.val * 1024 + y0.val) (hj : j.val = 0 * 1024 + y1.val) :
    k0_pay1 (iblk m c 0 t) (iblk m c 1 t) (iblk m c 2 t) (ix2 y0 y1) = entry A B X i j := by
  obtain ⟨p0, q0, p1, q1, p2, q2, p3, q3, p4, q4, p5, q5⟩ := idx_facts t
  unfold k0_pay1 entry
  pointwise
  refine congrArg₂ (fun a b : EReal => a + b) (Finset.sum_congr rfl fun k _ => congrArg₂ (fun a b : EReal => a * b) ?_ ?_) ?_
  · rw [← hA]
    refine congrArg (m (c.tc.loc main_arg0)) (funext fun a => Fin.ext ?_)
    match a with
    | ⟨0, _⟩ => show win0_0.index _ 0 * 1024 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 1024 + 1 * y1.val = j.val; rw [p1]; omega
    | ⟨1, _⟩ => show win0_1.index _ 1 * 1024 + 1 * k.val = k.val; rw [q1]; omega
  · rw [← hX]
    refine congrArg (m (c.tc.loc main_arg2)) (funext fun a => Fin.ext ?_)
    match a with
    | ⟨0, _⟩ => show win0_2.index _ 0 * 1024 + 1 * y0.val = i.val; rw [p2, hi, one_mul]
    | ⟨1, _⟩ => show win0_2.index _ 1 * 1024 + 1 * y1.val = j.val; rw [q2]; omega

/-- The first result array ends holding the sum. -/
theorem final (hA : m (c.tc.loc main_arg0) = A) (hB : m (c.tc.loc main_arg1) = B) (hX : m (c.tc.loc main_arg2) = X) : (dats m 0 c).arrAt 4 cfg0.N = prod A B X := by
  refine (dats m 0 c).arrAt_eq_of_covers 4 _ (by decide +kernel) fun t hf y => ?_
  obtain ⟨p0, q0, p1, q1, p2, q2, p3, q3, p4, q4, p5, q5⟩ := idx_facts t
  rw [after0_4]
  unfold outsAt0
  dsimp only
  rw [out_0]
  idx_vars y
  refine pay1_apply c A B X hA hB hX t y0 y1 ((((cfg0.win 4).blk t).view.emb (ix2 y0 y1)) 0) ((((cfg0.win 4).blk t).view.emb (ix2 y0 y1)) 1) ?_ ?_
  · show win0_4.index _ 0 * 1024 + 1 * y0.val = t.val * 1024 + y0.val; rw [p4, one_mul]
  · show win0_4.index _ 1 * 1024 + 1 * y1.val = 0 * 1024 + y1.val; rw [q4, one_mul]

/-- The second result array ends holding the normalized rows. -/
theorem final_norm (hA : m (c.tc.loc main_arg0) = A) (hB : m (c.tc.loc main_arg1) = B) (hX : m (c.tc.loc main_arg2) = X) (hW : m (c.tc.loc main_arg3) = W) : (dats m 0 c).arrAt 5 cfg0.N = normOf A B X W := by
  refine (dats m 0 c).arrAt_eq_of_covers 5 _ (by decide +kernel) fun t hf y => ?_
  obtain ⟨p0, q0, p1, q1, p2, q2, p3, q3, p4, q4, p5, q5⟩ := idx_facts t
  rw [after0_5]
  unfold outsAt0
  dsimp only
  rw [out_1]
  idx_vars y
  obtain ⟨i, hi⟩ : ∃ i : Fin 8192, i = (((cfg0.win 5).blk t).view.emb (ix2 y0 y1)) 0 := ⟨_, rfl⟩
  have hiv : i.val = t.val * 1024 + y0.val := by
    rw [hi]; show win0_5.index _ 0 * 1024 + 1 * y0.val = _; rw [p5, one_mul]
  have hj : (((cfg0.win 5).blk t).view.emb (ix2 y0 y1)) 1 = y1 := Fin.ext (by show win0_5.index _ 1 * 1024 + 1 * y1.val = y1.val; rw [q5]; omega)
  have hp : ∀ j : Fin 1024, k0_pay1 (iblk m c 0 t) (iblk m c 1 t) (iblk m c 2 t) (ix2 y0 j) = entry A B X i j := fun j => pay1_apply c A B X hA hB hX t y0 j i j hiv (by omega)
  unfold normOf
  rw [← hi, hj]
  have hw : iblk m c 3 t (ix2 0 y1) = W (ix2 0 y1) := by
    rw [← hW]
    refine congrArg (m (c.tc.loc main_arg3)) (funext fun a => Fin.ext ?_)
    match a with
    | ⟨0, _⟩ => show win0_3.index _ 0 * 1 + 1 * 0 = 0; rw [p3]
    | ⟨1, _⟩ => show win0_3.index _ 1 * 1024 + 1 * y1.val = y1.val; rw [q3]; omega
  show k0_pay2 _ _ _ _ (ix2 y0 y1) = _
  unfold k0_pay2
  generalize k0_pay1 (iblk m c 0 t) (iblk m c 1 t) (iblk m c 2 t) = p at hp
  generalize iblk m c 3 t = w at hw
  simp only [← hp]
  rw [← hw]
  pointwise

end Cert.DilOut

namespace Cert.DilOut

open Cert.Reference16Ideal Cert.Reference16Ideal.Gen Idealize.ShloMosaic Idealize.ShloMosaic.StableHlo

variable (A : FVec Ideal S8192x1024 .bf16) (B : FVec Ideal S1024x1024 .bf16) (X : FVec Ideal S8192x1024 .f32) (W : FVec Ideal S1x1024 .f32)

/-- The reference's sum. -/
abbrev ref : FVec Ideal S8192x1024 .f32 := addf X (Host.dotGeneral dot_S8192x1024_S1024x1024_S8192x1024_1_0_0_1_n_n none (extf .f32 A bitsLt_bf16_f32) (transpose S1024x1024 [1, 0] (extf .f32 B bitsLt_bf16_f32) transposes_S1024x1024_S1024x1024_1_0))

theorem ref_apply (i : Fin 8192) (j : Fin 1024) : ref A B X (ix2 i j) = entry A B X i j := by
  unfold ref entry
  pointwise
  exact add_comm _ _

theorem reference : ref A B X = prod A B X := by
  funext i
  idx_vars i
  exact ref_apply A B X i0 i1

theorem ref_norm : truncf .bf16 (mulf (mulf (ref A B X) (broadcastInDim S8192x1024 ![0, 1] bcast_S8192x1_S8192x1024_0_1 (Host.rsqrt (addf (Host.divf (broadcastInDim S8192x1 ![0] bcast_S8192_S8192x1_0 (Host.reduceAdd (mulf (ref A B X) (ref A B X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 W)) bitsLt_bf16_f32 = normOf A B X W := by
  funext i
  idx_vars i
  have hp : ∀ j : Fin 1024, ref A B X (ix2 i0 j) = entry A B X i0 j := fun j => ref_apply A B X i0 j
  show _ = entry A B X i0 i1 * Ideal.rsqrt (Ideal.div (∑ j : Fin 1024, entry A B X i0 j * entry A B X i0 j) (Ideal.ofBits .f32 0x44800000#32) + Ideal.ofBits .f32 0x358637BD#32) * W (ix2 0 i1)
  simp only [← hp]
  generalize ref A B X = r
  pointwise

end Cert.DilOut
-- ==== Proof.Pack.lean ====
/- Heads of 64 columns side by side, and set apart into 128 lanes each: the tiles that pack and that spread them. -/
module

public import Idealize.ShloMosaic.PureOps
public import Idealize.ShloMosaic.Lib.Pointwise
public import Idealize.ShloMosaic.Lib.Pipeline.ValueKit

@[expose] public section

noncomputable section

namespace Cert.Pack

open Idealize.ShloMosaic

/-- A matrix's shape. -/
abbrev Mat (r c : Nat) : Shape := ⟨2, ![r, c]⟩

/-- An entry of tiles of 128 columns laid side by side. -/
theorem side {α : Type} {R N M : Nat} (f : Fin N → ((Mat R 128).Idx → α))
    (h : Shape.Concatenates ((List.ofFn fun n : Fin N => (⟨Mat R 128, f n⟩ : (s : Shape) × (s.Idx → α))).map (·.1)) (Mat R M) 1)
    (i : Fin R) (n : Fin N) (r : Fin 128) (l : Fin M) (e : l.val = 128 * n.val + r.val) :
    concatenate (Mat R M) 1 (List.ofFn fun n : Fin N => (⟨Mat R 128, f n⟩ : (s : Shape) × (s.Idx → α))) h (ix2 i l) = f n (ix2 i r) := by
  have hr : r.val < 128 := r.isLt
  refine concatenate_ofFn_apply (s₁ := Mat R 128) 1 f h rfl 128 rfl (ix2 i l) n ?_ (ix2 i r) ?_ ?_
  · show l.val / 128 = n.val; omega
  · show r.val = l.val % 128; omega
  · intro b hb
    match b with
    | ⟨0, _⟩ => rfl
    | ⟨1, _⟩ => exact absurd rfl hb

section
variable {R M : Nat} (x : FVec Ideal (Mat R M) .f32)

/-- A packed tile holds two heads, where the lanes behind each head hold zeros. -/
theorem tile (hx : ∀ (i : Fin R) (l : Fin M), 64 ≤ l.val % 128 → x (ix2 i l) = (0 : EReal)) (n o p : Nat) (ho : o = 256 * n) (hp : p = 256 * n + 128) (hM : 256 * n + 256 ≤ M)
    (h1 : (Mat R M).Slices ![0, o] (Mat R 128)) (h2 : (Mat R M).Slices ![0, p] (Mat R 128)) (hro : (Mat R 128).Rotates 1 none) (i : Fin R) (r : Fin 128) :
    addf (F := Ideal) (φ := .f32) (extractStridedSlice (Mat R 128) ![0, o] x h1) (dynamicRotate 1 64#32 none (extractStridedSlice (Mat R 128) ![0, p] x h2) hro) (ix2 i r)
      = x (ix2 i ⟨128 * (2 * n + r.val / 64) + r.val % 64, by omega⟩) := by
  have hr : r.val < 128 := r.isLt
  have e : addf (F := Ideal) (φ := .f32) (extractStridedSlice (Mat R 128) ![0, o] x h1) (dynamicRotate 1 64#32 none (extractStridedSlice (Mat R 128) ![0, p] x h2) hro) (ix2 i r)
      = (x (ix2 i ⟨o + r.val, by omega⟩) + x (ix2 i ⟨p + (r.val + 128 - 64) % 128, by omega⟩) : EReal) := by
    pointwise
    refine congrArg₂ (fun a b : EReal => a + b) (congrArg x (funext fun a => ?_)) (congrArg x (funext fun a => ?_))
    · match a with
      | ⟨0, _⟩ => exact Fin.ext (Nat.zero_add _)
      | ⟨1, _⟩ => exact Fin.ext rfl
    · match a with
      | ⟨0, _⟩ => exact Fin.ext (Nat.zero_add _)
      | ⟨1, _⟩ => exact Fin.ext rfl
  rw [e]
  by_cases h : r.val < 64
  · rw [hx i ⟨p + (r.val + 128 - 64) % 128, by omega⟩ (by dsimp only; omega), add_zero]
    exact congrArg (fun l => x (ix2 i l)) (Fin.ext (by dsimp only; omega))
  · rw [hx i ⟨o + r.val, by omega⟩ (by dsimp only; omega), zero_add]
    exact congrArg (fun l => x (ix2 i l)) (Fin.ext (by dsimp only; omega))

theorem low (r : Fin 128) : IntOp.cmpi .slt (BitVec.ofNat 32 r.val) 64#32 = BitVec.ofBool (decide (r.val < 64)) := by
  revert r; decide +kernel

/-- The spread tile of a pair's first head. -/
theorem first (o : Nat) (ho : o + 128 ≤ M) (hi : (Mat R 128).Iotas .tc 32 [1]) (h1 : (Mat R M).Slices ![0, o] (Mat R 128)) (i : Fin R) (r : Fin 128) :
    select (cmpi .slt (iota .tc (Mat R 128) 32 [1] hi) (broadcast (Mat R 128) 64#32)) (extractStridedSlice (Mat R 128) ![0, o] x h1) (broadcast (Mat R 128) (Scalar.ofBits (F := Ideal) .f32 0x00000000#32)) (ix2 i r)
      = if h : r.val < 64 then x (ix2 i ⟨o + r.val, by omega⟩) else (0 : EReal) := by
  have hr : r.val < 128 := r.isLt
  have e : extractStridedSlice (Mat R 128) ![0, o] x h1 (ix2 i r) = x (ix2 i ⟨o + r.val, by omega⟩) := by
    pointwise
    refine congrArg x (funext fun a => ?_)
    match a with
    | ⟨0, _⟩ => exact Fin.ext (Nat.zero_add _)
    | ⟨1, _⟩ => exact Fin.ext rfl
  show Scalar.select (IntOp.cmpi .slt (BitVec.ofNat 32 (0 * 128 + r.val)) 64#32) (extractStridedSlice (Mat R 128) ![0, o] x h1 (ix2 i r)) (Ideal.ofBits .f32 0x00000000#32) = _
  rw [e, Nat.zero_mul, Nat.zero_add, low]
  by_cases h : r.val < 64
  · rw [dif_pos h, decide_eq_true h]
    rfl
  · rw [dif_neg h, decide_eq_false h]
    show Ideal.ofBits .f32 0x00000000#32 = (0 : EReal)
    exact Ideal.ofBits_zero .f32

/-- The spread tile of a pair's second head. -/
theorem second (o : Nat) (ho : o + 128 ≤ M) (hi : (Mat R 128).Iotas .tc 32 [1]) (h1 : (Mat R M).Slices ![0, o] (Mat R 128)) (hro : (Mat R 128).Rotates 1 none) (i : Fin R) (r : Fin 128) :
    select (cmpi .slt (iota .tc (Mat R 128) 32 [1] hi) (broadcast (Mat R 128) 64#32)) (dynamicRotate 1 64#32 none (extractStridedSlice (Mat R 128) ![0, o] x h1) hro) (broadcast (Mat R 128) (Scalar.ofBits (F := Ideal) .f32 0x00000000#32)) (ix2 i r)
      = if h : r.val < 64 then x (ix2 i ⟨o + 64 + r.val, by omega⟩) else (0 : EReal) := by
  have hr : r.val < 128 := r.isLt
  have e : dynamicRotate 1 64#32 none (extractStridedSlice (Mat R 128) ![0, o] x h1) hro (ix2 i r) = x (ix2 i ⟨o + (r.val + 128 - 64) % 128, by omega⟩) := by
    pointwise
    refine congrArg x (funext fun a => ?_)
    match a with
    | ⟨0, _⟩ => exact Fin.ext (Nat.zero_add _)
    | ⟨1, _⟩ => exact Fin.ext rfl
  show Scalar.select (IntOp.cmpi .slt (BitVec.ofNat 32 (0 * 128 + r.val)) 64#32) (dynamicRotate 1 64#32 none (extractStridedSlice (Mat R 128) ![0, o] x h1) hro (ix2 i r)) (Ideal.ofBits .f32 0x00000000#32) = _
  rw [e, Nat.zero_mul, Nat.zero_add, low]
  by_cases h : r.val < 64
  · rw [dif_pos h, decide_eq_true h]
    exact congrArg (fun l => x (ix2 i l)) (Fin.ext (by dsimp only; omega))
  · rw [dif_neg h, decide_eq_false h]
    show Ideal.ofBits .f32 0x00000000#32 = (0 : EReal)
    exact Ideal.ofBits_zero .f32

/-- A tile of 128 columns lies in the matrix. -/
abbrev Cut (R M o : Nat) : Prop := (Mat R M).Slices ![0, o] (Mat R 128)

/-- Two tiles, the second turned by half a tile, added. -/
abbrev pair {R M o p : Nat} (x : FVec Ideal (Mat R M) .f32) (h1 : Cut R M o) (h2 : Cut R M p) (hro : (Mat R 128).Rotates 1 none) : FVec Ideal (Mat R 128) .f32 :=
  addf (F := Ideal) (φ := .f32) (extractStridedSlice (Mat R 128) ![0, o] x h1) (dynamicRotate 1 64#32 none (extractStridedSlice (Mat R 128) ![0, p] x h2) hro)

/-- The first half of a tile, zeros behind it. -/
abbrev fore {R M o : Nat} (x : FVec Ideal (Mat R M) .f32) (hi : (Mat R 128).Iotas .tc 32 [1]) (h1 : Cut R M o) : FVec Ideal (Mat R 128) .f32 :=
  select (cmpi .slt (iota .tc (Mat R 128) 32 [1] hi) (broadcast (Mat R 128) 64#32)) (extractStridedSlice (Mat R 128) ![0, o] x h1) (broadcast (Mat R 128) (Scalar.ofBits (F := Ideal) .f32 0x00000000#32))

/-- The second half of a tile, zeros behind it. -/
abbrev aft {R M o : Nat} (x : FVec Ideal (Mat R M) .f32) (hi : (Mat R 128).Iotas .tc 32 [1]) (h1 : Cut R M o) (hro : (Mat R 128).Rotates 1 none) : FVec Ideal (Mat R 128) .f32 :=
  select (cmpi .slt (iota .tc (Mat R 128) 32 [1] hi) (broadcast (Mat R 128) 64#32)) (dynamicRotate 1 64#32 none (extractStridedSlice (Mat R 128) ![0, o] x h1) hro) (broadcast (Mat R 128) (Scalar.ofBits (F := Ideal) .f32 0x00000000#32))

/-- Packed four pairs: a column of the packed block is a lane of the block that is not padding. -/
theorem four {R : Nat} (x : FVec Ideal (Mat R 1024) .f32) (hx : ∀ (i : Fin R) (l : Fin 1024), 64 ≤ l.val % 128 → x (ix2 i l) = (0 : EReal))
    (s0 : Cut R 1024 0) (s1 : Cut R 1024 128) (s2 : Cut R 1024 256) (s3 : Cut R 1024 384) (s4 : Cut R 1024 512) (s5 : Cut R 1024 640) (s6 : Cut R 1024 768) (s7 : Cut R 1024 896) (hro : (Mat R 128).Rotates 1 none)
    (h : Shape.Concatenates [Mat R 128, Mat R 128, Mat R 128, Mat R 128] (Mat R 512) 1) (i : Fin R) (l : Fin 512) :
    concatenate (Mat R 512) 1 [⟨Mat R 128, pair x s0 s1 hro⟩, ⟨Mat R 128, pair x s2 s3 hro⟩, ⟨Mat R 128, pair x s4 s5 hro⟩, ⟨Mat R 128, pair x s6 s7 hro⟩] h (ix2 i l) = x (ix2 i ⟨128 * (l.val / 64) + l.val % 64, by omega⟩) := by
  have hl : l.val < 512 := l.isLt
  let f : Fin 4 → FVec Ideal (Mat R 128) .f32 := ![pair x s0 s1 hro, pair x s2 s3 hro, pair x s4 s5 hro, pair x s6 s7 hro]
  have key : ∀ (n : Fin 4) (r : Fin 128), f n (ix2 i r) = x (ix2 i ⟨128 * (2 * n.val + r.val / 64) + r.val % 64, by omega⟩) := by
    intro n r
    match n with
    | ⟨0, _⟩ => exact tile x hx 0 0 128 rfl rfl (by decide) s0 s1 hro i r
    | ⟨1, _⟩ => exact tile x hx 1 256 384 rfl rfl (by decide) s2 s3 hro i r
    | ⟨2, _⟩ => exact tile x hx 2 512 640 rfl rfl (by decide) s4 s5 hro i r
    | ⟨3, _⟩ => exact tile x hx 3 768 896 rfl rfl (by decide) s6 s7 hro i r
  refine (side f h i ⟨l.val / 128, by omega⟩ ⟨l.val % 128, by omega⟩ l (by dsimp only; omega)).trans ?_
  rw [key]
  exact congrArg (fun l => x (ix2 i l)) (Fin.ext (by dsimp only; omega))

/-- Packed twelve pairs: a column of the packed block is a lane of the block that is not padding. -/
theorem twelve {R : Nat} (x : FVec Ideal (Mat R 3072) .f32) (hx : ∀ (i : Fin R) (l : Fin 3072), 64 ≤ l.val % 128 → x (ix2 i l) = (0 : EReal))
    (s0 : Cut R 3072 0) (s1 : Cut R 3072 128) (s2 : Cut R 3072 256) (s3 : Cut R 3072 384) (s4 : Cut R 3072 512) (s5 : Cut R 3072 640) (s6 : Cut R 3072 768) (s7 : Cut R 3072 896) (s8 : Cut R 3072 1024) (s9 : Cut R 3072 1152) (s10 : Cut R 3072 1280) (s11 : Cut R 3072 1408) (s12 : Cut R 3072 1536) (s13 : Cut R 3072 1664) (s14 : Cut R 3072 1792) (s15 : Cut R 3072 1920) (s16 : Cut R 3072 2048) (s17 : Cut R 3072 2176) (s18 : Cut R 3072 2304) (s19 : Cut R 3072 2432) (s20 : Cut R 3072 2560) (s21 : Cut R 3072 2688) (s22 : Cut R 3072 2816) (s23 : Cut R 3072 2944) (hro : (Mat R 128).Rotates 1 none)
    (h : Shape.Concatenates [Mat R 128, Mat R 128, Mat R 128, Mat R 128, Mat R 128, Mat R 128, Mat R 128, Mat R 128, Mat R 128, Mat R 128, Mat R 128, Mat R 128] (Mat R 1536) 1) (i : Fin R) (l : Fin 1536) :
    concatenate (Mat R 1536) 1 [⟨Mat R 128, pair x s0 s1 hro⟩, ⟨Mat R 128, pair x s2 s3 hro⟩, ⟨Mat R 128, pair x s4 s5 hro⟩, ⟨Mat R 128, pair x s6 s7 hro⟩, ⟨Mat R 128, pair x s8 s9 hro⟩, ⟨Mat R 128, pair x s10 s11 hro⟩, ⟨Mat R 128, pair x s12 s13 hro⟩, ⟨Mat R 128, pair x s14 s15 hro⟩, ⟨Mat R 128, pair x s16 s17 hro⟩, ⟨Mat R 128, pair x s18 s19 hro⟩, ⟨Mat R 128, pair x s20 s21 hro⟩, ⟨Mat R 128, pair x s22 s23 hro⟩] h (ix2 i l) = x (ix2 i ⟨128 * (l.val / 64) + l.val % 64, by omega⟩) := by
  have hl : l.val < 1536 := l.isLt
  let f : Fin 12 → FVec Ideal (Mat R 128) .f32 := ![pair x s0 s1 hro, pair x s2 s3 hro, pair x s4 s5 hro, pair x s6 s7 hro, pair x s8 s9 hro, pair x s10 s11 hro, pair x s12 s13 hro, pair x s14 s15 hro, pair x s16 s17 hro, pair x s18 s19 hro, pair x s20 s21 hro, pair x s22 s23 hro]
  have key : ∀ (n : Fin 12) (r : Fin 128), f n (ix2 i r) = x (ix2 i ⟨128 * (2 * n.val + r.val / 64) + r.val % 64, by omega⟩) := by
    intro n r
    match n with
    | ⟨0, _⟩ => exact tile x hx 0 0 128 rfl rfl (by decide) s0 s1 hro i r
    | ⟨1, _⟩ => exact tile x hx 1 256 384 rfl rfl (by decide) s2 s3 hro i r
    | ⟨2, _⟩ => exact tile x hx 2 512 640 rfl rfl (by decide) s4 s5 hro i r
    | ⟨3, _⟩ => exact tile x hx 3 768 896 rfl rfl (by decide) s6 s7 hro i r
    | ⟨4, _⟩ => exact tile x hx 4 1024 1152 rfl rfl (by decide) s8 s9 hro i r
    | ⟨5, _⟩ => exact tile x hx 5 1280 1408 rfl rfl (by decide) s10 s11 hro i r
    | ⟨6, _⟩ => exact tile x hx 6 1536 1664 rfl rfl (by decide) s12 s13 hro i r
    | ⟨7, _⟩ => exact tile x hx 7 1792 1920 rfl rfl (by decide) s14 s15 hro i r
    | ⟨8, _⟩ => exact tile x hx 8 2048 2176 rfl rfl (by decide) s16 s17 hro i r
    | ⟨9, _⟩ => exact tile x hx 9 2304 2432 rfl rfl (by decide) s18 s19 hro i r
    | ⟨10, _⟩ => exact tile x hx 10 2560 2688 rfl rfl (by decide) s20 s21 hro i r
    | ⟨11, _⟩ => exact tile x hx 11 2816 2944 rfl rfl (by decide) s22 s23 hro i r
  refine (side f h i ⟨l.val / 128, by omega⟩ ⟨l.val % 128, by omega⟩ l (by dsimp only; omega)).trans ?_
  rw [key]
  exact congrArg (fun l => x (ix2 i l)) (Fin.ext (by dsimp only; omega))

/-- Packed columns spread: a lane of the spread block is a column of the packed one, or padding. -/
theorem spread {R : Nat} (x : FVec Ideal (Mat R 512) .f32) (s0 : Cut R 512 0) (s1 : Cut R 512 128) (s2 : Cut R 512 256) (s3 : Cut R 512 384) (hi : (Mat R 128).Iotas .tc 32 [1]) (hro : (Mat R 128).Rotates 1 none)
    (h : Shape.Concatenates [Mat R 128, Mat R 128, Mat R 128, Mat R 128, Mat R 128, Mat R 128, Mat R 128, Mat R 128] (Mat R 1024) 1) (i : Fin R) (l : Fin 1024) :
    concatenate (Mat R 1024) 1 [⟨Mat R 128, fore x hi s0⟩, ⟨Mat R 128, aft x hi s0 hro⟩, ⟨Mat R 128, fore x hi s1⟩, ⟨Mat R 128, aft x hi s1 hro⟩, ⟨Mat R 128, fore x hi s2⟩, ⟨Mat R 128, aft x hi s2 hro⟩, ⟨Mat R 128, fore x hi s3⟩, ⟨Mat R 128, aft x hi s3 hro⟩] h (ix2 i l) = if h : l.val % 128 < 64 then x (ix2 i ⟨64 * (l.val / 128) + l.val % 128, by omega⟩) else (0 : EReal) := by
  have hl : l.val < 1024 := l.isLt
  let f : Fin 8 → FVec Ideal (Mat R 128) .f32 := ![fore x hi s0, aft x hi s0 hro, fore x hi s1, aft x hi s1 hro, fore x hi s2, aft x hi s2 hro, fore x hi s3, aft x hi s3 hro]
  have key : ∀ (n : Fin 8) (r : Fin 128), f n (ix2 i r) = if h : r.val < 64 then x (ix2 i ⟨64 * n.val + r.val, by omega⟩) else (0 : EReal) := by
    intro n r
    match n with
    | ⟨0, _⟩ => exact first x 0 (by decide) hi s0 i r
    | ⟨1, _⟩ => exact second x 0 (by decide) hi s0 hro i r
    | ⟨2, _⟩ => exact first x 128 (by decide) hi s1 i r
    | ⟨3, _⟩ => exact second x 128 (by decide) hi s1 hro i r
    | ⟨4, _⟩ => exact first x 256 (by decide) hi s2 i r
    | ⟨5, _⟩ => exact second x 256 (by decide) hi s2 hro i r
    | ⟨6, _⟩ => exact first x 384 (by decide) hi s3 i r
    | ⟨7, _⟩ => exact second x 384 (by decide) hi s3 hro i r
  refine (side f h i ⟨l.val / 128, by omega⟩ ⟨l.val % 128, by omega⟩ l (by dsimp only; omega)).trans ?_
  exact key _ _

end

/-- A number that compares equal to zero is zero. -/
theorem zero_of_cmp (x : EReal) (h : Ideal.cmp .oeq x (Ideal.ofBits .bf16 0x0000#16) = 1#1) : x = 0 := by
  rw [Ideal.ofBits_zero .bf16] at h
  by_contra hc
  unfold Ideal.cmp at h
  dsimp only at h
  rw [decide_eq_false hc] at h
  exact absurd h (by decide)

end Cert.Pack
-- ==== Proof.DilProj.lean ====
/- The attention's projection of one group, its heads set apart into 128 lanes each. -/
module

public import proofs.«01_k».proof.Proof.Gen.Kernel17Ideal.Value
public import proofs.«01_k».proof.Proof.Gen.Reference17Ideal.Run
public import proofs.«01_k».proof.Proof.Pack
public import Idealize.ShloMosaic.Lib.Pointwise
public import Idealize.ShloMosaic.Lib.Pipeline.ValueKit

@[expose] public section

noncomputable section

namespace Cert.DilProj

open Cert.Kernel17Ideal Cert.Kernel17Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1024 .bf16) (h3 : a3.IsWhole) (a4 : Memref sig .tc .vmem S512x1024 .bf16) (h4 : a4.IsWhole) (a5 : Memref sig .tc .vmem S2048x1024 .f32) (h5 : a5.IsWhole) (a6 : Memref sig .tc .vmem S8x128 .f32) (h6 : a6.IsWhole)
  (x0 : Vec F S2048x1024 .bf16) (x1 : Vec F S512x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S2048x1024) hz, View.ld_unit_zero (S := S512x1024) hz]

end

/-- One entry of the product, heads side by side. -/
def wide (A : FVec Ideal S8192x1024 .bf16) (B : FVec Ideal S1536x1024 .bf16) (i : Fin 8192) (j : Fin 1536) : EReal :=
  ∑ k : Fin 1024, A (ix2 i k) * B (ix2 j k)

/-- One entry of the result. -/
def entry (A : FVec Ideal S8192x1024 .bf16) (B : FVec Ideal S1536x1024 .bf16) (i : Fin 8192) (l : Fin 3072) : EReal :=
  if h : l.val % 128 < 64 then wide A B i ⟨64 * (l.val / 128) + l.val % 128, by omega⟩ else (0 : EReal)

/-- The result. -/
def prod (A : FVec Ideal S8192x1024 .bf16) (B : FVec Ideal S1536x1024 .bf16) : FVec Ideal S8192x3072 .f32 := fun i => entry A B (i 0) (i 1)

variable {m : (ℓ : Loc nD τ sig) → Buf (Elt Ideal) ℓ}

/-- Which block each window stages at each point. -/
theorem idx_facts : ∀ t : Fin cfg0.N, win0_0.index t 0 = t.val / 3 ∧ win0_0.index t 1 = 0 ∧ win0_1.index t 0 = t.val % 3 ∧ win0_1.index t 1 = 0 ∧ win0_2.index t 0 = t.val / 3 ∧ win0_2.index t 1 = t.val % 3 := by decide +kernel

variable (c : Dev nD) (A : FVec Ideal S8192x1024 .bf16) (B : FVec Ideal S1536x1024 .bf16)

/-- The block's product before its heads are set apart. -/
abbrev block (x0 : Vec Ideal S2048x1024 .bf16) (x1 : Vec Ideal S512x1024 .bf16) : FVec Ideal S2048x512 .f32 :=
  matmul (φ₁ := .bf16) (φ₂ := .bf16) dot_S2048x1024_S512x1024_S2048x512_1_1_0_0_n_n none x0 x1 (constant S2048x512 .f32 0x00000000#32)

theorem block_apply (hA : m (c.tc.loc main_arg0) = A) (hB : m (c.tc.loc main_arg1) = B) (t : Fin cfg0.N) (y0 : Fin 2048) (y1 : Fin 512)
    (i : Fin 8192) (j : Fin 1536) (hi : i.val = t.val / 3 * 2048 + y0.val) (hj : j.val = t.val % 3 * 512 + y1.val) :
    block (iblk m c 0 t) (iblk m c 1 t) (ix2 y0 y1) = wide A B i j := by
  obtain ⟨p0, q0, p1, q1, p2, q2⟩ := idx_facts t
  unfold block wide
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 512 + 1 * y1.val = j.val; rw [p1]; omega
    | ⟨1, _⟩ => show win0_1.index _ 1 * 1024 + 1 * k.val = k.val; rw [q1]; omega

/-- An entry of the payload. -/
theorem pay1_apply (hA : m (c.tc.loc main_arg0) = A) (hB : m (c.tc.loc main_arg1) = B) (t : Fin cfg0.N) (y0 : Fin 2048) (y1 : Fin 1024)
    (i : Fin 8192) (l : Fin 3072) (hi : i.val = t.val / 3 * 2048 + y0.val) (hl : l.val = t.val % 3 * 1024 + y1.val) :
    k0_pay1 (iblk m c 0 t) (iblk m c 1 t) (ix2 y0 y1) = entry A B i l := by
  unfold k0_pay1 entry
  dsimp only
  have e := Cert.Pack.spread (R := 2048) (block (iblk m c 0 t) (iblk m c 1 t)) slices_S2048x512_o0_0_S2048x128 slices_S2048x512_o0_128_S2048x128 slices_S2048x512_o0_256_S2048x128 slices_S2048x512_o0_384_S2048x128 iota_S2048x128_d1_w32 rotates_S2048x128_d1 concatenates_S2048x128_S2048x128_S2048x128_S2048x128_S2048x128_S2048x128_S2048x128_S2048x128_S2048x1024_d1 y0 y1
  refine Eq.trans e ?_
  have hm : y1.val % 128 = l.val % 128 := by omega
  by_cases h : y1.val % 128 < 64
  · rw [dif_pos h, dif_pos (hm ▸ h)]
    exact block_apply c A B hA hB t y0 _ i _ hi (by dsimp only; omega)
  · rw [dif_neg h, dif_neg (hm ▸ h)]

/-- The result array ends holding the spread product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 2048 + 1 * y0.val = t.val / 3 * 2048 + y0.val; rw [p2, one_mul]
  · show win0_2.index _ 1 * 1024 + 1 * y1.val = t.val % 3 * 1024 + y1.val; rw [q2, one_mul]

end Cert.DilProj

namespace Cert.DilProj

open Cert.Reference17Ideal Cert.Reference17Ideal.Gen Idealize.ShloMosaic Idealize.ShloMosaic.StableHlo

variable (A : FVec Ideal S8192x1024 .bf16) (B : FVec Ideal S1536x1024 .bf16)

/-- The reference's product. -/
abbrev ref : FVec Ideal S8192x1536 .f32 := Host.dotGeneral dot_S8192x1024_S1024x1536_S8192x1536_1_0_0_1_n_n none (extf .f32 A bitsLt_bf16_f32) (transpose S1024x1536 [1, 0] (extf .f32 B bitsLt_bf16_f32) transposes_S1536x1024_S1024x1536_1_0)

theorem ref_apply (i : Fin 8192) (j : Fin 1536) : ref A B (ix2 i j) = wide A B i j := by
  unfold ref wide
  pointwise

theorem reference : shapeCast S8192x3072 (pad S8192x24x128 ![0, 0, 0] ![0, 0, 64] ![0, 0, 0] (shapeCast S8192x24x64 (ref A B) shapeCasts_S8192x1536_S8192x24x64) (sitofp .f32 (constantI S_ 32 0#32)) pads_S8192x24x64_S8192x24x128_000_000_0640 h_S_) shapeCasts_S8192x24x128_S8192x3072 = prod A B := by
  funext i
  idx_vars i
  have hp := ref_apply A B i0
  show _ = entry A B i0 i1
  unfold entry
  simp only [← hp]
  generalize ref A B = r
  pointwise
  have hl : i1.val < 3072 := i1.isLt
  by_cases h : i1.val % 128 < 64
  · rw [dif_pos h, dif_pos ⟨by omega, h⟩]
    exact congrArg (fun l => r (ix2 i0 l)) (Fin.ext (by dsimp only; omega))
  · rw [dif_neg h, dif_neg fun hh => h hh.2]
    show (((0#32 : BitVec 32).toInt : ℝ) : EReal) = 0
    rw [show (0#32 : BitVec 32).toInt = 0 from rfl]
    norm_num

end Cert.DilProj
-- ==== Proof.DilGwParts.lean ====
/- The weight gradient of the attention's input projection, from the three parts of the projection's gradient: what the tiled product leaves is the whole product. -/
module

public import proofs.«01_k».proof.Proof.Gen.Kernel18Ideal.Value
public import proofs.«01_k».proof.Proof.Gen.Reference18Ideal.Run
public import proofs.«01_k».proof.Proof.Gen.Pre_padded18
public import proofs.«01_k».proof.Proof.Pack
public import Idealize.ShloMosaic.Lib.Pointwise
public import Idealize.ShloMosaic.Lib.ReduceAll
public import Idealize.ShloMosaic.Lib.IdealHost
public import Idealize.ShloMosaic.Lib.Pipeline.ValueKit

@[expose] public section

noncomputable section

namespace Cert.DilGwParts

open Cert.Kernel18Ideal Cert.Kernel18Ideal.Gen Idealize.ShloMosaic Idealize.ShloMosaic.TcCoe Idealize.SL.Sem

theorem hz3 : (![0, 0, 0] : Fin 3 → Nat) = fun _ => 0 := funext fun a => by fin_cases a <;> rfl
theorem hz : (![0, 0] : Fin 2 → Nat) = fun _ => 0 := funext fun a => by fin_cases a <;> rfl

section
variable {F : FTy → Type} [FloatOps F]
variable (c : Dev nD) (i : grid0.Coords) (a3 : Memref sig .tc .vmem S1x2048x1024 .bf16) (h3 : a3.IsWhole) (a4 : Memref sig .tc .vmem S2048x1024 .bf16) (h4 : a4.IsWhole)
  (a5 : Memref sig .tc .vmem S512x1024 .bf16) (h5 : a5.IsWhole) (a6 : Memref sig .tc .vmem S512x1024 .f32) (h6 : a6.IsWhole)

/-- The first tile's product is stored. -/
theorem sout_A
    (c0 : cond0_0 i) (c1 : ¬cond0_1 i) (c2 : ¬cond0_2 i) (x0 : Vec F S1x2048x1024 .bf16) (x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S1x2048x1024) hz3, View.ld_unit_zero (S := S2048x1024) hz, shapeCast_self]

/-- A middle tile's product is added. -/
theorem sout_B
    (c0 : ¬cond0_0 i) (c1 : cond0_1 i) (c2 : ¬cond0_2 i) (x0 : Vec F S1x2048x1024 .bf16) (x1 : Vec F S2048x1024 .bf16) (xs : Vec F S512x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S1x2048x1024) hz3, View.ld_unit_zero (S := S2048x1024) hz, View.ld_unit_zero (S := S512x1024) hz, shapeCast_self]

/-- The last tile's product is added, and the sum is the result's block. -/
theorem out_C
    (c0 : ¬cond0_0 i) (c1 : cond0_1 i) (c2 : cond0_2 i) (x0 : Vec F S1x2048x1024 .bf16) (x1 : Vec F S2048x1024 .bf16) (xs : Vec F S512x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S512x1024) _ hz]
  unfold k0_pay4 k0_pay3
  simp only [View.readAt_eq_ld, h3.read_unread, h4.read_unread, h6.read_unread, View.ld_unit_zero (S := S1x2048x1024) hz3, View.ld_unit_zero (S := S2048x1024) hz, View.ld_unit_zero (S := S512x1024) hz, shapeCast_self]

variable (m : (ℓ : Loc nD τ sig) → Buf (Elt F) ℓ)

/-- The product of the tiles staged at point `t`. -/
abbrev part (c : Dev nD) (t : Fin cfg0.N) : Vec F S512x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 3) (y : S512x1024.Idx) :
    (outsAt0 m c (4 * q.val + 3) (show _ < 12 by omega)).1 y
      = ∑ j : Fin 4, part m c ⟨4 * q.val + j.val, show _ < 12 by omega⟩ y := by
  rw [out_last m c ⟨4 * q.val + 3, show _ < 12 by omega⟩ (by dsimp only; omega)]
  have e2 := acc_next m c ⟨4 * q.val + 2, show _ < 12 by omega⟩ (by dsimp only; omega)
  have e1 := acc_next m c ⟨4 * q.val + 1, show _ < 12 by omega⟩ (by dsimp only; omega)
  have e0 := acc_first m c ⟨4 * q.val + 0, show _ < 12 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val / 4 ∧ win0_0.index t 1 = t.val % 4 ∧ win0_0.index t 2 = 0 ∧ win0_1.index t 0 = t.val % 4 ∧ win0_1.index t 1 = 0 ∧ win0_2.index t 0 = t.val / 4 ∧ win0_2.index t 1 = 0 := by
  decide +kernel

/-- The projection's gradient with its heads side by side. -/
def lane (A : FVec Ideal S3x8192x1024 .bf16) (k : Fin 8192) (i : Fin 1536) : EReal := A (ix3 ⟨i.val / 512, by omega⟩ k ⟨128 * (i.val % 512 / 64) + i.val % 64, by omega⟩)

/-- The product of the transpose of the packed gradient with `B`. -/
def prod (A : FVec Ideal S3x8192x1024 .bf16) (B : FVec Ideal S8192x1024 .bf16) : FVec Ideal S1536x1024 .bf16 := fun i => ∑ k : Fin 8192, lane A k (i 0) * B (ix2 k (i 1))

/-- The product of a packed tile. -/
theorem mm_apply (z : FVec Ideal S2048x512 .f32) (x1 : FVec Ideal S2048x1024 .bf16) (y0 : Fin 512) (y1 : Fin 1024) :
    matmul dot_S2048x512_S2048x1024_S512x1024_0_0_1_1_n_n none (truncf .bf16 z bitsLt_bf16_f32) x1 (constant S512x1024 .f32 0x00000000#32) (ix2 y0 y1) = (∑ k : Fin 2048, z (ix2 k y0) * x1 (ix2 k y1) : EReal) := by
  pointwise

theorem cast_apply (x0 : Vec Ideal S1x2048x1024 .bf16) (k : Fin 2048) (l : Fin 1024) :
    (extf (F := Ideal) (φ := .bf16) .f32 (shapeCast S2048x1024 x0 shapeCasts_S1x2048x1024_S2048x1024) bitsLt_bf16_f32) (ix2 k l) = (x0 (ix3 0 k l) : EReal) := by
  pointwise

/-- An entry of the payload, where the lanes behind each head hold zeros. -/
theorem pay_apply (x0 : Vec Ideal S1x2048x1024 .bf16) (x1 : Vec Ideal S2048x1024 .bf16) (hx : ∀ (k : Fin 2048) (l : Fin 1024), 64 ≤ l.val % 128 → x0 (ix3 0 k l) = (0 : EReal)) (y0 : Fin 512) (y1 : Fin 1024) :
    k0_pay1 x0 x1 (ix2 y0 y1) = (∑ k : Fin 2048, x0 (ix3 0 k ⟨128 * (y0.val / 64) + y0.val % 64, by omega⟩) * x1 (ix2 k y1) : EReal) := by
  unfold k0_pay1
  dsimp only
  refine Eq.trans (mm_apply _ x1 y0 y1) (Finset.sum_congr rfl fun k _ => congrArg (fun a : EReal => a * x1 (ix2 k y1)) ?_)
  exact Eq.trans (Cert.Pack.four (R := 2048) (extf .f32 (shapeCast S2048x1024 x0 shapeCasts_S1x2048x1024_S2048x1024) bitsLt_bf16_f32) (fun i l hl => Eq.trans (cast_apply x0 i l) (hx i l hl)) slices_S2048x1024_o0_0_S2048x128 slices_S2048x1024_o0_128_S2048x128 slices_S2048x1024_o0_256_S2048x128 slices_S2048x1024_o0_384_S2048x128 slices_S2048x1024_o0_512_S2048x128 slices_S2048x1024_o0_640_S2048x128 slices_S2048x1024_o0_768_S2048x128 slices_S2048x1024_o0_896_S2048x128 rotates_S2048x128_d1 concatenates_S2048x128_S2048x128_S2048x128_S2048x128_S2048x512_d1 k y0) (cast_apply x0 k _)

/-- The product of the tiles staged at point `4 q + j`, at an index. -/
theorem part_apply (c : Dev nD) (A : FVec Ideal S3x8192x1024 .bf16) (B : FVec Ideal S8192x1024 .bf16) (hp : ∀ (a : Fin 3) (k : Fin 8192) (l : Fin 1024), 64 ≤ l.val % 128 → A (ix3 a k l) = (0 : EReal))
    (hA : m (c.tc.loc main_arg0) = A) (hB : m (c.tc.loc main_arg1) = B) (q : Fin 3) (j : Fin 4) (y0 : Fin 512) (y1 : Fin 1024) :
    part m c ⟨4 * q.val + j.val, show _ < 12 by omega⟩ (ix2 y0 y1)
      = ∑ k : Fin 2048, lane A ⟨j.val * 2048 + k.val, show _ < 8192 by omega⟩ ⟨512 * q.val + y0.val, show _ < 1536 by omega⟩
          * B (ix2 ⟨j.val * 2048 + k.val, show _ < 8192 by omega⟩ y1) := by
  obtain ⟨e0, e1, e6, e2, e3, -, -⟩ := idx_facts ⟨4 * q.val + j.val, show _ < 12 by omega⟩
  unfold part
  refine Eq.trans (pay_apply _ _ ?_ y0 y1) (Finset.sum_congr rfl fun k _ => congrArg₂ (fun a b : EReal => a * b) ?_ ?_)
  · intro k l hl
    refine (show iblk m c 0 ⟨4 * q.val + j.val, show _ < 12 by omega⟩ (ix3 0 k l) = A (ix3 ⟨q.val, by omega⟩ ⟨j.val * 2048 + k.val, show _ < 8192 by omega⟩ l) from ?_).trans (hp _ _ _ hl)
    rw [← hA]
    refine congrArg (m (c.tc.loc main_arg0)) (funext fun a => Fin.ext ?_)
    match a with
    | ⟨0, _⟩ => show win0_0.index _ 0 * 1 + 1 * 0 = _; rw [e0]; show (4 * q.val + j.val) / 4 * 1 + 1 * 0 = q.val; omega
    | ⟨1, _⟩ => show win0_0.index _ 1 * 2048 + 1 * k.val = _; rw [e1]; show (4 * q.val + j.val) % 4 * 2048 + _ = j.val * 2048 + k.val; omega
    | ⟨2, _⟩ => show win0_0.index _ 2 * 1024 + 1 * l.val = _; rw [e6]; show _ = l.val; omega
  · unfold lane
    rw [← hA]
    refine congrArg (m (c.tc.loc main_arg0)) (funext fun a => Fin.ext ?_)
    match a with
    | ⟨0, _⟩ => show win0_0.index _ 0 * 1 + 1 * 0 = _; rw [e0]; show (4 * q.val + j.val) / 4 * 1 + 1 * 0 = (512 * q.val + y0.val) / 512; omega
    | ⟨1, _⟩ => show win0_0.index _ 1 * 2048 + 1 * k.val = _; rw [e1]; show (4 * q.val + j.val) % 4 * 2048 + _ = j.val * 2048 + k.val; omega
    | ⟨2, _⟩ => show win0_0.index _ 2 * 1024 + 1 * (128 * (y0.val / 64) + y0.val % 64) = _; rw [e6]; show _ = 128 * ((512 * q.val + y0.val) % 512 / 64) + (512 * q.val + y0.val) % 64; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * y1.val = _; rw [e3]; show _ = y1.val; omega

/-- Where the result's block `q` lies. -/
theorem emb2 (q : Fin 3) (t : Fin cfg0.N) (ht : t.val = 4 * q.val + 3) (y0 : Fin 512) (y1 : Fin 1024) :
    ((cfg0.win 2).blk t).view.emb (ix2 y0 y1) = ix2 ⟨512 * q.val + y0.val, show _ < 1536 by omega⟩ y1 := by
  obtain ⟨-, -, -, -, -, e4, e5⟩ := idx_facts t
  refine funext fun a => Fin.ext ?_
  match a with
  | ⟨0, _⟩ => show win0_2.index _ 0 * 512 + 1 * y0.val = _; rw [e4]; show t.val / 4 * 512 + _ = 512 * q.val + y0.val; omega
  | ⟨1, _⟩ => show win0_2.index _ 1 * 1024 + 1 * y1.val = _; rw [e5]; show _ = y1.val; omega

/-- The result's block `q`, as the pipeline leaves it. -/
theorem final_at (c : Dev nD) (A : FVec Ideal S3x8192x1024 .bf16) (B : FVec Ideal S8192x1024 .bf16) (hp : ∀ (a : Fin 3) (k : Fin 8192) (l : Fin 1024), 64 ≤ l.val % 128 → A (ix3 a k l) = (0 : EReal))
    (hA : m (c.tc.loc main_arg0) = A) (hB : m (c.tc.loc main_arg1) = B) (q : Fin 3) (t : Fin cfg0.N) (e : t = ⟨4 * q.val + 3, show _ < 12 by omega⟩) (y : S512x1024.Idx) :
    (dats m 0 c).after 2 t y = prod A B (((cfg0.win 2).blk t).view.emb y) := by
  subst e
  idx_vars y
  rw [emb2 q _ rfl, after0_2]
  refine (out_sum m c q (ix2 y0 y1)).trans ?_
  unfold prod
  rw [Fin.sum_univ_tiles (N := 8192) 4 2048 rfl]
  exact Finset.sum_congr rfl fun j _ => part_apply m c A B hp hA hB q j y0 y1

/-- What the result array ends holding: the whole product. -/
theorem final (c : Dev nD) (A : FVec Ideal S3x8192x1024 .bf16) (B : FVec Ideal S8192x1024 .bf16) (hp : ∀ (a : Fin 3) (k : Fin 8192) (l : Fin 1024), 64 ≤ l.val % 128 → A (ix3 a k l) = (0 : EReal))
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 12 := t.isLt
  exact final_at m c A B hp hA hB ⟨t.val / 4, by omega⟩ t (Fin.ext (by dsimp only; omega)) y

end Cert.DilGwParts

namespace Cert.DilGwParts

open Cert.Reference18Ideal Cert.Reference18Ideal.Gen Idealize.ShloMosaic Idealize.ShloMosaic.StableHlo

/-- Where the precondition holds the lanes behind each head hold zeros. -/
theorem zeros (A : FVec Ideal S3x8192x1024 .bf16) (B : FVec Ideal S8192x1024 .bf16) (h : Cert.Pre_padded18.fn (F := Ideal) A B = fun _ => 1#1) :
    ∀ (a : Fin 3) (k : Fin 8192) (l : Fin 1024), 64 ≤ l.val % 128 → A (ix3 a k l) = (0 : EReal) := by
  intro a k l hl
  have h0 := congrFun h ix0
  unfold Cert.Pre_padded18.fn at h0
  dsimp only at h0
  haveI : Subsingleton Cert.Pre_padded18.S_.Idx := ⟨fun a b => funext fun x => x.elim0⟩
  have e := Host.reduce_andi_all _ _ _ _ _ h0 (ix4 a k ⟨l.val / 128, by omega⟩ ⟨l.val % 128 - 64, by omega⟩)
  refine Eq.trans ?_ (Cert.Pack.zero_of_cmp _ e)
  pointwise
  exact congrArg (fun l => A (ix3 a k l)) (Fin.ext (by dsimp only; omega))

/-- The reference's product. -/
theorem reference (A : FVec Ideal S3x8192x1024 .bf16) (B : FVec Ideal S8192x1024 .bf16) :
    truncf .bf16 (transpose S1536x1024 [1, 0] (transpose S1024x1536 [1, 0] (Host.dotGeneral dot_S8192x1536_S8192x1024_S1536x1024_0_0_1_1_n_n none (shapeCast _ (transpose S8192x3x8x64 [1, 0, 2, 3] (extractStridedSlice S3x8192x8x64 ![0, 0, 0, 0] (shapeCast _ (extf .f32 A bitsLt_bf16_f32) shapeCasts_S3x8192x1024_S3x8192x8x128) slices_S3x8192x8x128_S3x8192x8x64_0_0_0_0) transposes_S3x8192x8x64_S8192x3x8x64_1_0_2_3) shapeCasts_S8192x3x8x64_S8192x1536) (extf .f32 B bitsLt_bf16_f32)) transposes_S1536x1024_S1024x1536_1_0) transposes_S1024x1536_S1536x1024_1_0) bitsLt_bf16_f32 = prod A B := by
  funext i
  idx_vars i
  show _ = (∑ k : Fin 8192, lane A k i0 * B (ix2 k i1) : EReal)
  unfold lane
  pointwise
  exact Finset.sum_congr rfl fun k _ => congrArg (fun l => (A (ix3 ⟨i0.val / 512, by omega⟩ k l) * B (ix2 k i1) : EReal)) (Fin.ext (by dsimp only; omega))

end Cert.DilGwParts
-- ==== Proof.DilGw.lean ====
/- The weight gradient of the attention's input projection, from the whole of the projection's gradient: what the tiled product leaves is the whole product. -/
module

public import proofs.«01_k».proof.Proof.Gen.Kernel19Ideal.Value
public import proofs.«01_k».proof.Proof.Gen.Reference19Ideal.Run
public import proofs.«01_k».proof.Proof.Gen.Pre_padded19
public import proofs.«01_k».proof.Proof.Pack
public import Idealize.ShloMosaic.Lib.Pointwise
public import Idealize.ShloMosaic.Lib.ReduceAll
public import Idealize.ShloMosaic.Lib.IdealHost
public import Idealize.ShloMosaic.Lib.Pipeline.ValueKit

@[expose] public section

noncomputable section

namespace Cert.DilGw

open Cert.Kernel19Ideal Cert.Kernel19Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S512x1024 .bf16) (h5 : a5.IsWhole) (a6 : Memref sig .tc .vmem S512x1024 .f32) (h6 : a6.IsWhole)

/-- The first tile's product is stored. -/
theorem sout_A
    (c0 : cond0_0 i) (c1 : ¬cond0_1 i) (c2 : ¬cond0_2 i) (x0 x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S2048x1024) hz, shapeCast_self]

/-- A middle tile's product is added. -/
theorem sout_B
    (c0 : ¬cond0_0 i) (c1 : cond0_1 i) (c2 : ¬cond0_2 i) (x0 x1 : Vec F S2048x1024 .bf16) (xs : Vec F S512x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S512x1024) hz, shapeCast_self]

/-- The last tile's product is added, and the sum is the result's block. -/
theorem out_C
    (c0 : ¬cond0_0 i) (c1 : cond0_1 i) (c2 : cond0_2 i) (x0 x1 : Vec F S2048x1024 .bf16) (xs : Vec F S512x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S512x1024) _ hz]
  unfold k0_pay4 k0_pay3
  simp only [View.readAt_eq_ld, h3.read_unread, h4.read_unread, h6.read_unread, View.ld_unit_zero (S := S2048x1024) hz, View.ld_unit_zero (S := S512x1024) hz, shapeCast_self]

variable (m : (ℓ : Loc nD τ sig) → Buf (Elt F) ℓ)

/-- The product of the tiles staged at point `t`. -/
abbrev part (c : Dev nD) (t : Fin cfg0.N) : Vec F S512x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 3) (y : S512x1024.Idx) :
    (outsAt0 m c (4 * q.val + 3) (show _ < 12 by omega)).1 y
      = ∑ j : Fin 4, part m c ⟨4 * q.val + j.val, show _ < 12 by omega⟩ y := by
  rw [out_last m c ⟨4 * q.val + 3, show _ < 12 by omega⟩ (by dsimp only; omega)]
  have e2 := acc_next m c ⟨4 * q.val + 2, show _ < 12 by omega⟩ (by dsimp only; omega)
  have e1 := acc_next m c ⟨4 * q.val + 1, show _ < 12 by omega⟩ (by dsimp only; omega)
  have e0 := acc_first m c ⟨4 * q.val + 0, show _ < 12 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val % 4 ∧ win0_0.index t 1 = t.val / 4 ∧ True ∧ win0_1.index t 0 = t.val % 4 ∧ win0_1.index t 1 = 0 ∧ win0_2.index t 0 = t.val / 4 ∧ win0_2.index t 1 = 0 := by
  decide +kernel

/-- The projection's gradient with its heads side by side. -/
def lane (A : FVec Ideal S8192x3072 .bf16) (k : Fin 8192) (i : Fin 1536) : EReal := A (ix2 k ⟨128 * (i.val / 64) + i.val % 64, by omega⟩)

/-- The product of the transpose of the packed gradient with `B`. -/
def prod (A : FVec Ideal S8192x3072 .bf16) (B : FVec Ideal S8192x1024 .bf16) : FVec Ideal S1536x1024 .bf16 := fun i => ∑ k : Fin 8192, lane A k (i 0) * B (ix2 k (i 1))

/-- The product of a packed tile. -/
theorem mm_apply (z : FVec Ideal S2048x512 .f32) (x1 : FVec Ideal S2048x1024 .bf16) (y0 : Fin 512) (y1 : Fin 1024) :
    matmul dot_S2048x512_S2048x1024_S512x1024_0_0_1_1_n_n none (truncf .bf16 z bitsLt_bf16_f32) x1 (constant S512x1024 .f32 0x00000000#32) (ix2 y0 y1) = (∑ k : Fin 2048, z (ix2 k y0) * x1 (ix2 k y1) : EReal) := by
  pointwise

theorem cast_apply (x0 : Vec Ideal S2048x1024 .bf16) (k : Fin 2048) (l : Fin 1024) :
    (extf (F := Ideal) (φ := .bf16) .f32 x0 bitsLt_bf16_f32) (ix2 k l) = (x0 (ix2 k l) : EReal) := rfl

/-- An entry of the payload, where the lanes behind each head hold zeros. -/
theorem pay_apply (x0 x1 : Vec Ideal S2048x1024 .bf16) (hx : ∀ (k : Fin 2048) (l : Fin 1024), 64 ≤ l.val % 128 → x0 (ix2 k l) = (0 : EReal)) (y0 : Fin 512) (y1 : Fin 1024) :
    k0_pay1 x0 x1 (ix2 y0 y1) = (∑ k : Fin 2048, x0 (ix2 k ⟨128 * (y0.val / 64) + y0.val % 64, by omega⟩) * x1 (ix2 k y1) : EReal) := by
  unfold k0_pay1
  dsimp only
  refine Eq.trans (mm_apply _ x1 y0 y1) (Finset.sum_congr rfl fun k _ => congrArg (fun a : EReal => a * x1 (ix2 k y1)) ?_)
  exact Eq.trans (Cert.Pack.four (R := 2048) (extf .f32 x0 bitsLt_bf16_f32) (fun i l hl => Eq.trans (cast_apply x0 i l) (hx i l hl)) slices_S2048x1024_o0_0_S2048x128 slices_S2048x1024_o0_128_S2048x128 slices_S2048x1024_o0_256_S2048x128 slices_S2048x1024_o0_384_S2048x128 slices_S2048x1024_o0_512_S2048x128 slices_S2048x1024_o0_640_S2048x128 slices_S2048x1024_o0_768_S2048x128 slices_S2048x1024_o0_896_S2048x128 rotates_S2048x128_d1 concatenates_S2048x128_S2048x128_S2048x128_S2048x128_S2048x512_d1 k y0) (cast_apply x0 k _)

/-- The product of the tiles staged at point `4 q + j`, at an index. -/
theorem part_apply (c : Dev nD) (A : FVec Ideal S8192x3072 .bf16) (B : FVec Ideal S8192x1024 .bf16) (hp : ∀ (k : Fin 8192) (l : Fin 3072), 64 ≤ l.val % 128 → A (ix2 k l) = (0 : EReal))
    (hA : m (c.tc.loc main_arg0) = A) (hB : m (c.tc.loc main_arg1) = B) (q : Fin 3) (j : Fin 4) (y0 : Fin 512) (y1 : Fin 1024) :
    part m c ⟨4 * q.val + j.val, show _ < 12 by omega⟩ (ix2 y0 y1)
      = ∑ k : Fin 2048, lane A ⟨j.val * 2048 + k.val, show _ < 8192 by omega⟩ ⟨512 * q.val + y0.val, show _ < 1536 by omega⟩
          * B (ix2 ⟨j.val * 2048 + k.val, show _ < 8192 by omega⟩ y1) := by
  obtain ⟨e0, e1, e6, e2, e3, -, -⟩ := idx_facts ⟨4 * q.val + j.val, show _ < 12 by omega⟩
  unfold part
  refine Eq.trans (pay_apply _ _ ?_ y0 y1) (Finset.sum_congr rfl fun k _ => congrArg₂ (fun a b : EReal => a * b) ?_ ?_)
  · intro k l hl
    refine (show iblk m c 0 ⟨4 * q.val + j.val, show _ < 12 by omega⟩ (ix2 k l) = A (ix2 ⟨j.val * 2048 + k.val, show _ < 8192 by omega⟩ ⟨q.val * 1024 + l.val, show _ < 3072 by omega⟩) from ?_).trans (hp _ _ (by show 64 ≤ (q.val * 1024 + l.val) % 128; omega))
    rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 1024 + 1 * l.val = _; rw [e1]; show (4 * q.val + j.val) / 4 * 1024 + _ = q.val * 1024 + l.val; omega
  · unfold lane
    rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 1024 + 1 * (128 * (y0.val / 64) + y0.val % 64) = _; rw [e1]; show (4 * q.val + j.val) / 4 * 1024 + _ = 128 * ((512 * q.val + y0.val) / 64) + (512 * q.val + y0.val) % 64; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * y1.val = _; rw [e3]; show _ = y1.val; omega

/-- Where the result's block `q` lies. -/
theorem emb2 (q : Fin 3) (t : Fin cfg0.N) (ht : t.val = 4 * q.val + 3) (y0 : Fin 512) (y1 : Fin 1024) :
    ((cfg0.win 2).blk t).view.emb (ix2 y0 y1) = ix2 ⟨512 * q.val + y0.val, show _ < 1536 by omega⟩ y1 := by
  obtain ⟨-, -, -, -, -, e4, e5⟩ := idx_facts t
  refine funext fun a => Fin.ext ?_
  match a with
  | ⟨0, _⟩ => show win0_2.index _ 0 * 512 + 1 * y0.val = _; rw [e4]; show t.val / 4 * 512 + _ = 512 * q.val + y0.val; omega
  | ⟨1, _⟩ => show win0_2.index _ 1 * 1024 + 1 * y1.val = _; rw [e5]; show _ = y1.val; omega

/-- The result's block `q`, as the pipeline leaves it. -/
theorem final_at (c : Dev nD) (A : FVec Ideal S8192x3072 .bf16) (B : FVec Ideal S8192x1024 .bf16) (hp : ∀ (k : Fin 8192) (l : Fin 3072), 64 ≤ l.val % 128 → A (ix2 k l) = (0 : EReal))
    (hA : m (c.tc.loc main_arg0) = A) (hB : m (c.tc.loc main_arg1) = B) (q : Fin 3) (t : Fin cfg0.N) (e : t = ⟨4 * q.val + 3, show _ < 12 by omega⟩) (y : S512x1024.Idx) :
    (dats m 0 c).after 2 t y = prod A B (((cfg0.win 2).blk t).view.emb y) := by
  subst e
  idx_vars y
  rw [emb2 q _ rfl, after0_2]
  refine (out_sum m c q (ix2 y0 y1)).trans ?_
  unfold prod
  rw [Fin.sum_univ_tiles (N := 8192) 4 2048 rfl]
  exact Finset.sum_congr rfl fun j _ => part_apply m c A B hp hA hB q j y0 y1

/-- What the result array ends holding: the whole product. -/
theorem final (c : Dev nD) (A : FVec Ideal S8192x3072 .bf16) (B : FVec Ideal S8192x1024 .bf16) (hp : ∀ (k : Fin 8192) (l : Fin 3072), 64 ≤ l.val % 128 → A (ix2 k l) = (0 : EReal))
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 12 := t.isLt
  exact final_at m c A B hp hA hB ⟨t.val / 4, by omega⟩ t (Fin.ext (by dsimp only; omega)) y

end Cert.DilGw

namespace Cert.DilGw

open Cert.Reference19Ideal Cert.Reference19Ideal.Gen Idealize.ShloMosaic Idealize.ShloMosaic.StableHlo

/-- Where the precondition holds the lanes behind each head hold zeros. -/
theorem zeros (A : FVec Ideal S8192x3072 .bf16) (B : FVec Ideal S8192x1024 .bf16) (h : Cert.Pre_padded19.fn (F := Ideal) A B = fun _ => 1#1) :
    ∀ (k : Fin 8192) (l : Fin 3072), 64 ≤ l.val % 128 → A (ix2 k l) = (0 : EReal) := by
  intro k l hl
  have h0 := congrFun h ix0
  unfold Cert.Pre_padded19.fn at h0
  dsimp only at h0
  haveI : Subsingleton Cert.Pre_padded19.S_.Idx := ⟨fun a b => funext fun x => x.elim0⟩
  have e := Host.reduce_andi_all _ _ _ _ _ h0 (ix3 k ⟨l.val / 128, by omega⟩ ⟨l.val % 128 - 64, by omega⟩)
  refine Eq.trans ?_ (Cert.Pack.zero_of_cmp _ e)
  pointwise
  exact congrArg (fun l => A (ix2 k l)) (Fin.ext (by dsimp only; omega))

/-- The reference's product. -/
theorem reference (A : FVec Ideal S8192x3072 .bf16) (B : FVec Ideal S8192x1024 .bf16) :
    truncf .bf16 (transpose S1536x1024 [1, 0] (transpose S1024x1536 [1, 0] (Host.dotGeneral dot_S8192x1536_S8192x1024_S1536x1024_0_0_1_1_n_n none (shapeCast _ (extractStridedSlice S8192x24x64 ![0, 0, 0] (shapeCast _ (extf .f32 A bitsLt_bf16_f32) shapeCasts_S8192x3072_S8192x24x128) slices_S8192x24x128_S8192x24x64_0_0_0) shapeCasts_S8192x24x64_S8192x1536) (extf .f32 B bitsLt_bf16_f32)) transposes_S1536x1024_S1024x1536_1_0) transposes_S1024x1536_S1536x1024_1_0) bitsLt_bf16_f32 = prod A B := by
  funext i
  idx_vars i
  show _ = (∑ k : Fin 8192, lane A k i0 * B (ix2 k i1) : EReal)
  unfold lane
  pointwise
  exact Finset.sum_congr rfl fun k _ => congrArg (fun l => (A (ix2 k l) * B (ix2 k i1) : EReal)) (Fin.ext (by dsimp only; omega))

end Cert.DilGw
-- ==== Proof.DilDhn.lean ====
/- The gradient of the attention's input, from the whole of the projection's gradient: what the blocks hold. -/
module

public import proofs.«01_k».proof.Proof.Gen.Kernel20Ideal.Value
public import proofs.«01_k».proof.Proof.Gen.Reference20Ideal.Run
public import proofs.«01_k».proof.Proof.Gen.Pre_padded20
public import proofs.«01_k».proof.Proof.Pack
public import Idealize.ShloMosaic.Lib.Pointwise
public import Idealize.ShloMosaic.Lib.ReduceAll
public import Idealize.ShloMosaic.Lib.IdealHost
public import Idealize.ShloMosaic.Lib.Pipeline.ValueKit

@[expose] public section

noncomputable section

namespace Cert.DilDhn

open Cert.Kernel20Ideal Cert.Kernel20Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]

/-- The block's product, its heads laid side by side. -/
abbrev block (x0 : Vec F S1024x3072 .bf16) (x1 : Vec F S1536x1024 .bf16) : FVec F S1024x1024 .f32 :=
  k0_pay1 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) 64#32 x1

/-- The result's block is the product. -/
theorem out_0 (c : Dev nD) (i : grid0.Coords) (a3 : Memref sig .tc .vmem S1024x3072 .bf16) (h3 : a3.IsWhole) (a4 : Memref sig .tc .vmem S1536x1024 .bf16) (h4 : a4.IsWhole) (a5 : Memref sig .tc .vmem S1024x1024 .f32) (h5 : a5.IsWhole) (a6 : Memref sig .tc .vmem S8x128 .f32) (h6 : a6.IsWhole)
    (x0 : Vec F S1024x3072 .bf16) (x1 : Vec F S1536x1024 .bf16) : out0_A_2 c i a3 h3 a4 h4 a5 h5 a6 h6 x0 x1 = block x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S1024x3072) hz, View.ld_unit_zero (S := S1536x1024) hz]

end

variable {m : (ℓ : Loc nD τ sig) → Buf (Elt Ideal) ℓ}

/-- Where the tiles lie. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

/-- The projection's gradient with its heads side by side. -/
def lane (A : FVec Ideal S8192x3072 .bf16) (i : Fin 8192) (k : Fin 1536) : EReal := A (ix2 i ⟨128 * (k.val / 64) + k.val % 64, by omega⟩)

/-- The product. -/
def prod (A : FVec Ideal S8192x3072 .bf16) (B : FVec Ideal S1536x1024 .bf16) : FVec Ideal S8192x1024 .f32 := fun i => ∑ k : Fin 1536, lane A (i 0) k * B (ix2 k (i 1))

/-- The product of a packed tile. -/
theorem mm_apply (z : FVec Ideal S1024x1536 .f32) (x1 : FVec Ideal S1536x1024 .bf16) (y0 y1 : Fin 1024) :
    matmul dot_S1024x1536_S1536x1024_S1024x1024_1_0_0_1_n_n none (truncf .bf16 z bitsLt_bf16_f32) x1 (constant S1024x1024 .f32 0x00000000#32) (ix2 y0 y1) = (∑ k : Fin 1536, z (ix2 y0 k) * x1 (ix2 k y1) : EReal) := by
  pointwise

/-- An entry of the block, where the lanes behind each head hold zeros. -/
theorem block_apply (x0 : Vec Ideal S1024x3072 .bf16) (x1 : Vec Ideal S1536x1024 .bf16) (hx : ∀ (k : Fin 1024) (l : Fin 3072), 64 ≤ l.val % 128 → x0 (ix2 k l) = (0 : EReal)) (y0 y1 : Fin 1024) :
    block x0 x1 (ix2 y0 y1) = (∑ k : Fin 1536, x0 (ix2 y0 ⟨128 * (k.val / 64) + k.val % 64, by omega⟩) * x1 (ix2 k y1) : EReal) := by
  unfold block k0_pay1 k0_pay2 k0_pay3 k0_pay4 k0_pay5 k0_pay6 k0_pay7 k0_pay8 k0_pay9 k0_pay10 k0_pay11 k0_pay12 k0_pay13 k0_pay14
  dsimp only
  refine Eq.trans (mm_apply _ x1 y0 y1) (Finset.sum_congr rfl fun k _ => congrArg (fun a : EReal => a * x1 (ix2 k y1)) ?_)
  exact Cert.Pack.twelve (R := 1024) (extf (F := Ideal) (φ := .bf16) .f32 x0 bitsLt_bf16_f32) hx slices_S1024x3072_o0_0_S1024x128 slices_S1024x3072_o0_128_S1024x128 slices_S1024x3072_o0_256_S1024x128 slices_S1024x3072_o0_384_S1024x128 slices_S1024x3072_o0_512_S1024x128 slices_S1024x3072_o0_640_S1024x128 slices_S1024x3072_o0_768_S1024x128 slices_S1024x3072_o0_896_S1024x128 slices_S1024x3072_o0_1024_S1024x128 slices_S1024x3072_o0_1152_S1024x128 slices_S1024x3072_o0_1280_S1024x128 slices_S1024x3072_o0_1408_S1024x128 slices_S1024x3072_o0_1536_S1024x128 slices_S1024x3072_o0_1664_S1024x128 slices_S1024x3072_o0_1792_S1024x128 slices_S1024x3072_o0_1920_S1024x128 slices_S1024x3072_o0_2048_S1024x128 slices_S1024x3072_o0_2176_S1024x128 slices_S1024x3072_o0_2304_S1024x128 slices_S1024x3072_o0_2432_S1024x128 slices_S1024x3072_o0_2560_S1024x128 slices_S1024x3072_o0_2688_S1024x128 slices_S1024x3072_o0_2816_S1024x128 slices_S1024x3072_o0_2944_S1024x128 rotates_S1024x128_d1 concatenates_S1024x128_S1024x128_S1024x128_S1024x128_S1024x128_S1024x128_S1024x128_S1024x128_S1024x128_S1024x128_S1024x128_S1024x128_S1024x1536_d1 y0 k

variable (c : Dev nD) (A : FVec Ideal S8192x3072 .bf16) (B : FVec Ideal S1536x1024 .bf16) (hp : ∀ (k : Fin 8192) (l : Fin 3072), 64 ≤ l.val % 128 → A (ix2 k l) = (0 : EReal))

include hp in
/-- What the result array ends holding: the whole product. -/
theorem final (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  obtain ⟨p0, q0, p1, q1, p2, q2⟩ := idx_facts t
  have hN : t.val < 8 := t.isLt
  rw [after0_2]
  unfold outsAt0
  rw [out_0]
  idx_vars y
  have e2 : ((cfg0.win 2).blk t).view.emb (ix2 y0 y1) = ix2 ⟨1024 * t.val + y0.val, show _ < 8192 by omega⟩ y1 := by
    refine funext fun a => Fin.ext ?_
    match a with
    | ⟨0, _⟩ => show win0_2.index _ 0 * 1024 + 1 * y0.val = _; rw [p2]; show _ = 1024 * t.val + y0.val; omega
    | ⟨1, _⟩ => show win0_2.index _ 1 * 1024 + 1 * y1.val = _; rw [q2]; show _ = y1.val; omega
  rw [e2]
  have eA : ∀ (k : Fin 1024) (l : Fin 3072), iblk m c 0 t (ix2 k l) = A (ix2 ⟨1024 * t.val + k.val, show _ < 8192 by omega⟩ l) := by
    intro k l
    rw [← hA]
    refine congrArg (m (c.tc.loc main_arg0)) (funext fun a => Fin.ext ?_)
    match a with
    | ⟨0, _⟩ => show win0_0.index _ 0 * 1024 + 1 * k.val = _; rw [p0]; show _ = 1024 * t.val + k.val; omega
    | ⟨1, _⟩ => show win0_0.index _ 1 * 3072 + 1 * l.val = _; rw [q0]; show _ = l.val; omega
  refine Eq.trans (block_apply _ _ (fun k l hl => (eA k l).trans (hp _ _ hl)) y0 y1) ?_
  show _ = (∑ k : Fin 1536, lane A ⟨1024 * t.val + y0.val, show _ < 8192 by omega⟩ k * B (ix2 k y1) : EReal)
  refine Finset.sum_congr rfl fun k _ => congrArg₂ (fun a b : EReal => a * b) (eA _ _) ?_
  rw [← hB]
  refine congrArg (m (c.tc.loc main_arg1)) (funext fun a => Fin.ext ?_)
  match a with
  | ⟨0, _⟩ => show win0_1.index _ 0 * 1536 + 1 * k.val = _; rw [p1]; show _ = k.val; omega
  | ⟨1, _⟩ => show win0_1.index _ 1 * 1024 + 1 * y1.val = _; rw [q1]; show _ = y1.val; omega

end Cert.DilDhn

namespace Cert.DilDhn

open Cert.Reference20Ideal Cert.Reference20Ideal.Gen Idealize.ShloMosaic Idealize.ShloMosaic.StableHlo

/-- Where the precondition holds the lanes behind each head hold zeros. -/
theorem zeros (A : FVec Ideal S8192x3072 .bf16) (B : FVec Ideal S1536x1024 .bf16) (h : Cert.Pre_padded20.fn (F := Ideal) A B = fun _ => 1#1) :
    ∀ (k : Fin 8192) (l : Fin 3072), 64 ≤ l.val % 128 → A (ix2 k l) = (0 : EReal) := by
  intro k l hl
  have h0 := congrFun h ix0
  unfold Cert.Pre_padded20.fn at h0
  dsimp only at h0
  haveI : Subsingleton Cert.Pre_padded20.S_.Idx := ⟨fun a b => funext fun x => x.elim0⟩
  have e := Host.reduce_andi_all _ _ _ _ _ h0 (ix3 k ⟨l.val / 128, by omega⟩ ⟨l.val % 128 - 64, by omega⟩)
  refine Eq.trans ?_ (Cert.Pack.zero_of_cmp _ e)
  pointwise
  exact congrArg (fun l => A (ix2 k l)) (Fin.ext (by dsimp only; omega))

/-- The reference's product. -/
theorem reference (A : FVec Ideal S8192x3072 .bf16) (B : FVec Ideal S1536x1024 .bf16) :
    Host.dotGeneral dot_S8192x1536_S1024x1536_S8192x1024_1_1_0_0_n_n none (shapeCast _ (extractStridedSlice S8192x24x64 ![0, 0, 0] (shapeCast _ (extf .f32 A bitsLt_bf16_f32) shapeCasts_S8192x3072_S8192x24x128) slices_S8192x24x128_S8192x24x64_0_0_0) shapeCasts_S8192x24x64_S8192x1536) (transpose S1024x1536 [1, 0] (extf .f32 B bitsLt_bf16_f32) transposes_S1536x1024_S1024x1536_1_0) = prod A B := by
  funext i
  idx_vars i
  show _ = (∑ k : Fin 1536, lane A i0 k * B (ix2 k i1) : EReal)
  unfold lane
  pointwise
  exact Finset.sum_congr rfl fun k _ => congrArg (fun l => (A (ix2 i0 l) * B (ix2 k i1) : EReal)) (Fin.ext (by dsimp only; omega))

end Cert.DilDhn
-- ==== Proof.DilDhnParts.lean ====
/- The gradient of the attention's input, from the three parts of the projection's gradient, added to another gradient: what the blocks hold. -/
module

public import proofs.«01_k».proof.Proof.Gen.Kernel21Ideal.Value
public import proofs.«01_k».proof.Proof.Gen.Reference21Ideal.Run
public import proofs.«01_k».proof.Proof.Gen.Pre_padded21
public import proofs.«01_k».proof.Proof.Pack
public import Idealize.ShloMosaic.Lib.Pointwise
public import Idealize.ShloMosaic.Lib.ReduceAll
public import Idealize.ShloMosaic.Lib.IdealHost
public import Idealize.ShloMosaic.Lib.Pipeline.ValueKit

@[expose] public section

noncomputable section

namespace Cert.DilDhnParts

open Cert.Kernel21Ideal Cert.Kernel21Ideal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

section
variable {F : FTy → Type} [FloatOps F]
variable (c : Dev nD) (i : grid0.Coords) (a3 : Memref sig .tc .vmem S1x1024x1024 .bf16) (h3 : a3.IsWhole) (a4 : Memref sig .tc .vmem S512x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)

/-- The first part's product is stored. -/
theorem sout_A
    (c0 : cond0_0 i) (c1 : ¬cond0_1 i) (c2 : ¬cond0_2 i) (x0 : Vec F S1x1024x1024 .bf16) (x1 : Vec F S512x1024 .bf16) (x2 : Vec F S1024x1024 .f32) :
    sout0_A_0 c i a3 h3 a4 h4 a5 h5 a6 h6 a7 h7 c0 c1 c2 x0 x1 x2 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S1x1024x1024) hz3, View.ld_unit_zero (S := S512x1024) hz, View.ld_unit_zero (S := S1024x1024) hz, shapeCast_self]

/-- The second part's product is added. -/
theorem sout_B
    (c0 : ¬cond0_0 i) (c1 : cond0_1 i) (c2 : ¬cond0_2 i) (x0 : Vec F S1x1024x1024 .bf16) (x1 : Vec F S512x1024 .bf16) (x2 xs : Vec F S1024x1024 .f32) :
    sout0_B_0 c i a3 h3 a4 h4 a5 h5 a6 h6 a7 h7 c0 c1 c2 x0 x1 x2 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h7.read_unread, View.ld_unit_zero (S := S1x1024x1024) hz3, View.ld_unit_zero (S := S512x1024) hz, View.ld_unit_zero (S := S1024x1024) hz, shapeCast_self]

/-- The last part's product is added, and then the other gradient. -/
theorem out_C
    (c0 : ¬cond0_0 i) (c1 : cond0_1 i) (c2 : cond0_2 i) (x0 : Vec F S1x1024x1024 .bf16) (x1 : Vec F S512x1024 .bf16) (x2 xs : Vec F S1024x1024 .f32) :
    out0_C_3 c i a3 h3 a4 h4 a5 h5 a6 h6 a7 h7 c0 c1 c2 x0 x1 x2 xs = addf (addf xs (k0_pay1 x0 x1)) x2 := by
  unfold out0_C_3
  rw [View.read_writes_eq_canon _ _ _ (by apply cover0_C_3)]
  unfold kernelRun0_C
  dsimp only
  sl_unfold_words
  rw [View.canon_unit_zero hz]
  rw [View.readCov_unit_zero (S := S1024x1024) _ hz]
  unfold k0_pay4 k0_pay3
  simp only [View.readAt_eq_ld, h3.read_unread, h4.read_unread, h5.read_unread, h7.read_unread, View.ld_unit_zero (S := S1x1024x1024) hz3, View.ld_unit_zero (S := S512x1024) hz, View.ld_unit_zero (S := S1024x1024) hz, shapeCast_self]

variable (m : (ℓ : Loc nD τ sig) → Buf (Elt F) ℓ)

/-- The product of the tiles staged at point `t`. -/
abbrev part (c : Dev nD) (t : Fin cfg0.N) : Vec F S1024x1024 .f32 := k0_pay1 (iblk m c 0 t) (iblk m c 1 t)

theorem acc_first (c : Dev nD) (t : Fin cfg0.N) (h : t.val % 3 = 0) : (outsAt0 m c t.val t.isLt).2 = part m c t := by
  rw [outsAt0_A m c t h (by omega) (by omega)]
  dsimp only
  rw [sout_A]

theorem acc_next (c : Dev nD) (t : Fin cfg0.N) (h : t.val % 3 = 1) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 3 = 2) :
    (outsAt0 m c t.val t.isLt).1 = addf (F := F) (φ := .f32) (addf (F := F) (φ := .f32) (outsAt0 m c (t.val - 1) (Nat.lt_of_le_of_lt (Nat.sub_le _ _) t.isLt)).2 (part m c t)) (iblk m c 2 t) := by
  rw [outsAt0_C m c t (by omega) (by omega) (by omega)]
  dsimp only
  rw [out_C]

end

variable (m : (ℓ : Loc nD τ sig) → Buf (Elt Ideal) ℓ)

/-- The result's block `q` is the sum of its three tiles' products and the other gradient. -/
theorem out_sum (c : Dev nD) (q : Fin 8) (y : S1024x1024.Idx) :
    (outsAt0 m c (3 * q.val + 2) (show _ < 24 by omega)).1 y
      = ((∑ j : Fin 3, part m c ⟨3 * q.val + j.val, show _ < 24 by omega⟩ y) + iblk m c 2 ⟨3 * q.val + 2, show _ < 24 by omega⟩ y : EReal) := by
  rw [out_last m c ⟨3 * q.val + 2, show _ < 24 by omega⟩ (by dsimp only; omega)]
  have e1 := acc_next m c ⟨3 * q.val + 1, show _ < 24 by omega⟩ (by dsimp only; omega)
  have e0 := acc_first m c ⟨3 * q.val + 0, show _ < 24 by omega⟩ (by dsimp only; omega)
  dsimp only [Nat.add_sub_cancel] at e0 e1 ⊢
  rw [Fin.sum_univ_three]
  simp only [show 3 * q.val + 2 - 1 = 3 * q.val + 1 by omega, show 3 * q.val + 1 - 1 = 3 * q.val + 0 by omega] at e1 ⊢
  rw [e1, e0]
  rfl

/-- Where the tiles lie. -/
theorem idx_facts : ∀ t : Fin cfg0.N, win0_0.index t 0 = t.val % 3 ∧ win0_0.index t 1 = t.val / 3 ∧ win0_0.index t 2 = 0 ∧ win0_1.index t 0 = t.val % 3 ∧ win0_1.index t 1 = 0 ∧ win0_2.index t 0 = t.val / 3 ∧ win0_2.index t 1 = 0 ∧ win0_3.index t 0 = t.val / 3 ∧ win0_3.index t 1 = 0 := by
  decide +kernel

/-- The projection's gradient with its heads side by side. -/
def lane (A : FVec Ideal S3x8192x1024 .bf16) (i : Fin 8192) (k : Fin 1536) : EReal := A (ix3 ⟨k.val / 512, by omega⟩ i ⟨128 * (k.val % 512 / 64) + k.val % 64, by omega⟩)

/-- The product and the other gradient. -/
def total (A : FVec Ideal S3x8192x1024 .bf16) (B : FVec Ideal S1536x1024 .bf16) (D : FVec Ideal S8192x1024 .f32) : FVec Ideal S8192x1024 .f32 := fun i => (∑ k : Fin 1536, lane A (i 0) k * B (ix2 k (i 1)) : EReal) + D (ix2 (i 0) (i 1))

/-- The product of a packed tile. -/
theorem mm_apply (z : FVec Ideal S1024x512 .f32) (x1 : FVec Ideal S512x1024 .bf16) (y0 y1 : Fin 1024) :
    matmul dot_S1024x512_S512x1024_S1024x1024_1_0_0_1_n_n none (truncf .bf16 z bitsLt_bf16_f32) x1 (constant S1024x1024 .f32 0x00000000#32) (ix2 y0 y1) = (∑ k : Fin 512, z (ix2 y0 k) * x1 (ix2 k y1) : EReal) := by
  pointwise

theorem cast_apply (x0 : Vec Ideal S1x1024x1024 .bf16) (k l : Fin 1024) :
    (extf (F := Ideal) (φ := .bf16) .f32 (shapeCast S1024x1024 x0 shapeCasts_S1x1024x1024_S1024x1024) bitsLt_bf16_f32) (ix2 k l) = (x0 (ix3 0 k l) : EReal) := by
  pointwise

/-- An entry of the payload, where the lanes behind each head hold zeros. -/
theorem pay_apply (x0 : Vec Ideal S1x1024x1024 .bf16) (x1 : Vec Ideal S512x1024 .bf16) (hx : ∀ (k l : Fin 1024), 64 ≤ l.val % 128 → x0 (ix3 0 k l) = (0 : EReal)) (y0 y1 : Fin 1024) :
    k0_pay1 x0 x1 (ix2 y0 y1) = (∑ k : Fin 512, x0 (ix3 0 y0 ⟨128 * (k.val / 64) + k.val % 64, by omega⟩) * x1 (ix2 k y1) : EReal) := by
  unfold k0_pay1
  dsimp only
  refine Eq.trans (mm_apply _ x1 y0 y1) (Finset.sum_congr rfl fun k _ => congrArg (fun a : EReal => a * x1 (ix2 k y1)) ?_)
  exact Eq.trans (Cert.Pack.four (R := 1024) (extf .f32 (shapeCast S1024x1024 x0 shapeCasts_S1x1024x1024_S1024x1024) bitsLt_bf16_f32) (fun i l hl => Eq.trans (cast_apply x0 i l) (hx i l hl)) slices_S1024x1024_o0_0_S1024x128 slices_S1024x1024_o0_128_S1024x128 slices_S1024x1024_o0_256_S1024x128 slices_S1024x1024_o0_384_S1024x128 slices_S1024x1024_o0_512_S1024x128 slices_S1024x1024_o0_640_S1024x128 slices_S1024x1024_o0_768_S1024x128 slices_S1024x1024_o0_896_S1024x128 rotates_S1024x128_d1 concatenates_S1024x128_S1024x128_S1024x128_S1024x128_S1024x512_d1 y0 k) (cast_apply x0 y0 _)

/-- The product of the tiles staged at point `3 q + j`, at an index. -/
theorem part_apply (c : Dev nD) (A : FVec Ideal S3x8192x1024 .bf16) (B : FVec Ideal S1536x1024 .bf16) (D : FVec Ideal S8192x1024 .f32) (hp : ∀ (a : Fin 3) (k : Fin 8192) (l : Fin 1024), 64 ≤ l.val % 128 → A (ix3 a k l) = (0 : EReal))
    (hA : m (c.tc.loc main_arg0) = A) (hB : m (c.tc.loc main_arg1) = B) (q : Fin 8) (j : Fin 3) (y0 y1 : Fin 1024) :
    part m c ⟨3 * q.val + j.val, show _ < 24 by omega⟩ (ix2 y0 y1)
      = ∑ k : Fin 512, lane A ⟨1024 * q.val + y0.val, show _ < 8192 by omega⟩ ⟨j.val * 512 + k.val, show _ < 1536 by omega⟩
          * B (ix2 ⟨j.val * 512 + k.val, show _ < 1536 by omega⟩ y1) := by
  obtain ⟨e0, e1, e6, e2, e3, -, -, -, -⟩ := idx_facts ⟨3 * q.val + j.val, show _ < 24 by omega⟩
  have eA : ∀ (k l : Fin 1024), iblk m c 0 ⟨3 * q.val + j.val, show _ < 24 by omega⟩ (ix3 0 k l) = A (ix3 j ⟨1024 * q.val + k.val, show _ < 8192 by omega⟩ l) := by
    intro k l
    rw [← hA]
    refine congrArg (m (c.tc.loc main_arg0)) (funext fun a => Fin.ext ?_)
    match a with
    | ⟨0, _⟩ => show win0_0.index _ 0 * 1 + 1 * 0 = _; rw [e0]; show (3 * q.val + j.val) % 3 * 1 + 1 * 0 = j.val; omega
    | ⟨1, _⟩ => show win0_0.index _ 1 * 1024 + 1 * k.val = _; rw [e1]; show (3 * q.val + j.val) / 3 * 1024 + _ = 1024 * q.val + k.val; omega
    | ⟨2, _⟩ => show win0_0.index _ 2 * 1024 + 1 * l.val = _; rw [e6]; show _ = l.val; omega
  unfold part
  refine Eq.trans (pay_apply _ _ (fun k l hl => (eA k l).trans (hp _ _ _ hl)) y0 y1) (Finset.sum_congr rfl fun k _ => congrArg₂ (fun a b : EReal => a * b) ((eA _ _).trans ?_) ?_)
  · unfold lane
    refine congrArg A (congrArg₂ (fun a b => ix3 a _ b) (Fin.ext ?_) (Fin.ext ?_))
    · show j.val = (j.val * 512 + k.val) / 512; omega
    · show 128 * (k.val / 64) + k.val % 64 = 128 * ((j.val * 512 + k.val) % 512 / 64) + (j.val * 512 + k.val) % 64; omega
  · rw [← hB]
    refine congrArg (m (c.tc.loc main_arg1)) (funext fun a => Fin.ext ?_)
    match a with
    | ⟨0, _⟩ => show win0_1.index _ 0 * 512 + 1 * k.val = _; rw [e2]; show (3 * q.val + j.val) % 3 * 512 + _ = j.val * 512 + k.val; omega
    | ⟨1, _⟩ => show win0_1.index _ 1 * 1024 + 1 * y1.val = _; rw [e3]; show _ = y1.val; omega

/-- Where the result's block `q` lies. -/
theorem emb3 (q : Fin 8) (t : Fin cfg0.N) (ht : t.val = 3 * q.val + 2) (y0 y1 : Fin 1024) :
    ((cfg0.win 3).blk t).view.emb (ix2 y0 y1) = ix2 ⟨1024 * q.val + y0.val, show _ < 8192 by omega⟩ y1 := by
  obtain ⟨-, -, -, -, -, -, -, o0, o1⟩ := idx_facts t
  refine funext fun a => Fin.ext ?_
  match a with
  | ⟨0, _⟩ => show win0_3.index _ 0 * 1024 + 1 * y0.val = _; rw [o0]; show t.val / 3 * 1024 + _ = 1024 * q.val + y0.val; omega
  | ⟨1, _⟩ => show win0_3.index _ 1 * 1024 + 1 * y1.val = _; rw [o1]; show _ = y1.val; omega

/-- The result's block `q`, as the pipeline leaves it. -/
theorem final_at (c : Dev nD) (A : FVec Ideal S3x8192x1024 .bf16) (B : FVec Ideal S1536x1024 .bf16) (D : FVec Ideal S8192x1024 .f32) (hp : ∀ (a : Fin 3) (k : Fin 8192) (l : Fin 1024), 64 ≤ l.val % 128 → A (ix3 a k l) = (0 : EReal))
    (hA : m (c.tc.loc main_arg0) = A) (hB : m (c.tc.loc main_arg1) = B) (hD : m (c.tc.loc main_arg2) = D) (q : Fin 8) (t : Fin cfg0.N) (e : t = ⟨3 * q.val + 2, show _ < 24 by omega⟩) (y : S1024x1024.Idx) :
    (dats m 0 c).after 3 t y = total A B D (((cfg0.win 3).blk t).view.emb y) := by
  subst e
  idx_vars y
  obtain ⟨-, -, -, -, -, d0, d1, -, -⟩ := idx_facts ⟨3 * q.val + 2, show _ < 24 by omega⟩
  rw [emb3 q _ rfl, after0_3]
  refine (out_sum m c q (ix2 y0 y1)).trans ?_
  show _ = ((∑ k : Fin 1536, lane A ⟨1024 * q.val + y0.val, show _ < 8192 by omega⟩ k * B (ix2 k y1)) + D (ix2 ⟨1024 * q.val + y0.val, show _ < 8192 by omega⟩ y1) : EReal)
  refine congrArg₂ (fun a b : EReal => a + b) ?_ ?_
  · rw [Fin.sum_univ_tiles (N := 1536) 3 512 rfl]
    exact Finset.sum_congr rfl fun j _ => part_apply m c A B D hp hA hB q j y0 y1
  · rw [← hD]
    refine congrArg (m (c.tc.loc main_arg2)) (funext fun a => Fin.ext ?_)
    match a with
    | ⟨0, _⟩ => show win0_2.index _ 0 * 1024 + 1 * y0.val = _; rw [d0]; show (3 * q.val + 2) / 3 * 1024 + _ = 1024 * q.val + y0.val; omega
    | ⟨1, _⟩ => show win0_2.index _ 1 * 1024 + 1 * y1.val = _; rw [d1]; show _ = y1.val; omega

/-- What the result array ends holding. -/
theorem final (c : Dev nD) (A : FVec Ideal S3x8192x1024 .bf16) (B : FVec Ideal S1536x1024 .bf16) (D : FVec Ideal S8192x1024 .f32) (hp : ∀ (a : Fin 3) (k : Fin 8192) (l : Fin 1024), 64 ≤ l.val % 128 → A (ix3 a k l) = (0 : EReal))
    (hA : m (c.tc.loc main_arg0) = A) (hB : m (c.tc.loc main_arg1) = B) (hD : m (c.tc.loc main_arg2) = D) :
    (dats m 0 c).arrAt 3 cfg0.N = total A B D := by
  refine (dats m 0 c).arrAt_eq_of_covers 3 _ (by decide +kernel) fun t hf y => ?_
  have hm : t.val % 3 = 2 := (flush0_3 t).mp hf
  have hN : t.val < 24 := t.isLt
  exact final_at m c A B D hp hA hB hD ⟨t.val / 3, by omega⟩ t (Fin.ext (by dsimp only; omega)) y

end Cert.DilDhnParts

namespace Cert.DilDhnParts

open Cert.Reference21Ideal Cert.Reference21Ideal.Gen Idealize.ShloMosaic Idealize.ShloMosaic.StableHlo

/-- Where the precondition holds the lanes behind each head hold zeros. -/
theorem zeros (A : FVec Ideal S3x8192x1024 .bf16) (B : FVec Ideal S1536x1024 .bf16) (D : FVec Ideal S8192x1024 .f32) (h : Cert.Pre_padded21.fn (F := Ideal) A B D = fun _ => 1#1) :
    ∀ (a : Fin 3) (k : Fin 8192) (l : Fin 1024), 64 ≤ l.val % 128 → A (ix3 a k l) = (0 : EReal) := by
  intro a k l hl
  have h0 := congrFun h ix0
  unfold Cert.Pre_padded21.fn at h0
  dsimp only at h0
  haveI : Subsingleton Cert.Pre_padded21.S_.Idx := ⟨fun a b => funext fun x => x.elim0⟩
  have e := Host.reduce_andi_all _ _ _ _ _ h0 (ix4 a k ⟨l.val / 128, by omega⟩ ⟨l.val % 128 - 64, by omega⟩)
  refine Eq.trans ?_ (Cert.Pack.zero_of_cmp _ e)
  pointwise
  exact congrArg (fun l => A (ix3 a k l)) (Fin.ext (by dsimp only; omega))

/-- The reference's gradient. -/
theorem reference (A : FVec Ideal S3x8192x1024 .bf16) (B : FVec Ideal S1536x1024 .bf16) (D : FVec Ideal S8192x1024 .f32) :
    addf D (Host.dotGeneral dot_S8192x1536_S1024x1536_S8192x1024_1_1_0_0_n_n none (shapeCast _ (transpose S8192x3x8x64 [1, 0, 2, 3] (extractStridedSlice S3x8192x8x64 ![0, 0, 0, 0] (shapeCast _ (extf .f32 A bitsLt_bf16_f32) shapeCasts_S3x8192x1024_S3x8192x8x128) slices_S3x8192x8x128_S3x8192x8x64_0_0_0_0) transposes_S3x8192x8x64_S8192x3x8x64_1_0_2_3) shapeCasts_S8192x3x8x64_S8192x1536) (transpose S1024x1536 [1, 0] (extf .f32 B bitsLt_bf16_f32) transposes_S1536x1024_S1024x1536_1_0)) = total A B D := by
  funext i
  idx_vars i
  show _ = ((∑ k : Fin 1536, lane A i0 k * B (ix2 k i1)) + D (ix2 i0 i1) : EReal)
  unfold lane
  pointwise
  rw [add_comm]
  exact congrArg (fun s : EReal => s + D (ix2 i0 i1)) (Finset.sum_congr rfl fun k _ => congrArg (fun l => (A (ix3 ⟨k.val / 512, by omega⟩ i0 l) * B (ix2 k i1) : EReal)) (Fin.ext (by dsimp only; omega)))

end Cert.DilDhnParts
-- ==== Proof.DilDhnNorm.lean ====
/- The gradient of the attention's input from the three parts of the projection's gradient, taken on through the norm before it. -/
module

public import proofs.«01_k».proof.Proof.Gen.Kernel22Ideal.Value
public import proofs.«01_k».proof.Proof.Gen.Reference22Ideal.Run
public import proofs.«01_k».proof.Proof.Gen.Pre_padded22
public import proofs.«01_k».proof.Proof.DilDhnParts
public import proofs.«01_k».proof.Proof.FfnDhn

@[expose] public section

noncomputable section

namespace Cert.DilDhnNorm

open Cert.Kernel22Ideal Cert.Kernel22Ideal.Gen Idealize.ShloMosaic Idealize.ShloMosaic.TcCoe Idealize.SL.Sem
open Cert.FfnDhn (hz hz3)

section
variable {F : FTy → Type} [FloatOps F]
variable (c : Dev nD) (i : grid0.Coords) (a3 : Memref sig .tc .vmem S1x512x1024 .bf16) (h3 : a3.IsWhole) (a4 : Memref sig .tc .vmem S512x1024 .bf16) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x1024 .f32) (h11 : a11.IsWhole) (a12 : Memref sig .tc .vmem S512x1024 .f32) (h12 : a12.IsWhole)
  (x0 : Vec F S1x512x1024 .bf16) (x1 : Vec F S512x1024 .bf16) (x2 : Vec F S512x1024 .f32) (x3 : Vec F S512x1024 .f32) (x4 : Vec F S1x1024 .f32) (x5 : Vec F S512x1024 .f32) (xo : Vec F S1x1024 .f32) (xs : Vec F S512x1024 .f32)

/-- The first part's product is stored. -/
theorem sout_A (c0 : cond0_0 i) (c1 : ¬cond0_1 i) (c2 : ¬cond0_2 i) : sout0_A_0 c i a3 h3 a4 h4 a5 h5 a6 h6 a7 h7 a8 h8 a9 h9 a10 h10 a11 h11 a12 h12 c0 c1 c2 x0 x1 x2 x3 x4 x5 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, h5.read_unread, h6.read_unread, h7.read_unread, h8.read_unread, h11.read_unread, h12.read_unread, View.ld_unit_zero (S := S1x512x1024) hz3, View.ld_unit_zero (S := S512x1024) hz, View.ld_unit_zero (S := S1x1024) hz, shapeCast_self]

/-- The second part's product is added. -/
theorem sout_B (c0 : ¬cond0_0 i) (c1 : cond0_1 i) (c2 : ¬cond0_2 i) : sout0_B_0 c i a3 h3 a4 h4 a5 h5 a6 h6 a7 h7 a8 h8 a9 h9 a10 h10 a11 h11 a12 h12 c0 c1 c2 x0 x1 x2 x3 x4 x5 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h5.read_unread, h6.read_unread, h7.read_unread, h8.read_unread, h11.read_unread, h12.read_unread, View.ld_unit_zero (S := S1x512x1024) hz3, View.ld_unit_zero (S := S512x1024) hz, View.ld_unit_zero (S := S1x1024) hz, shapeCast_self]

/-- At the first block of rows the gain is stored. -/
theorem out_C (c0 : ¬cond0_0 i) (c1 : cond0_1 i) (c2 : cond0_2 i) (c3 : cond0_3 i) (c4 : ¬cond0_4 i) :
    out0_C_6 c i a3 h3 a4 h4 a5 h5 a6 h6 a7 h7 a8 h8 a9 h9 a10 h10 a11 h11 a12 h12 c0 c1 c2 c3 c4 x0 x1 x2 x3 x4 x5 xs = k0_pay7 (addf xs (k0_pay1 x0 x1)) x2 x3 x4 x5
    ∧ out0_C_7 c i a3 h3 a4 h4 a5 h5 a6 h6 a7 h7 a8 h8 a9 h9 a10 h10 a11 h11 a12 h12 c0 c1 c2 c3 c4 x0 x1 x2 x3 x4 x5 xs = k0_pay8 (addf xs (k0_pay1 x0 x1)) x2 x3 x4 x5
    ∧ out0_C_8 c i a3 h3 a4 h4 a5 h5 a6 h6 a7 h7 a8 h8 a9 h9 a10 h10 a11 h11 a12 h12 c0 c1 c2 c3 c4 x0 x1 x2 x3 x4 x5 xs = k0_pay9 (addf xs (k0_pay1 x0 x1)) x2 x3 := by
  unfold out0_C_6 out0_C_7 out0_C_8
  rw [View.read_writes_eq_canon _ _ _ (cover0_C_6 c i a3 h3 a4 h4 a5 h5 a6 h6 a7 h7 a8 h8 a9 h9 a10 h10 a11 h11 a12 h12 c0 c1 c2 c3 c4 x0 x1 x2 x3 x4 x5 xs), View.read_writes_eq_canon _ _ _ (cover0_C_7 c i a3 h3 a4 h4 a5 h5 a6 h6 a7 h7 a8 h8 a9 h9 a10 h10 a11 h11 a12 h12 c0 c1 c2 c3 c4 x0 x1 x2 x3 x4 x5 xs), View.read_writes_eq_canon _ _ _ (cover0_C_8 c i a3 h3 a4 h4 a5 h5 a6 h6 a7 h7 a8 h8 a9 h9 a10 h10 a11 h11 a12 h12 c0 c1 c2 c3 c4 x0 x1 x2 x3 x4 x5 xs)]
  unfold kernelRun0_C
  dsimp only
  sl_unfold_words
  refine ⟨?_, ?_, ?_⟩ <;> rw [View.canon_unit_zero hz, View.readCov_unit_zero (S := S512x1024) _ hz]  <;> unfold k0_pay3 <;>
    simp only [View.readAt_eq_ld, h3.read_unread, h4.read_unread, h5.read_unread, h6.read_unread, h7.read_unread, h8.read_unread, h11.read_unread, h12.read_unread, View.ld_unit_zero (S := S1x512x1024) hz3, View.ld_unit_zero (S := S512x1024) hz, View.ld_unit_zero (S := S1x1024) hz, shapeCast_self]

/-- At a later block of rows the gain is added. -/
theorem out_D (c0 : ¬cond0_0 i) (c1 : cond0_1 i) (c2 : cond0_2 i) (c3 : ¬cond0_3 i) (c4 : cond0_4 i) :
    out0_D_6 c i a3 h3 a4 h4 a5 h5 a6 h6 a7 h7 a8 h8 a9 h9 a10 h10 a11 h11 a12 h12 c0 c1 c2 c3 c4 x0 x1 x2 x3 x4 x5 xo xs = k0_pay7 (addf xs (k0_pay1 x0 x1)) x2 x3 x4 x5
    ∧ out0_D_7 c i a3 h3 a4 h4 a5 h5 a6 h6 a7 h7 a8 h8 a9 h9 a10 h10 a11 h11 a12 h12 c0 c1 c2 c3 c4 x0 x1 x2 x3 x4 x5 xo xs = k0_pay8 (addf xs (k0_pay1 x0 x1)) x2 x3 x4 x5
    ∧ out0_D_8 c i a3 h3 a4 h4 a5 h5 a6 h6 a7 h7 a8 h8 a9 h9 a10 h10 a11 h11 a12 h12 c0 c1 c2 c3 c4 x0 x1 x2 x3 x4 x5 xo xs = addf xo (k0_pay9 (addf xs (k0_pay1 x0 x1)) x2 x3) := by
  unfold out0_D_6 out0_D_7 out0_D_8
  rw [View.read_writes_eq_canon _ _ _ (cover0_D_6 c i a3 h3 a4 h4 a5 h5 a6 h6 a7 h7 a8 h8 a9 h9 a10 h10 a11 h11 a12 h12 c0 c1 c2 c3 c4 x0 x1 x2 x3 x4 x5 xo xs), View.read_writes_eq_canon _ _ _ (cover0_D_7 c i a3 h3 a4 h4 a5 h5 a6 h6 a7 h7 a8 h8 a9 h9 a10 h10 a11 h11 a12 h12 c0 c1 c2 c3 c4 x0 x1 x2 x3 x4 x5 xo xs), View.read_writes_eq_canon _ _ _ (cover0_D_8 c i a3 h3 a4 h4 a5 h5 a6 h6 a7 h7 a8 h8 a9 h9 a10 h10 a11 h11 a12 h12 c0 c1 c2 c3 c4 x0 x1 x2 x3 x4 x5 xo xs)]
  unfold kernelRun0_D
  dsimp only
  sl_unfold_words
  refine ⟨?_, ?_, ?_⟩ <;> rw [View.canon_unit_zero hz, View.readCov_unit_zero (S := S512x1024) _ hz]  <;> (try unfold k0_pay4) <;> unfold k0_pay3 <;>
    simp only [View.readAt_eq_ld, h3.read_unread, h4.read_unread, h5.read_unread, h6.read_unread, h7.read_unread, h8.read_unread, h11.read_unread, h12.read_unread, View.ld_unit_zero (S := S1x512x1024) hz3, View.ld_unit_zero (S := S512x1024) hz, View.ld_unit_zero (S := S1x1024) hz, shapeCast_self]

variable (m : (ℓ : Loc nD τ sig) → Buf (Elt F) ℓ)

/-- The point before. -/
abbrev prev (t : Fin cfg0.N) : Fin cfg0.N := ⟨t.val - 1, Nat.lt_of_le_of_lt (Nat.sub_le _ _) t.isLt⟩

/-- The product of the tiles staged at point `t`. -/
abbrev part (c : Dev nD) (t : Fin cfg0.N) : Vec F S512x1024 .f32 := k0_pay1 (iblk m c 0 t) (iblk m c 1 t)

/-- The three parts' products, at the last part's point. -/
abbrev acc (c : Dev nD) (t : Fin cfg0.N) : Vec F S512x1024 .f32 :=
  addf (F := F) (φ := .f32) (addf (F := F) (φ := .f32) (part m c (prev (prev t))) (part m c (prev t))) (part m c t)

/-- The first two parts' products, carried; the gain's gradient stays. -/
theorem carried (c : Dev nD) (t : Fin cfg0.N) (h : t.val % 3 = 2) :
    (outsAt0 m c (prev t).val (prev t).isLt).2.2.2 = addf (F := F) (φ := .f32) (part m c (prev (prev t))) (part m c (prev t))
    ∧ (outsAt0 m c (prev t).val (prev t).isLt).2.2.1 = (outsAt0 m c (t.val - 3) (Nat.lt_of_le_of_lt (Nat.sub_le _ _) t.isLt)).2.2.1 := by
  rw [outsAt0_B m c (prev t) (by dsimp only; omega) (by dsimp only; omega) (by dsimp only; omega)]
  dsimp only
  rw [sout_B]
  have e := outsAt0_A m c (prev (prev t)) (by dsimp only; omega) (by dsimp only; omega) (by dsimp only; omega)
  dsimp only [prev] at e
  simp only [show t.val - 1 - 1 - 1 = t.val - 3 by omega] at e
  rw [e]
  dsimp only
  rw [sout_A]
  exact ⟨rfl, rfl⟩

theorem out6 (c : Dev nD) (t : Fin cfg0.N) (h : t.val % 3 = 2) :
    (outsAt0 m c t.val t.isLt).1 = k0_pay7 (acc m c t) (iblk m c 2 t) (iblk m c 3 t) (iblk m c 4 t) (iblk m c 5 t)
    ∧ (outsAt0 m c t.val t.isLt).2.1 = k0_pay8 (acc m c t) (iblk m c 2 t) (iblk m c 3 t) (iblk m c 4 t) (iblk m c 5 t) := by
  have e := (carried m c t h).1
  dsimp only [prev] at e
  by_cases hl : t.val < 3
  · rw [outsAt0_C m c t (by omega) (by omega) h hl (by omega)]
    dsimp only
    rw [(out_C ..).1, (out_C ..).2.1, e]
    exact ⟨rfl, rfl⟩
  · rw [outsAt0_D m c t (by omega) (by omega) h hl (by omega)]
    dsimp only
    rw [(out_D ..).1, (out_D ..).2.1, e]
    exact ⟨rfl, rfl⟩

theorem gain_first (c : Dev nD) (t : Fin cfg0.N) (h : t.val = 2) : (outsAt0 m c t.val t.isLt).2.2.1 = k0_pay9 (acc m c t) (iblk m c 2 t) (iblk m c 3 t) := by
  have e := (carried m c t (by omega)).1
  dsimp only [prev] at e
  rw [outsAt0_C m c t (by omega) (by omega) (by omega) (by omega) (by omega)]
  dsimp only
  rw [(out_C ..).2.2, e]

theorem gain_next (c : Dev nD) (t : Fin cfg0.N) (h : t.val % 3 = 2) (hl : 3 ≤ t.val) :
    (outsAt0 m c t.val t.isLt).2.2.1 = addf (F := F) (φ := .f32) (outsAt0 m c (t.val - 3) (Nat.lt_of_le_of_lt (Nat.sub_le _ _) t.isLt)).2.2.1 (k0_pay9 (acc m c t) (iblk m c 2 t) (iblk m c 3 t)) := by
  obtain ⟨e, e2⟩ := carried m c t h
  dsimp only [prev] at e e2
  rw [outsAt0_D m c t (by omega) (by omega) h (by omega) hl]
  dsimp only
  rw [(out_D ..).2.2, e, e2]

end

/-- Where the tiles lie. -/
theorem idx_facts : ∀ t : Fin cfg0.N, win0_0.index t 0 = t.val % 3 ∧ win0_0.index t 1 = t.val / 3 ∧ win0_0.index t 2 = 0 ∧ win0_1.index t 0 = t.val % 3 ∧ win0_1.index t 1 = 0
    ∧ (win0_2.index t 0 = t.val / 3 ∧ win0_2.index t 1 = 0) ∧ (win0_3.index t 0 = t.val / 3 ∧ win0_3.index t 1 = 0) ∧ (win0_4.index t 0 = 0 ∧ win0_4.index t 1 = 0)
    ∧ (win0_5.index t 0 = t.val / 3 ∧ win0_5.index t 1 = 0) ∧ (win0_6.index t 0 = t.val / 3 ∧ win0_6.index t 1 = 0) ∧ (win0_7.index t 0 = t.val / 3 ∧ win0_7.index t 1 = 0) ∧ win0_8.index t 0 = 0 ∧ win0_8.index t 1 = 0 := by
  decide +kernel

/-- The gradient that enters the norm: the product and the other gradient. -/
abbrev dh (A : FVec Ideal S3x8192x1024 .bf16) (B : FVec Ideal S1536x1024 .bf16) (D : FVec Ideal S8192x1024 .f32) : Fin 8192 → Fin 1024 → EReal := fun i j => DilDhnParts.total A B D (ix2 i j)

abbrev total (A : FVec Ideal S3x8192x1024 .bf16) (B : FVec Ideal S1536x1024 .bf16) (D X : FVec Ideal S8192x1024 .f32) (W : FVec Ideal S1x1024 .f32) (E : FVec Ideal S8192x1024 .f32) : FVec Ideal S8192x1024 .f32 := FfnDhn.grad (dh A B D) X W E

abbrev scales (A : FVec Ideal S3x8192x1024 .bf16) (B : FVec Ideal S1536x1024 .bf16) (D X : FVec Ideal S8192x1024 .f32) : FVec Ideal S1x1024 .f32 := FfnDhn.gain (dh A B D) X

/-- The product of a packed tile. -/
theorem mm_apply (z : FVec Ideal S512x512 .f32) (x1 : FVec Ideal S512x1024 .bf16) (y0 : Fin 512) (y1 : Fin 1024) :
    matmul dot_S512x512_S512x1024_S512x1024_1_0_0_1_n_n none (truncf .bf16 z bitsLt_bf16_f32) x1 (constant S512x1024 .f32 0x00000000#32) (ix2 y0 y1) = (∑ k : Fin 512, z (ix2 y0 k) * x1 (ix2 k y1) : EReal) := by
  pointwise

theorem cast_apply (x0 : Vec Ideal S1x512x1024 .bf16) (k : Fin 512) (l : Fin 1024) :
    (extf (F := Ideal) (φ := .bf16) .f32 (shapeCast S512x1024 x0 shapeCasts_S1x512x1024_S512x1024) bitsLt_bf16_f32) (ix2 k l) = (x0 (ix3 0 k l) : EReal) := by
  pointwise

/-- An entry of the payload, where the lanes behind each head hold zeros. -/
theorem pay_apply (x0 : Vec Ideal S1x512x1024 .bf16) (x1 : Vec Ideal S512x1024 .bf16) (hx : ∀ (k : Fin 512) (l : Fin 1024), 64 ≤ l.val % 128 → x0 (ix3 0 k l) = (0 : EReal)) (y0 : Fin 512) (y1 : Fin 1024) :
    k0_pay1 x0 x1 (ix2 y0 y1) = (∑ k : Fin 512, x0 (ix3 0 y0 ⟨128 * (k.val / 64) + k.val % 64, by omega⟩) * x1 (ix2 k y1) : EReal) := by
  unfold k0_pay1
  dsimp only
  refine Eq.trans (mm_apply _ x1 y0 y1) (Finset.sum_congr rfl fun k _ => congrArg (fun a : EReal => a * x1 (ix2 k y1)) ?_)
  exact Eq.trans (Cert.Pack.four (R := 512) (extf .f32 (shapeCast S512x1024 x0 shapeCasts_S1x512x1024_S512x1024) bitsLt_bf16_f32) (fun i l hl => Eq.trans (cast_apply x0 i l) (hx i l hl)) slices_S512x1024_o0_0_S512x128 slices_S512x1024_o0_128_S512x128 slices_S512x1024_o0_256_S512x128 slices_S512x1024_o0_384_S512x128 slices_S512x1024_o0_512_S512x128 slices_S512x1024_o0_640_S512x128 slices_S512x1024_o0_768_S512x128 slices_S512x1024_o0_896_S512x128 rotates_S512x128_d1 concatenates_S512x128_S512x128_S512x128_S512x128_S512x512_d1 y0 k) (cast_apply x0 y0 _)

variable {m : (ℓ : Loc nD τ sig) → Buf (Elt Ideal) ℓ} (c : Dev nD)
variable (A : FVec Ideal S3x8192x1024 .bf16) (B : FVec Ideal S1536x1024 .bf16) (D X : FVec Ideal S8192x1024 .f32) (W : FVec Ideal S1x1024 .f32) (E : FVec Ideal S8192x1024 .f32)

section
variable (hp : ∀ (a : Fin 3) (k : Fin 8192) (l : Fin 1024), 64 ≤ l.val % 128 → A (ix3 a k l) = (0 : EReal)) (hA : m (c.tc.loc main_arg0) = A) (hB : m (c.tc.loc main_arg1) = B)
include hp hA hB

/-- The product of the tiles staged at the point of part `j`, at an index. -/
theorem part_apply (t : Fin cfg0.N) (j : Fin 3) (hj : j.val = t.val % 3) (y0 : Fin 512) (y1 : Fin 1024) (i : Fin 8192) (hi : i.val = t.val / 3 * 512 + y0.val) :
    part m c t (ix2 y0 y1) = ∑ k : Fin 512, DilDhnParts.lane A i ⟨j.val * 512 + k.val, show _ < 1536 by omega⟩ * B (ix2 ⟨j.val * 512 + k.val, show _ < 1536 by omega⟩ y1) := by
  obtain ⟨e0, e1, e6, e2, e3, -⟩ := idx_facts t
  have hN : t.val < 48 := t.isLt
  have eA : ∀ (k : Fin 512) (l : Fin 1024), iblk m c 0 t (ix3 0 k l) = A (ix3 j ⟨t.val / 3 * 512 + k.val, show _ < 8192 by omega⟩ l) := by
    intro k l
    rw [← hA]
    refine congrArg (m (c.tc.loc main_arg0)) (funext fun a => Fin.ext ?_)
    match a with
    | ⟨0, _⟩ => show win0_0.index _ 0 * 1 + 1 * 0 = j.val; rw [e0]; omega
    | ⟨1, _⟩ => show win0_0.index _ 1 * 512 + 1 * k.val = t.val / 3 * 512 + k.val; rw [e1, one_mul]
    | ⟨2, _⟩ => show win0_0.index _ 2 * 1024 + 1 * l.val = l.val; rw [e6]; omega
  unfold part
  refine Eq.trans (pay_apply _ _ (fun k l hl => (eA k l).trans (hp _ _ _ hl)) y0 y1) (Finset.sum_congr rfl fun k _ => congrArg₂ (fun a b : EReal => a * b) ((eA _ _).trans ?_) ?_)
  · unfold DilDhnParts.lane
    refine congrArg A (congr (congrArg₂ (fun a b => ix3 a b) (Fin.ext ?_) (Fin.ext hi.symm)) (Fin.ext ?_))
    · show j.val = (j.val * 512 + k.val) / 512; omega
    · show 128 * (k.val / 64) + k.val % 64 = 128 * ((j.val * 512 + k.val) % 512 / 64) + (j.val * 512 + k.val) % 64; omega
  · rw [← hB]
    refine congrArg (m (c.tc.loc main_arg1)) (funext fun a => Fin.ext ?_)
    match a with
    | ⟨0, _⟩ => show win0_1.index _ 0 * 512 + 1 * k.val = j.val * 512 + k.val; rw [e2, hj, one_mul]
    | ⟨1, _⟩ => show win0_1.index _ 1 * 1024 + 1 * y1.val = y1.val; rw [e3]; omega

theorem acc_apply (hD : m (c.tc.loc main_arg2) = D) (t : Fin cfg0.N) (ht : t.val % 3 = 2) (y0 : Fin 512) (y1 : Fin 1024) (i : Fin 8192) (hi : i.val = t.val / 3 * 512 + y0.val) :
    addf (F := Ideal) (φ := .f32) (acc m c t) (iblk m c 2 t) (ix2 y0 y1) = dh A B D i y1 := by
  have p0 := part_apply c A B hp hA hB (prev (prev t)) 0 (show 0 = (t.val - 1 - 1) % 3 by omega) y0 y1 i (by dsimp only; omega)
  have p1 := part_apply c A B hp hA hB (prev t) 1 (show 1 = (t.val - 1) % 3 by omega) y0 y1 i (by dsimp only; omega)
  have p2 := part_apply c A B hp hA hB t 2 ht.symm y0 y1 i hi
  obtain ⟨-, -, -, -, -, ⟨d0, d1⟩, -⟩ := idx_facts t
  show _ = ((∑ k : Fin 1536, DilDhnParts.lane A i k * B (ix2 k y1)) + D (ix2 i y1) : EReal)
  refine congrArg₂ (fun a b : EReal => a + b) ?_ ?_
  · rw [Fin.sum_univ_tiles (N := 1536) 3 512 rfl, Fin.sum_univ_three]
    exact congrArg₂ (fun a b : EReal => a + b) (congrArg₂ (fun a b : EReal => a + b) p0 p1) p2
  · rw [← hD]
    refine congrArg (m (c.tc.loc main_arg2)) (funext fun a => Fin.ext ?_)
    match a with
    | ⟨0, _⟩ => show win0_2.index _ 0 * 512 + 1 * y0.val = i.val; rw [d0, hi, one_mul]
    | ⟨1, _⟩ => show win0_2.index _ 1 * 1024 + 1 * y1.val = y1.val; rw [d1]; omega

end

theorem x_apply (hX : m (c.tc.loc main_arg3) = X) (t : Fin cfg0.N) (y0 : Fin 512) (y1 : Fin 1024) (i : Fin 8192) (hi : i.val = t.val / 3 * 512 + y0.val) : iblk m c 3 t (ix2 y0 y1) = X (ix2 i y1) := by
  obtain ⟨-, -, -, -, -, -, ⟨e0, e1⟩, -⟩ := idx_facts t
  rw [← hX]
  refine congrArg (m (c.tc.loc main_arg3)) (funext fun a => Fin.ext ?_)
  match a with
  | ⟨0, _⟩ => show win0_3.index _ 0 * 512 + 1 * y0.val = i.val; rw [e0, hi, one_mul]
  | ⟨1, _⟩ => show win0_3.index _ 1 * 1024 + 1 * y1.val = y1.val; rw [e1]; omega

theorem w_apply (hW : m (c.tc.loc main_arg4) = W) (t : Fin cfg0.N) (y1 : Fin 1024) : iblk m c 4 t (ix2 0 y1) = W (ix2 0 y1) := by
  obtain ⟨-, -, -, -, -, -, -, ⟨e0, e1⟩, -⟩ := idx_facts t
  rw [← hW]
  refine congrArg (m (c.tc.loc main_arg4)) (funext fun a => Fin.ext ?_)
  match a with
  | ⟨0, _⟩ => show win0_4.index _ 0 * 1 + 1 * 0 = 0; rw [e0]
  | ⟨1, _⟩ => show win0_4.index _ 1 * 1024 + 1 * y1.val = y1.val; rw [e1]; omega

theorem e_apply (hE : m (c.tc.loc main_arg5) = E) (t : Fin cfg0.N) (y0 : Fin 512) (y1 : Fin 1024) (i : Fin 8192) (hi : i.val = t.val / 3 * 512 + y0.val) : iblk m c 5 t (ix2 y0 y1) = E (ix2 i y1) := by
  obtain ⟨-, -, -, -, -, -, -, -, ⟨e0, e1⟩, -⟩ := idx_facts t
  rw [← hE]
  refine congrArg (m (c.tc.loc main_arg5)) (funext fun a => Fin.ext ?_)
  match a with
  | ⟨0, _⟩ => show win0_5.index _ 0 * 512 + 1 * y0.val = i.val; rw [e0, hi, one_mul]
  | ⟨1, _⟩ => show win0_5.index _ 1 * 1024 + 1 * y1.val = y1.val; rw [e1]; omega

/-- The payloads are those of the feed-forward layer's call. -/
theorem pay7_eq (s d x : Vec Ideal S512x1024 .f32) (w : Vec Ideal S1x1024 .f32) (e : Vec Ideal S512x1024 .f32) : k0_pay7 s d x w e = Cert.Kernel7Ideal.Gen.k0_pay6 (addf s d) x w e := rfl
theorem pay9_eq (s d x : Vec Ideal S512x1024 .f32) : k0_pay9 s d x = Cert.Kernel7Ideal.Gen.k0_pay8 (addf s d) x := rfl

section
variable (hp : ∀ (a : Fin 3) (k : Fin 8192) (l : Fin 1024), 64 ≤ l.val % 128 → A (ix3 a k l) = (0 : EReal)) (hA : m (c.tc.loc main_arg0) = A) (hB : m (c.tc.loc main_arg1) = B)
  (hD : m (c.tc.loc main_arg2) = D) (hX : m (c.tc.loc main_arg3) = X)
include hp hA hB hD hX

/-- The payload of the block of rows whose last part is at `t`. -/
theorem at_last (hW : m (c.tc.loc main_arg4) = W) (hE : m (c.tc.loc main_arg5) = E) (t : Fin cfg0.N) (ht : t.val % 3 = 2) (y0 : Fin 512) (y1 : Fin 1024) (i : Fin 8192) (hi : i.val = t.val / 3 * 512 + y0.val) :
    k0_pay7 (acc m c t) (iblk m c 2 t) (iblk m c 3 t) (iblk m c 4 t) (iblk m c 5 t) (ix2 y0 y1) = total A B D X W E (ix2 i y1) :=
  (congrFun (pay7_eq _ _ _ _ _) _).trans (FfnDhn.pay6_apply X W E (dh A B D) _ _ _ _ y0 y1 i (fun j => acc_apply c A B D hp hA hB hD t ht y0 j i hi) (fun j => x_apply c X hX t y0 j i hi) (fun j => w_apply c W hW t j) (e_apply c E hE t y0 y1 i hi))

theorem final6 (hW : m (c.tc.loc main_arg4) = W) (hE : m (c.tc.loc main_arg5) = E) : (dats m 0 c).arrAt 6 cfg0.N = total A B D X W E := by
  refine (dats m 0 c).arrAt_eq_of_covers 6 _ (by decide +kernel) fun t hf y => ?_
  have ht : t.val % 3 = 2 := (flush0_6 t).mp hf
  have hN : t.val < 48 := t.isLt
  idx_vars y
  obtain ⟨-, -, -, -, -, -, -, -, -, ⟨e0, e1⟩, -⟩ := idx_facts t
  have e : ((cfg0.win 6).blk t).view.emb (ix2 y0 y1) = ix2 ⟨t.val / 3 * 512 + y0.val, show _ < 8192 by omega⟩ y1 := by
    refine funext fun a => Fin.ext ?_
    match a with
    | ⟨0, _⟩ => show win0_6.index _ 0 * 512 + 1 * y0.val = t.val / 3 * 512 + y0.val; rw [e0, one_mul]
    | ⟨1, _⟩ => show win0_6.index _ 1 * 1024 + 1 * y1.val = _; rw [e1]; show 0 * 1024 + 1 * y1.val = y1.val; omega
  refine (congrFun (after0_6 m c t) _).trans ((congrFun (out6 m c t ht).1 _).trans (Eq.trans ?_ (congrArg (total A B D X W E) e).symm))
  exact at_last c A B D X W E hp hA hB hD hX hW hE t ht y0 y1 _ rfl

theorem final7 (hW : m (c.tc.loc main_arg4) = W) (hE : m (c.tc.loc main_arg5) = E) : (dats m 0 c).arrAt 7 cfg0.N = total A B D X W E := by
  refine (dats m 0 c).arrAt_eq_of_covers 7 _ (by decide +kernel) fun t hf y => ?_
  have ht : t.val % 3 = 2 := (flush0_7 t).mp hf
  have hN : t.val < 48 := t.isLt
  idx_vars y
  obtain ⟨-, -, -, -, -, -, -, -, -, -, ⟨e0, e1⟩, -⟩ := idx_facts t
  have e : ((cfg0.win 7).blk t).view.emb (ix2 y0 y1) = ix2 ⟨t.val / 3 * 512 + y0.val, show _ < 8192 by omega⟩ y1 := by
    refine funext fun a => Fin.ext ?_
    match a with
    | ⟨0, _⟩ => show win0_7.index _ 0 * 512 + 1 * y0.val = t.val / 3 * 512 + y0.val; rw [e0, one_mul]
    | ⟨1, _⟩ => show win0_7.index _ 1 * 1024 + 1 * y1.val = _; rw [e1]; show 0 * 1024 + 1 * y1.val = y1.val; omega
  refine (congrFun (after0_7 m c t) _).trans ((congrFun (out6 m c t ht).2 _).trans (Eq.trans ?_ (congrArg (total A B D X W E) e).symm))
  exact at_last c A B D X W E hp hA hB hD hX hW hE t ht y0 y1 _ rfl

theorem rows_apply (b : Fin 16) (t : Fin cfg0.N) (ht : t.val = 3 * b.val + 2) (y1 : Fin 1024) : k0_pay9 (acc m c t) (iblk m c 2 t) (iblk m c 3 t) (ix2 0 y1) = FfnDhn.rows (dh A B D) X y1 b :=
  (congrFun (pay9_eq _ _ _) _).trans (FfnDhn.pay8_apply X (dh A B D) _ _ y1 (fun k => ⟨b.val * 512 + k.val, show _ < 8192 by omega⟩) (fun k j => acc_apply c A B D hp hA hB hD t (by omega) k j _ (by dsimp only; omega)) fun k j => x_apply c X hX t k j _ (by dsimp only; omega))

theorem rows_sum (t : Fin cfg0.N) (ht : t.val = 47) (y1 : Fin 1024) : (outsAt0 m c t.val t.isLt).2.2.1 (ix2 0 y1) = scales A B D X (ix2 0 y1) := by
  obtain rfl : t = ⟨47, show 47 < 48 from by decide⟩ := Fin.ext ht
  refine Eq.trans (FfnDhn.acc_sum (FfnDhn.rows (dh A B D) X y1) (fun b => (outsAt0 m c (3 * b.val + 2) (show _ < 48 by omega)).2.2.1 (ix2 0 y1)) ?_ fun n h => ?_) (FfnDhn.gain_rows X (dh A B D) y1).symm
  · exact (congrFun (gain_first m c ⟨2, show 2 < 48 from by decide⟩ rfl) _).trans (rows_apply c A B D X hp hA hB hD hX 0 _ rfl y1)
  · refine (congrFun (gain_next m c ⟨3 * (n + 1) + 2, show _ < 48 by omega⟩ (by dsimp only; omega) (by dsimp only; omega)) _).trans ?_
    exact congrArg₂ (fun a b : EReal => a + b) rfl (rows_apply c A B D X hp hA hB hD hX ⟨n + 1, h⟩ ⟨3 * (n + 1) + 2, show _ < 48 by omega⟩ rfl y1)

theorem final8 : (dats m 0 c).arrAt 8 cfg0.N = scales A B D X := by
  refine (dats m 0 c).arrAt_eq_of_covers 8 _ (by decide +kernel) fun t hf y => ?_
  have ht : t.val % 48 = 47 := (flush0_8 t).mp hf
  have hN : t.val < 48 := t.isLt
  idx_vars y
  obtain rfl : y0 = 0 := Subsingleton.elim _ _
  obtain ⟨-, -, -, -, -, -, -, -, -, -, -, e0, e1⟩ := idx_facts t
  have e : ((cfg0.win 8).blk t).view.emb (ix2 0 y1) = ix2 0 y1 := by
    refine funext fun a => Fin.ext ?_
    match a with
    | ⟨0, _⟩ => show win0_8.index _ 0 * 1 + 1 * 0 = _; rw [e0]; rfl
    | ⟨1, _⟩ => show win0_8.index _ 1 * 1024 + 1 * y1.val = _; rw [e1]; show 0 * 1024 + 1 * y1.val = y1.val; omega
  exact (congrFun (after0_8 m c t) _).trans ((rows_sum c A B D X hp hA hB hD hX t (by omega) y1).trans (congrArg (scales A B D X) e).symm)

end

end Cert.DilDhnNorm

namespace Cert.DilDhnNorm

open Cert.Reference22Ideal Cert.Reference22Ideal.Gen Idealize.ShloMosaic Idealize.ShloMosaic.StableHlo
open Cert.FfnDhn (real16 real32)

variable (A : FVec Ideal S3x8192x1024 .bf16) (B : FVec Ideal S1536x1024 .bf16) (D X : FVec Ideal S8192x1024 .f32) (W : FVec Ideal S1x1024 .f32) (E : FVec Ideal S8192x1024 .f32)

abbrev Reals : Prop := (∀ i, ∃ r : ℝ, A i = (r : EReal)) ∧ (∀ i, ∃ r : ℝ, B i = (r : EReal)) ∧ (∀ i, ∃ r : ℝ, D i = (r : EReal)) ∧ (∀ i, ∃ r : ℝ, X i = (r : EReal)) ∧ ∀ i, ∃ r : ℝ, W i = (r : EReal)

/-- Where the precondition holds the entries it names are real, and the lanes behind each head hold zeros. -/
theorem reals (h : Cert.Pre_padded22.fn (F := Ideal) A B D X W E = fun _ => 1#1) :
    Reals A B D X W
    ∧ ∀ (a : Fin 3) (k : Fin 8192) (l : Fin 1024), 64 ≤ l.val % 128 → A (ix3 a k l) = (0 : EReal) := by
  have h0 := congrFun h ix0
  unfold Cert.Pre_padded22.fn Cert.Pre_padded22.fn_part1 at h0
  dsimp only at h0
  have hb : ∀ a b : BitVec 1, IntOp.andi a b = 1#1 → a = 1#1 ∧ b = 1#1 := by decide
  obtain ⟨h0, h5⟩ := hb _ _ h0
  obtain ⟨h0, h4⟩ := hb _ _ h0
  obtain ⟨h0, h3⟩ := hb _ _ h0
  obtain ⟨h0, h2⟩ := hb _ _ h0
  obtain ⟨h0, h1⟩ := hb _ _ h0
  haveI : Subsingleton Cert.Pre_padded22.S_.Idx := ⟨fun a b => funext fun x => x.elim0⟩
  refine ⟨⟨fun i => real16 (A i) (Host.reduce_andi_all _ _ _ _ _ h0 i), fun i => real16 (B i) (Host.reduce_andi_all _ _ _ _ _ h1 i), fun i => real32 (D i) (Host.reduce_andi_all _ _ _ _ _ h2 i),
    fun i => real32 (X i) (Host.reduce_andi_all _ _ _ _ _ h3 i), fun i => real32 (W i) (Host.reduce_andi_all _ _ _ _ _ h4 i)⟩, fun a k l hl => ?_⟩
  have e := Host.reduce_andi_all _ _ _ _ _ h5 (ix4 a k ⟨l.val / 128, by omega⟩ ⟨l.val % 128 - 64, by omega⟩)
  refine Eq.trans ?_ (Cert.Pack.zero_of_cmp _ e)
  pointwise
  exact congrArg (fun l => A (ix3 a k l)) (Fin.ext (by dsimp only; omega))

theorem real_dh (hr : Reals A B D X W) (i : Fin 8192) (j : Fin 1024) : ∃ d : ℝ, dh A B D i j = (d : EReal) := by
  obtain ⟨hA, hB, hD, -⟩ := hr
  choose a ha using hA
  choose b hb using hB
  choose d hd using hD
  show ∃ e : ℝ, ((∑ k : Fin 1536, DilDhnParts.lane A i k * B (ix2 k j)) + D (ix2 i j) : EReal) = (e : EReal)
  unfold DilDhnParts.lane
  simp only [ha, hb, hd, ← EReal.coe_mul, FfnDhn.sum_coe, ← EReal.coe_add]
  exact ⟨_, rfl⟩

/-- The reference's gradient that enters the norm. -/
abbrev ref : FVec Ideal S8192x1024 .f32 := addf D (Host.dotGeneral dot_S8192x1536_S1024x1536_S8192x1024_1_1_0_0_n_n none (shapeCast _ (transpose S8192x3x8x64 [1, 0, 2, 3] (extractStridedSlice S3x8192x8x64 ![0, 0, 0, 0] (shapeCast _ (extf .f32 A bitsLt_bf16_f32) shapeCasts_S3x8192x1024_S3x8192x8x128) slices_S3x8192x8x128_S3x8192x8x64_0_0_0_0) transposes_S3x8192x8x64_S8192x3x8x64_1_0_2_3) shapeCasts_S8192x3x8x64_S8192x1536) (transpose S1024x1536 [1, 0] (extf .f32 B bitsLt_bf16_f32) transposes_S1536x1024_S1024x1536_1_0))

theorem ref_apply (i : Fin 8192) (j : Fin 1024) : ref A B D (ix2 i j) = dh A B D i j := congrFun (DilDhnParts.reference A B D) (ix2 i j)

theorem ref_x (hr : Reals A B D X W) : FfnDhn.gref X W E (ref A B D) = total A B D X W E :=
  FfnDhn.grad_ref X W E (ref A B D) (dh A B D) (ref_apply A B D) (real_dh A B D X W hr) hr.2.2.2.1 hr.2.2.2.2

theorem ref_x16 (hr : Reals A B D X W) : truncf .bf16 (FfnDhn.gref X W E (ref A B D)) bitsLt_bf16_f32 = total A B D X W E :=
  FfnDhn.grad_ref16 X W E (ref A B D) (dh A B D) (ref_apply A B D) (real_dh A B D X W hr) hr.2.2.2.1 hr.2.2.2.2

end Cert.DilDhnNorm

end
-- ==== Proof.GdnDhnNorm.lean ====
/- The gradient of the linear attention's input from the gates' gradient, taken on through the norm before it. -/
module

public import proofs.«01_k».proof.Proof.Gen.Kernel23Ideal.Value
public import proofs.«01_k».proof.Proof.Gen.Reference23Ideal.Run
public import proofs.«01_k».proof.Proof.Gen.Pre_finite23
public import proofs.«01_k».proof.Proof.FfnDhn

@[expose] public section

noncomputable section

namespace Cert.GdnDhnNorm

open Cert.Kernel23Ideal Cert.Kernel23Ideal.Gen Idealize.ShloMosaic Idealize.ShloMosaic.TcCoe Idealize.SL.Sem
open Cert.FfnDhn (hz)

section
variable {F : FTy → Type} [FloatOps F]
variable (c : Dev nD) (i : grid0.Coords) (a3 : Memref sig .tc .vmem S512x128 .bf16) (h3 : a3.IsWhole) (a4 : Memref sig .tc .vmem S128x1024 .bf16) (h4 : a4.IsWhole) (a5 : Memref sig .tc .vmem S512x1024 .f32) (h5 : a5.IsWhole) (a6 : Memref sig .tc .vmem S512x1024 .f32) (h6 : a6.IsWhole) (a7 : Memref sig .tc .vmem S1x1024 .f32) (h7 : a7.IsWhole) (a8 : Memref sig .tc .vmem S512x1024 .f32) (h8 : a8.IsWhole) (a9 : Memref sig .tc .vmem S512x1024 .f32) (h9 : a9.IsWhole) (a10 : Memref sig .tc .vmem S512x1024 .bf16) (h10 : a10.IsWhole) (a11 : Memref sig .tc .vmem S1x1024 .f32) (h11 : a11.IsWhole) (a12 : Memref sig .tc .vmem S8x128 .f32) (h12 : a12.IsWhole)
  (x0 : Vec F S512x128 .bf16) (x1 : Vec F S128x1024 .bf16) (x2 : Vec F S512x1024 .f32) (x3 : Vec F S512x1024 .f32) (x4 : Vec F S1x1024 .f32) (x5 : Vec F S512x1024 .f32) (xo : Vec F S1x1024 .f32)

/-- What a block of rows adds to the gain's gradient. -/
abbrev pay : Vec F S1x1024 .f32 := k0_pay1 (k0_pay3 x0 x1 x2) x3 (k0_pay4 x3)

/-- At the first block of rows the gain is stored. -/
theorem out_A (c0 : cond0_0 i) (c1 : ¬cond0_1 i) : out0_A_6 c i a3 h3 a4 h4 a5 h5 a6 h6 a7 h7 a8 h8 a9 h9 a10 h10 a11 h11 a12 h12 c0 c1 x0 x1 x2 x3 x4 x5 = k0_pay5 x0 x1 x2 x3 x4 x5 ∧ out0_A_7 c i a3 h3 a4 h4 a5 h5 a6 h6 a7 h7 a8 h8 a9 h9 a10 h10 a11 h11 a12 h12 c0 c1 x0 x1 x2 x3 x4 x5 = k0_pay6 x0 x1 x2 x3 x4 x5 ∧ out0_A_8 c i a3 h3 a4 h4 a5 h5 a6 h6 a7 h7 a8 h8 a9 h9 a10 h10 a11 h11 a12 h12 c0 c1 x0 x1 x2 x3 x4 x5 = pay x0 x1 x2 x3 := by
  unfold out0_A_6 out0_A_7 out0_A_8
  rw [View.read_writes_eq_canon _ _ _ (cover0_A_6 c i a3 h3 a4 h4 a5 h5 a6 h6 a7 h7 a8 h8 a9 h9 a10 h10 a11 h11 a12 h12 c0 c1 x0 x1 x2 x3 x4 x5), View.read_writes_eq_canon _ _ _ (cover0_A_7 c i a3 h3 a4 h4 a5 h5 a6 h6 a7 h7 a8 h8 a9 h9 a10 h10 a11 h11 a12 h12 c0 c1 x0 x1 x2 x3 x4 x5), View.read_writes_eq_canon _ _ _ (cover0_A_8 c i a3 h3 a4 h4 a5 h5 a6 h6 a7 h7 a8 h8 a9 h9 a10 h10 a11 h11 a12 h12 c0 c1 x0 x1 x2 x3 x4 x5)]
  unfold kernelRun0_A
  dsimp only
  sl_unfold_words
  refine ⟨?_, ?_, ?_⟩ <;> rw [View.canon_unit_zero hz] <;>
    simp only [View.readAt_eq_ld, h3.read_unread, h4.read_unread, h5.read_unread, h6.read_unread, h7.read_unread, h8.read_unread, h11.read_unread, View.ld_unit_zero (S := S512x128) hz, View.ld_unit_zero (S := S128x1024) hz, View.ld_unit_zero (S := S512x1024) hz, View.ld_unit_zero (S := S1x1024) hz, shapeCast_self]

/-- At a later block of rows the gain is added. -/
theorem out_B (c0 : ¬cond0_0 i) (c1 : cond0_1 i) : out0_B_6 c i a3 h3 a4 h4 a5 h5 a6 h6 a7 h7 a8 h8 a9 h9 a10 h10 a11 h11 a12 h12 c0 c1 x0 x1 x2 x3 x4 x5 xo = k0_pay5 x0 x1 x2 x3 x4 x5 ∧ out0_B_7 c i a3 h3 a4 h4 a5 h5 a6 h6 a7 h7 a8 h8 a9 h9 a10 h10 a11 h11 a12 h12 c0 c1 x0 x1 x2 x3 x4 x5 xo = k0_pay6 x0 x1 x2 x3 x4 x5 ∧ out0_B_8 c i a3 h3 a4 h4 a5 h5 a6 h6 a7 h7 a8 h8 a9 h9 a10 h10 a11 h11 a12 h12 c0 c1 x0 x1 x2 x3 x4 x5 xo = addf xo (pay x0 x1 x2 x3) := by
  unfold out0_B_6 out0_B_7 out0_B_8
  rw [View.read_writes_eq_canon _ _ _ (cover0_B_6 c i a3 h3 a4 h4 a5 h5 a6 h6 a7 h7 a8 h8 a9 h9 a10 h10 a11 h11 a12 h12 c0 c1 x0 x1 x2 x3 x4 x5 xo), View.read_writes_eq_canon _ _ _ (cover0_B_7 c i a3 h3 a4 h4 a5 h5 a6 h6 a7 h7 a8 h8 a9 h9 a10 h10 a11 h11 a12 h12 c0 c1 x0 x1 x2 x3 x4 x5 xo), View.read_writes_eq_canon _ _ _ (cover0_B_8 c i a3 h3 a4 h4 a5 h5 a6 h6 a7 h7 a8 h8 a9 h9 a10 h10 a11 h11 a12 h12 c0 c1 x0 x1 x2 x3 x4 x5 xo)]
  unfold kernelRun0_B
  dsimp only
  sl_unfold_words
  refine ⟨?_, ?_, ?_⟩ <;> rw [View.canon_unit_zero hz] <;> (try unfold k0_pay2) <;>
    simp only [View.readAt_eq_ld, h3.read_unread, h4.read_unread, h5.read_unread, h6.read_unread, h7.read_unread, h8.read_unread, h11.read_unread, View.ld_unit_zero (S := S512x128) hz, View.ld_unit_zero (S := S128x1024) hz, View.ld_unit_zero (S := S512x1024) hz, View.ld_unit_zero (S := S1x1024) hz, shapeCast_self]

variable (m : (ℓ : Loc nD τ sig) → Buf (Elt F) ℓ)

theorem out6 (c : Dev nD) (t : Fin cfg0.N) :
    (outsAt0 m c t.val t.isLt).1 = k0_pay5 (iblk m c 0 t) (iblk m c 1 t) (iblk m c 2 t) (iblk m c 3 t) (iblk m c 4 t) (iblk m c 5 t)
    ∧ (outsAt0 m c t.val t.isLt).2.1 = k0_pay6 (iblk m c 0 t) (iblk m c 1 t) (iblk m c 2 t) (iblk m c 3 t) (iblk m c 4 t) (iblk m c 5 t) := by
  have hN : t.val < 16 := t.isLt
  by_cases hl : t.val = 0
  · rw [outsAt0_A m c t (by omega) (by omega)]
    dsimp only
    rw [(out_A ..).1, (out_A ..).2.1]
    exact ⟨rfl, rfl⟩
  · rw [outsAt0_B m c t (by omega) (by omega)]
    dsimp only
    rw [(out_B ..).1, (out_B ..).2.1]
    exact ⟨rfl, rfl⟩

theorem gain_first (c : Dev nD) (t : Fin cfg0.N) (h : t.val = 0) : (outsAt0 m c t.val t.isLt).2.2 = pay (iblk m c 0 t) (iblk m c 1 t) (iblk m c 2 t) (iblk m c 3 t) := by
  rw [outsAt0_A m c t (by omega) (by omega)]
  dsimp only
  rw [(out_A ..).2.2]

theorem gain_next (c : Dev nD) (t : Fin cfg0.N) (h : t.val ≠ 0) :
    (outsAt0 m c t.val t.isLt).2.2 = addf (F := F) (φ := .f32) (outsAt0 m c (t.val - 1) (Nat.lt_of_le_of_lt (Nat.sub_le _ _) t.isLt)).2.2 (pay (iblk m c 0 t) (iblk m c 1 t) (iblk m c 2 t) (iblk m c 3 t)) := by
  have hN : t.val < 16 := t.isLt
  rw [outsAt0_B m c t (by omega) (by omega)]
  dsimp only
  rw [(out_B ..).2.2]

end

/-- Where the tiles lie. -/
theorem idx_facts : ∀ t : Fin cfg0.N, win0_0.index t 0 = t.val ∧ win0_0.index t 1 = 0 ∧ win0_1.index t 0 = 0 ∧ win0_1.index t 1 = 0
    ∧ (win0_2.index t 0 = t.val ∧ win0_2.index t 1 = 0) ∧ (win0_3.index t 0 = t.val ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0) ∧ win0_8.index t 0 = 0 ∧ win0_8.index t 1 = 0 := by
  decide +kernel

/-- The gradient that enters the norm: the product and the other gradient. -/
def dh (A : FVec Ideal S8192x128 .bf16) (B : FVec Ideal S128x1024 .bf16) (D : FVec Ideal S8192x1024 .f32) (i : Fin 8192) (j : Fin 1024) : EReal := (∑ k : Fin 128, A (ix2 i k) * B (ix2 k j)) + D (ix2 i j)

abbrev total (A : FVec Ideal S8192x128 .bf16) (B : FVec Ideal S128x1024 .bf16) (D X : FVec Ideal S8192x1024 .f32) (W : FVec Ideal S1x1024 .f32) (E : FVec Ideal S8192x1024 .f32) : FVec Ideal S8192x1024 .f32 := FfnDhn.grad (dh A B D) X W E

abbrev scales (A : FVec Ideal S8192x128 .bf16) (B : FVec Ideal S128x1024 .bf16) (D X : FVec Ideal S8192x1024 .f32) : FVec Ideal S1x1024 .f32 := FfnDhn.gain (dh A B D) X

theorem pay3_apply (x0 : Vec Ideal S512x128 .bf16) (x1 : Vec Ideal S128x1024 .bf16) (x2 : Vec Ideal S512x1024 .f32) (y0 : Fin 512) (y1 : Fin 1024) :
    k0_pay3 x0 x1 x2 (ix2 y0 y1) = ((∑ k : Fin 128, x0 (ix2 y0 k) * x1 (ix2 k y1)) + x2 (ix2 y0 y1) : EReal) := by
  unfold k0_pay3
  pointwise

variable {m : (ℓ : Loc nD τ sig) → Buf (Elt Ideal) ℓ} (c : Dev nD)
variable (A : FVec Ideal S8192x128 .bf16) (B : FVec Ideal S128x1024 .bf16) (D X : FVec Ideal S8192x1024 .f32) (W : FVec Ideal S1x1024 .f32) (E : FVec Ideal S8192x1024 .f32)

section
variable (hA : m (c.tc.loc main_arg0) = A) (hB : m (c.tc.loc main_arg1) = B) (hD : m (c.tc.loc main_arg2) = D)
include hA hB hD

theorem acc_apply (t : Fin cfg0.N) (y0 : Fin 512) (y1 : Fin 1024) (i : Fin 8192) (hi : i.val = t.val * 512 + y0.val) :
    k0_pay3 (iblk m c 0 t) (iblk m c 1 t) (iblk m c 2 t) (ix2 y0 y1) = dh A B D i y1 := by
  obtain ⟨a0, a1, b0, b1, ⟨d0, d1⟩, -⟩ := idx_facts t
  refine (pay3_apply _ _ _ y0 y1).trans (congrArg₂ (fun a b : EReal => a + b) (Finset.sum_congr rfl fun k _ => congrArg₂ (fun a b : EReal => a * b) ?_ ?_) ?_)
  · rw [← hA]
    refine congrArg (m (c.tc.loc main_arg0)) (funext fun a => Fin.ext ?_)
    match a with
    | ⟨0, _⟩ => show win0_0.index _ 0 * 512 + 1 * y0.val = i.val; rw [a0, hi, one_mul]
    | ⟨1, _⟩ => show win0_0.index _ 1 * 128 + 1 * k.val = k.val; rw [a1]; omega
  · rw [← hB]
    refine congrArg (m (c.tc.loc main_arg1)) (funext fun a => Fin.ext ?_)
    match a with
    | ⟨0, _⟩ => show win0_1.index _ 0 * 128 + 1 * k.val = k.val; rw [b0]; omega
    | ⟨1, _⟩ => show win0_1.index _ 1 * 1024 + 1 * y1.val = y1.val; rw [b1]; omega
  · rw [← hD]
    refine congrArg (m (c.tc.loc main_arg2)) (funext fun a => Fin.ext ?_)
    match a with
    | ⟨0, _⟩ => show win0_2.index _ 0 * 512 + 1 * y0.val = i.val; rw [d0, hi, one_mul]
    | ⟨1, _⟩ => show win0_2.index _ 1 * 1024 + 1 * y1.val = y1.val; rw [d1]; omega

end

theorem x_apply (hX : m (c.tc.loc main_arg3) = X) (t : Fin cfg0.N) (y0 : Fin 512) (y1 : Fin 1024) (i : Fin 8192) (hi : i.val = t.val * 512 + y0.val) : iblk m c 3 t (ix2 y0 y1) = X (ix2 i y1) := by
  obtain ⟨-, -, -, -, -, ⟨e0, e1⟩, -⟩ := idx_facts t
  rw [← hX]
  refine congrArg (m (c.tc.loc main_arg3)) (funext fun a => Fin.ext ?_)
  match a with
  | ⟨0, _⟩ => show win0_3.index _ 0 * 512 + 1 * y0.val = i.val; rw [e0, hi, one_mul]
  | ⟨1, _⟩ => show win0_3.index _ 1 * 1024 + 1 * y1.val = y1.val; rw [e1]; omega

theorem w_apply (hW : m (c.tc.loc main_arg4) = W) (t : Fin cfg0.N) (y1 : Fin 1024) : iblk m c 4 t (ix2 0 y1) = W (ix2 0 y1) := by
  obtain ⟨-, -, -, -, -, -, ⟨e0, e1⟩, -⟩ := idx_facts t
  rw [← hW]
  refine congrArg (m (c.tc.loc main_arg4)) (funext fun a => Fin.ext ?_)
  match a with
  | ⟨0, _⟩ => show win0_4.index _ 0 * 1 + 1 * 0 = 0; rw [e0]
  | ⟨1, _⟩ => show win0_4.index _ 1 * 1024 + 1 * y1.val = y1.val; rw [e1]; omega

theorem e_apply (hE : m (c.tc.loc main_arg5) = E) (t : Fin cfg0.N) (y0 : Fin 512) (y1 : Fin 1024) (i : Fin 8192) (hi : i.val = t.val * 512 + y0.val) : iblk m c 5 t (ix2 y0 y1) = E (ix2 i y1) := by
  obtain ⟨-, -, -, -, -, -, -, ⟨e0, e1⟩, -⟩ := idx_facts t
  rw [← hE]
  refine congrArg (m (c.tc.loc main_arg5)) (funext fun a => Fin.ext ?_)
  match a with
  | ⟨0, _⟩ => show win0_5.index _ 0 * 512 + 1 * y0.val = i.val; rw [e0, hi, one_mul]
  | ⟨1, _⟩ => show win0_5.index _ 1 * 1024 + 1 * y1.val = y1.val; rw [e1]; omega

/-- The payloads are those of the feed-forward layer's call. -/
theorem pay5_eq (a : Vec Ideal S512x128 .bf16) (b : Vec Ideal S128x1024 .bf16) (d x : Vec Ideal S512x1024 .f32) (w : Vec Ideal S1x1024 .f32) (e : Vec Ideal S512x1024 .f32) : k0_pay5 a b d x w e = Cert.Kernel7Ideal.Gen.k0_pay6 (k0_pay3 a b d) x w e := rfl
theorem pay_eq (a : Vec Ideal S512x128 .bf16) (b : Vec Ideal S128x1024 .bf16) (d x : Vec Ideal S512x1024 .f32) : pay a b d x = Cert.Kernel7Ideal.Gen.k0_pay8 (k0_pay3 a b d) x := rfl

section
variable (hA : m (c.tc.loc main_arg0) = A) (hB : m (c.tc.loc main_arg1) = B) (hD : m (c.tc.loc main_arg2) = D) (hX : m (c.tc.loc main_arg3) = X)
include hA hB hD hX

/-- The payload of a block of rows. -/
theorem at_block (hW : m (c.tc.loc main_arg4) = W) (hE : m (c.tc.loc main_arg5) = E) (t : Fin cfg0.N) (y0 : Fin 512) (y1 : Fin 1024) (i : Fin 8192) (hi : i.val = t.val * 512 + y0.val) :
    k0_pay5 (iblk m c 0 t) (iblk m c 1 t) (iblk m c 2 t) (iblk m c 3 t) (iblk m c 4 t) (iblk m c 5 t) (ix2 y0 y1) = total A B D X W E (ix2 i y1) :=
  (congrFun (pay5_eq _ _ _ _ _ _) _).trans (FfnDhn.pay6_apply X W E (dh A B D) _ _ _ _ y0 y1 i (fun j => acc_apply c A B D hA hB hD t y0 j i hi) (fun j => x_apply c X hX t y0 j i hi) (fun j => w_apply c W hW t j) (e_apply c E hE t y0 y1 i hi))

theorem final6 (hW : m (c.tc.loc main_arg4) = W) (hE : m (c.tc.loc main_arg5) = E) : (dats m 0 c).arrAt 6 cfg0.N = total A B D X W E := by
  refine (dats m 0 c).arrAt_eq_of_covers 6 _ (by decide +kernel) fun t hf y => ?_
  have hN : t.val < 16 := t.isLt
  idx_vars y
  obtain ⟨-, -, -, -, -, -, -, -, ⟨e0, e1⟩, -⟩ := idx_facts t
  have e : ((cfg0.win 6).blk t).view.emb (ix2 y0 y1) = ix2 ⟨t.val * 512 + y0.val, show _ < 8192 by omega⟩ y1 := by
    refine funext fun a => Fin.ext ?_
    match a with
    | ⟨0, _⟩ => show win0_6.index _ 0 * 512 + 1 * y0.val = t.val * 512 + y0.val; rw [e0, one_mul]
    | ⟨1, _⟩ => show win0_6.index _ 1 * 1024 + 1 * y1.val = _; rw [e1]; show 0 * 1024 + 1 * y1.val = y1.val; omega
  refine (congrFun (after0_6 m c t) _).trans ((congrFun (out6 m c t).1 _).trans (Eq.trans ?_ (congrArg (total A B D X W E) e).symm))
  exact at_block c A B D X W E hA hB hD hX hW hE t y0 y1 _ rfl

theorem final7 (hW : m (c.tc.loc main_arg4) = W) (hE : m (c.tc.loc main_arg5) = E) : (dats m 0 c).arrAt 7 cfg0.N = total A B D X W E := by
  refine (dats m 0 c).arrAt_eq_of_covers 7 _ (by decide +kernel) fun t hf y => ?_
  have hN : t.val < 16 := t.isLt
  idx_vars y
  obtain ⟨-, -, -, -, -, -, -, -, -, ⟨e0, e1⟩, -⟩ := idx_facts t
  have e : ((cfg0.win 7).blk t).view.emb (ix2 y0 y1) = ix2 ⟨t.val * 512 + y0.val, show _ < 8192 by omega⟩ y1 := by
    refine funext fun a => Fin.ext ?_
    match a with
    | ⟨0, _⟩ => show win0_7.index _ 0 * 512 + 1 * y0.val = t.val * 512 + y0.val; rw [e0, one_mul]
    | ⟨1, _⟩ => show win0_7.index _ 1 * 1024 + 1 * y1.val = _; rw [e1]; show 0 * 1024 + 1 * y1.val = y1.val; omega
  refine (congrFun (after0_7 m c t) _).trans ((congrFun (out6 m c t).2 _).trans (Eq.trans ?_ (congrArg (total A B D X W E) e).symm))
  exact at_block c A B D X W E hA hB hD hX hW hE t y0 y1 _ rfl

theorem rows_apply (b : Fin 16) (t : Fin cfg0.N) (ht : t.val = b.val) (y1 : Fin 1024) : pay (iblk m c 0 t) (iblk m c 1 t) (iblk m c 2 t) (iblk m c 3 t) (ix2 0 y1) = FfnDhn.rows (dh A B D) X y1 b :=
  (congrFun (pay_eq _ _ _ _) _).trans (FfnDhn.pay8_apply X (dh A B D) _ _ y1 (fun k => ⟨b.val * 512 + k.val, show _ < 8192 by omega⟩) (fun k j => acc_apply c A B D hA hB hD t k j _ (by dsimp only; omega)) fun k j => x_apply c X hX t k j _ (by dsimp only; omega))

theorem rows_sum (t : Fin cfg0.N) (ht : t.val = 15) (y1 : Fin 1024) : (outsAt0 m c t.val t.isLt).2.2 (ix2 0 y1) = scales A B D X (ix2 0 y1) := by
  obtain rfl : t = ⟨15, show 15 < 16 from by decide⟩ := Fin.ext ht
  refine Eq.trans (FfnDhn.acc_sum (FfnDhn.rows (dh A B D) X y1) (fun b => (outsAt0 m c b.val b.isLt).2.2 (ix2 0 y1)) ?_ fun n h => ?_) (FfnDhn.gain_rows X (dh A B D) y1).symm
  · exact (congrFun (gain_first m c ⟨0, show 0 < 16 from by decide⟩ rfl) _).trans (rows_apply c A B D X hA hB hD hX 0 _ rfl y1)
  · refine (congrFun (gain_next m c ⟨n + 1, h⟩ (Nat.succ_ne_zero n)) _).trans ?_
    exact congrArg₂ (fun a b : EReal => a + b) rfl (rows_apply c A B D X hA hB hD hX ⟨n + 1, h⟩ ⟨n + 1, h⟩ rfl y1)

theorem final8 : (dats m 0 c).arrAt 8 cfg0.N = scales A B D X := by
  refine (dats m 0 c).arrAt_eq_of_covers 8 _ (by decide +kernel) fun t hf y => ?_
  have ht : t.val % 16 = 15 := (flush0_8 t).mp hf
  have hN : t.val < 16 := t.isLt
  idx_vars y
  obtain rfl : y0 = 0 := Subsingleton.elim _ _
  obtain ⟨-, -, -, -, -, -, -, -, -, -, e0, e1⟩ := idx_facts t
  have e : ((cfg0.win 8).blk t).view.emb (ix2 0 y1) = ix2 0 y1 := by
    refine funext fun a => Fin.ext ?_
    match a with
    | ⟨0, _⟩ => show win0_8.index _ 0 * 1 + 1 * 0 = _; rw [e0]; rfl
    | ⟨1, _⟩ => show win0_8.index _ 1 * 1024 + 1 * y1.val = _; rw [e1]; show 0 * 1024 + 1 * y1.val = y1.val; omega
  exact (congrFun (after0_8 m c t) _).trans ((rows_sum c A B D X hA hB hD hX t (by omega) y1).trans (congrArg (scales A B D X) e).symm)

end

end Cert.GdnDhnNorm

namespace Cert.GdnDhnNorm

open Cert.Reference23Ideal Cert.Reference23Ideal.Gen Idealize.ShloMosaic Idealize.ShloMosaic.StableHlo
open Cert.FfnDhn (real16 real32)

variable (A : FVec Ideal S8192x128 .bf16) (B : FVec Ideal S128x1024 .bf16) (D X : FVec Ideal S8192x1024 .f32) (W : FVec Ideal S1x1024 .f32) (E : FVec Ideal S8192x1024 .f32)

abbrev Reals : Prop := (∀ i, ∃ r : ℝ, A i = (r : EReal)) ∧ (∀ i, ∃ r : ℝ, B i = (r : EReal)) ∧ (∀ i, ∃ r : ℝ, D i = (r : EReal)) ∧ (∀ i, ∃ r : ℝ, X i = (r : EReal)) ∧ ∀ i, ∃ r : ℝ, W i = (r : EReal)

/-- Where the precondition holds the entries it names are real. -/
theorem reals (h : Cert.Pre_finite23.fn (F := Ideal) A B D X W E = fun _ => 1#1) : Reals A B D X W := by
  have h0 := congrFun h ix0
  unfold Cert.Pre_finite23.fn Cert.Pre_finite23.fn_part1 at h0
  dsimp only at h0
  have hb : ∀ a b : BitVec 1, IntOp.andi a b = 1#1 → a = 1#1 ∧ b = 1#1 := by decide
  obtain ⟨h0, h4⟩ := hb _ _ h0
  obtain ⟨h0, h3⟩ := hb _ _ h0
  obtain ⟨h0, h2⟩ := hb _ _ h0
  obtain ⟨h0, h1⟩ := hb _ _ h0
  haveI : Subsingleton Cert.Pre_finite23.S_.Idx := ⟨fun a b => funext fun x => x.elim0⟩
  exact ⟨fun i => real16 (A i) (Host.reduce_andi_all _ _ _ _ _ h0 i), fun i => real16 (B i) (Host.reduce_andi_all _ _ _ _ _ h1 i), fun i => real32 (D i) (Host.reduce_andi_all _ _ _ _ _ h2 i),
    fun i => real32 (X i) (Host.reduce_andi_all _ _ _ _ _ h3 i), fun i => real32 (W i) (Host.reduce_andi_all _ _ _ _ _ h4 i)⟩

theorem real_dh (hr : Reals A B D X W) (i : Fin 8192) (j : Fin 1024) : ∃ d : ℝ, dh A B D i j = (d : EReal) := by
  obtain ⟨hA, hB, hD, -⟩ := hr
  choose a ha using hA
  choose b hb using hB
  choose d hd using hD
  unfold dh
  simp only [ha, hb, hd, ← EReal.coe_mul, FfnDhn.sum_coe, ← EReal.coe_add]
  exact ⟨_, rfl⟩

/-- The reference's gradient that enters the norm. -/
abbrev ref : FVec Ideal S8192x1024 .f32 := addf D (Host.dotGeneral dot_S8192x128_S1024x128_S8192x1024_1_1_0_0_n_n none (extf .f32 A bitsLt_bf16_f32) (transpose S1024x128 [1, 0] (extf .f32 B bitsLt_bf16_f32) transposes_S128x1024_S1024x128_1_0))

theorem ref_apply (i : Fin 8192) (j : Fin 1024) : ref A B D (ix2 i j) = dh A B D i j := by
  unfold ref dh
  pointwise
  rw [add_comm]

theorem ref_x (hr : Reals A B D X W) : FfnDhn.gref X W E (ref A B D) = total A B D X W E :=
  FfnDhn.grad_ref X W E (ref A B D) (dh A B D) (ref_apply A B D) (real_dh A B D X W hr) hr.2.2.2.1 hr.2.2.2.2

theorem ref_x16 (hr : Reals A B D X W) : truncf .bf16 (FfnDhn.gref X W E (ref A B D)) bitsLt_bf16_f32 = total A B D X W E :=
  FfnDhn.grad_ref16 X W E (ref A B D) (dh A B D) (ref_apply A B D) (real_dh A B D X W hr) hr.2.2.2.1 hr.2.2.2.2

end Cert.GdnDhnNorm

end
-- ==== Proof.GdnProjGates.lean ====
/- The projection by the weight rows for the gates. -/
module

public import proofs.«01_k».proof.Proof.Gen.Kernel24Ideal.Value
public import proofs.«01_k».proof.Proof.Gen.Reference24Ideal.Run
public import Idealize.ShloMosaic.Lib.Pointwise
public import Idealize.ShloMosaic.Lib.Pipeline.ValueKit

@[expose] public section

noncomputable section

namespace Cert.GdnProjGates

open Cert.Kernel24Ideal Cert.Kernel24Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x1024 .bf16) (h3 : a3.IsWhole) (a4 : Memref sig .tc .vmem S128x1024 .bf16) (h4 : a4.IsWhole) (a5 : Memref sig .tc .vmem S2048x128 .f32) (h5 : a5.IsWhole) (a6 : Memref sig .tc .vmem S8x128 .f32) (h6 : a6.IsWhole)
  (x0 : Vec F S2048x1024 .bf16) (x1 : Vec F S128x1024 .bf16)

/-- The first result's block is the first payload. -/
theorem out_0 : out0_A_2 c i a3 h3 a4 h4 a5 h5 a6 h6 x0 x1 = k0_pay1 x0 x1 := by
  unfold out0_A_2
  rw [View.read_writes_eq_canon _ _ _ (by apply cover0_A_2)]
  unfold kernelRun0_A
  dsimp only
  sl_unfold_words
  rw [View.canon_unit_zero hz]
  simp only [View.readAt_eq_ld, h3.read_unread, h4.read_unread, View.ld_unit_zero (S := S2048x1024) hz, View.ld_unit_zero (S := S128x1024) hz]

end

/-- One entry of the result. -/
def entry (A : FVec Ideal S8192x1024 .bf16) (B : FVec Ideal S128x1024 .bf16) (i : Fin 8192) (j : Fin 128) : EReal :=
  ∑ k : Fin 1024, A (ix2 i k) * B (ix2 j k)

/-- The result. -/
def prod (A : FVec Ideal S8192x1024 .bf16) (B : FVec Ideal S128x1024 .bf16) : FVec Ideal S8192x128 .f32 := fun i => entry A B (i 0) (i 1)

variable {m : (ℓ : Loc nD τ sig) → Buf (Elt Ideal) ℓ}

/-- Which block each window stages at each point. -/
theorem idx_facts : ∀ t : Fin cfg0.N, win0_0.index t 0 = t.val ∧ win0_0.index t 1 = 0 ∧ win0_1.index t 0 = 0 ∧ win0_1.index t 1 = 0 ∧ win0_2.index t 0 = t.val ∧ win0_2.index t 1 = 0 := by decide +kernel

variable (c : Dev nD) (A : FVec Ideal S8192x1024 .bf16) (B : FVec Ideal S128x1024 .bf16)

/-- An entry of the first payload. -/
theorem pay1_apply (hA : m (c.tc.loc main_arg0) = A) (hB : m (c.tc.loc main_arg1) = B) (t : Fin cfg0.N) (y0 : Fin 2048) (y1 : Fin 128)
    (i : Fin 8192) (j : Fin 128) (hi : i.val = t.val * 2048 + y0.val) (hj : j.val = 0 * 128 + y1.val) :
    k0_pay1 (iblk m c 0 t) (iblk m c 1 t) (ix2 y0 y1) = entry A B i j := by
  obtain ⟨p0, q0, p1, q1, p2, q2⟩ := idx_facts t
  unfold k0_pay1 entry
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * y0.val = i.val; rw [p0, hi, one_mul]
    | ⟨1, _⟩ => show win0_0.index _ 1 * 1024 + 1 * k.val = k.val; rw [q0]; omega
  · rw [← hB]
    refine congrArg (m (c.tc.loc main_arg1)) (funext fun a => Fin.ext ?_)
    match a with
    | ⟨0, _⟩ => show win0_1.index _ 0 * 128 + 1 * y1.val = j.val; rw [p1]; omega
    | ⟨1, _⟩ => show win0_1.index _ 1 * 1024 + 1 * k.val = k.val; rw [q1]; omega

/-- The result array ends holding the product. -/
theorem final (hA : m (c.tc.loc main_arg0) = A) (hB : m (c.tc.loc main_arg1) = B) : (dats m 0 c).arrAt 2 cfg0.N = prod A B := by
  refine (dats m 0 c).arrAt_eq_of_covers 2 _ (by decide +kernel) fun t hf y => ?_
  obtain ⟨p0, q0, p1, q1, p2, q2⟩ := idx_facts t
  rw [after0_2]
  unfold outsAt0
  rw [out_0]
  idx_vars y
  refine pay1_apply c A B hA hB t y0 y1 ((((cfg0.win 2).blk t).view.emb (ix2 y0 y1)) 0) ((((cfg0.win 2).blk t).view.emb (ix2 y0 y1)) 1) ?_ ?_
  · show win0_2.index _ 0 * 2048 + 1 * y0.val = t.val * 2048 + y0.val; rw [p2, one_mul]
  · show win0_2.index _ 1 * 128 + 1 * y1.val = 0 * 128 + y1.val; rw [q2, one_mul]

end Cert.GdnProjGates

namespace Cert.GdnProjGates

open Cert.Reference24Ideal Cert.Reference24Ideal.Gen Idealize.ShloMosaic Idealize.ShloMosaic.StableHlo

variable (A : FVec Ideal S8192x1024 .bf16) (B : FVec Ideal S128x1024 .bf16)

/-- The reference's product. -/
abbrev ref : FVec Ideal S8192x128 .f32 := Host.dotGeneral dot_S8192x1024_S1024x128_S8192x128_1_0_0_1_n_n none (extf .f32 A bitsLt_bf16_f32) (transpose S1024x128 [1, 0] (extf .f32 B bitsLt_bf16_f32) transposes_S128x1024_S1024x128_1_0)

theorem ref_apply (i : Fin 8192) (j : Fin 128) : ref A B (ix2 i j) = entry A B i j := by
  unfold ref entry
  pointwise

theorem reference : ref A B = prod A B := by
  funext i
  idx_vars i
  exact ref_apply A B i0 i1

end Cert.GdnProjGates
-- ==== Proof.GdnGwGates.lean ====
/- The gradient of the weight rows for the gates: what the tiled product leaves is the whole product. -/
module

public import proofs.«01_k».proof.Proof.Gen.Kernel25Ideal.Value
public import proofs.«01_k».proof.Proof.Gen.Reference25Ideal.Run
public import Idealize.ShloMosaic.Lib.Pointwise
public import Idealize.ShloMosaic.Lib.Pipeline.ValueKit

@[expose] public section

noncomputable section

namespace Cert.GdnGwGates

open Cert.Kernel25Ideal Cert.Kernel25Ideal.Gen Idealize.ShloMosaic Idealize.ShloMosaic.TcCoe Idealize.SL.Sem

theorem hz : (![0, 0] : Fin 2 → Nat) = fun _ => 0 := funext fun a => by fin_cases a <;> rfl

section
variable {F : FTy → Type} [FloatOps F]
variable (c : Dev nD) (i : grid0.Coords) (a3 : Memref sig .tc .vmem S2048x128 .bf16) (h3 : a3.IsWhole) (a4 : Memref sig .tc .vmem S2048x1024 .bf16) (h4 : a4.IsWhole)
  (a5 : Memref sig .tc .vmem S128x1024 .bf16) (h5 : a5.IsWhole) (a6 : Memref sig .tc .vmem S128x1024 .f32) (h6 : a6.IsWhole)

/-- The first tile's product is stored. -/
theorem sout_A
    (c0 : cond0_0 i) (c1 : ¬cond0_1 i) (c2 : ¬cond0_2 i) (x0 : Vec F S2048x128 .bf16) (x1 : Vec F S2048x1024 .bf16) :
    sout0_A_0 c i a3 h3 a4 h4 a5 h5 a6 h6 c0 c1 c2 x0 x1 = k0_pay1 x0 x1 := by
  unfold sout0_A_0
  rw [View.read_writes_eq_canon _ _ _ (by apply scover0_A_0)]
  unfold kernelRun0_A
  dsimp only
  sl_unfold_words
  rw [View.canon_unit_zero hz]
  unfold k0_pay2
  simp only [View.readAt_eq_ld, h3.read_unread, h4.read_unread, View.ld_unit_zero (S := S2048x128) hz, View.ld_unit_zero (S := S2048x1024) hz, shapeCast_self]

/-- A middle tile's product is added. -/
theorem sout_B
    (c0 : ¬cond0_0 i) (c1 : cond0_1 i) (c2 : ¬cond0_2 i) (x0 : Vec F S2048x128 .bf16) (x1 : Vec F S2048x1024 .bf16) (xs : Vec F S128x1024 .f32) :
    sout0_B_0 c i a3 h3 a4 h4 a5 h5 a6 h6 c0 c1 c2 x0 x1 xs = addf xs (k0_pay1 x0 x1) := by
  unfold sout0_B_0
  rw [View.read_writes_eq_canon _ _ _ (by apply scover0_B_0)]
  unfold kernelRun0_B
  dsimp only
  sl_unfold_words
  rw [View.canon_unit_zero hz]
  unfold k0_pay3
  simp only [View.readAt_eq_ld, h3.read_unread, h4.read_unread, h6.read_unread, View.ld_unit_zero (S := S2048x128) hz, View.ld_unit_zero (S := S2048x1024) hz, View.ld_unit_zero (S := S128x1024) hz, shapeCast_self]

/-- The last tile's product is added, and the sum is the result's block. -/
theorem out_C
    (c0 : ¬cond0_0 i) (c1 : cond0_1 i) (c2 : cond0_2 i) (x0 : Vec F S2048x128 .bf16) (x1 : Vec F S2048x1024 .bf16) (xs : Vec F S128x1024 .f32) :
    out0_C_2 c i a3 h3 a4 h4 a5 h5 a6 h6 c0 c1 c2 x0 x1 xs = truncf .bf16 (addf xs (k0_pay1 x0 x1)) bitsLt_bf16_f32 := by
  unfold out0_C_2
  rw [View.read_writes_eq_canon _ _ _ (by apply cover0_C_2)]
  unfold kernelRun0_C
  dsimp only
  sl_unfold_words
  rw [View.canon_unit_zero hz]
  rw [View.readCov_unit_zero (S := S128x1024) _ hz]
  unfold k0_pay4 k0_pay3
  simp only [View.readAt_eq_ld, h3.read_unread, h4.read_unread, h6.read_unread, View.ld_unit_zero (S := S2048x128) hz, View.ld_unit_zero (S := S2048x1024) hz, View.ld_unit_zero (S := S128x1024) hz, shapeCast_self]

variable (m : (ℓ : Loc nD τ sig) → Buf (Elt F) ℓ)

/-- The product of the tiles staged at point `t`. -/
abbrev part (c : Dev nD) (t : Fin cfg0.N) : Vec F S128x1024 .f32 := k0_pay1 (iblk m c 0 t) (iblk m c 1 t)

theorem acc_first (c : Dev nD) (t : Fin cfg0.N) (h : t.val % 4 = 0) : (outsAt0 m c t.val t.isLt).2 = part m c t := by
  rw [outsAt0_A m c t h (by have : t.val < 4 := t.isLt; omega) (by omega)]
  dsimp only
  rw [sout_A]

theorem acc_next (c : Dev nD) (t : Fin cfg0.N) (h : t.val % 4 = 1 ∨ t.val % 4 = 2) :
    (outsAt0 m c t.val t.isLt).2 = addf (F := F) (φ := .f32) (outsAt0 m c (t.val - 1) (Nat.lt_of_le_of_lt (Nat.sub_le _ _) t.isLt)).2 (part m c t) := by
  rw [outsAt0_B m c t (by omega) (by omega) (by omega)]
  dsimp only
  rw [sout_B]

theorem out_last (c : Dev nD) (t : Fin cfg0.N) (h : t.val % 4 = 3) :
    (outsAt0 m c t.val t.isLt).1 = truncf (F := F) .bf16 (addf (F := F) (φ := .f32) (outsAt0 m c (t.val - 1) (Nat.lt_of_le_of_lt (Nat.sub_le _ _) t.isLt)).2 (part m c t)) bitsLt_bf16_f32 := by
  rw [outsAt0_C m c t (by omega) (by omega) (by omega)]
  dsimp only
  rw [out_C]

end

variable (m : (ℓ : Loc nD τ sig) → Buf (Elt Ideal) ℓ)

/-- The result's block `q` is the sum of its four tiles' products. -/
theorem out_sum (c : Dev nD) (q : Fin 1) (y : S128x1024.Idx) :
    (outsAt0 m c (4 * q.val + 3) (show _ < 4 by omega)).1 y
      = ∑ j : Fin 4, part m c ⟨4 * q.val + j.val, show _ < 4 by omega⟩ y := by
  rw [out_last m c ⟨4 * q.val + 3, show _ < 4 by omega⟩ (by dsimp only; omega)]
  have e2 := acc_next m c ⟨4 * q.val + 2, show _ < 4 by omega⟩ (by dsimp only; omega)
  have e1 := acc_next m c ⟨4 * q.val + 1, show _ < 4 by omega⟩ (by dsimp only; omega)
  have e0 := acc_first m c ⟨4 * q.val + 0, show _ < 4 by omega⟩ (by dsimp only; omega)
  dsimp only [Nat.add_sub_cancel] at e0 e1 e2 ⊢
  rw [Fin.sum_univ_four]
  simp only [show 4 * q.val + 3 - 1 = 4 * q.val + 2 by omega, show 4 * q.val + 2 - 1 = 4 * q.val + 1 by omega, show 4 * q.val + 1 - 1 = 4 * q.val + 0 by omega] at e1 e2 ⊢
  rw [e2, e1, e0]
  rfl

/-- Where the tiles lie. -/
theorem idx_facts : ∀ t : Fin cfg0.N, win0_0.index t 0 = t.val % 4 ∧ win0_0.index t 1 = t.val / 4 ∧ win0_1.index t 0 = t.val % 4 ∧ win0_1.index t 1 = 0 ∧ win0_2.index t 0 = t.val / 4 ∧ win0_2.index t 1 = 0 := by
  decide +kernel

/-- The product of the transpose of `A` with `B`. -/
def prod (A : FVec Ideal S8192x128 .bf16) (B : FVec Ideal S8192x1024 .bf16) : FVec Ideal S128x1024 .bf16 :=
  fun i => ∑ k : Fin 8192, A (ix2 k (i 0)) * B (ix2 k (i 1))

/-- The product of the tiles staged at point `4 q + j`, at an index. -/
theorem part_apply (c : Dev nD) (A : FVec Ideal S8192x128 .bf16) (B : FVec Ideal S8192x1024 .bf16)
    (hA : m (c.tc.loc main_arg0) = A) (hB : m (c.tc.loc main_arg1) = B) (q : Fin 1) (j : Fin 4) (y : S128x1024.Idx) :
    part m c ⟨4 * q.val + j.val, show _ < 4 by omega⟩ y
      = ∑ k : Fin 2048, A (ix2 ⟨j.val * 2048 + k.val, show _ < 8192 by omega⟩ (y 0))
          * B (ix2 ⟨j.val * 2048 + k.val, show _ < 8192 by omega⟩ (y 1)) := by
  obtain ⟨e0, e1, e2, e3, -, -⟩ := idx_facts ⟨4 * q.val + j.val, show _ < 4 by omega⟩
  unfold part k0_pay1
  pointwise
  refine Finset.sum_congr rfl fun k _ => congrArg₂ (fun a b : EReal => a * b) ?_ ?_
  · rw [← hA]
    refine congrArg (m (c.tc.loc main_arg0)) (funext fun a => Fin.ext ?_)
    match a with
    | ⟨0, _⟩ => show win0_0.index _ 0 * 2048 + 1 * k.val = _; rw [e0]; show (4 * q.val + j.val) % 4 * 2048 + _ = j.val * 2048 + k.val; omega
    | ⟨1, _⟩ => show win0_0.index _ 1 * 128 + 1 * (y 0).val = _; rw [e1]; show (4 * q.val + j.val) / 4 * 128 + _ = (y 0).val; have := q.isLt; omega
  · rw [← hB]
    refine congrArg (m (c.tc.loc main_arg1)) (funext fun a => Fin.ext ?_)
    match a with
    | ⟨0, _⟩ => show win0_1.index _ 0 * 2048 + 1 * k.val = _; rw [e2]; show (4 * q.val + j.val) % 4 * 2048 + _ = j.val * 2048 + k.val; omega
    | ⟨1, _⟩ => show win0_1.index _ 1 * 1024 + 1 * (y 1).val = _; rw [e3]; show _ = (y 1).val; omega

/-- Where the result's block `q` lies. -/
theorem emb2 (q : Fin 1) (t : Fin cfg0.N) (ht : t.val = 4 * q.val + 3) (y : S128x1024.Idx) :
    ((cfg0.win 2).blk t).view.emb y = ix2 (y 0) (y 1) := by
  obtain ⟨-, -, -, -, e4, e5⟩ := idx_facts t
  refine funext fun a => Fin.ext ?_
  match a with
  | ⟨0, _⟩ => show win0_2.index _ 0 * 128 + 1 * (y 0).val = _; rw [e4]; show t.val / 4 * 128 + _ = (y 0).val; have := q.isLt; omega
  | ⟨1, _⟩ => show win0_2.index _ 1 * 1024 + 1 * (y 1).val = _; rw [e5]; show _ = (y 1).val; omega

/-- The result's block `q`, as the pipeline leaves it. -/
theorem final_at (c : Dev nD) (A : FVec Ideal S8192x128 .bf16) (B : FVec Ideal S8192x1024 .bf16)
    (hA : m (c.tc.loc main_arg0) = A) (hB : m (c.tc.loc main_arg1) = B) (q : Fin 1) (t : Fin cfg0.N) (e : t = ⟨4 * q.val + 3, show _ < 4 by omega⟩) (y : S128x1024.Idx) :
    (dats m 0 c).after 2 t y = prod A B (((cfg0.win 2).blk t).view.emb y) := by
  subst e
  rw [emb2 q _ rfl, after0_2]
  refine (out_sum m c q y).trans ?_
  unfold prod
  rw [Fin.sum_univ_tiles (N := 8192) 4 2048 rfl]
  exact Finset.sum_congr rfl fun j _ => part_apply m c A B hA hB q j y

/-- What the result array ends holding: the whole product. -/
theorem final (c : Dev nD) (A : FVec Ideal S8192x128 .bf16) (B : FVec Ideal S8192x1024 .bf16)
    (hA : m (c.tc.loc main_arg0) = A) (hB : m (c.tc.loc main_arg1) = B) :
    (dats m 0 c).arrAt 2 cfg0.N = prod A B := by
  refine (dats m 0 c).arrAt_eq_of_covers 2 _ (by decide +kernel) fun t hf y => ?_
  have hm : t.val % 4 = 3 := (flush0_2 t).mp hf
  have hN : t.val < 4 := t.isLt
  exact final_at m c A B hA hB ⟨t.val / 4, by omega⟩ t (Fin.ext (by dsimp only; omega)) y

end Cert.GdnGwGates

namespace Cert.GdnGwGates

open Cert.Reference25Ideal Cert.Reference25Ideal.Gen Idealize.ShloMosaic Idealize.ShloMosaic.StableHlo

/-- The reference's product. -/
theorem reference (A : FVec Ideal S8192x128 .bf16) (B : FVec Ideal S8192x1024 .bf16) :
    truncf .bf16 (transpose S128x1024 [1, 0] (transpose S1024x128 [1, 0] (Host.dotGeneral dot_S8192x128_S8192x1024_S128x1024_0_0_1_1_n_n none (extf .f32 A bitsLt_bf16_f32) (extf .f32 B bitsLt_bf16_f32)) transposes_S128x1024_S1024x128_1_0) transposes_S1024x128_S128x1024_1_0) bitsLt_bf16_f32 = prod A B := by
  funext i
  unfold prod
  pointwise

end Cert.GdnGwGates
-- ==== Proof.Layer.lean ====
/- The layers' products: their frames, and that each ends with the reference's values. -/
module

public import proofs.«01_k».proof.Defs
public import proofs.«01_k».proof.Proof.Gen.Kernel2.Frame
public import proofs.«01_k».proof.Proof.GwOut
public import proofs.«01_k».proof.Proof.Gen.Kernel3.Frame
public import proofs.«01_k».proof.Proof.GwIn
public import proofs.«01_k».proof.Proof.Gen.Kernel4.Frame
public import proofs.«01_k».proof.Proof.FfnIn
public import proofs.«01_k».proof.Proof.Gen.Kernel5.Frame
public import proofs.«01_k».proof.Proof.FfnOut
public import proofs.«01_k».proof.Proof.Gen.Kernel6.Frame
public import proofs.«01_k».proof.Proof.FfnDact
public import proofs.«01_k».proof.Proof.Gen.Kernel7.Frame
public import proofs.«01_k».proof.Proof.FfnDhn
public import proofs.«01_k».proof.Proof.Gen.Kernel8.Frame
public import proofs.«01_k».proof.Proof.GdnProj
public import proofs.«01_k».proof.Proof.Gen.Kernel9.Frame
public import proofs.«01_k».proof.Proof.GdnGwQkv
public import proofs.«01_k».proof.Proof.Gen.Kernel10.Frame
public import proofs.«01_k».proof.Proof.GdnGwOut
public import proofs.«01_k».proof.Proof.Gen.Kernel11.Frame
public import proofs.«01_k».proof.Proof.GdnDhnQkv
public import proofs.«01_k».proof.Proof.Gen.Kernel12.Frame
public import proofs.«01_k».proof.Proof.GdnDhnZ
public import proofs.«01_k».proof.Proof.Gen.Kernel13.Frame
public import proofs.«01_k».proof.Proof.GdnDgate
public import proofs.«01_k».proof.Proof.Gen.Kernel14.Frame
public import proofs.«01_k».proof.Proof.GdnOut
public import proofs.«01_k».proof.Proof.Gen.Kernel15.Frame
public import proofs.«01_k».proof.Proof.DilDmerged
public import proofs.«01_k».proof.Proof.Gen.Kernel16.Frame
public import proofs.«01_k».proof.Proof.DilOut
public import proofs.«01_k».proof.Proof.Gen.Kernel17.Frame
public import proofs.«01_k».proof.Proof.DilProj
public import proofs.«01_k».proof.Proof.Gen.Kernel18.Frame
public import proofs.«01_k».proof.Proof.DilGwParts
public import proofs.«01_k».proof.Proof.Gen.Kernel19.Frame
public import proofs.«01_k».proof.Proof.DilGw
public import proofs.«01_k».proof.Proof.Gen.Kernel20.Frame
public import proofs.«01_k».proof.Proof.DilDhn
public import proofs.«01_k».proof.Proof.Gen.Kernel21.Frame
public import proofs.«01_k».proof.Proof.DilDhnParts
public import proofs.«01_k».proof.Proof.Gen.Kernel22.Frame
public import proofs.«01_k».proof.Proof.DilDhnNorm
public import proofs.«01_k».proof.Proof.Gen.Kernel23.Frame
public import proofs.«01_k».proof.Proof.GdnDhnNorm
public import Idealize.ShloMosaic.Lib.Quiescent
public import proofs.«01_k».proof.Proof.Gen.Kernel24.Frame
public import proofs.«01_k».proof.Proof.GdnProjGates
public import proofs.«01_k».proof.Proof.Gen.Kernel25.Frame
public import proofs.«01_k».proof.Proof.GdnGwGates

@[expose] public section

noncomputable section

namespace Cert.Proof

open Idealize.ShloMosaic Idealize.SL.Sem

theorem frameK2 : quiescent_Kernel2 := fun m g _ => Kernel2.Gen.frame m g

theorem frameKI2 : quiescent_Kernel2Ideal := fun m g _ => Kernel2Ideal.Gen.frame m g

theorem frameR2 : quiescent_Reference2Ideal := fun m g _ =>
  (θ_run _ _ _).mono (fun q h => ⟨fun c => (h c).2, sem_eq_zero_of_no_sems (by decide) q.2⟩) (Reference2Ideal.Value.run m g)

theorem values2 : algebraic_Kernel2Ideal_Reference2Ideal := by
  intro m g m' g' _ h
  refine ⟨fun c => GwOut.prod (m (c.tc.loc Kernel2Ideal.main_arg0)) (m (c.tc.loc Kernel2Ideal.main_arg1)), ?_, ?_⟩
  · refine (θ_run _ _ _).mono (fun _ q c => ?_) (Kernel2Ideal.Value.run_blocks m g)
    obtain ⟨q0, qa⟩ := q c
    exact ⟨q0.trans (GwOut.final m c _ _ rfl rfl), qa⟩
  · refine (θ_run _ _ _).mono (fun _ q c => ?_) (Reference2Ideal.Value.run m' g')
    obtain ⟨q0, qa⟩ := q c
    obtain ⟨h0, h1⟩ := h c
    have e0 := q0.trans (GwOut.reference _ _)
    rw [h0, h1] at e0
    exact ⟨e0, qa⟩

theorem frameK3 : quiescent_Kernel3 := fun m g _ => Kernel3.Gen.frame m g

theorem frameKI3 : quiescent_Kernel3Ideal := fun m g _ => Kernel3Ideal.Gen.frame m g

theorem frameR3 : quiescent_Reference3Ideal := fun m g _ =>
  (θ_run _ _ _).mono (fun q h => ⟨fun c => (h c).2, sem_eq_zero_of_no_sems (by decide) q.2⟩) (Reference3Ideal.Value.run m g)

theorem values3 : algebraic_Kernel3Ideal_Reference3Ideal := by
  intro m g m' g' _ h
  refine ⟨fun c => GwIn.prod (m (c.tc.loc Kernel3Ideal.main_arg0)) (m (c.tc.loc Kernel3Ideal.main_arg1)), ?_, ?_⟩
  · refine (θ_run _ _ _).mono (fun _ q c => ?_) (Kernel3Ideal.Value.run_blocks m g)
    obtain ⟨q0, qa⟩ := q c
    exact ⟨q0.trans (GwIn.final m c _ _ rfl rfl), qa⟩
  · refine (θ_run _ _ _).mono (fun _ q c => ?_) (Reference3Ideal.Value.run m' g')
    obtain ⟨q0, qa⟩ := q c
    obtain ⟨h0, h1⟩ := h c
    have e0 := q0.trans (GwIn.reference _ _)
    rw [h0, h1] at e0
    exact ⟨e0, qa⟩

theorem frameK4 : quiescent_Kernel4 := fun m g _ => Kernel4.Gen.frame m g

theorem frameKI4 : quiescent_Kernel4Ideal := fun m g _ => Kernel4Ideal.Gen.frame m g

theorem frameR4 : quiescent_Reference4Ideal := fun m g _ =>
  (θ_run _ _ _).mono (fun q h => ⟨fun c => (h c).2.2.2, sem_eq_zero_of_no_sems (by decide) q.2⟩) (Reference4Ideal.Value.run m g)

open Kernel4Ideal in
theorem values4 : algebraic_Kernel4Ideal_Reference4Ideal := by
  intro m g m' g' _ h
  refine ⟨fun c => FfnIn.gate (m (c.tc.loc main_arg0)) (m (c.tc.loc main_arg1)), fun c => FfnIn.up (m (c.tc.loc main_arg0)) (m (c.tc.loc main_arg1)), fun c => FfnIn.act (m (c.tc.loc main_arg0)) (m (c.tc.loc main_arg1)), ?_, ?_⟩
  · refine (θ_run _ _ _).mono (fun _ q c => ?_) (Kernel4Ideal.Value.run_blocks m g)
    obtain ⟨q0, q1, q2, qa⟩ := q c
    exact ⟨q0.trans (FfnIn.final3 c _ _ rfl rfl), q1.trans (FfnIn.final4 c _ _ rfl rfl), q2.trans (FfnIn.final5 c _ _ rfl rfl), qa⟩
  · refine (θ_run _ _ _).mono (fun _ q c => ?_) (Reference4Ideal.Value.run m' g')
    obtain ⟨q0, q1, q2, qa⟩ := q c
    obtain ⟨h0, h1⟩ := h c
    have e0 := q0.trans (FfnIn.ref_gate _ _)
    rw [h0, h1] at e0
    have e1 := q1.trans (FfnIn.ref_up _ _)
    rw [h0, h1] at e1
    have e2 := q2.trans (FfnIn.ref_act _ _)
    rw [h0, h1] at e2
    exact ⟨e0, e1, e2, qa⟩

theorem frameK5 : quiescent_Kernel5 := fun m g _ => Kernel5.Gen.frame m g

theorem frameKI5 : quiescent_Kernel5Ideal := fun m g _ => Kernel5Ideal.Gen.frame m g

theorem frameR5 : quiescent_Reference5Ideal := fun m g _ =>
  (θ_run _ _ _).mono (fun q h => ⟨fun c => (h c).2.2, sem_eq_zero_of_no_sems (by decide) q.2⟩) (Reference5Ideal.Value.run m g)

open Kernel5Ideal in
theorem values5 : algebraic_Kernel5Ideal_Reference5Ideal := by
  intro m g m' g' _ h
  refine ⟨fun c => FfnOut.sumOf (m (c.tc.loc main_arg0)) (m (c.tc.loc main_arg1)) (m (c.tc.loc main_arg2)), fun c => FfnOut.normOf (m (c.tc.loc main_arg0)) (m (c.tc.loc main_arg1)) (m (c.tc.loc main_arg2)) (m (c.tc.loc main_arg3)), ?_, ?_⟩
  · refine (θ_run _ _ _).mono (fun _ q c => ?_) (Kernel5Ideal.Value.run_blocks m g)
    obtain ⟨q0, q1, qa⟩ := q c
    exact ⟨q0.trans (FfnOut.final4 c _ _ _ rfl rfl rfl), q1.trans (FfnOut.final5 c _ _ _ _ rfl rfl rfl rfl), qa⟩
  · refine (θ_run _ _ _).mono (fun _ q c => ?_) (Reference5Ideal.Value.run m' g')
    obtain ⟨q0, q1, qa⟩ := q c
    obtain ⟨h0, h1, h2, h3⟩ := h c
    have e0 := q0.trans (FfnOut.ref_sum _ _ _)
    rw [h0, h1, h2] at e0
    have e1 := q1.trans (FfnOut.ref_norm _ _ _ _)
    rw [h0, h1, h2, h3] at e1
    exact ⟨e0, e1, qa⟩

theorem frameK6 : quiescent_Kernel6 := fun m g _ => Kernel6.Gen.frame m g

theorem frameKI6 : quiescent_Kernel6Ideal := fun m g _ => Kernel6Ideal.Gen.frame m g

theorem frameR6 : quiescent_Reference6Ideal := fun m g _ =>
  (θ_run _ _ _).mono (fun q h => ⟨fun c => (h c).2, sem_eq_zero_of_no_sems (by decide) q.2⟩) (Reference6Ideal.Value.run m g)

theorem frameKP6 : quiescent_Kernel6Ideal_pre_finite6 := fun m g _ => Kernel6Ideal.Gen.frame m g

theorem frameRP6 : quiescent_Reference6Ideal_pre_finite6 := fun m g _ =>
  (θ_run _ _ _).mono (fun q h => ⟨fun c => (h c).2, sem_eq_zero_of_no_sems (by decide) q.2⟩) (Reference6Ideal.Value.run m g)

open Kernel6Ideal in
theorem values6 : algebraic_Kernel6Ideal_Reference6Ideal_pre_finite6 := by
  intro m g m' g' p h
  have hp := fun c : Dev Kernel6Ideal.nD => FfnDact.reals _ _ _ _ (p c)
  refine ⟨fun c => FfnDact.both (m (c.tc.loc main_arg0)) (m (c.tc.loc main_arg1)) (m (c.tc.loc main_arg2)) (m (c.tc.loc main_arg3)), ?_, ?_⟩
  · refine (θ_run _ _ _).mono (fun _ q c => ?_) (Kernel6Ideal.Value.run_blocks m g)
    obtain ⟨q0, qa⟩ := q c
    exact ⟨q0.trans (FfnDact.final c _ _ _ _ rfl rfl rfl rfl), qa⟩
  · refine (θ_run _ _ _).mono (fun _ q c => ?_) (Reference6Ideal.Value.run m' g')
    obtain ⟨q0, qa⟩ := q c
    obtain ⟨h0, h1, h2, h3⟩ := h c
    have hr := hp c
    rw [← h0, ← h1, ← h3] at hr
    have e0 := q0.trans (FfnDact.reference _ _ _ _ (FfnDact.back_real _ _ _ hr.1 hr.2.1 hr.2.2))
    rw [h0, h1, h2, h3] at e0
    exact ⟨e0, qa⟩

theorem frameK7 : quiescent_Kernel7 := fun m g _ => Kernel7.Gen.frame m g

theorem frameKI7 : quiescent_Kernel7Ideal := fun m g _ => Kernel7Ideal.Gen.frame m g

theorem frameR7 : quiescent_Reference7Ideal := fun m g _ =>
  (θ_run _ _ _).mono (fun q h => ⟨fun c => (h c).2.2.2, sem_eq_zero_of_no_sems (by decide) q.2⟩) (Reference7Ideal.Value.run m g)

theorem frameKP7 : quiescent_Kernel7Ideal_pre_finite7 := fun m g _ => Kernel7Ideal.Gen.frame m g

theorem frameRP7 : quiescent_Reference7Ideal_pre_finite7 := fun m g _ =>
  (θ_run _ _ _).mono (fun q h => ⟨fun c => (h c).2.2.2, sem_eq_zero_of_no_sems (by decide) q.2⟩) (Reference7Ideal.Value.run m g)

open Kernel7Ideal in
theorem values7 : algebraic_Kernel7Ideal_Reference7Ideal_pre_finite7 := by
  intro m g m' g' p h
  have hp := fun c : Dev Kernel7Ideal.nD => FfnDhn.reals _ _ _ _ _ (p c)
  refine ⟨fun c => FfnDhn.total (m (c.tc.loc main_arg0)) (m (c.tc.loc main_arg1)) (m (c.tc.loc main_arg2)) (m (c.tc.loc main_arg3)) (m (c.tc.loc main_arg4)), fun c => FfnDhn.total (m (c.tc.loc main_arg0)) (m (c.tc.loc main_arg1)) (m (c.tc.loc main_arg2)) (m (c.tc.loc main_arg3)) (m (c.tc.loc main_arg4)), fun c => FfnDhn.scales (m (c.tc.loc main_arg0)) (m (c.tc.loc main_arg1)) (m (c.tc.loc main_arg2)), ?_, ?_⟩
  · refine (θ_run _ _ _).mono (fun _ q c => ?_) (Kernel7Ideal.Value.run_blocks m g)
    obtain ⟨q0, q1, q2, qa⟩ := q c
    exact ⟨q0.trans (FfnDhn.final5 c _ _ _ _ _ rfl rfl rfl rfl rfl), q1.trans (FfnDhn.final6 c _ _ _ _ _ rfl rfl rfl rfl rfl), q2.trans (FfnDhn.final7 c _ _ _ rfl rfl rfl), qa⟩
  · refine (θ_run _ _ _).mono (fun _ q c => ?_) (Reference7Ideal.Value.run m' g')
    obtain ⟨q0, q1, q2, qa⟩ := q c
    obtain ⟨h0, h1, h2, h3, h4⟩ := h c
    have hr := hp c
    rw [← h0, ← h1, ← h2, ← h3] at hr
    have e0 := q0.trans (FfnDhn.ref_x _ _ _ _ _ hr)
    rw [h0, h1, h2, h3, h4] at e0
    have e1 := q1.trans (FfnDhn.ref_x16 _ _ _ _ _ hr)
    rw [h0, h1, h2, h3, h4] at e1
    have e2 := q2.trans (FfnDhn.ref_w _ _ _)
    rw [h0, h1, h2] at e2
    exact ⟨e0, e1, e2, qa⟩

theorem frameK8 : quiescent_Kernel8 := fun m g _ => Kernel8.Gen.frame m g

theorem frameKI8 : quiescent_Kernel8Ideal := fun m g _ => Kernel8Ideal.Gen.frame m g

theorem frameR8 : quiescent_Reference8Ideal := fun m g _ =>
  (θ_run _ _ _).mono (fun q h => ⟨fun c => (h c).2, sem_eq_zero_of_no_sems (by decide) q.2⟩) (Reference8Ideal.Value.run m g)

theorem values8 : algebraic_Kernel8Ideal_Reference8Ideal := by
  intro m g m' g' _ h
  refine ⟨fun c => GdnProj.prod (m (c.tc.loc Kernel8Ideal.main_arg0)) (m (c.tc.loc Kernel8Ideal.main_arg1)), ?_, ?_⟩
  · refine (θ_run _ _ _).mono (fun _ q c => ?_) (Kernel8Ideal.Value.run_blocks m g)
    obtain ⟨q0, qa⟩ := q c
    exact ⟨q0.trans (GdnProj.final c _ _ rfl rfl), qa⟩
  · refine (θ_run _ _ _).mono (fun _ q c => ?_) (Reference8Ideal.Value.run m' g')
    obtain ⟨q0, qa⟩ := q c
    obtain ⟨h0, h1⟩ := h c
    have e0 := q0.trans (GdnProj.reference _ _)
    rw [h0, h1] at e0
    exact ⟨e0, qa⟩

theorem frameK9 : quiescent_Kernel9 := fun m g _ => Kernel9.Gen.frame m g

theorem frameKI9 : quiescent_Kernel9Ideal := fun m g _ => Kernel9Ideal.Gen.frame m g

theorem frameR9 : quiescent_Reference9Ideal := fun m g _ =>
  (θ_run _ _ _).mono (fun q h => ⟨fun c => (h c).2, sem_eq_zero_of_no_sems (by decide) q.2⟩) (Reference9Ideal.Value.run m g)

theorem values9 : algebraic_Kernel9Ideal_Reference9Ideal := by
  intro m g m' g' _ h
  refine ⟨fun c => GdnGwQkv.prod (m (c.tc.loc Kernel9Ideal.main_arg0)) (m (c.tc.loc Kernel9Ideal.main_arg1)), ?_, ?_⟩
  · refine (θ_run _ _ _).mono (fun _ q c => ?_) (Kernel9Ideal.Value.run_blocks m g)
    obtain ⟨q0, qa⟩ := q c
    exact ⟨q0.trans (GdnGwQkv.final m c _ _ rfl rfl), qa⟩
  · refine (θ_run _ _ _).mono (fun _ q c => ?_) (Reference9Ideal.Value.run m' g')
    obtain ⟨q0, qa⟩ := q c
    obtain ⟨h0, h1⟩ := h c
    have e0 := q0.trans (GdnGwQkv.reference _ _)
    rw [h0, h1] at e0
    exact ⟨e0, qa⟩

theorem frameK10 : quiescent_Kernel10 := fun m g _ => Kernel10.Gen.frame m g

theorem frameKI10 : quiescent_Kernel10Ideal := fun m g _ => Kernel10Ideal.Gen.frame m g

theorem frameR10 : quiescent_Reference10Ideal := fun m g _ =>
  (θ_run _ _ _).mono (fun q h => ⟨fun c => (h c).2, sem_eq_zero_of_no_sems (by decide) q.2⟩) (Reference10Ideal.Value.run m g)

theorem values10 : algebraic_Kernel10Ideal_Reference10Ideal := by
  intro m g m' g' _ h
  refine ⟨fun c => GdnGwOut.prod (m (c.tc.loc Kernel10Ideal.main_arg0)) (m (c.tc.loc Kernel10Ideal.main_arg1)), ?_, ?_⟩
  · refine (θ_run _ _ _).mono (fun _ q c => ?_) (Kernel10Ideal.Value.run_blocks m g)
    obtain ⟨q0, qa⟩ := q c
    exact ⟨q0.trans (GdnGwOut.final m c _ _ rfl rfl), qa⟩
  · refine (θ_run _ _ _).mono (fun _ q c => ?_) (Reference10Ideal.Value.run m' g')
    obtain ⟨q0, qa⟩ := q c
    obtain ⟨h0, h1⟩ := h c
    have e0 := q0.trans (GdnGwOut.reference _ _)
    rw [h0, h1] at e0
    exact ⟨e0, qa⟩

theorem frameK11 : quiescent_Kernel11 := fun m g _ => Kernel11.Gen.frame m g

theorem frameKI11 : quiescent_Kernel11Ideal := fun m g _ => Kernel11Ideal.Gen.frame m g

theorem frameR11 : quiescent_Reference11Ideal := fun m g _ =>
  (θ_run _ _ _).mono (fun q h => ⟨fun c => (h c).2, sem_eq_zero_of_no_sems (by decide) q.2⟩) (Reference11Ideal.Value.run m g)

theorem values11 : algebraic_Kernel11Ideal_Reference11Ideal := by
  intro m g m' g' _ h
  refine ⟨fun c => GdnDhnQkv.prod (m (c.tc.loc Kernel11Ideal.main_arg0)) (m (c.tc.loc Kernel11Ideal.main_arg1)), ?_, ?_⟩
  · refine (θ_run _ _ _).mono (fun _ q c => ?_) (Kernel11Ideal.Value.run_blocks m g)
    obtain ⟨q0, qa⟩ := q c
    exact ⟨q0.trans (GdnDhnQkv.final c _ _ rfl rfl), qa⟩
  · refine (θ_run _ _ _).mono (fun _ q c => ?_) (Reference11Ideal.Value.run m' g')
    obtain ⟨q0, qa⟩ := q c
    obtain ⟨h0, h1⟩ := h c
    have e0 := q0.trans (GdnDhnQkv.reference _ _)
    rw [h0, h1] at e0
    exact ⟨e0, qa⟩

theorem frameK12 : quiescent_Kernel12 := fun m g _ => Kernel12.Gen.frame m g

theorem frameKI12 : quiescent_Kernel12Ideal := fun m g _ => Kernel12Ideal.Gen.frame m g

theorem frameR12 : quiescent_Reference12Ideal := fun m g _ =>
  (θ_run _ _ _).mono (fun q h => ⟨fun c => (h c).2, sem_eq_zero_of_no_sems (by decide) q.2⟩) (Reference12Ideal.Value.run m g)

theorem values12 : algebraic_Kernel12Ideal_Reference12Ideal := by
  intro m g m' g' _ h
  refine ⟨fun c => GdnDhnZ.prod (m (c.tc.loc Kernel12Ideal.main_arg0)) (m (c.tc.loc Kernel12Ideal.main_arg1)) (m (c.tc.loc Kernel12Ideal.main_arg2)), ?_, ?_⟩
  · refine (θ_run _ _ _).mono (fun _ q c => ?_) (Kernel12Ideal.Value.run_blocks m g)
    obtain ⟨q0, qa⟩ := q c
    exact ⟨q0.trans (GdnDhnZ.final c _ _ _ rfl rfl rfl), qa⟩
  · refine (θ_run _ _ _).mono (fun _ q c => ?_) (Reference12Ideal.Value.run m' g')
    obtain ⟨q0, qa⟩ := q c
    obtain ⟨h0, h1, h2⟩ := h c
    have e0 := q0.trans (GdnDhnZ.reference _ _ _)
    rw [h0, h1, h2] at e0
    exact ⟨e0, qa⟩

theorem frameK13 : quiescent_Kernel13 := fun m g _ => Kernel13.Gen.frame m g

theorem frameKI13 : quiescent_Kernel13Ideal := fun m g _ => Kernel13Ideal.Gen.frame m g

theorem frameR13 : quiescent_Reference13Ideal := fun m g _ =>
  (θ_run _ _ _).mono (fun q h => ⟨fun c => (h c).2, sem_eq_zero_of_no_sems (by decide) q.2⟩) (Reference13Ideal.Value.run m g)

theorem values13 : algebraic_Kernel13Ideal_Reference13Ideal := by
  intro m g m' g' _ h
  refine ⟨fun c => GdnDgate.prod (m (c.tc.loc Kernel13Ideal.main_arg0)) (m (c.tc.loc Kernel13Ideal.main_arg1)), ?_, ?_⟩
  · refine (θ_run _ _ _).mono (fun _ q c => ?_) (Kernel13Ideal.Value.run_blocks m g)
    obtain ⟨q0, qa⟩ := q c
    exact ⟨q0.trans (GdnDgate.final c _ _ rfl rfl), qa⟩
  · refine (θ_run _ _ _).mono (fun _ q c => ?_) (Reference13Ideal.Value.run m' g')
    obtain ⟨q0, qa⟩ := q c
    obtain ⟨h0, h1⟩ := h c
    have e0 := q0.trans (GdnDgate.reference _ _)
    rw [h0, h1] at e0
    exact ⟨e0, qa⟩

theorem frameK14 : quiescent_Kernel14 := fun m g _ => Kernel14.Gen.frame m g

theorem frameKI14 : quiescent_Kernel14Ideal := fun m g _ => Kernel14Ideal.Gen.frame m g

theorem frameR14 : quiescent_Reference14Ideal := fun m g _ =>
  (θ_run _ _ _).mono (fun q h => ⟨fun c => (h c).2.2, sem_eq_zero_of_no_sems (by decide) q.2⟩) (Reference14Ideal.Value.run m g)

open Kernel14Ideal in
theorem values14 : algebraic_Kernel14Ideal_Reference14Ideal := by
  intro m g m' g' _ h
  refine ⟨fun c => GdnOut.prod (m (c.tc.loc main_arg0)) (m (c.tc.loc main_arg1)) (m (c.tc.loc main_arg2)), fun c => GdnOut.normOf (m (c.tc.loc main_arg0)) (m (c.tc.loc main_arg1)) (m (c.tc.loc main_arg2)) (m (c.tc.loc main_arg3)), ?_, ?_⟩
  · refine (θ_run _ _ _).mono (fun _ q c => ?_) (Kernel14Ideal.Value.run_blocks m g)
    obtain ⟨q0, q1, qa⟩ := q c
    exact ⟨q0.trans (GdnOut.final c _ _ _ rfl rfl rfl), q1.trans (GdnOut.final_norm c _ _ _ _ rfl rfl rfl rfl), qa⟩
  · refine (θ_run _ _ _).mono (fun _ q c => ?_) (Reference14Ideal.Value.run m' g')
    obtain ⟨q0, q1, qa⟩ := q c
    obtain ⟨h0, h1, h2, h3⟩ := h c
    have e0 := q0.trans (GdnOut.reference _ _ _)
    rw [h0, h1, h2] at e0
    have e1 := q1.trans (GdnOut.ref_norm _ _ _ _)
    rw [h0, h1, h2, h3] at e1
    exact ⟨e0, e1, qa⟩

theorem frameK15 : quiescent_Kernel15 := fun m g _ => Kernel15.Gen.frame m g

theorem frameKI15 : quiescent_Kernel15Ideal := fun m g _ => Kernel15Ideal.Gen.frame m g

theorem frameR15 : quiescent_Reference15Ideal := fun m g _ =>
  (θ_run _ _ _).mono (fun q h => ⟨fun c => (h c).2, sem_eq_zero_of_no_sems (by decide) q.2⟩) (Reference15Ideal.Value.run m g)

theorem values15 : algebraic_Kernel15Ideal_Reference15Ideal := by
  intro m g m' g' _ h
  refine ⟨fun c => DilDmerged.prod (m (c.tc.loc Kernel15Ideal.main_arg0)) (m (c.tc.loc Kernel15Ideal.main_arg1)), ?_, ?_⟩
  · refine (θ_run _ _ _).mono (fun _ q c => ?_) (Kernel15Ideal.Value.run_blocks m g)
    obtain ⟨q0, qa⟩ := q c
    exact ⟨q0.trans (DilDmerged.final c _ _ rfl rfl), qa⟩
  · refine (θ_run _ _ _).mono (fun _ q c => ?_) (Reference15Ideal.Value.run m' g')
    obtain ⟨q0, qa⟩ := q c
    obtain ⟨h0, h1⟩ := h c
    have e0 := q0.trans (DilDmerged.reference _ _)
    rw [h0, h1] at e0
    exact ⟨e0, qa⟩

theorem frameK16 : quiescent_Kernel16 := fun m g _ => Kernel16.Gen.frame m g

theorem frameKI16 : quiescent_Kernel16Ideal := fun m g _ => Kernel16Ideal.Gen.frame m g

theorem frameR16 : quiescent_Reference16Ideal := fun m g _ =>
  (θ_run _ _ _).mono (fun q h => ⟨fun c => (h c).2.2, sem_eq_zero_of_no_sems (by decide) q.2⟩) (Reference16Ideal.Value.run m g)

open Kernel16Ideal in
theorem values16 : algebraic_Kernel16Ideal_Reference16Ideal := by
  intro m g m' g' _ h
  refine ⟨fun c => DilOut.prod (m (c.tc.loc main_arg0)) (m (c.tc.loc main_arg1)) (m (c.tc.loc main_arg2)), fun c => DilOut.normOf (m (c.tc.loc main_arg0)) (m (c.tc.loc main_arg1)) (m (c.tc.loc main_arg2)) (m (c.tc.loc main_arg3)), ?_, ?_⟩
  · refine (θ_run _ _ _).mono (fun _ q c => ?_) (Kernel16Ideal.Value.run_blocks m g)
    obtain ⟨q0, q1, qa⟩ := q c
    exact ⟨q0.trans (DilOut.final c _ _ _ rfl rfl rfl), q1.trans (DilOut.final_norm c _ _ _ _ rfl rfl rfl rfl), qa⟩
  · refine (θ_run _ _ _).mono (fun _ q c => ?_) (Reference16Ideal.Value.run m' g')
    obtain ⟨q0, q1, qa⟩ := q c
    obtain ⟨h0, h1, h2, h3⟩ := h c
    have e0 := q0.trans (DilOut.reference _ _ _)
    rw [h0, h1, h2] at e0
    have e1 := q1.trans (DilOut.ref_norm _ _ _ _)
    rw [h0, h1, h2, h3] at e1
    exact ⟨e0, e1, qa⟩

theorem frameK17 : quiescent_Kernel17 := fun m g _ => Kernel17.Gen.frame m g

theorem frameKI17 : quiescent_Kernel17Ideal := fun m g _ => Kernel17Ideal.Gen.frame m g

theorem frameR17 : quiescent_Reference17Ideal := fun m g _ =>
  (θ_run _ _ _).mono (fun q h => ⟨fun c => (h c).2, sem_eq_zero_of_no_sems (by decide) q.2⟩) (Reference17Ideal.Value.run m g)

theorem values17 : algebraic_Kernel17Ideal_Reference17Ideal := by
  intro m g m' g' _ h
  refine ⟨fun c => DilProj.prod (m (c.tc.loc Kernel17Ideal.main_arg0)) (m (c.tc.loc Kernel17Ideal.main_arg1)), ?_, ?_⟩
  · refine (θ_run _ _ _).mono (fun _ q c => ?_) (Kernel17Ideal.Value.run_blocks m g)
    obtain ⟨q0, qa⟩ := q c
    exact ⟨q0.trans (DilProj.final c _ _ rfl rfl), qa⟩
  · refine (θ_run _ _ _).mono (fun _ q c => ?_) (Reference17Ideal.Value.run m' g')
    obtain ⟨q0, qa⟩ := q c
    obtain ⟨h0, h1⟩ := h c
    have e0 := q0.trans (DilProj.reference _ _)
    rw [h0, h1] at e0
    exact ⟨e0, qa⟩

theorem frameK18 : quiescent_Kernel18 := fun m g _ => Kernel18.Gen.frame m g

theorem frameKI18 : quiescent_Kernel18Ideal := fun m g _ => Kernel18Ideal.Gen.frame m g

theorem frameR18 : quiescent_Reference18Ideal := fun m g _ =>
  (θ_run _ _ _).mono (fun q h => ⟨fun c => (h c).2, sem_eq_zero_of_no_sems (by decide) q.2⟩) (Reference18Ideal.Value.run m g)

theorem frameKP18 : quiescent_Kernel18Ideal_pre_padded18 := fun m g _ => Kernel18Ideal.Gen.frame m g

theorem frameRP18 : quiescent_Reference18Ideal_pre_padded18 := fun m g _ =>
  (θ_run _ _ _).mono (fun q h => ⟨fun c => (h c).2, sem_eq_zero_of_no_sems (by decide) q.2⟩) (Reference18Ideal.Value.run m g)

theorem values18 : algebraic_Kernel18Ideal_Reference18Ideal_pre_padded18 := by
  intro m g m' g' p h
  have hp := fun c : Dev Kernel18Ideal.nD => DilGwParts.zeros _ _ (p c)
  refine ⟨fun c => DilGwParts.prod (m (c.tc.loc Kernel18Ideal.main_arg0)) (m (c.tc.loc Kernel18Ideal.main_arg1)), ?_, ?_⟩
  · refine (θ_run _ _ _).mono (fun _ q c => ?_) (Kernel18Ideal.Value.run_blocks m g)
    obtain ⟨q0, qa⟩ := q c
    exact ⟨q0.trans (DilGwParts.final m c _ _ (hp c) rfl rfl), qa⟩
  · refine (θ_run _ _ _).mono (fun _ q c => ?_) (Reference18Ideal.Value.run m' g')
    obtain ⟨q0, qa⟩ := q c
    obtain ⟨h0, h1⟩ := h c
    have e0 := q0.trans (DilGwParts.reference _ _)
    rw [h0, h1] at e0
    exact ⟨e0, qa⟩

theorem frameK19 : quiescent_Kernel19 := fun m g _ => Kernel19.Gen.frame m g

theorem frameKI19 : quiescent_Kernel19Ideal := fun m g _ => Kernel19Ideal.Gen.frame m g

theorem frameR19 : quiescent_Reference19Ideal := fun m g _ =>
  (θ_run _ _ _).mono (fun q h => ⟨fun c => (h c).2, sem_eq_zero_of_no_sems (by decide) q.2⟩) (Reference19Ideal.Value.run m g)

theorem frameKP19 : quiescent_Kernel19Ideal_pre_padded19 := fun m g _ => Kernel19Ideal.Gen.frame m g

theorem frameRP19 : quiescent_Reference19Ideal_pre_padded19 := fun m g _ =>
  (θ_run _ _ _).mono (fun q h => ⟨fun c => (h c).2, sem_eq_zero_of_no_sems (by decide) q.2⟩) (Reference19Ideal.Value.run m g)

theorem values19 : algebraic_Kernel19Ideal_Reference19Ideal_pre_padded19 := by
  intro m g m' g' p h
  have hp := fun c : Dev Kernel19Ideal.nD => DilGw.zeros _ _ (p c)
  refine ⟨fun c => DilGw.prod (m (c.tc.loc Kernel19Ideal.main_arg0)) (m (c.tc.loc Kernel19Ideal.main_arg1)), ?_, ?_⟩
  · refine (θ_run _ _ _).mono (fun _ q c => ?_) (Kernel19Ideal.Value.run_blocks m g)
    obtain ⟨q0, qa⟩ := q c
    exact ⟨q0.trans (DilGw.final m c _ _ (hp c) rfl rfl), qa⟩
  · refine (θ_run _ _ _).mono (fun _ q c => ?_) (Reference19Ideal.Value.run m' g')
    obtain ⟨q0, qa⟩ := q c
    obtain ⟨h0, h1⟩ := h c
    have e0 := q0.trans (DilGw.reference _ _)
    rw [h0, h1] at e0
    exact ⟨e0, qa⟩

theorem frameK20 : quiescent_Kernel20 := fun m g _ => Kernel20.Gen.frame m g

theorem frameKI20 : quiescent_Kernel20Ideal := fun m g _ => Kernel20Ideal.Gen.frame m g

theorem frameR20 : quiescent_Reference20Ideal := fun m g _ =>
  (θ_run _ _ _).mono (fun q h => ⟨fun c => (h c).2, sem_eq_zero_of_no_sems (by decide) q.2⟩) (Reference20Ideal.Value.run m g)

theorem frameKP20 : quiescent_Kernel20Ideal_pre_padded20 := fun m g _ => Kernel20Ideal.Gen.frame m g

theorem frameRP20 : quiescent_Reference20Ideal_pre_padded20 := fun m g _ =>
  (θ_run _ _ _).mono (fun q h => ⟨fun c => (h c).2, sem_eq_zero_of_no_sems (by decide) q.2⟩) (Reference20Ideal.Value.run m g)

theorem values20 : algebraic_Kernel20Ideal_Reference20Ideal_pre_padded20 := by
  intro m g m' g' p h
  have hp := fun c : Dev Kernel20Ideal.nD => DilDhn.zeros _ _ (p c)
  refine ⟨fun c => DilDhn.prod (m (c.tc.loc Kernel20Ideal.main_arg0)) (m (c.tc.loc Kernel20Ideal.main_arg1)), ?_, ?_⟩
  · refine (θ_run _ _ _).mono (fun _ q c => ?_) (Kernel20Ideal.Value.run_blocks m g)
    obtain ⟨q0, qa⟩ := q c
    exact ⟨q0.trans (DilDhn.final c _ _ (hp c) rfl rfl), qa⟩
  · refine (θ_run _ _ _).mono (fun _ q c => ?_) (Reference20Ideal.Value.run m' g')
    obtain ⟨q0, qa⟩ := q c
    obtain ⟨h0, h1⟩ := h c
    have e0 := q0.trans (DilDhn.reference _ _)
    rw [h0, h1] at e0
    exact ⟨e0, qa⟩

theorem frameK21 : quiescent_Kernel21 := fun m g _ => Kernel21.Gen.frame m g

theorem frameKI21 : quiescent_Kernel21Ideal := fun m g _ => Kernel21Ideal.Gen.frame m g

theorem frameR21 : quiescent_Reference21Ideal := fun m g _ =>
  (θ_run _ _ _).mono (fun q h => ⟨fun c => (h c).2, sem_eq_zero_of_no_sems (by decide) q.2⟩) (Reference21Ideal.Value.run m g)

theorem frameKP21 : quiescent_Kernel21Ideal_pre_padded21 := fun m g _ => Kernel21Ideal.Gen.frame m g

theorem frameRP21 : quiescent_Reference21Ideal_pre_padded21 := fun m g _ =>
  (θ_run _ _ _).mono (fun q h => ⟨fun c => (h c).2, sem_eq_zero_of_no_sems (by decide) q.2⟩) (Reference21Ideal.Value.run m g)

theorem values21 : algebraic_Kernel21Ideal_Reference21Ideal_pre_padded21 := by
  intro m g m' g' p h
  have hp := fun c : Dev Kernel21Ideal.nD => DilDhnParts.zeros _ _ _ (p c)
  refine ⟨fun c => DilDhnParts.total (m (c.tc.loc Kernel21Ideal.main_arg0)) (m (c.tc.loc Kernel21Ideal.main_arg1)) (m (c.tc.loc Kernel21Ideal.main_arg2)), ?_, ?_⟩
  · refine (θ_run _ _ _).mono (fun _ q c => ?_) (Kernel21Ideal.Value.run_blocks m g)
    obtain ⟨q0, qa⟩ := q c
    exact ⟨q0.trans (DilDhnParts.final m c _ _ _ (hp c) rfl rfl rfl), qa⟩
  · refine (θ_run _ _ _).mono (fun _ q c => ?_) (Reference21Ideal.Value.run m' g')
    obtain ⟨q0, qa⟩ := q c
    obtain ⟨h0, h1, h2⟩ := h c
    have e0 := q0.trans (DilDhnParts.reference _ _ _)
    rw [h0, h1, h2] at e0
    exact ⟨e0, qa⟩

theorem frameK22 : quiescent_Kernel22 := fun m g _ => Kernel22.Gen.frame m g

theorem frameKI22 : quiescent_Kernel22Ideal := fun m g _ => Kernel22Ideal.Gen.frame m g

theorem frameR22 : quiescent_Reference22Ideal := fun m g _ =>
  (θ_run _ _ _).mono (fun q h => ⟨fun c => (h c).2.2.2, sem_eq_zero_of_no_sems (by decide) q.2⟩) (Reference22Ideal.Value.run m g)

theorem frameKP22 : quiescent_Kernel22Ideal_pre_padded22 := fun m g _ => Kernel22Ideal.Gen.frame m g

theorem frameRP22 : quiescent_Reference22Ideal_pre_padded22 := fun m g _ =>
  (θ_run _ _ _).mono (fun q h => ⟨fun c => (h c).2.2.2, sem_eq_zero_of_no_sems (by decide) q.2⟩) (Reference22Ideal.Value.run m g)

open Kernel22Ideal in
theorem values22 : algebraic_Kernel22Ideal_Reference22Ideal_pre_padded22 := by
  intro m g m' g' p h
  have hp := fun c : Dev Kernel22Ideal.nD => DilDhnNorm.reals _ _ _ _ _ _ (p c)
  refine ⟨fun c => DilDhnNorm.total (m (c.tc.loc main_arg0)) (m (c.tc.loc main_arg1)) (m (c.tc.loc main_arg2)) (m (c.tc.loc main_arg3)) (m (c.tc.loc main_arg4)) (m (c.tc.loc main_arg5)), fun c => DilDhnNorm.total (m (c.tc.loc main_arg0)) (m (c.tc.loc main_arg1)) (m (c.tc.loc main_arg2)) (m (c.tc.loc main_arg3)) (m (c.tc.loc main_arg4)) (m (c.tc.loc main_arg5)), fun c => DilDhnNorm.scales (m (c.tc.loc main_arg0)) (m (c.tc.loc main_arg1)) (m (c.tc.loc main_arg2)) (m (c.tc.loc main_arg3)), ?_, ?_⟩
  · refine (θ_run _ _ _).mono (fun _ q c => ?_) (Kernel22Ideal.Value.run_blocks m g)
    obtain ⟨q0, q1, q2, qa⟩ := q c
    exact ⟨q0.trans (DilDhnNorm.final6 c _ _ _ _ _ _ (hp c).2 rfl rfl rfl rfl rfl rfl), q1.trans (DilDhnNorm.final7 c _ _ _ _ _ _ (hp c).2 rfl rfl rfl rfl rfl rfl), q2.trans (DilDhnNorm.final8 c _ _ _ _ (hp c).2 rfl rfl rfl rfl), qa⟩
  · refine (θ_run _ _ _).mono (fun _ q c => ?_) (Reference22Ideal.Value.run m' g')
    obtain ⟨q0, q1, q2, qa⟩ := q c
    obtain ⟨h0, h1, h2, h3, h4, h5⟩ := h c
    have hr := (hp c).1
    rw [← h0, ← h1, ← h2, ← h3, ← h4] at hr
    have e0 := q0.trans (DilDhnNorm.ref_x _ _ _ _ _ _ hr)
    rw [h0, h1, h2, h3, h4, h5] at e0
    have e1 := q1.trans (DilDhnNorm.ref_x16 _ _ _ _ _ _ hr)
    rw [h0, h1, h2, h3, h4, h5] at e1
    have e2 := q2.trans (FfnDhn.gain_ref _ _ _ (DilDhnNorm.ref_apply _ _ _))
    rw [h0, h1, h2, h3] at e2
    exact ⟨e0, e1, e2, qa⟩

theorem frameK23 : quiescent_Kernel23 := fun m g _ => Kernel23.Gen.frame m g

theorem frameKI23 : quiescent_Kernel23Ideal := fun m g _ => Kernel23Ideal.Gen.frame m g

theorem frameR23 : quiescent_Reference23Ideal := fun m g _ =>
  (θ_run _ _ _).mono (fun q h => ⟨fun c => (h c).2.2.2, sem_eq_zero_of_no_sems (by decide) q.2⟩) (Reference23Ideal.Value.run m g)

theorem frameKP23 : quiescent_Kernel23Ideal_pre_finite23 := fun m g _ => Kernel23Ideal.Gen.frame m g

theorem frameRP23 : quiescent_Reference23Ideal_pre_finite23 := fun m g _ =>
  (θ_run _ _ _).mono (fun q h => ⟨fun c => (h c).2.2.2, sem_eq_zero_of_no_sems (by decide) q.2⟩) (Reference23Ideal.Value.run m g)

open Kernel23Ideal in
theorem values23 : algebraic_Kernel23Ideal_Reference23Ideal_pre_finite23 := by
  intro m g m' g' p h
  have hp := fun c : Dev Kernel23Ideal.nD => GdnDhnNorm.reals _ _ _ _ _ _ (p c)
  refine ⟨fun c => GdnDhnNorm.total (m (c.tc.loc main_arg0)) (m (c.tc.loc main_arg1)) (m (c.tc.loc main_arg2)) (m (c.tc.loc main_arg3)) (m (c.tc.loc main_arg4)) (m (c.tc.loc main_arg5)), fun c => GdnDhnNorm.total (m (c.tc.loc main_arg0)) (m (c.tc.loc main_arg1)) (m (c.tc.loc main_arg2)) (m (c.tc.loc main_arg3)) (m (c.tc.loc main_arg4)) (m (c.tc.loc main_arg5)), fun c => GdnDhnNorm.scales (m (c.tc.loc main_arg0)) (m (c.tc.loc main_arg1)) (m (c.tc.loc main_arg2)) (m (c.tc.loc main_arg3)), ?_, ?_⟩
  · refine (θ_run _ _ _).mono (fun _ q c => ?_) (Kernel23Ideal.Value.run_blocks m g)
    obtain ⟨q0, q1, q2, qa⟩ := q c
    exact ⟨q0.trans (GdnDhnNorm.final6 c _ _ _ _ _ _ rfl rfl rfl rfl rfl rfl), q1.trans (GdnDhnNorm.final7 c _ _ _ _ _ _ rfl rfl rfl rfl rfl rfl), q2.trans (GdnDhnNorm.final8 c _ _ _ _ rfl rfl rfl rfl), qa⟩
  · refine (θ_run _ _ _).mono (fun _ q c => ?_) (Reference23Ideal.Value.run m' g')
    obtain ⟨q0, q1, q2, qa⟩ := q c
    obtain ⟨h0, h1, h2, h3, h4, h5⟩ := h c
    have hr := hp c
    rw [← h0, ← h1, ← h2, ← h3, ← h4] at hr
    have e0 := q0.trans (GdnDhnNorm.ref_x _ _ _ _ _ _ hr)
    rw [h0, h1, h2, h3, h4, h5] at e0
    have e1 := q1.trans (GdnDhnNorm.ref_x16 _ _ _ _ _ _ hr)
    rw [h0, h1, h2, h3, h4, h5] at e1
    have e2 := q2.trans (FfnDhn.gain_ref _ _ _ (GdnDhnNorm.ref_apply _ _ _))
    rw [h0, h1, h2, h3] at e2
    exact ⟨e0, e1, e2, qa⟩

theorem frameK24 : quiescent_Kernel24 := fun m g _ => Kernel24.Gen.frame m g

theorem frameKI24 : quiescent_Kernel24Ideal := fun m g _ => Kernel24Ideal.Gen.frame m g

theorem frameR24 : quiescent_Reference24Ideal := fun m g _ =>
  (θ_run _ _ _).mono (fun q h => ⟨fun c => (h c).2, sem_eq_zero_of_no_sems (by decide) q.2⟩) (Reference24Ideal.Value.run m g)

theorem values24 : algebraic_Kernel24Ideal_Reference24Ideal := by
  intro m g m' g' _ h
  refine ⟨fun c => GdnProjGates.prod (m (c.tc.loc Kernel24Ideal.main_arg0)) (m (c.tc.loc Kernel24Ideal.main_arg1)), ?_, ?_⟩
  · refine (θ_run _ _ _).mono (fun _ q c => ?_) (Kernel24Ideal.Value.run_blocks m g)
    obtain ⟨q0, qa⟩ := q c
    exact ⟨q0.trans (GdnProjGates.final c _ _ rfl rfl), qa⟩
  · refine (θ_run _ _ _).mono (fun _ q c => ?_) (Reference24Ideal.Value.run m' g')
    obtain ⟨q0, qa⟩ := q c
    obtain ⟨h0, h1⟩ := h c
    have e0 := q0.trans (GdnProjGates.reference _ _)
    rw [h0, h1] at e0
    exact ⟨e0, qa⟩

theorem frameK25 : quiescent_Kernel25 := fun m g _ => Kernel25.Gen.frame m g

theorem frameKI25 : quiescent_Kernel25Ideal := fun m g _ => Kernel25Ideal.Gen.frame m g

theorem frameR25 : quiescent_Reference25Ideal := fun m g _ =>
  (θ_run _ _ _).mono (fun q h => ⟨fun c => (h c).2, sem_eq_zero_of_no_sems (by decide) q.2⟩) (Reference25Ideal.Value.run m g)

theorem values25 : algebraic_Kernel25Ideal_Reference25Ideal := by
  intro m g m' g' _ h
  refine ⟨fun c => GdnGwGates.prod (m (c.tc.loc Kernel25Ideal.main_arg0)) (m (c.tc.loc Kernel25Ideal.main_arg1)), ?_, ?_⟩
  · refine (θ_run _ _ _).mono (fun _ q c => ?_) (Kernel25Ideal.Value.run_blocks m g)
    obtain ⟨q0, qa⟩ := q c
    exact ⟨q0.trans (GdnGwGates.final m c _ _ rfl rfl), qa⟩
  · refine (θ_run _ _ _).mono (fun _ q c => ?_) (Reference25Ideal.Value.run m' g')
    obtain ⟨q0, qa⟩ := q c
    obtain ⟨h0, h1⟩ := h c
    have e0 := q0.trans (GdnGwGates.reference _ _)
    rw [h0, h1] at e0
    exact ⟨e0, qa⟩

end Cert.Proof

end
-- ==== Proof.Same.lean ====
/- The kernel and its idealisation are one program: no operation is rewritten between them, so what is proved of the one at every float semantics holds of the other. -/
module
public import proofs.«01_k».proof.Proof.Gen.Kernel
public import proofs.«01_k».proof.Proof.Gen.KernelIdeal
public import proofs.«01_k».proof.Defs
@[expose] public section
set_option maxRecDepth 100000
set_option maxHeartbeats 20000000
noncomputable section
open Idealize.ShloMosaic Idealize.SL.Sem
namespace Cert.Scan

variable {F : FTy → Type} [FloatOps F]
/-- The forward bodies are equal. -/
theorem same_fwd : @Cert.Kernel.cc0_gdn_scan_fwd F _ _ = @Cert.KernelIdeal.cc0_gdn_scan_fwd F _ _ := rfl

/-- The backward bodies are equal. -/
theorem same_bwd : @Cert.Kernel.cc1_gdn_scan_bwd F _ _ = @Cert.KernelIdeal.cc1_gdn_scan_bwd F _ _ := rfl

/-- The two regions are equal. -/
theorem same_regions : Cert.Kernel.defs₀ (F := F) = Cert.KernelIdeal.defs₀ (F := F) := by
  unfold Cert.Kernel.defs₀ Cert.KernelIdeal.defs₀
  rw [same_fwd, same_bwd]
  refine congrArg Defs.onTc ?_
  funext l a
  match l, a with
  | ⟨0, _⟩, (t, s) => rfl
  | ⟨1, _⟩, (t, s) => rfl

/-- The definitions the two programs run under are equal. -/
theorem same_defs : Cert.Kernel.defs (F := F) = Cert.KernelIdeal.defs (F := F) := by
  unfold Cert.Kernel.defs Cert.KernelIdeal.defs
  exact congrArg (Pipeline.defs _) same_regions

end Cert.Scan

end
-- ==== Proof.RefOps.lean ====
/- The reference as two counted loops between stretches of host operations. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

/-- An array of the reference. -/
abbrev Arr (F : FTy → Type) (S : Shape) (e : EltTy) := (⟨S, e⟩ : BufTy).Contents (Elt F)
/-- A stretch of host operations. -/
abbrev Ops (F : FTy → Type) := List (HloOp τ sig (Elt F))

variable {F : FTy → Type} [FloatOps F]

/-- Reading one slab of a stack: the operations of one call. -/
def pickOps (arg0 : TRef sig ⟨S64x8x128x128, .f32⟩) (arg1 : TRef sig ⟨S_, .i32⟩) (φ : fn_dynamic_index_in_dim.Bufs) : Ops F :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x8x128x128 x (fun k => (i k (Shape.Idx.first h_S_)).toInt) sliceFits_S64x8x128x128_S1x8x128x128),
    TRef.reshape φ.v0 φ.v1 rfl shapeCasts_S1x8x128x128_S8x128x128 ]
theorem pickOps_sub (arg0 : TRef sig ⟨S64x8x128x128, .f32⟩) (arg1 : TRef sig ⟨S_, .i32⟩) (φ : fn_dynamic_index_in_dim.Bufs) : (pickOps arg0 arg1 φ : Ops F).Forall fun op => op.bufs ⊆ tcRefs τ sig := by
  unfold pickOps; exact ⟨nullary_bufs_sub .., nullary_bufs_sub .., nullary_bufs_sub .., unaryIndexed_bufs_sub .., reshape_bufs_sub ..⟩
theorem pickOps_fresh (arg0 : TRef sig ⟨S64x8x128x128, .f32⟩) (arg1 : TRef sig ⟨S_, .i32⟩) (φ : fn_dynamic_index_in_dim.Bufs) : (pickOps arg0 arg1 φ : Ops F).Forall fun op => op.fresh = ∅ := forall_fresh_of_map rfl
/-- The references `pickOps` writes. -/
abbrev pickOpsW (φ : fn_dynamic_index_in_dim.Bufs) : List (Ref sig .tc) := [φ.c.ref, φ.c_0.ref, φ.c_1.ref, φ.v0.ref, φ.v1.ref]
theorem pickOps_writes (arg0 : TRef sig ⟨S64x8x128x128, .f32⟩) (arg1 : TRef sig ⟨S_, .i32⟩) (φ : fn_dynamic_index_in_dim.Bufs) : (pickOps arg0 arg1 φ : Ops F).Forall fun op => op.writes ⊆ ((pickOpsW φ).map (Proc.devRef (τ := τ) .tc)).toFinset := forall_writes_sub_of_map rfl

/-- Writing one slab of a stack: the operations of one call. -/
def putOps (arg0 : TRef sig ⟨S64x8x128x128, .f32⟩) (arg1 : TRef sig ⟨S8x128x128, .f32⟩) (arg2 : TRef sig ⟨S_, .i32⟩) (φ : fn_dynamic_update_index_in_dim.Bufs) : Ops F :=
  [ TRef.unary arg1 φ.v0 (broadcastInDim S1x8x128x128 ![1, 2, 3] bcast_S8x128x128_S1x8x128x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x8x128x128_S1x8x128x128) ]
theorem putOps_sub (arg0 : TRef sig ⟨S64x8x128x128, .f32⟩) (arg1 : TRef sig ⟨S8x128x128, .f32⟩) (arg2 : TRef sig ⟨S_, .i32⟩) (φ : fn_dynamic_update_index_in_dim.Bufs) : (putOps arg0 arg1 arg2 φ : Ops F).Forall fun op => op.bufs ⊆ tcRefs τ sig := by
  unfold putOps; exact ⟨unary_bufs_sub .., nullary_bufs_sub .., nullary_bufs_sub .., nullary_bufs_sub .., binaryIndexed_bufs_sub ..⟩
theorem putOps_fresh (arg0 : TRef sig ⟨S64x8x128x128, .f32⟩) (arg1 : TRef sig ⟨S8x128x128, .f32⟩) (arg2 : TRef sig ⟨S_, .i32⟩) (φ : fn_dynamic_update_index_in_dim.Bufs) : (putOps arg0 arg1 arg2 φ : Ops F).Forall fun op => op.fresh = ∅ := forall_fresh_of_map rfl
/-- The references `putOps` writes. -/
abbrev putOpsW (φ : fn_dynamic_update_index_in_dim.Bufs) : List (Ref sig .tc) := [φ.v0.ref, φ.c.ref, φ.c_0.ref, φ.c_1.ref, φ.v1.ref]
theorem putOps_writes (arg0 : TRef sig ⟨S64x8x128x128, .f32⟩) (arg1 : TRef sig ⟨S8x128x128, .f32⟩) (arg2 : TRef sig ⟨S_, .i32⟩) (φ : fn_dynamic_update_index_in_dim.Bufs) : (putOps arg0 arg1 arg2 φ : Ops F).Forall fun op => op.writes ⊆ ((putOpsW φ).map (Proc.devRef (τ := τ) .tc)).toFinset := forall_writes_sub_of_map rfl

/-- What comes before the first loop. -/
def preOps : Ops F :=
  [ nullary main_cst (constant S_ .f32 0x00000000#32),
    unary main_cst main_v0 (broadcastInDim S8x128x128 ![] bcast_S_S8x128x128 : Arr F S_ .f32 → Arr F S8x128x128 .f32),
    StableHlo.reshape main_arg0 main_v1 rfl shapeCasts_S8192x1024_S64x128x8x128,
    unary main_v1 main_v2 ((transpose S64x8x128x128 [0, 2, 1, 3] · transposes_S64x128x8x128_S64x8x128x128_0_2_1_3) : Arr F S64x128x8x128 .f32 → Arr F S64x8x128x128 .f32),
    unary main_arg1 main_v3 ((extf .f32 · bitsLt_bf16_f32) : Arr F S8192x1024 .bf16 → Arr F S8192x1024 .f32),
    StableHlo.reshape main_v3 main_v4 rfl shapeCasts_S8192x1024_S64x128x8x128,
    unary main_v4 main_v5 ((transpose S64x8x128x128 [0, 2, 1, 3] · transposes_S64x128x8x128_S64x8x128x128_0_2_1_3) : Arr F S64x128x8x128 .f32 → Arr F S64x8x128x128 .f32),
    unary main_arg2 main_v6 ((extf .f32 · bitsLt_bf16_f32) : Arr F S8192x1024 .bf16 → Arr F S8192x1024 .f32),
    StableHlo.reshape main_v6 main_v7 rfl shapeCasts_S8192x1024_S64x128x8x128,
    unary main_v7 main_v8 ((transpose S64x8x128x128 [0, 2, 1, 3] · transposes_S64x128x8x128_S64x8x128x128_0_2_1_3) : Arr F S64x128x8x128 .f32 → Arr F S64x8x128x128 .f32),
    unary main_arg3 main_v9 ((extf .f32 · bitsLt_bf16_f32) : Arr F S8192x1024 .bf16 → Arr F S8192x1024 .f32),
    StableHlo.reshape main_v9 main_v10 rfl shapeCasts_S8192x1024_S64x128x8x128,
    unary main_v10 main_v11 ((transpose S64x8x128x128 [0, 2, 1, 3] · transposes_S64x128x8x128_S64x8x128x128_0_2_1_3) : Arr F S64x128x8x128 .f32 → Arr F S64x8x128x128 .f32),
    unary main_arg4 main_v12 ((extf .f32 · bitsLt_bf16_f32) : Arr F S8192x1024 .bf16 → Arr F S8192x1024 .f32),
    StableHlo.reshape main_v12 main_v13 rfl shapeCasts_S8192x1024_S64x128x8x128,
    unary main_v13 main_v14 ((transpose S64x8x128x128 [0, 2, 1, 3] · transposes_S64x128x8x128_S64x8x128x128_0_2_1_3) : Arr F S64x128x8x128 .f32 → Arr F S64x8x128x128 .f32),
    StableHlo.reshape main_arg5 main_v15 rfl shapeCasts_S8192x1024_S64x128x8x128,
    unary main_v15 main_v16 ((transpose S64x8x128x128 [0, 2, 1, 3] · transposes_S64x128x8x128_S64x8x128x128_0_2_1_3) : Arr F S64x128x8x128 .f32 → Arr F S64x8x128x128 .f32),
    nullary main_cst_0 (constant S_ .f32 0x00000000#32),
    unary main_cst_0 main_v17 (broadcastInDim S64x8x128x128 ![] bcast_S_S64x8x128x128 : Arr F S_ .f32 → Arr F S64x8x128x128 .f32),
    nullary main_cst_1 (constant S_ .f32 0x00000000#32),
    unary main_cst_1 main_v18 (broadcastInDim S64x8x128x128 ![] bcast_S_S64x8x128x128 : Arr F S_ .f32 → Arr F S64x8x128x128 .f32),
    nullary main_cst_2 (constant S_ .f32 0x00000000#32),
    unary main_cst_2 main_v19 (broadcastInDim S64x8x128x128 ![] bcast_S_S64x8x128x128 : Arr F S_ .f32 → Arr F S64x8x128x128 .f32),
    nullary main_c (constantI S_ 32 0#32),
    unary main_v2 main_v20_0 id,
    unary main_v5 main_v20_1 id,
    unary main_v8 main_v20_2 id,
    unary main_v11 main_v20_3 id,
    unary main_v14 main_v20_4 id,
    unary main_v16 main_v20_5 id,
    unary main_c main_v20_6 id,
    unary main_v0 main_v20_7 id,
    unary main_v17 main_v20_8 id,
    unary main_v18 main_v20_9 id,
    unary main_v19 main_v20_10 id ]
theorem preOps_sub : (preOps : Ops F).Forall fun op => op.bufs ⊆ tcRefs τ sig := by
  unfold preOps; repeat' first | exact unary_bufs_sub .. | exact reshape_bufs_sub .. | exact nullary_bufs_sub .. | apply And.intro
theorem preOps_fresh : (preOps : Ops F).Forall fun op => op.fresh = ∅ := forall_fresh_of_map rfl
/-- The references `preOps` writes. -/
abbrev preOpsW : List (Ref sig .tc) := [main_cst, main_v0, main_v1, main_v2, main_v3, main_v4, main_v5, main_v6, main_v7, main_v8, main_v9, main_v10, main_v11, main_v12, main_v13, main_v14, main_v15, main_v16, main_cst_0, main_v17, main_cst_1, main_v18, main_cst_2, main_v19, main_c, main_v20_0, main_v20_1, main_v20_2, main_v20_3, main_v20_4, main_v20_5, main_v20_6, main_v20_7, main_v20_8, main_v20_9, main_v20_10]
theorem preOps_writes : (preOps : Ops F).Forall fun op => op.writes ⊆ (preOpsW.map (Proc.devRef (τ := τ) .tc)).toFinset := forall_writes_sub_of_map rfl

/-- What lies between the loops, first part. -/
def midOps : Ops F :=
  [ unary main_v20_8 main_v21 ((transpose S64x128x8x128 [0, 2, 1, 3] · transposes_S64x8x128x128_S64x128x8x128_0_2_1_3) : Arr F S64x8x128x128 .f32 → Arr F S64x128x8x128 .f32),
    StableHlo.reshape main_v21 main_v22 rfl shapeCasts_S64x128x8x128_S8192x1024,
    nullary main_cst_3 (constant S_ .f32 0x00000000#32),
    unary main_cst_3 main_v23 (broadcastInDim S8x128x128 ![] bcast_S_S8x128x128 : Arr F S_ .f32 → Arr F S8x128x128 .f32),
    StableHlo.reshape main_arg6 main_v24 rfl shapeCasts_S8192x1024_S64x128x8x128,
    unary main_v24 main_v25 ((transpose S64x8x128x128 [0, 2, 1, 3] · transposes_S64x128x8x128_S64x8x128x128_0_2_1_3) : Arr F S64x128x8x128 .f32 → Arr F S64x8x128x128 .f32),
    nullary main_cst_4 (constant S_ .f32 0x00000000#32),
    unary main_cst_4 main_v26 (broadcastInDim S8x128x128 ![] bcast_S_S8x128x128 : Arr F S_ .f32 → Arr F S8x128x128 .f32),
    nullary main_cst_5 (constant S_ .f32 0x00000000#32),
    unary main_cst_5 main_v27 (broadcastInDim S64x8x128x128 ![] bcast_S_S64x8x128x128 : Arr F S_ .f32 → Arr F S64x8x128x128 .f32),
    nullary main_cst_6 (constant S_ .f32 0x00000000#32),
    unary main_cst_6 main_v28 (broadcastInDim S64x8x128x128 ![] bcast_S_S64x8x128x128 : Arr F S_ .f32 → Arr F S64x8x128x128 .f32),
    nullary main_cst_7 (constant S_ .f32 0x00000000#32),
    unary main_cst_7 main_v29 (broadcastInDim S64x8x128x128 ![] bcast_S_S64x8x128x128 : Arr F S_ .f32 → Arr F S64x8x128x128 .f32),
    nullary main_cst_8 (constant S_ .f32 0x00000000#32),
    unary main_cst_8 main_v30 (broadcastInDim S64x8x128x128 ![] bcast_S_S64x8x128x128 : Arr F S_ .f32 → Arr F S64x8x128x128 .f32),
    nullary main_cst_9 (constant S_ .f32 0x00000000#32),
    unary main_cst_9 main_v31 (broadcastInDim S64x8x128x128 ![] bcast_S_S64x8x128x128 : Arr F S_ .f32 → Arr F S64x8x128x128 .f32),
    nullary main_cst_10 (constant S_ .f32 0x00000000#32),
    unary main_cst_10 main_v32 (broadcastInDim S64x8x128x128 ![] bcast_S_S64x8x128x128 : Arr F S_ .f32 → Arr F S64x8x128x128 .f32),
    nullary main_c_11 (constantI S_ 32 0#32),
    unary main_v25 main_v33_0 id,
    unary main_v20_9 main_v33_1 id ]
theorem midOps_sub : (midOps : Ops F).Forall fun op => op.bufs ⊆ tcRefs τ sig := by
  unfold midOps; repeat' first | exact unary_bufs_sub .. | exact nullary_bufs_sub .. | exact reshape_bufs_sub .. | apply And.intro
theorem midOps_fresh : (midOps : Ops F).Forall fun op => op.fresh = ∅ := forall_fresh_of_map rfl
/-- The references `midOps` writes. -/
abbrev midOpsW : List (Ref sig .tc) := [main_v21, main_v22, main_cst_3, main_v23, main_v24, main_v25, main_cst_4, main_v26, main_cst_5, main_v27, main_cst_6, main_v28, main_cst_7, main_v29, main_cst_8, main_v30, main_cst_9, main_v31, main_cst_10, main_v32, main_c_11, main_v33_0, main_v33_1]
theorem midOps_writes : (midOps : Ops F).Forall fun op => op.writes ⊆ (midOpsW.map (Proc.devRef (τ := τ) .tc)).toFinset := forall_writes_sub_of_map rfl

/-- What lies between the loops, second part. -/
def midOps1 : Ops F :=
  [ unary main_v5 main_v33_2 id,
    unary main_v11 main_v33_3 id,
    unary main_v20_10 main_v33_4 id,
    unary main_v8 main_v33_5 id,
    unary main_v16 main_v33_6 id,
    unary main_v14 main_v33_7 id,
    unary main_c_11 main_v33_8 id,
    unary main_v26 main_v33_9 id,
    unary main_v27 main_v33_10 id,
    unary main_v28 main_v33_11 id,
    unary main_v29 main_v33_12 id,
    unary main_v30 main_v33_13 id,
    unary main_v31 main_v33_14 id,
    unary main_v32 main_v33_15 id ]
theorem midOps1_sub : (midOps1 : Ops F).Forall fun op => op.bufs ⊆ tcRefs τ sig := by
  unfold midOps1; repeat' first | exact unary_bufs_sub .. | apply And.intro
theorem midOps1_fresh : (midOps1 : Ops F).Forall fun op => op.fresh = ∅ := forall_fresh_of_map rfl
/-- The references `midOps1` writes. -/
abbrev midOps1W : List (Ref sig .tc) := [main_v33_2, main_v33_3, main_v33_4, main_v33_5, main_v33_6, main_v33_7, main_v33_8, main_v33_9, main_v33_10, main_v33_11, main_v33_12, main_v33_13, main_v33_14, main_v33_15]
theorem midOps1_writes : (midOps1 : Ops F).Forall fun op => op.writes ⊆ (midOps1W.map (Proc.devRef (τ := τ) .tc)).toFinset := forall_writes_sub_of_map rfl

/-- What comes after the second loop. -/
def postOps : Ops F :=
  [ unary main_v33_15 main_v34 ((transpose S64x128x8x128 [0, 2, 1, 3] · transposes_S64x8x128x128_S64x128x8x128_0_2_1_3) : Arr F S64x8x128x128 .f32 → Arr F S64x128x8x128 .f32),
    StableHlo.reshape main_v34 main_v35 rfl shapeCasts_S64x128x8x128_S8192x1024,
    unary main_v33_14 main_v36 ((transpose S64x128x8x128 [0, 2, 1, 3] · transposes_S64x8x128x128_S64x128x8x128_0_2_1_3) : Arr F S64x8x128x128 .f32 → Arr F S64x128x8x128 .f32),
    StableHlo.reshape main_v36 main_v37 rfl shapeCasts_S64x128x8x128_S8192x1024,
    unary main_v37 main_v38 ((truncf .bf16 · bitsLt_bf16_f32) : Arr F S8192x1024 .f32 → Arr F S8192x1024 .bf16),
    unary main_v33_13 main_v39 ((transpose S64x128x8x128 [0, 2, 1, 3] · transposes_S64x8x128x128_S64x128x8x128_0_2_1_3) : Arr F S64x8x128x128 .f32 → Arr F S64x128x8x128 .f32),
    StableHlo.reshape main_v39 main_v40 rfl shapeCasts_S64x128x8x128_S8192x1024,
    unary main_v40 main_v41 ((truncf .bf16 · bitsLt_bf16_f32) : Arr F S8192x1024 .f32 → Arr F S8192x1024 .bf16),
    unary main_v33_12 main_v42 ((transpose S64x128x8x128 [0, 2, 1, 3] · transposes_S64x8x128x128_S64x128x8x128_0_2_1_3) : Arr F S64x8x128x128 .f32 → Arr F S64x128x8x128 .f32),
    StableHlo.reshape main_v42 main_v43 rfl shapeCasts_S64x128x8x128_S8192x1024,
    unary main_v43 main_v44 ((truncf .bf16 · bitsLt_bf16_f32) : Arr F S8192x1024 .f32 → Arr F S8192x1024 .bf16),
    unary main_v33_11 main_v45 ((transpose S64x128x8x128 [0, 2, 1, 3] · transposes_S64x8x128x128_S64x128x8x128_0_2_1_3) : Arr F S64x8x128x128 .f32 → Arr F S64x128x8x128 .f32),
    StableHlo.reshape main_v45 main_v46 rfl shapeCasts_S64x128x8x128_S8192x1024,
    unary main_v46 main_v47 ((truncf .bf16 · bitsLt_bf16_f32) : Arr F S8192x1024 .f32 → Arr F S8192x1024 .bf16),
    unary main_v33_10 main_v48 ((transpose S64x128x8x128 [0, 2, 1, 3] · transposes_S64x8x128x128_S64x128x8x128_0_2_1_3) : Arr F S64x8x128x128 .f32 → Arr F S64x128x8x128 .f32),
    StableHlo.reshape main_v48 main_v49 rfl shapeCasts_S64x128x8x128_S8192x1024 ]
theorem postOps_sub : (postOps : Ops F).Forall fun op => op.bufs ⊆ tcRefs τ sig := by
  unfold postOps; repeat' first | exact unary_bufs_sub .. | exact reshape_bufs_sub .. | apply And.intro
theorem postOps_fresh : (postOps : Ops F).Forall fun op => op.fresh = ∅ := forall_fresh_of_map rfl
/-- The references `postOps` writes. -/
abbrev postOpsW : List (Ref sig .tc) := [main_v34, main_v35, main_v36, main_v37, main_v38, main_v39, main_v40, main_v41, main_v42, main_v43, main_v44, main_v45, main_v46, main_v47, main_v48, main_v49]
theorem postOps_writes : (postOps : Ops F).Forall fun op => op.writes ⊆ (postOpsW.map (Proc.devRef (τ := τ) .tc)).toFinset := forall_writes_sub_of_map rfl

/-- One trip of the first loop: its arithmetic. -/
def fwdOps : Ops F :=
  [ binary main_while0b_v51 main_v20_7 main_while0b_v56 ((fun l r => Host.dotGeneral dot_S8x128x128_S8x128x128_S8x128x128_2_1_1_2_0_0 none l r) : Arr F S8x128x128 .f32 → Arr F S8x128x128 .f32 → Arr F S8x128x128 .f32),
    binary main_while0b_v50 main_while0b_v56 main_while0b_v57 (subf : Arr F S8x128x128 .f32 → Arr F S8x128x128 .f32 → Arr F S8x128x128 .f32),
    binary main_while0b_v53 main_v20_7 main_while0b_v58 ((fun l r => Host.dotGeneral dot_S8x128x128_S8x128x128_S8x128x128_2_1_1_2_0_0 none l r) : Arr F S8x128x128 .f32 → Arr F S8x128x128 .f32 → Arr F S8x128x128 .f32),
    binary main_while0b_v52 main_while0b_v57 main_while0b_v59 ((fun l r => Host.dotGeneral dot_S8x128x128_S8x128x128_S8x128x128_2_1_1_2_0_0 none l r) : Arr F S8x128x128 .f32 → Arr F S8x128x128 .f32 → Arr F S8x128x128 .f32),
    binary main_while0b_v58 main_while0b_v59 main_while0b_v60 (addf : Arr F S8x128x128 .f32 → Arr F S8x128x128 .f32 → Arr F S8x128x128 .f32),
    binary main_v20_7 main_while0b_v55 main_while0b_v61 (mulf : Arr F S8x128x128 .f32 → Arr F S8x128x128 .f32 → Arr F S8x128x128 .f32),
    binary main_while0b_v54 main_while0b_v57 main_while0b_v62 ((fun l r => Host.dotGeneral dot_S8x128x128_S8x128x128_S8x128x128_1_1_2_2_0_0 none l r) : Arr F S8x128x128 .f32 → Arr F S8x128x128 .f32 → Arr F S8x128x128 .f32),
    binary main_while0b_v61 main_while0b_v62 main_while0b_v63 (addf : Arr F S8x128x128 .f32 → Arr F S8x128x128 .f32 → Arr F S8x128x128 .f32) ]
theorem fwdOps_sub : (fwdOps : Ops F).Forall fun op => op.bufs ⊆ tcRefs τ sig := by
  unfold fwdOps; repeat' first | exact binary_bufs_sub .. | apply And.intro
theorem fwdOps_fresh : (fwdOps : Ops F).Forall fun op => op.fresh = ∅ := forall_fresh_of_map rfl
/-- The references `fwdOps` writes. -/
abbrev fwdOpsW : List (Ref sig .tc) := [main_while0b_v56, main_while0b_v57, main_while0b_v58, main_while0b_v59, main_while0b_v60, main_while0b_v61, main_while0b_v62, main_while0b_v63]
theorem fwdOps_writes : (fwdOps : Ops F).Forall fun op => op.writes ⊆ (fwdOpsW.map (Proc.devRef (τ := τ) .tc)).toFinset := forall_writes_sub_of_map rfl

/-- One trip of the first loop: the counter and the carried values. -/
def fwdTail : Ops F :=
  [ nullary main_while0b_c_22 (constantI S_ 32 1#32),
    binary main_v20_6 main_while0b_c_22 main_while0b_v67 (addi : Arr F S_ .i32 → Arr F S_ .i32 → Arr F S_ .i32),
    unary main_while0b_v67 main_v20_6 id,
    unary main_while0b_v63 main_v20_7 id,
    unary main_while0b_v64 main_v20_8 id,
    unary main_while0b_v65 main_v20_9 id,
    unary main_while0b_v66 main_v20_10 id ]
theorem fwdTail_sub : (fwdTail : Ops F).Forall fun op => op.bufs ⊆ tcRefs τ sig := by
  unfold fwdTail; repeat' first | exact unary_bufs_sub .. | exact nullary_bufs_sub .. | exact binary_bufs_sub .. | apply And.intro
theorem fwdTail_fresh : (fwdTail : Ops F).Forall fun op => op.fresh = ∅ := forall_fresh_of_map rfl
/-- The references `fwdTail` writes. -/
abbrev fwdTailW : List (Ref sig .tc) := [main_while0b_c_22, main_while0b_v67, main_v20_6, main_v20_7, main_v20_8, main_v20_9, main_v20_10]
theorem fwdTail_writes : (fwdTail : Ops F).Forall fun op => op.writes ⊆ (fwdTailW.map (Proc.devRef (τ := τ) .tc)).toFinset := forall_writes_sub_of_map rfl

/-- One trip of the second loop: the slab counted from the end. -/
def bwdHead : Ops F :=
  [ nullary main_while1b_c_27 (constantI S_ 32 64#32),
    binary main_while1b_c_27 main_v33_8 main_while1b_v50 (subi : Arr F S_ .i32 → Arr F S_ .i32 → Arr F S_ .i32),
    nullary main_while1b_c_28 (constantI S_ 32 1#32),
    binary main_while1b_v50 main_while1b_c_28 main_while1b_v51 (subi : Arr F S_ .i32 → Arr F S_ .i32 → Arr F S_ .i32) ]
theorem bwdHead_sub : (bwdHead : Ops F).Forall fun op => op.bufs ⊆ tcRefs τ sig := by
  unfold bwdHead; repeat' first | exact nullary_bufs_sub .. | exact binary_bufs_sub .. | apply And.intro
theorem bwdHead_fresh : (bwdHead : Ops F).Forall fun op => op.fresh = ∅ := forall_fresh_of_map rfl
/-- The references `bwdHead` writes. -/
abbrev bwdHeadW : List (Ref sig .tc) := [main_while1b_c_27, main_while1b_v50, main_while1b_c_28, main_while1b_v51]
theorem bwdHead_writes : (bwdHead : Ops F).Forall fun op => op.writes ⊆ (bwdHeadW.map (Proc.devRef (τ := τ) .tc)).toFinset := forall_writes_sub_of_map rfl

/-- One trip of the second loop: its arithmetic. -/
def bwdOps : Ops F :=
  [ binary main_v33_9 main_while1b_v59 main_while1b_v60 ((fun l r => Host.dotGeneral dot_S8x128x128_S8x128x128_S8x128x128_1_2_2_1_0_0 none l r) : Arr F S8x128x128 .f32 → Arr F S8x128x128 .f32 → Arr F S8x128x128 .f32),
    unary main_while1b_v60 main_while1b_v61 ((transpose S8x128x128 [0, 2, 1] · transposes_S8x128x128_S8x128x128_0_2_1) : Arr F S8x128x128 .f32 → Arr F S8x128x128 .f32),
    binary main_v33_9 main_while1b_v56 main_while1b_v62 ((fun l r => Host.dotGeneral dot_S8x128x128_S8x128x128_S8x128x128_2_2_1_1_0_0 none l r) : Arr F S8x128x128 .f32 → Arr F S8x128x128 .f32 → Arr F S8x128x128 .f32),
    unary main_while1b_v62 main_while1b_v63 ((transpose S8x128x128 [0, 2, 1] · transposes_S8x128x128_S8x128x128_0_2_1) : Arr F S8x128x128 .f32 → Arr F S8x128x128 .f32),
    binary main_while1b_v53 main_v33_9 main_while1b_v64 (mulf : Arr F S8x128x128 .f32 → Arr F S8x128x128 .f32 → Arr F S8x128x128 .f32),
    binary main_v33_9 main_while1b_v58 main_while1b_v65 (mulf : Arr F S8x128x128 .f32 → Arr F S8x128x128 .f32 → Arr F S8x128x128 .f32),
    binary main_while1b_v52 main_while1b_v57 main_while1b_v66 ((fun l r => Host.dotGeneral dot_S8x128x128_S8x128x128_S8x128x128_1_1_2_2_0_0 none l r) : Arr F S8x128x128 .f32 → Arr F S8x128x128 .f32 → Arr F S8x128x128 .f32),
    unary main_while1b_v66 main_while1b_v67 ((transpose S8x128x128 [0, 2, 1] · transposes_S8x128x128_S8x128x128_0_2_1) : Arr F S8x128x128 .f32 → Arr F S8x128x128 .f32),
    binary main_while1b_v61 main_while1b_v67 main_while1b_v68 (addf : Arr F S8x128x128 .f32 → Arr F S8x128x128 .f32 → Arr F S8x128x128 .f32),
    binary main_while1b_v52 main_while1b_v56 main_while1b_v69 ((fun l r => Host.dotGeneral dot_S8x128x128_S8x128x128_S8x128x128_2_2_1_1_0_0 none l r) : Arr F S8x128x128 .f32 → Arr F S8x128x128 .f32 → Arr F S8x128x128 .f32),
    binary main_while1b_v52 main_while1b_v55 main_while1b_v70 ((fun l r => Host.dotGeneral dot_S8x128x128_S8x128x128_S8x128x128_1_1_2_2_0_0 none l r) : Arr F S8x128x128 .f32 → Arr F S8x128x128 .f32 → Arr F S8x128x128 .f32),
    unary main_while1b_v70 main_while1b_v71 ((transpose S8x128x128 [0, 2, 1] · transposes_S8x128x128_S8x128x128_0_2_1) : Arr F S8x128x128 .f32 → Arr F S8x128x128 .f32),
    binary main_while1b_v65 main_while1b_v71 main_while1b_v72 (addf : Arr F S8x128x128 .f32 → Arr F S8x128x128 .f32 → Arr F S8x128x128 .f32),
    binary main_while1b_v52 main_while1b_v53 main_while1b_v73 ((fun l r => Host.dotGeneral dot_S8x128x128_S8x128x128_S8x128x128_2_2_1_1_0_0 none l r) : Arr F S8x128x128 .f32 → Arr F S8x128x128 .f32 → Arr F S8x128x128 .f32),
    unary main_while1b_v68 main_while1b_v74 (Host.negf : Arr F S8x128x128 .f32 → Arr F S8x128x128 .f32),
    binary main_while1b_v74 main_while1b_v54 main_while1b_v75 ((fun l r => Host.dotGeneral dot_S8x128x128_S8x128x128_S8x128x128_1_1_2_2_0_0 none l r) : Arr F S8x128x128 .f32 → Arr F S8x128x128 .f32 → Arr F S8x128x128 .f32),
    unary main_while1b_v75 main_while1b_v76 ((transpose S8x128x128 [0, 2, 1] · transposes_S8x128x128_S8x128x128_0_2_1) : Arr F S8x128x128 .f32 → Arr F S8x128x128 .f32),
    binary main_while1b_v72 main_while1b_v76 main_while1b_v77 (addf : Arr F S8x128x128 .f32 → Arr F S8x128x128 .f32 → Arr F S8x128x128 .f32),
    binary main_while1b_v74 main_while1b_v53 main_while1b_v78 ((fun l r => Host.dotGeneral dot_S8x128x128_S8x128x128_S8x128x128_2_2_1_1_0_0 none l r) : Arr F S8x128x128 .f32 → Arr F S8x128x128 .f32 → Arr F S8x128x128 .f32) ]
theorem bwdOps_sub : (bwdOps : Ops F).Forall fun op => op.bufs ⊆ tcRefs τ sig := by
  unfold bwdOps; exact ⟨binary_bufs_sub .., unary_bufs_sub .., binary_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
theorem bwdOps_fresh : (bwdOps : Ops F).Forall fun op => op.fresh = ∅ := forall_fresh_of_map rfl
/-- The references `bwdOps` writes. -/
abbrev bwdOpsW : List (Ref sig .tc) := [main_while1b_v60, main_while1b_v61, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_v78]
theorem bwdOps_writes : (bwdOps : Ops F).Forall fun op => op.writes ⊆ (bwdOpsW.map (Proc.devRef (τ := τ) .tc)).toFinset := forall_writes_sub_of_map rfl

/-- One trip of the second loop: the counter and the carried values. -/
def bwdTail : Ops F :=
  [ nullary main_while1b_c_29 (constantI S_ 32 1#32),
    binary main_v33_8 main_while1b_c_29 main_while1b_v85 (addi : Arr F S_ .i32 → Arr F S_ .i32 → Arr F S_ .i32),
    unary main_while1b_v85 main_v33_8 id,
    unary main_while1b_v77 main_v33_9 id,
    unary main_while1b_v79 main_v33_10 id,
    unary main_while1b_v80 main_v33_11 id,
    unary main_while1b_v81 main_v33_12 id,
    unary main_while1b_v82 main_v33_13 id,
    unary main_while1b_v83 main_v33_14 id,
    unary main_while1b_v84 main_v33_15 id ]
theorem bwdTail_sub : (bwdTail : Ops F).Forall fun op => op.bufs ⊆ tcRefs τ sig := by
  unfold bwdTail; repeat' first | exact unary_bufs_sub .. | exact nullary_bufs_sub .. | exact binary_bufs_sub .. | apply And.intro
theorem bwdTail_fresh : (bwdTail : Ops F).Forall fun op => op.fresh = ∅ := forall_fresh_of_map rfl
/-- The references `bwdTail` writes. -/
abbrev bwdTailW : List (Ref sig .tc) := [main_while1b_c_29, main_while1b_v85, main_v33_8, main_v33_9, main_v33_10, main_v33_11, main_v33_12, main_v33_13, main_v33_14, main_v33_15]
theorem bwdTail_writes : (bwdTail : Ops F).Forall fun op => op.writes ⊆ (bwdTailW.map (Proc.devRef (τ := τ) .tc)).toFinset := forall_writes_sub_of_map rfl

/-- The first loop's condition. -/
def cond0 : Ops F :=
  [ nullary main_while0c_c_22 (constantI S_ 32 64#32),
    binary main_v20_6 main_while0c_c_22 main_while0c_v50 (cmpi .slt : Arr F S_ .i32 → Arr F S_ .i32 → Arr F S_ .i1) ]
theorem cond0_sub : (cond0 : Ops F).Forall fun op => op.bufs ⊆ tcRefs τ sig := by
  unfold cond0; exact ⟨nullary_bufs_sub .., binary_bufs_sub ..⟩
theorem cond0_fresh : (cond0 : Ops F).Forall fun op => op.fresh = ∅ := forall_fresh_of_map rfl
/-- The references `cond0` writes. -/
abbrev cond0W : List (Ref sig .tc) := [main_while0c_c_22, main_while0c_v50]
theorem cond0_writes : (cond0 : Ops F).Forall fun op => op.writes ⊆ (cond0W.map (Proc.devRef (τ := τ) .tc)).toFinset := forall_writes_sub_of_map rfl

/-- The second loop's condition. -/
def cond1 : Ops F :=
  [ nullary main_while1c_c_27 (constantI S_ 32 64#32),
    binary main_v33_8 main_while1c_c_27 main_while1c_v50 (cmpi .slt : Arr F S_ .i32 → Arr F S_ .i32 → Arr F S_ .i1) ]
theorem cond1_sub : (cond1 : Ops F).Forall fun op => op.bufs ⊆ tcRefs τ sig := by
  unfold cond1; exact ⟨nullary_bufs_sub .., binary_bufs_sub ..⟩
theorem cond1_fresh : (cond1 : Ops F).Forall fun op => op.fresh = ∅ := forall_fresh_of_map rfl
/-- The references `cond1` writes. -/
abbrev cond1W : List (Ref sig .tc) := [main_while1c_c_27, main_while1c_v50]
theorem cond1_writes : (cond1 : Ops F).Forall fun op => op.writes ⊆ (cond1W.map (Proc.devRef (τ := τ) .tc)).toFinset := forall_writes_sub_of_map rfl

/-- One trip of the first loop. -/
abbrev body0 : List (Ops F) :=
  [ pickOps (.of main_v20_0) (.of main_v20_6) main_while0b_call0,
    pickOps (.of main_v20_1) (.of main_v20_6) main_while0b_call1,
    pickOps (.of main_v20_2) (.of main_v20_6) main_while0b_call2,
    pickOps (.of main_v20_3) (.of main_v20_6) main_while0b_call3,
    pickOps (.of main_v20_4) (.of main_v20_6) main_while0b_call4,
    pickOps (.of main_v20_5) (.of main_v20_6) main_while0b_call5,
    fwdOps,
    putOps (.of main_v20_8) (.of main_while0b_v60) (.of main_v20_6) main_while0b_call6,
    putOps (.of main_v20_9) (.of main_v20_7) (.of main_v20_6) main_while0b_call7,
    putOps (.of main_v20_10) (.of main_while0b_v57) (.of main_v20_6) main_while0b_call8,
    fwdTail ]
theorem body0_plain : Plain (body0 (F := F)) := .cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons fwdOps_sub (hf := List.forall_iff_forall_mem.mp fwdOps_fresh) (.cons (putOps_sub _ _ _ _) (hf := List.forall_iff_forall_mem.mp (putOps_fresh _ _ _ _)) (.cons (putOps_sub _ _ _ _) (hf := List.forall_iff_forall_mem.mp (putOps_fresh _ _ _ _)) (.cons (putOps_sub _ _ _ _) (hf := List.forall_iff_forall_mem.mp (putOps_fresh _ _ _ _)) (.cons fwdTail_sub (hf := List.forall_iff_forall_mem.mp fwdTail_fresh) (.nil)))))))))))
theorem body0_chain : main_while0_body (F := F) = Pipeline.chain ((body0 (F := F)).map fun ops => (seq ops : Prog _ PUnit)) := by
  show _ = Pipeline.chain [seq (pickOps (.of main_v20_0) (.of main_v20_6) main_while0b_call0), seq (pickOps (.of main_v20_1) (.of main_v20_6) main_while0b_call1), seq (pickOps (.of main_v20_2) (.of main_v20_6) main_while0b_call2), seq (pickOps (.of main_v20_3) (.of main_v20_6) main_while0b_call3), seq (pickOps (.of main_v20_4) (.of main_v20_6) main_while0b_call4), seq (pickOps (.of main_v20_5) (.of main_v20_6) main_while0b_call5), seq fwdOps, seq (putOps (.of main_v20_8) (.of main_while0b_v60) (.of main_v20_6) main_while0b_call6), seq (putOps (.of main_v20_9) (.of main_v20_7) (.of main_v20_6) main_while0b_call7), seq (putOps (.of main_v20_10) (.of main_while0b_v57) (.of main_v20_6) main_while0b_call8), seq fwdTail]
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

/-- One trip of the second loop. -/
abbrev body1 : List (Ops F) :=
  [ bwdHead,
    pickOps (.of main_v33_0) (.of main_while1b_v51) main_while1b_call9,
    pickOps (.of main_v33_1) (.of main_while1b_v51) main_while1b_call10,
    pickOps (.of main_v33_2) (.of main_while1b_v51) main_while1b_call11,
    pickOps (.of main_v33_3) (.of main_while1b_v51) main_while1b_call12,
    pickOps (.of main_v33_4) (.of main_while1b_v51) main_while1b_call13,
    pickOps (.of main_v33_5) (.of main_while1b_v51) main_while1b_call14,
    pickOps (.of main_v33_6) (.of main_while1b_v51) main_while1b_call15,
    pickOps (.of main_v33_7) (.of main_while1b_v51) main_while1b_call16,
    bwdOps,
    putOps (.of main_v33_10) (.of main_while1b_v68) (.of main_while1b_v51) main_while1b_call17,
    putOps (.of main_v33_11) (.of main_while1b_v78) (.of main_while1b_v51) main_while1b_call18,
    putOps (.of main_v33_12) (.of main_while1b_v69) (.of main_while1b_v51) main_while1b_call19,
    putOps (.of main_v33_13) (.of main_while1b_v73) (.of main_while1b_v51) main_while1b_call20,
    putOps (.of main_v33_14) (.of main_while1b_v63) (.of main_while1b_v51) main_while1b_call21,
    putOps (.of main_v33_15) (.of main_while1b_v64) (.of main_while1b_v51) main_while1b_call22,
    bwdTail ]
theorem body1_plain : Plain (body1 (F := F)) := .cons bwdHead_sub (hf := List.forall_iff_forall_mem.mp bwdHead_fresh) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons (pickOps_sub _ _ _) (hf := List.forall_iff_forall_mem.mp (pickOps_fresh _ _ _)) (.cons bwdOps_sub (hf := List.forall_iff_forall_mem.mp bwdOps_fresh) (.cons (putOps_sub _ _ _ _) (hf := List.forall_iff_forall_mem.mp (putOps_fresh _ _ _ _)) (.cons (putOps_sub _ _ _ _) (hf := List.forall_iff_forall_mem.mp (putOps_fresh _ _ _ _)) (.cons (putOps_sub _ _ _ _) (hf := List.forall_iff_forall_mem.mp (putOps_fresh _ _ _ _)) (.cons (putOps_sub _ _ _ _) (hf := List.forall_iff_forall_mem.mp (putOps_fresh _ _ _ _)) (.cons (putOps_sub _ _ _ _) (hf := List.forall_iff_forall_mem.mp (putOps_fresh _ _ _ _)) (.cons (putOps_sub _ _ _ _) (hf := List.forall_iff_forall_mem.mp (putOps_fresh _ _ _ _)) (.cons bwdTail_sub (hf := List.forall_iff_forall_mem.mp bwdTail_fresh) (.nil)))))))))))))))))
theorem body1_chain : main_while1_body (F := F) = Pipeline.chain ((body1 (F := F)).map fun ops => (seq ops : Prog _ PUnit)) := by
  show _ = Pipeline.chain [seq bwdHead, seq (pickOps (.of main_v33_0) (.of main_while1b_v51) main_while1b_call9), seq (pickOps (.of main_v33_1) (.of main_while1b_v51) main_while1b_call10), seq (pickOps (.of main_v33_2) (.of main_while1b_v51) main_while1b_call11), seq (pickOps (.of main_v33_3) (.of main_while1b_v51) main_while1b_call12), seq (pickOps (.of main_v33_4) (.of main_while1b_v51) main_while1b_call13), seq (pickOps (.of main_v33_5) (.of main_while1b_v51) main_while1b_call14), seq (pickOps (.of main_v33_6) (.of main_while1b_v51) main_while1b_call15), seq (pickOps (.of main_v33_7) (.of main_while1b_v51) main_while1b_call16), seq bwdOps, seq (putOps (.of main_v33_10) (.of main_while1b_v68) (.of main_while1b_v51) main_while1b_call17), seq (putOps (.of main_v33_11) (.of main_while1b_v78) (.of main_while1b_v51) main_while1b_call18), seq (putOps (.of main_v33_12) (.of main_while1b_v69) (.of main_while1b_v51) main_while1b_call19), seq (putOps (.of main_v33_13) (.of main_while1b_v73) (.of main_while1b_v51) main_while1b_call20), seq (putOps (.of main_v33_14) (.of main_while1b_v63) (.of main_while1b_v51) main_while1b_call21), seq (putOps (.of main_v33_15) (.of main_while1b_v64) (.of main_while1b_v51) main_while1b_call22), seq bwdTail]
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

theorem pre_plain : Plain [preOps (F := F)] := .cons preOps_sub (hf := List.forall_iff_forall_mem.mp preOps_fresh) .nil
theorem mid_plain : Plain [midOps (F := F), midOps1] :=
  .cons midOps_sub (hf := List.forall_iff_forall_mem.mp midOps_fresh) (.cons midOps1_sub (hf := List.forall_iff_forall_mem.mp midOps1_fresh) .nil)
theorem post_plain : Plain [postOps (F := F)] := .cons postOps_sub (hf := List.forall_iff_forall_mem.mp postOps_fresh) .nil

theorem part0_chain (c : Dev nD) : main_part0 (F := F) c = (Pipeline.chainK [seq preOps, HostLoop.enter 0] (seq midOps) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl
theorem part1_chain (c : Dev nD) : main_part1 (F := F) c = (Pipeline.chain [seq midOps1, HostLoop.enter 1, seq postOps] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl
theorem main_chain (c : Dev nD) : main (F := F) c
    = (Pipeline.chain [seq preOps, HostLoop.enter 0, seq midOps, seq midOps1, HostLoop.enter 1, seq postOps] : Prog (TpuEff nD τ sig (Elt F) (HostLoop.Sig (Pipeline.Sig Λ₀ (Fin 0) fun p => (pcfgs (F := F) p).Adm) 2) .tc) PUnit) :=
  Pipeline.chain_of_window (xs := [seq preOps, HostLoop.enter 0]) (part0_chain c) (part1_chain c)

end Cert.ReferenceIdeal.Scan

end
-- ==== Proof.RefRun.lean ====
/- The run of the reference: what every buffer holds at the end. -/
module

public import proofs.«01_k».proof.Proof.RefOps

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Option PUnit) ℕ

variable (m : (ℓ : Loc nD τ sig) → Buf (Elt F) ℓ) (ρ : Dev nD → PrngReg)

/-- The buffers when the first loop is entered, before its `k`-th condition, and when it is left. -/
abbrev E0 (c : Dev nD) : Valuation τ sig (Elt F) := afterL [preOps] (launchContents m c)
abbrev X0 (k : ℕ) (c : Dev nD) : Valuation τ sig (Elt F) := atTrip cond0 body0 (E0 m) k c
abbrev M0 (c : Dev nD) : Valuation τ sig (Elt F) := after cond0 (X0 m 64 c)
/-- The buffers when the second loop is entered, before its `k`-th condition, and at the end. -/
abbrev E1 (c : Dev nD) : Valuation τ sig (Elt F) := afterL [midOps, midOps1] (M0 m c)
abbrev X1 (k : ℕ) (c : Dev nD) : Valuation τ sig (Elt F) := atTrip cond1 body1 (E1 m) k c
abbrev M1 (c : Dev nD) : Valuation τ sig (Elt F) := after cond1 (X1 m 64 c)
abbrev Z (c : Dev nD) : Valuation τ sig (Elt F) := afterL [postOps] (M1 m c)

set_option maxRecDepth 100000 in
/-- The counter moves on by one at the end of a trip. -/
theorem ctr_tail0 (X : Valuation τ sig (Elt F)) :
    after fwdTail X (Proc.devRef .tc main_v20_6) = addi (X (Proc.devRef .tc main_v20_6)) (constantI S_ 32 1#32) := by
  after_reads_simp
  rfl

/-- One trip moves the counter on by one. -/
theorem ctr_body0 (V : Valuation τ sig (Elt F)) :
    afterL body0 (after cond0 V) (Proc.devRef .tc main_v20_6) = addi (V (Proc.devRef .tc main_v20_6)) (constantI S_ 32 1#32) := by
  simp only [afterL_cons, afterL_nil]
  rw [ctr_tail0]
  rw [after_of_writes_sub _ _ (putOps_writes _ _ _ _) (by decide +kernel)]
  rw [after_of_writes_sub _ _ (putOps_writes _ _ _ _) (by decide +kernel)]
  rw [after_of_writes_sub _ _ (putOps_writes _ _ _ _) (by decide +kernel)]
  rw [after_of_writes_sub _ _ fwdOps_writes (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ cond0_writes (by decide +kernel)]

set_option maxRecDepth 100000 in
/-- The counter moves on by one at the end of a trip. -/
theorem ctr_tail1 (X : Valuation τ sig (Elt F)) :
    after bwdTail X (Proc.devRef .tc main_v33_8) = addi (X (Proc.devRef .tc main_v33_8)) (constantI S_ 32 1#32) := by
  after_reads_simp
  rfl

/-- One trip moves the counter on by one. -/
theorem ctr_body1 (V : Valuation τ sig (Elt F)) :
    afterL body1 (after cond1 V) (Proc.devRef .tc main_v33_8) = addi (V (Proc.devRef .tc main_v33_8)) (constantI S_ 32 1#32) := by
  simp only [afterL_cons, afterL_nil]
  rw [ctr_tail1]
  rw [after_of_writes_sub _ _ (putOps_writes _ _ _ _) (by decide +kernel)]
  rw [after_of_writes_sub _ _ (putOps_writes _ _ _ _) (by decide +kernel)]
  rw [after_of_writes_sub _ _ (putOps_writes _ _ _ _) (by decide +kernel)]
  rw [after_of_writes_sub _ _ (putOps_writes _ _ _ _) (by decide +kernel)]
  rw [after_of_writes_sub _ _ (putOps_writes _ _ _ _) (by decide +kernel)]
  rw [after_of_writes_sub _ _ (putOps_writes _ _ _ _) (by decide +kernel)]
  rw [after_of_writes_sub _ _ bwdOps_writes (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ (pickOps_writes _ _ _) (by decide +kernel)]
  rw [after_of_writes_sub _ _ bwdHead_writes (by decide +kernel)]
  rw [after_of_writes_sub _ _ cond1_writes (by decide +kernel)]

/-- The counter is zero when the loop is entered. -/
theorem ctr_entry0 (c : Dev nD) : E0 m c (Proc.devRef .tc main_v20_6) = fun _ => (0#32 : BitVec 32) := by
  simp only [E0, afterL_cons, afterL_nil]
  after_reads_simp
  rfl

/-- Before the `k`-th condition the counter is `k`. -/
theorem ctr0 (c : Dev nD) : ∀ k, X0 m k c (Proc.devRef .tc main_v20_6) = fun _ => Scf.iv 0#32 1#32 k
  | 0 => by rw [show X0 m 0 c = E0 m c from rfl, ctr_entry0, Scf.iv_zero]
  | k + 1 => by
    rw [show X0 m (k + 1) c = afterL body0 (after cond0 (X0 m k c)) from rfl, ctr_body0, ctr0 c k, Scf.iv_succ]
    rfl

/-- The counter is zero when the loop is entered. -/
theorem ctr_entry1 (c : Dev nD) : E1 m c (Proc.devRef .tc main_v33_8) = fun _ => (0#32 : BitVec 32) := by
  simp only [E1, afterL_cons, afterL_nil]
  after_reads_simp
  rfl

/-- Before the `k`-th condition the counter is `k`. -/
theorem ctr1 (c : Dev nD) : ∀ k, X1 m k c (Proc.devRef .tc main_v33_8) = fun _ => Scf.iv 0#32 1#32 k
  | 0 => by rw [show X1 m 0 c = E1 m c from rfl, ctr_entry1, Scf.iv_zero]
  | k + 1 => by
    rw [show X1 m (k + 1) c = afterL body1 (after cond1 (X1 m k c)) from rfl, ctr_body1, ctr1 c k, Scf.iv_succ]
    rfl

/-- The core's dues, carried along. -/
abbrev Rw (c : Dev nD) : sProp 𝕄 := iprop(∃ W, owes (c : Thread nD τ) (0 : CellTallies nD τ sig Unit) W)

set_option backward.isDefEq.respectTransparency.types false in
/-- The loop's condition holds exactly before the first 64 trips. -/
theorem cond_spec0 : LoopCond (pcfgs (F := F)) defs₀ Variants.none loops (fun c => (Rw c : sProp 𝕄)) (main_while0_cond (F := F)) cond0 body0 (E0 m) 64 := by
  intro k hk c bd
  have hctr := ctr0 m c k
  unfold main_while0_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (X0 m k c) main_v20_6 HostLoop.idx0)
        (HloOp.result _ (X0 m k c) main_while0c_c_22 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · unfold cond0; rw [after_cons, after_cons, after_nil]; iexact Hh
  iexact HR

set_option backward.isDefEq.respectTransparency.types false in
/-- The loop's condition holds exactly before the first 64 trips. -/
theorem cond_spec1 : LoopCond (pcfgs (F := F)) defs₀ Variants.none loops (fun c => (Rw c : sProp 𝕄)) (main_while1_cond (F := F)) cond1 body1 (E1 m) 64 := by
  intro k hk c bd
  have hctr := ctr1 m c k
  unfold main_while1_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (X1 m k c) main_v33_8 HostLoop.idx0)
        (HloOp.result _ (X1 m k c) main_while1c_c_27 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · unfold cond1; rw [after_cons, after_cons, after_nil]; iexact Hh
  iexact HR

/-- No pipeline is launched: the parameters that range over pipelines are empty. -/
abbrev noAdm : (p : Fin 0) → ((pcfgs (F := F)) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
theorem no_cell : Function.Injective (Pipeline.cellOf (nD := nD) (τ := τ) (Pipeline.pin (pcfgs (F := F)) noAdm)) := fun k => k.1.elim0

/-- The program's steps: three stretches and two loops. -/
def steps : List (Pipeline.CSeg (Ix := Unit) (Name := ℕ) (U := Option PUnit) (Lvl := ℕ) (nD := nD) (τ := τ) (pcfgs (F := F)) noAdm defs₀ Variants.none noL noLv loops noTk) :=
  segsOf _ _ _ _ _ _ _ _ Rw [preOps] pre_plain (launchContents m)
    ++ loopSeg _ _ _ _ _ _ _ _ 0 main_while0_cond main_while0_body rfl cond0 body0 body0_plain body0_chain 64 (E0 m) Rw (cond_spec0 m)
      :: (segsOf _ _ _ _ _ _ _ _ Rw [midOps, midOps1] mid_plain (M0 m)
        ++ loopSeg _ _ _ _ _ _ _ _ 1 main_while1_cond main_while1_body rfl cond1 body1 body1_plain body1_chain 64 (E1 m) Rw (cond_spec1 m)
          :: segsOf _ _ _ _ _ _ _ _ Rw [postOps] post_plain (M1 m))

theorem steps_prog : (steps m).map Pipeline.CSeg.prog = [seq preOps, HostLoop.enter 0, seq midOps, seq midOps1, HostLoop.enter 1, seq postOps] := by
  unfold steps
  rw [List.map_append, List.map_cons, List.map_append, List.map_cons, segsOf_prog, segsOf_prog, segsOf_prog]
  rfl

theorem steps_chains : Pipeline.CSeg.Chains (fun c => iprop(held (c : Thread nD τ) (Pipeline.ucRefs τ sig) (launchContents m c) ∗ Rw c)) (steps m)
    (fun c => iprop(iprop(held (c : Thread nD τ) (Pipeline.ucRefs τ sig) (Z m c)) ∗ ∃ W, owes (c : Thread nD τ) (0 : CellTallies nD τ sig Unit) W)) := by
  unfold steps
  refine Pipeline.CSeg.Chains.append (segsOf_chains _ _ _ _ _ _ _ _ Rw [preOps] pre_plain _) ⟨fun _ => .rfl, ?_⟩
  refine Pipeline.CSeg.Chains.append (segsOf_chains _ _ _ _ _ _ _ _ Rw [midOps, midOps1] mid_plain _) ⟨fun _ => .rfl, ?_⟩
  exact segsOf_chains _ _ _ _ _ _ _ _ Rw [postOps] post_plain _

theorem no_unscoped : ∀ sm : SemLoc sig, sm.isScoped .tc = true := by decide

set_option backward.isDefEq.respectTransparency.types false in
/-- The reference ends, without a fault, with every buffer at the last contents and every counter at zero. -/
theorem run_all : θ_run (defs (F := F)) (onTc (τ := τ) (main (F := F))) ⟨m, fun _ => 0, ρ⟩ (fun r => (∀ (c : Dev nD) (b : Ref sig .tc),
      (Proc.devRef .tc b : DevRef τ sig).isScoped = false → r.2.mem (c.tc.loc b) = Z m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm no_cell defs₀ Variants.none noL noLv loops noTk m ρ main (steps m)
    (fun c Q => by
      rw [main_chain c]
      show wp _ _ _ (Pipeline.chain ((steps m).map Pipeline.CSeg.prog)) Q ⊢ _
      rw [steps_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ Rw c))
    (Tₙ := fun c => iprop(held (c : Thread nD τ) (Pipeline.ucRefs τ sig) (Z m c)))
    (hch := steps_chains m)
    (hinit := by
      refine Pipeline.initEach noL noLv fun c => ?_
      rw [show unscopedBufs c (fun b => m (c.tc.loc b)) = held (c : Thread nD τ) (Pipeline.ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Z m c b)
    (hfin := fun c s' => by
      unfold held
      iintro ⟨Hh, HSI⟩
      ihave Hr := (pointsTo_read_all (Pipeline.ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (.inr (no_unscoped g.2))⟩)

end Cert.ReferenceIdeal.Scan

end
-- ==== Proof.RefTrip.lean ====
/- What one trip of each loop of the reference does to the carried values. -/
module

public import proofs.«01_k».proof.Proof.RefRun

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A stack of 64 slabs, a slab, and an index, as buffer contents. -/
abbrev Stack (F : FTy → Type) : Type := Arr F S64x8x128x128 .f32
abbrev Slab (F : FTy → Type) : Type := Arr F S8x128x128 .f32
abbrev Index (F : FTy → Type) : Type := Arr F S_ .i32

/-- The four indices of a slab: which slab, then zeros. -/
abbrev at4 (i : Index F) : Fin 4 → Index F := ![i, constantI S_ 32 0#32, constantI S_ 32 0#32, constantI S_ 32 0#32]
/-- One slab of a stack. -/
def pickAt (x : Stack F) (i : Index F) : Slab F :=
  shapeCast S8x128x128 (Host.dynamicSlice S1x8x128x128 x (fun k => (at4 i k (Shape.Idx.first h_S_)).toInt) sliceFits_S64x8x128x128_S1x8x128x128) shapeCasts_S1x8x128x128_S8x128x128
/-- A stack with one slab replaced. -/
def putAt (x : Stack F) (v : Slab F) (i : Index F) : Stack F :=
  Host.dynamicUpdateSlice x (broadcastInDim S1x8x128x128 ![1, 2, 3] bcast_S8x128x128_S1x8x128x128_1_2_3 v : Arr F S1x8x128x128 .f32)
    (fun k => (at4 i k (Shape.Idx.first h_S_)).toInt) updateFits_S64x8x128x128_S1x8x128x128

/-- Products of slabs, head by head: the plain one, and those contracting the rows or the columns of both. -/
abbrev mm (a b : Slab F) : Slab F := Host.dotGeneral dot_S8x128x128_S8x128x128_S8x128x128_2_1_1_2_0_0 none a b
abbrev mmT (a b : Slab F) : Slab F := Host.dotGeneral dot_S8x128x128_S8x128x128_S8x128x128_1_1_2_2_0_0 none a b
abbrev mmR (a b : Slab F) : Slab F := Host.dotGeneral dot_S8x128x128_S8x128x128_S8x128x128_2_2_1_1_0_0 none a b
abbrev mmL (a b : Slab F) : Slab F := Host.dotGeneral dot_S8x128x128_S8x128x128_S8x128x128_1_2_2_1_0_0 none a b
abbrev tr (a : Slab F) : Slab F := transpose S8x128x128 [0, 2, 1] a transposes_S8x128x128_S8x128x128_0_2_1

/-- One step of the recurrence: the corrected values, the output, the next state. -/
def rV (s u w : Slab F) : Slab F := subf u (mm w s)
def rO (s u w qk qd : Slab F) : Slab F := addf (mm qd s) (mm qk (rV s u w))
def rS (s u w kt cd : Slab F) : Slab F := addf (mulf s cd) (mmT kt (rV s u w))

/-- One step back: the gradients of the corrected values, of the rows kept, of the state. -/
def rdU (d qk kt g : Slab F) : Slab F := addf (tr (mmL d kt)) (tr (mmT g qk))
def rdW (d s qk kt g : Slab F) : Slab F := mmR (Host.negf (rdU d qk kt g)) s
def rdK (v g : Slab F) : Slab F := mmR g v
def rdQ (s g : Slab F) : Slab F := mmR g s
def rdT (d v : Slab F) : Slab F := tr (mmR d v)
def rdC (d s : Slab F) : Slab F := mulf s d
def rdS (d w qk qd kt cd g : Slab F) : Slab F :=
  addf (addf (mulf d cd) (tr (mmT g qd))) (tr (mmT (Host.negf (rdU d qk kt g)) w))

/-- The slab a trip of the second loop works on, counted from the end. -/
def back (i : Index F) : Index F := subi (subi (constantI S_ 32 64#32) i) (constantI S_ 32 1#32)

/-! Each call's result. -/
theorem pick_0 (V : Valuation τ sig (Elt F)) : after (pickOps (.of main_v20_0) (.of main_v20_6) main_while0b_call0) V (no_index (Proc.devRef .tc main_while0b_v50)) = pickAt (V (Proc.devRef .tc main_v20_0)) (V (Proc.devRef .tc main_v20_6)) := by
  unfold pickOps pickAt; after_results_entrywise [cast_eq]
theorem pick_1 (V : Valuation τ sig (Elt F)) : after (pickOps (.of main_v20_1) (.of main_v20_6) main_while0b_call1) V (no_index (Proc.devRef .tc main_while0b_v51)) = pickAt (V (Proc.devRef .tc main_v20_1)) (V (Proc.devRef .tc main_v20_6)) := by
  unfold pickOps pickAt; after_results_entrywise [cast_eq]
theorem pick_2 (V : Valuation τ sig (Elt F)) : after (pickOps (.of main_v20_2) (.of main_v20_6) main_while0b_call2) V (no_index (Proc.devRef .tc main_while0b_v52)) = pickAt (V (Proc.devRef .tc main_v20_2)) (V (Proc.devRef .tc main_v20_6)) := by
  unfold pickOps pickAt; after_results_entrywise [cast_eq]
theorem pick_3 (V : Valuation τ sig (Elt F)) : after (pickOps (.of main_v20_3) (.of main_v20_6) main_while0b_call3) V (no_index (Proc.devRef .tc main_while0b_v53)) = pickAt (V (Proc.devRef .tc main_v20_3)) (V (Proc.devRef .tc main_v20_6)) := by
  unfold pickOps pickAt; after_results_entrywise [cast_eq]
theorem pick_4 (V : Valuation τ sig (Elt F)) : after (pickOps (.of main_v20_4) (.of main_v20_6) main_while0b_call4) V (no_index (Proc.devRef .tc main_while0b_v54)) = pickAt (V (Proc.devRef .tc main_v20_4)) (V (Proc.devRef .tc main_v20_6)) := by
  unfold pickOps pickAt; after_results_entrywise [cast_eq]
theorem pick_5 (V : Valuation τ sig (Elt F)) : after (pickOps (.of main_v20_5) (.of main_v20_6) main_while0b_call5) V (no_index (Proc.devRef .tc main_while0b_v55)) = pickAt (V (Proc.devRef .tc main_v20_5)) (V (Proc.devRef .tc main_v20_6)) := by
  unfold pickOps pickAt; after_results_entrywise [cast_eq]
theorem put_6 (V : Valuation τ sig (Elt F)) : after (putOps (.of main_v20_8) (.of main_while0b_v60) (.of main_v20_6) main_while0b_call6) V (no_index (Proc.devRef .tc main_while0b_v64)) = putAt (V (Proc.devRef .tc main_v20_8)) (V (Proc.devRef .tc main_while0b_v60)) (V (Proc.devRef .tc main_v20_6)) := by
  unfold putOps putAt; after_results_entrywise [cast_eq]
theorem put_7 (V : Valuation τ sig (Elt F)) : after (putOps (.of main_v20_9) (.of main_v20_7) (.of main_v20_6) main_while0b_call7) V (no_index (Proc.devRef .tc main_while0b_v65)) = putAt (V (Proc.devRef .tc main_v20_9)) (V (Proc.devRef .tc main_v20_7)) (V (Proc.devRef .tc main_v20_6)) := by
  unfold putOps putAt; after_results_entrywise [cast_eq]
theorem put_8 (V : Valuation τ sig (Elt F)) : after (putOps (.of main_v20_10) (.of main_while0b_v57) (.of main_v20_6) main_while0b_call8) V (no_index (Proc.devRef .tc main_while0b_v66)) = putAt (V (Proc.devRef .tc main_v20_10)) (V (Proc.devRef .tc main_while0b_v57)) (V (Proc.devRef .tc main_v20_6)) := by
  unfold putOps putAt; after_results_entrywise [cast_eq]
theorem pick_9 (V : Valuation τ sig (Elt F)) : after (pickOps (.of main_v33_0) (.of main_while1b_v51) main_while1b_call9) V (no_index (Proc.devRef .tc main_while1b_v52)) = pickAt (V (Proc.devRef .tc main_v33_0)) (V (Proc.devRef .tc main_while1b_v51)) := by
  unfold pickOps pickAt; after_results_entrywise [cast_eq]
theorem pick_10 (V : Valuation τ sig (Elt F)) : after (pickOps (.of main_v33_1) (.of main_while1b_v51) main_while1b_call10) V (no_index (Proc.devRef .tc main_while1b_v53)) = pickAt (V (Proc.devRef .tc main_v33_1)) (V (Proc.devRef .tc main_while1b_v51)) := by
  unfold pickOps pickAt; after_results_entrywise [cast_eq]
theorem pick_11 (V : Valuation τ sig (Elt F)) : after (pickOps (.of main_v33_2) (.of main_while1b_v51) main_while1b_call11) V (no_index (Proc.devRef .tc main_while1b_v54)) = pickAt (V (Proc.devRef .tc main_v33_2)) (V (Proc.devRef .tc main_while1b_v51)) := by
  unfold pickOps pickAt; after_results_entrywise [cast_eq]
theorem pick_12 (V : Valuation τ sig (Elt F)) : after (pickOps (.of main_v33_3) (.of main_while1b_v51) main_while1b_call12) V (no_index (Proc.devRef .tc main_while1b_v55)) = pickAt (V (Proc.devRef .tc main_v33_3)) (V (Proc.devRef .tc main_while1b_v51)) := by
  unfold pickOps pickAt; after_results_entrywise [cast_eq]
theorem pick_13 (V : Valuation τ sig (Elt F)) : after (pickOps (.of main_v33_4) (.of main_while1b_v51) main_while1b_call13) V (no_index (Proc.devRef .tc main_while1b_v56)) = pickAt (V (Proc.devRef .tc main_v33_4)) (V (Proc.devRef .tc main_while1b_v51)) := by
  unfold pickOps pickAt; after_results_entrywise [cast_eq]
theorem pick_14 (V : Valuation τ sig (Elt F)) : after (pickOps (.of main_v33_5) (.of main_while1b_v51) main_while1b_call14) V (no_index (Proc.devRef .tc main_while1b_v57)) = pickAt (V (Proc.devRef .tc main_v33_5)) (V (Proc.devRef .tc main_while1b_v51)) := by
  unfold pickOps pickAt; after_results_entrywise [cast_eq]
theorem pick_15 (V : Valuation τ sig (Elt F)) : after (pickOps (.of main_v33_6) (.of main_while1b_v51) main_while1b_call15) V (no_index (Proc.devRef .tc main_while1b_v58)) = pickAt (V (Proc.devRef .tc main_v33_6)) (V (Proc.devRef .tc main_while1b_v51)) := by
  unfold pickOps pickAt; after_results_entrywise [cast_eq]
theorem pick_16 (V : Valuation τ sig (Elt F)) : after (pickOps (.of main_v33_7) (.of main_while1b_v51) main_while1b_call16) V (no_index (Proc.devRef .tc main_while1b_v59)) = pickAt (V (Proc.devRef .tc main_v33_7)) (V (Proc.devRef .tc main_while1b_v51)) := by
  unfold pickOps pickAt; after_results_entrywise [cast_eq]
theorem put_17 (V : Valuation τ sig (Elt F)) : after (putOps (.of main_v33_10) (.of main_while1b_v68) (.of main_while1b_v51) main_while1b_call17) V (no_index (Proc.devRef .tc main_while1b_v79)) = putAt (V (Proc.devRef .tc main_v33_10)) (V (Proc.devRef .tc main_while1b_v68)) (V (Proc.devRef .tc main_while1b_v51)) := by
  unfold putOps putAt; after_results_entrywise [cast_eq]
theorem put_18 (V : Valuation τ sig (Elt F)) : after (putOps (.of main_v33_11) (.of main_while1b_v78) (.of main_while1b_v51) main_while1b_call18) V (no_index (Proc.devRef .tc main_while1b_v80)) = putAt (V (Proc.devRef .tc main_v33_11)) (V (Proc.devRef .tc main_while1b_v78)) (V (Proc.devRef .tc main_while1b_v51)) := by
  unfold putOps putAt; after_results_entrywise [cast_eq]
theorem put_19 (V : Valuation τ sig (Elt F)) : after (putOps (.of main_v33_12) (.of main_while1b_v69) (.of main_while1b_v51) main_while1b_call19) V (no_index (Proc.devRef .tc main_while1b_v81)) = putAt (V (Proc.devRef .tc main_v33_12)) (V (Proc.devRef .tc main_while1b_v69)) (V (Proc.devRef .tc main_while1b_v51)) := by
  unfold putOps putAt; after_results_entrywise [cast_eq]
theorem put_20 (V : Valuation τ sig (Elt F)) : after (putOps (.of main_v33_13) (.of main_while1b_v73) (.of main_while1b_v51) main_while1b_call20) V (no_index (Proc.devRef .tc main_while1b_v82)) = putAt (V (Proc.devRef .tc main_v33_13)) (V (Proc.devRef .tc main_while1b_v73)) (V (Proc.devRef .tc main_while1b_v51)) := by
  unfold putOps putAt; after_results_entrywise [cast_eq]
theorem put_21 (V : Valuation τ sig (Elt F)) : after (putOps (.of main_v33_14) (.of main_while1b_v63) (.of main_while1b_v51) main_while1b_call21) V (no_index (Proc.devRef .tc main_while1b_v83)) = putAt (V (Proc.devRef .tc main_v33_14)) (V (Proc.devRef .tc main_while1b_v63)) (V (Proc.devRef .tc main_while1b_v51)) := by
  unfold putOps putAt; after_results_entrywise [cast_eq]
theorem put_22 (V : Valuation τ sig (Elt F)) : after (putOps (.of main_v33_15) (.of main_while1b_v64) (.of main_while1b_v51) main_while1b_call22) V (no_index (Proc.devRef .tc main_while1b_v84)) = putAt (V (Proc.devRef .tc main_v33_15)) (V (Proc.devRef .tc main_while1b_v64)) (V (Proc.devRef .tc main_while1b_v51)) := by
  unfold putOps putAt; after_results_entrywise [cast_eq]

/-- A buffer a stretch does not write is as before it. -/
theorem keep_pickOps (x : StableHlo.TRef sig ⟨S64x8x128x128, .f32⟩) (i : StableHlo.TRef sig ⟨S_, .i32⟩) (φ : fn_dynamic_index_in_dim.Bufs) (V : Valuation τ sig (Elt F)) (r : Ref sig .tc) (h : r ∉ pickOpsW φ) : after (pickOps x i φ) V (no_index (Proc.devRef .tc r)) = V (Proc.devRef .tc r) :=
  after_of_writes_sub _ _ (pickOps_writes _ _ _) h
theorem keep_putOps (x : StableHlo.TRef sig ⟨S64x8x128x128, .f32⟩) (v : StableHlo.TRef sig ⟨S8x128x128, .f32⟩) (i : StableHlo.TRef sig ⟨S_, .i32⟩) (φ : fn_dynamic_update_index_in_dim.Bufs) (V : Valuation τ sig (Elt F)) (r : Ref sig .tc) (h : r ∉ putOpsW φ) : after (putOps x v i φ) V (no_index (Proc.devRef .tc r)) = V (Proc.devRef .tc r) :=
  after_of_writes_sub _ _ (putOps_writes _ _ _ _) h
theorem keep_fwdOps (V : Valuation τ sig (Elt F)) (r : Ref sig .tc) (h : r ∉ fwdOpsW) : after fwdOps V (no_index (Proc.devRef .tc r)) = V (Proc.devRef .tc r) :=
  after_of_writes_sub _ _ fwdOps_writes h
theorem keep_fwdTail (V : Valuation τ sig (Elt F)) (r : Ref sig .tc) (h : r ∉ fwdTailW) : after fwdTail V (no_index (Proc.devRef .tc r)) = V (Proc.devRef .tc r) :=
  after_of_writes_sub _ _ fwdTail_writes h
theorem keep_bwdHead (V : Valuation τ sig (Elt F)) (r : Ref sig .tc) (h : r ∉ bwdHeadW) : after bwdHead V (no_index (Proc.devRef .tc r)) = V (Proc.devRef .tc r) :=
  after_of_writes_sub _ _ bwdHead_writes h
theorem keep_bwdOps (V : Valuation τ sig (Elt F)) (r : Ref sig .tc) (h : r ∉ bwdOpsW) : after bwdOps V (no_index (Proc.devRef .tc r)) = V (Proc.devRef .tc r) :=
  after_of_writes_sub _ _ bwdOps_writes h
theorem keep_bwdTail (V : Valuation τ sig (Elt F)) (r : Ref sig .tc) (h : r ∉ bwdTailW) : after bwdTail V (no_index (Proc.devRef .tc r)) = V (Proc.devRef .tc r) :=
  after_of_writes_sub _ _ bwdTail_writes h
theorem keep_cond0 (V : Valuation τ sig (Elt F)) (r : Ref sig .tc) (h : r ∉ cond0W) : after cond0 V (no_index (Proc.devRef .tc r)) = V (Proc.devRef .tc r) :=
  after_of_writes_sub _ _ cond0_writes h
theorem keep_cond1 (V : Valuation τ sig (Elt F)) (r : Ref sig .tc) (h : r ∉ cond1W) : after cond1 V (no_index (Proc.devRef .tc r)) = V (Proc.devRef .tc r) :=
  after_of_writes_sub _ _ cond1_writes h
theorem keep_preOps (V : Valuation τ sig (Elt F)) (r : Ref sig .tc) (h : r ∉ preOpsW) : after preOps V (no_index (Proc.devRef .tc r)) = V (Proc.devRef .tc r) :=
  after_of_writes_sub _ _ preOps_writes h
theorem keep_midOps (V : Valuation τ sig (Elt F)) (r : Ref sig .tc) (h : r ∉ midOpsW) : after midOps V (no_index (Proc.devRef .tc r)) = V (Proc.devRef .tc r) :=
  after_of_writes_sub _ _ midOps_writes h
theorem keep_midOps1 (V : Valuation τ sig (Elt F)) (r : Ref sig .tc) (h : r ∉ midOps1W) : after midOps1 V (no_index (Proc.devRef .tc r)) = V (Proc.devRef .tc r) :=
  after_of_writes_sub _ _ midOps1_writes h
theorem keep_postOps (V : Valuation τ sig (Elt F)) (r : Ref sig .tc) (h : r ∉ postOpsW) : after postOps V (no_index (Proc.devRef .tc r)) = V (Proc.devRef .tc r) :=
  after_of_writes_sub _ _ postOps_writes h
theorem fwd_v (V : Valuation τ sig (Elt F)) : after fwdOps V (no_index (Proc.devRef .tc main_while0b_v57)) = rV (V (Proc.devRef .tc main_v20_7)) (V (Proc.devRef .tc main_while0b_v50)) (V (Proc.devRef .tc main_while0b_v51)) := by
  unfold fwdOps; after_reads_simp; rfl
theorem fwd_o (V : Valuation τ sig (Elt F)) : after fwdOps V (no_index (Proc.devRef .tc main_while0b_v60)) = rO (V (Proc.devRef .tc main_v20_7)) (V (Proc.devRef .tc main_while0b_v50)) (V (Proc.devRef .tc main_while0b_v51)) (V (Proc.devRef .tc main_while0b_v52)) (V (Proc.devRef .tc main_while0b_v53)) := by
  unfold fwdOps; after_reads_simp; rfl
theorem fwd_s (V : Valuation τ sig (Elt F)) : after fwdOps V (no_index (Proc.devRef .tc main_while0b_v63)) = rS (V (Proc.devRef .tc main_v20_7)) (V (Proc.devRef .tc main_while0b_v50)) (V (Proc.devRef .tc main_while0b_v51)) (V (Proc.devRef .tc main_while0b_v54)) (V (Proc.devRef .tc main_while0b_v55)) := by
  unfold fwdOps; after_reads_simp; rfl
theorem fwdT_7 (V : Valuation τ sig (Elt F)) : after fwdTail V (no_index (Proc.devRef .tc main_v20_7)) = V (Proc.devRef .tc main_while0b_v63) := by
  unfold fwdTail; after_reads_simp; rfl
theorem fwdT_8 (V : Valuation τ sig (Elt F)) : after fwdTail V (no_index (Proc.devRef .tc main_v20_8)) = V (Proc.devRef .tc main_while0b_v64) := by
  unfold fwdTail; after_reads_simp; rfl
theorem fwdT_9 (V : Valuation τ sig (Elt F)) : after fwdTail V (no_index (Proc.devRef .tc main_v20_9)) = V (Proc.devRef .tc main_while0b_v65) := by
  unfold fwdTail; after_reads_simp; rfl
theorem fwdT_10 (V : Valuation τ sig (Elt F)) : after fwdTail V (no_index (Proc.devRef .tc main_v20_10)) = V (Proc.devRef .tc main_while0b_v66) := by
  unfold fwdTail; after_reads_simp; rfl
theorem bwdT_9 (V : Valuation τ sig (Elt F)) : after bwdTail V (no_index (Proc.devRef .tc main_v33_9)) = V (Proc.devRef .tc main_while1b_v77) := by
  unfold bwdTail; after_reads_simp; rfl
theorem bwdT_10 (V : Valuation τ sig (Elt F)) : after bwdTail V (no_index (Proc.devRef .tc main_v33_10)) = V (Proc.devRef .tc main_while1b_v79) := by
  unfold bwdTail; after_reads_simp; rfl
theorem bwdT_11 (V : Valuation τ sig (Elt F)) : after bwdTail V (no_index (Proc.devRef .tc main_v33_11)) = V (Proc.devRef .tc main_while1b_v80) := by
  unfold bwdTail; after_reads_simp; rfl
theorem bwdT_12 (V : Valuation τ sig (Elt F)) : after bwdTail V (no_index (Proc.devRef .tc main_v33_12)) = V (Proc.devRef .tc main_while1b_v81) := by
  unfold bwdTail; after_reads_simp; rfl
theorem bwdT_13 (V : Valuation τ sig (Elt F)) : after bwdTail V (no_index (Proc.devRef .tc main_v33_13)) = V (Proc.devRef .tc main_while1b_v82) := by
  unfold bwdTail; after_reads_simp; rfl
theorem bwdT_14 (V : Valuation τ sig (Elt F)) : after bwdTail V (no_index (Proc.devRef .tc main_v33_14)) = V (Proc.devRef .tc main_while1b_v83) := by
  unfold bwdTail; after_reads_simp; rfl
theorem bwdT_15 (V : Valuation τ sig (Elt F)) : after bwdTail V (no_index (Proc.devRef .tc main_v33_15)) = V (Proc.devRef .tc main_while1b_v84) := by
  unfold bwdTail; after_reads_simp; rfl
theorem bwd_i (V : Valuation τ sig (Elt F)) : after bwdHead V (no_index (Proc.devRef .tc main_while1b_v51)) = back (V (Proc.devRef .tc main_v33_8)) := by
  unfold bwdHead; after_reads_simp; rfl
theorem bwd_u (V : Valuation τ sig (Elt F)) : after bwdOps V (no_index (Proc.devRef .tc main_while1b_v68)) = rdU (V (Proc.devRef .tc main_v33_9)) (V (Proc.devRef .tc main_while1b_v57)) (V (Proc.devRef .tc main_while1b_v59)) (V (Proc.devRef .tc main_while1b_v52)) := by
  unfold bwdOps; after_reads_simp; rfl
theorem bwd_w (V : Valuation τ sig (Elt F)) : after bwdOps V (no_index (Proc.devRef .tc main_while1b_v78)) = rdW (V (Proc.devRef .tc main_v33_9)) (V (Proc.devRef .tc main_while1b_v53)) (V (Proc.devRef .tc main_while1b_v57)) (V (Proc.devRef .tc main_while1b_v59)) (V (Proc.devRef .tc main_while1b_v52)) := by
  unfold bwdOps; after_reads_simp; rfl
theorem bwd_k (V : Valuation τ sig (Elt F)) : after bwdOps V (no_index (Proc.devRef .tc main_while1b_v69)) = rdK (V (Proc.devRef .tc main_while1b_v56)) (V (Proc.devRef .tc main_while1b_v52)) := by
  unfold bwdOps; after_reads_simp; rfl
theorem bwd_q (V : Valuation τ sig (Elt F)) : after bwdOps V (no_index (Proc.devRef .tc main_while1b_v73)) = rdQ (V (Proc.devRef .tc main_while1b_v53)) (V (Proc.devRef .tc main_while1b_v52)) := by
  unfold bwdOps; after_reads_simp; rfl
theorem bwd_t (V : Valuation τ sig (Elt F)) : after bwdOps V (no_index (Proc.devRef .tc main_while1b_v63)) = rdT (V (Proc.devRef .tc main_v33_9)) (V (Proc.devRef .tc main_while1b_v56)) := by
  unfold bwdOps; after_reads_simp; rfl
theorem bwd_c (V : Valuation τ sig (Elt F)) : after bwdOps V (no_index (Proc.devRef .tc main_while1b_v64)) = rdC (V (Proc.devRef .tc main_v33_9)) (V (Proc.devRef .tc main_while1b_v53)) := by
  unfold bwdOps; after_reads_simp; rfl
theorem bwd_s (V : Valuation τ sig (Elt F)) : after bwdOps V (no_index (Proc.devRef .tc main_while1b_v77)) = rdS (V (Proc.devRef .tc main_v33_9)) (V (Proc.devRef .tc main_while1b_v54)) (V (Proc.devRef .tc main_while1b_v57)) (V (Proc.devRef .tc main_while1b_v55)) (V (Proc.devRef .tc main_while1b_v59)) (V (Proc.devRef .tc main_while1b_v58)) (V (Proc.devRef .tc main_while1b_v52)) := by
  unfold bwdOps; after_reads_simp; rfl

/-- The state after a trip. -/
theorem trip0_s (V : Valuation τ sig (Elt F)) : afterL body0 V (Proc.devRef .tc main_v20_7) = rS (V (Proc.devRef .tc main_v20_7)) (pickAt (V (Proc.devRef .tc main_v20_0)) (V (Proc.devRef .tc main_v20_6))) (pickAt (V (Proc.devRef .tc main_v20_1)) (V (Proc.devRef .tc main_v20_6))) (pickAt (V (Proc.devRef .tc main_v20_4)) (V (Proc.devRef .tc main_v20_6))) (pickAt (V (Proc.devRef .tc main_v20_5)) (V (Proc.devRef .tc main_v20_6))) := by
  simp (disch := decide) only [afterL_cons, afterL_nil, keep_pickOps, keep_putOps, keep_fwdOps, keep_fwdTail, keep_bwdHead, keep_bwdOps, keep_bwdTail, pick_0, pick_1, pick_2, pick_3, pick_4, pick_5, put_6, put_7, put_8, fwd_v, fwd_o, fwd_s, fwdT_7, fwdT_8, fwdT_9, fwdT_10]

/-- The outputs after a trip. -/
theorem trip0_o (V : Valuation τ sig (Elt F)) : afterL body0 V (Proc.devRef .tc main_v20_8) = putAt (V (Proc.devRef .tc main_v20_8)) (rO (V (Proc.devRef .tc main_v20_7)) (pickAt (V (Proc.devRef .tc main_v20_0)) (V (Proc.devRef .tc main_v20_6))) (pickAt (V (Proc.devRef .tc main_v20_1)) (V (Proc.devRef .tc main_v20_6))) (pickAt (V (Proc.devRef .tc main_v20_2)) (V (Proc.devRef .tc main_v20_6))) (pickAt (V (Proc.devRef .tc main_v20_3)) (V (Proc.devRef .tc main_v20_6)))) (V (Proc.devRef .tc main_v20_6)) := by
  simp (disch := decide) only [afterL_cons, afterL_nil, keep_pickOps, keep_putOps, keep_fwdOps, keep_fwdTail, keep_bwdHead, keep_bwdOps, keep_bwdTail, pick_0, pick_1, pick_2, pick_3, pick_4, pick_5, put_6, put_7, put_8, fwd_v, fwd_o, fwd_s, fwdT_7, fwdT_8, fwdT_9, fwdT_10]

/-- The saved states after a trip. -/
theorem trip0_z (V : Valuation τ sig (Elt F)) : afterL body0 V (Proc.devRef .tc main_v20_9) = putAt (V (Proc.devRef .tc main_v20_9)) (V (Proc.devRef .tc main_v20_7)) (V (Proc.devRef .tc main_v20_6)) := by
  simp (disch := decide) only [afterL_cons, afterL_nil, keep_pickOps, keep_putOps, keep_fwdOps, keep_fwdTail, keep_bwdHead, keep_bwdOps, keep_bwdTail, pick_0, pick_1, pick_2, pick_3, pick_4, pick_5, put_6, put_7, put_8, fwd_v, fwd_o, fwd_s, fwdT_7, fwdT_8, fwdT_9, fwdT_10]

/-- The saved values after a trip. -/
theorem trip0_v (V : Valuation τ sig (Elt F)) : afterL body0 V (Proc.devRef .tc main_v20_10) = putAt (V (Proc.devRef .tc main_v20_10)) (rV (V (Proc.devRef .tc main_v20_7)) (pickAt (V (Proc.devRef .tc main_v20_0)) (V (Proc.devRef .tc main_v20_6))) (pickAt (V (Proc.devRef .tc main_v20_1)) (V (Proc.devRef .tc main_v20_6)))) (V (Proc.devRef .tc main_v20_6)) := by
  simp (disch := decide) only [afterL_cons, afterL_nil, keep_pickOps, keep_putOps, keep_fwdOps, keep_fwdTail, keep_bwdHead, keep_bwdOps, keep_bwdTail, pick_0, pick_1, pick_2, pick_3, pick_4, pick_5, put_6, put_7, put_8, fwd_v, fwd_o, fwd_s, fwdT_7, fwdT_8, fwdT_9, fwdT_10]

/-- The state's gradient after a trip. -/
theorem trip1_s (V : Valuation τ sig (Elt F)) : afterL body1 V (Proc.devRef .tc main_v33_9) = rdS (V (Proc.devRef .tc main_v33_9)) (pickAt (V (Proc.devRef .tc main_v33_2)) (back (V (Proc.devRef .tc main_v33_8)))) (pickAt (V (Proc.devRef .tc main_v33_5)) (back (V (Proc.devRef .tc main_v33_8)))) (pickAt (V (Proc.devRef .tc main_v33_3)) (back (V (Proc.devRef .tc main_v33_8)))) (pickAt (V (Proc.devRef .tc main_v33_7)) (back (V (Proc.devRef .tc main_v33_8)))) (pickAt (V (Proc.devRef .tc main_v33_6)) (back (V (Proc.devRef .tc main_v33_8)))) (pickAt (V (Proc.devRef .tc main_v33_0)) (back (V (Proc.devRef .tc main_v33_8)))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_10 (V : Valuation τ sig (Elt F)) : afterL body1 V (Proc.devRef .tc main_v33_10) = putAt (V (Proc.devRef .tc main_v33_10)) (rdU (V (Proc.devRef .tc main_v33_9)) (pickAt (V (Proc.devRef .tc main_v33_5)) (back (V (Proc.devRef .tc main_v33_8)))) (pickAt (V (Proc.devRef .tc main_v33_7)) (back (V (Proc.devRef .tc main_v33_8)))) (pickAt (V (Proc.devRef .tc main_v33_0)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_11 (V : Valuation τ sig (Elt F)) : afterL body1 V (Proc.devRef .tc main_v33_11) = putAt (V (Proc.devRef .tc main_v33_11)) (rdW (V (Proc.devRef .tc main_v33_9)) (pickAt (V (Proc.devRef .tc main_v33_1)) (back (V (Proc.devRef .tc main_v33_8)))) (pickAt (V (Proc.devRef .tc main_v33_5)) (back (V (Proc.devRef .tc main_v33_8)))) (pickAt (V (Proc.devRef .tc main_v33_7)) (back (V (Proc.devRef .tc main_v33_8)))) (pickAt (V (Proc.devRef .tc main_v33_0)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_12 (V : Valuation τ sig (Elt F)) : afterL body1 V (Proc.devRef .tc main_v33_12) = putAt (V (Proc.devRef .tc main_v33_12)) (rdK (pickAt (V (Proc.devRef .tc main_v33_4)) (back (V (Proc.devRef .tc main_v33_8)))) (pickAt (V (Proc.devRef .tc main_v33_0)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_13 (V : Valuation τ sig (Elt F)) : afterL body1 V (Proc.devRef .tc main_v33_13) = putAt (V (Proc.devRef .tc main_v33_13)) (rdQ (pickAt (V (Proc.devRef .tc main_v33_1)) (back (V (Proc.devRef .tc main_v33_8)))) (pickAt (V (Proc.devRef .tc main_v33_0)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_14 (V : Valuation τ sig (Elt F)) : afterL body1 V (Proc.devRef .tc main_v33_14) = putAt (V (Proc.devRef .tc main_v33_14)) (rdT (V (Proc.devRef .tc main_v33_9)) (pickAt (V (Proc.devRef .tc main_v33_4)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

/-- A stack of gradients after a trip. -/
theorem trip1_15 (V : Valuation τ sig (Elt F)) : afterL body1 V (Proc.devRef .tc main_v33_15) = putAt (V (Proc.devRef .tc main_v33_15)) (rdC (V (Proc.devRef .tc main_v33_9)) (pickAt (V (Proc.devRef .tc main_v33_1)) (back (V (Proc.devRef .tc main_v33_8))))) (back (V (Proc.devRef .tc main_v33_8))) := by
  simp (disch := decide) only [afterL_cons, afterL_nil, keep_pickOps, keep_putOps, keep_fwdOps, keep_fwdTail, keep_bwdHead, keep_bwdOps, keep_bwdTail, pick_9, pick_10, pick_11, pick_12, pick_13, pick_14, pick_15, pick_16, put_17, put_18, put_19, put_20, put_21, put_22, bwd_i, bwd_u, bwd_w, bwd_k, bwd_q, bwd_t, bwd_c, bwd_s, bwdT_9, bwdT_10, bwdT_11, bwdT_12, bwdT_13, bwdT_14, bwdT_15]

end Cert.ReferenceIdeal.Scan

end
-- ==== Proof.RefSlabs.lean ====
/- Slabs of the stacks the reference reads and writes, one chunk at a time. -/
module

public import proofs.«01_k».proof.Proof.RefTrip
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slab of a stack at chunk `n` (read around the end). -/
def row (X : Stack F) (n : ℕ) : Slab F := fun j => X (ix4 (n0 := 64) (n1 := 8) (n2 := 128) (n3 := 128) ⟨n % 64, Nat.mod_lt _ (by decide)⟩ (j 0) (j 1) (j 2))

/-- The loop counter at trip `k`, and the number `n` as a word. -/
abbrev wd (k : ℕ) : Index F := fun _ => Scf.iv 0#32 1#32 k

theorem toInt_wd (k : ℕ) (hk : k < 64) : (Scf.iv 0#32 1#32 k : BitVec 32).toInt = (k : Int) := by
  have h : (Scf.iv 0#32 1#32 k : BitVec 32) = BitVec.ofNat 32 k := by simp [Scf.iv]
  rw [h]; exact toInt_ofNat_of_lt (by omega)

/-- The counter run backwards. -/
theorem back_wd (k : ℕ) (hk : k < 64) : back (wd k : Index F) = wd (63 - k) := by
  funext j
  show ((64#32 - Scf.iv 0#32 1#32 k) - 1#32 : BitVec 32) = Scf.iv 0#32 1#32 (63 - k)
  have e : ∀ n, (Scf.iv 0#32 1#32 n : BitVec 32) = BitVec.ofNat 32 n := fun n => by simp [Scf.iv]
  rw [e, e]
  apply BitVec.eq_of_toNat_eq
  simp only [BitVec.toNat_sub, BitVec.toNat_ofNat]
  omega

theorem starts (k : ℕ) (hk : k < 64) (a : Fin 4) :
    (at4 (wd k : Index F) a (Shape.Idx.first h_S_)).toInt = ((![k, 0, 0, 0] : Fin 4 → ℕ) a : Int) := by
  match a with
  | ⟨0, _⟩ => exact toInt_wd k hk
  | ⟨1, _⟩ => rfl
  | ⟨2, _⟩ => rfl
  | ⟨3, _⟩ => rfl

theorem clampAt (k : ℕ) (hk : k < 64) (a : Fin 4) :
    (min (max ((at4 (wd k : Index F) a (Shape.Idx.first h_S_)).toInt) 0)
      ((S64x8x128x128.size a - S1x8x128x128.size (a.cast updateFits_S64x8x128x128_S1x8x128x128.1.symm) : ℕ) : Int)).toNat
      = (![k, 0, 0, 0] : Fin 4 → ℕ) a := by
  rw [starts k hk a]
  match a with
  | ⟨0, _⟩ => show (min (max (k : Int) 0) ((64 - 1 : ℕ) : Int)).toNat = k; omega
  | ⟨1, _⟩ => show (min (max ((0 : ℕ) : Int) 0) ((8 - 8 : ℕ) : Int)).toNat = 0; omega
  | ⟨2, _⟩ => show (min (max ((0 : ℕ) : Int) 0) ((128 - 128 : ℕ) : Int)).toNat = 0; omega
  | ⟨3, _⟩ => show (min (max ((0 : ℕ) : Int) 0) ((128 - 128 : ℕ) : Int)).toNat = 0; omega

/-- Reading a slab at the counter. -/
theorem pick_row (X : Stack F) (k : ℕ) (hk : k < 64) : pickAt X (wd k) = row X k := by
  have hs : (S64x8x128x128 : Shape).Slices (![k, 0, 0, 0] : Fin 4 → ℕ) S1x8x128x128 := by
    refine ⟨rfl, fun a => ?_⟩
    match a with
    | ⟨0, _⟩ => show k + 1 ≤ 64; omega
    | ⟨1, _⟩ => exact Nat.le_refl 8
    | ⟨2, _⟩ => exact Nat.le_refl 128
    | ⟨3, _⟩ => exact Nat.le_refl 128
  unfold pickAt row
  rw [Host.dynamicSlice_eq_extractStridedSlice S1x8x128x128 X _ _ _ hs (starts k hk)]
  funext j
  pointwise
  exact congrArg X (congrArg (fun q => ix4 q (j 0) (j 1) (j 2)) (Fin.ext (Nat.mod_eq_of_lt hk).symm))

/-- Writing a slab at the counter. -/
theorem put_row (X : Stack F) (v : Slab F) (k n : ℕ) (hk : k < 64) (hn : n < 64) :
    row (putAt X v (wd k)) n = if n = k then v else row X n := by
  have hs : (S64x8x128x128 : Shape).Slices (![k, 0, 0, 0] : Fin 4 → ℕ) S1x8x128x128 := by
    refine ⟨rfl, fun a => ?_⟩
    match a with
    | ⟨0, _⟩ => show k + 1 ≤ 64; omega
    | ⟨1, _⟩ => exact Nat.le_refl 8
    | ⟨2, _⟩ => exact Nat.le_refl 128
    | ⟨3, _⟩ => exact Nat.le_refl 128
  unfold putAt row
  funext j
  rw [Host.dynamicUpdateSlice_eq_updateSlice X _ _ _ ![k, 0, 0, 0] (clampAt k hk) hs]
  pointwise
  have e : n % 64 = n := Nat.mod_eq_of_lt hn
  by_cases h : n = k
  · rw [if_pos h, dif_pos (by omega)]
  · rw [if_neg h, dif_neg (by omega)]

end Cert.ReferenceIdeal.Scan

end
-- ==== Proof.RefValue.lean ====
/- The values the two loops of the reference leave, chunk by chunk. -/
module

public import proofs.«01_k».proof.Proof.RefSlabs

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The rows of the seven inputs, chunk by chunk. -/
structure Inputs (F : FTy → Type) where
  u : ℕ → Slab F
  w : ℕ → Slab F
  qk : ℕ → Slab F
  qd : ℕ → Slab F
  kt : ℕ → Slab F
  cd : ℕ → Slab F
  g : ℕ → Slab F

/-- The zero state. -/
def zero : Slab F := (broadcastInDim S8x128x128 ![] bcast_S_S8x128x128 (constant (F := F) S_ .f32 0x00000000#32 : Arr F S_ .f32) : Arr F S8x128x128 .f32)

/-- The state before chunk `k`. -/
def st (P : Inputs F) : ℕ → Slab F
  | 0 => zero
  | k + 1 => rS (st P k) (P.u k) (P.w k) (P.kt k) (P.cd k)

/-- The gradient of the state after chunk `63 - k`. -/
def dd (P : Inputs F) : ℕ → Slab F
  | 0 => zero
  | k + 1 => rdS (dd P k) (P.w (63 - k)) (P.qk (63 - k)) (P.qd (63 - k)) (P.kt (63 - k)) (P.cd (63 - k)) (P.g (63 - k))

/-- The corrected values and the output of chunk `n`. -/
def vv (P : Inputs F) (n : ℕ) : Slab F := rV (st P n) (P.u n) (P.w n)
def oo (P : Inputs F) (n : ℕ) : Slab F := rO (st P n) (P.u n) (P.w n) (P.qk n) (P.qd n)

/-- The gradients of the six inputs at chunk `n`. -/
def gu (P : Inputs F) (n : ℕ) : Slab F := rdU (dd P (63 - n)) (P.qk n) (P.kt n) (P.g n)
def gw (P : Inputs F) (n : ℕ) : Slab F := rdW (dd P (63 - n)) (st P n) (P.qk n) (P.kt n) (P.g n)
def gk (P : Inputs F) (n : ℕ) : Slab F := rdK (vv P n) (P.g n)
def gq (P : Inputs F) (n : ℕ) : Slab F := rdQ (st P n) (P.g n)
def gt (P : Inputs F) (n : ℕ) : Slab F := rdT (dd P (63 - n)) (vv P n)
def gc (P : Inputs F) (n : ℕ) : Slab F := rdC (dd P (63 - n)) (st P n)

/-- An array of tokens by features as a stack of chunks, head by head, and back. -/
def chunked (x : Arr F S8192x1024 .f32) : Stack F :=
  transpose S64x8x128x128 [0, 2, 1, 3] (shapeCast S64x128x8x128 x shapeCasts_S8192x1024_S64x128x8x128) transposes_S64x128x8x128_S64x8x128x128_0_2_1_3
def flat (X : Stack F) : Arr F S8192x1024 .f32 :=
  shapeCast S8192x1024 (transpose S64x128x8x128 [0, 2, 1, 3] X transposes_S64x8x128x128_S64x128x8x128_0_2_1_3) shapeCasts_S64x128x8x128_S8192x1024

/-- The widened form of an input kept in the short format. -/
def widen (x : Arr F S8192x1024 .bf16) : Arr F S8192x1024 .f32 := extf .f32 x bitsLt_bf16_f32
def narrow (x : Arr F S8192x1024 .f32) : Arr F S8192x1024 .bf16 := truncf .bf16 x bitsLt_bf16_f32

/-- The inputs' rows, from the arguments in memory. -/
def inp (c : Dev nD) : Inputs F where
  u n := row (chunked (m (c.tc.loc main_arg0))) n
  w n := row (chunked (widen (m (c.tc.loc main_arg1)))) n
  qk n := row (chunked (widen (m (c.tc.loc main_arg2)))) n
  qd n := row (chunked (widen (m (c.tc.loc main_arg3)))) n
  kt n := row (chunked (widen (m (c.tc.loc main_arg4)))) n
  cd n := row (chunked (m (c.tc.loc main_arg5))) n
  g n := row (chunked (m (c.tc.loc main_arg6))) n

/-- The counters, as words. -/
theorem ctw0 (c : Dev nD) (k : ℕ) : X0 m k c (Proc.devRef .tc main_v20_6) = (wd k : Index F) := ctr0 m c k
theorem ctw1 (c : Dev nD) (k : ℕ) : X1 m k c (Proc.devRef .tc main_v33_8) = (wd k : Index F) := ctr1 m c k

/-! What the loops are entered with. -/
theorem e0_0 (c : Dev nD) : E0 m c (Proc.devRef .tc main_v20_0) = chunked (m (c.tc.loc main_arg0)) := by
  simp only [E0, afterL_cons, afterL_nil]; unfold preOps; after_reads_simp; rfl
theorem e0_1 (c : Dev nD) : E0 m c (Proc.devRef .tc main_v20_1) = chunked (widen (m (c.tc.loc main_arg1))) := by
  simp only [E0, afterL_cons, afterL_nil]; unfold preOps; after_reads_simp; rfl
theorem e0_2 (c : Dev nD) : E0 m c (Proc.devRef .tc main_v20_2) = chunked (widen (m (c.tc.loc main_arg2))) := by
  simp only [E0, afterL_cons, afterL_nil]; unfold preOps; after_reads_simp; rfl
theorem e0_3 (c : Dev nD) : E0 m c (Proc.devRef .tc main_v20_3) = chunked (widen (m (c.tc.loc main_arg3))) := by
  simp only [E0, afterL_cons, afterL_nil]; unfold preOps; after_reads_simp; rfl
theorem e0_4 (c : Dev nD) : E0 m c (Proc.devRef .tc main_v20_4) = chunked (widen (m (c.tc.loc main_arg4))) := by
  simp only [E0, afterL_cons, afterL_nil]; unfold preOps; after_reads_simp; rfl
theorem e0_5 (c : Dev nD) : E0 m c (Proc.devRef .tc main_v20_5) = chunked (m (c.tc.loc main_arg5)) := by
  simp only [E0, afterL_cons, afterL_nil]; unfold preOps; after_reads_simp; rfl
theorem e0_7 (c : Dev nD) : E0 m c (Proc.devRef .tc main_v20_7) = zero := by
  simp only [E0, afterL_cons, afterL_nil]; unfold preOps; after_reads_simp; rfl

/-- The references a trip of loop 0 writes. -/
def tripW0 : List (Ref sig .tc) := cond0W ++ (pickOpsW main_while0b_call0 ++ (pickOpsW main_while0b_call1 ++ (pickOpsW main_while0b_call2 ++ (pickOpsW main_while0b_call3 ++ (pickOpsW main_while0b_call4 ++ (pickOpsW main_while0b_call5 ++ (fwdOpsW ++ (putOpsW main_while0b_call6 ++ (putOpsW main_while0b_call7 ++ (putOpsW main_while0b_call8 ++ (fwdTailW)))))))))))
/-- A buffer no trip writes is the same all along. -/
theorem still0 (c : Dev nD) (r : Ref sig .tc) (h : r ∉ tripW0) : ∀ k, X0 m k c (Proc.devRef .tc r) = E0 m c (Proc.devRef .tc r)
  | 0 => rfl
  | k + 1 => by
    have ih := still0 c r h k
    rw [show X0 m (k + 1) c = afterL body0 (after cond0 (X0 m k c)) from rfl]
    simp only [tripW0, List.mem_append, not_or] at h
    obtain ⟨h0, h1, h2, h3, h4, h5, h6, h7, h8, h9, h10, h11⟩ := h
    simp (disch := assumption) only [afterL_cons, afterL_nil, keep_cond0, keep_pickOps, keep_putOps, keep_fwdOps, keep_fwdTail, keep_bwdHead, keep_bwdOps, keep_bwdTail]
    exact ih

/-- The references a trip of loop 1 writes. -/
def tripW1 : List (Ref sig .tc) := cond1W ++ (bwdHeadW ++ (pickOpsW main_while1b_call9 ++ (pickOpsW main_while1b_call10 ++ (pickOpsW main_while1b_call11 ++ (pickOpsW main_while1b_call12 ++ (pickOpsW main_while1b_call13 ++ (pickOpsW main_while1b_call14 ++ (pickOpsW main_while1b_call15 ++ (pickOpsW main_while1b_call16 ++ (bwdOpsW ++ (putOpsW main_while1b_call17 ++ (putOpsW main_while1b_call18 ++ (putOpsW main_while1b_call19 ++ (putOpsW main_while1b_call20 ++ (putOpsW main_while1b_call21 ++ (putOpsW main_while1b_call22 ++ (bwdTailW)))))))))))))))))
/-- A buffer no trip writes is the same all along. -/
theorem still1 (c : Dev nD) (r : Ref sig .tc) (h : r ∉ tripW1) : ∀ k, X1 m k c (Proc.devRef .tc r) = E1 m c (Proc.devRef .tc r)
  | 0 => rfl
  | k + 1 => by
    have ih := still1 c r h k
    rw [show X1 m (k + 1) c = afterL body1 (after cond1 (X1 m k c)) from rfl]
    simp only [tripW1, List.mem_append, not_or] at h
    obtain ⟨h0, h1, h2, h3, h4, h5, h6, h7, h8, h9, h10, h11, h12, h13, h14, h15, h16, h17⟩ := h
    simp (disch := assumption) only [afterL_cons, afterL_nil, keep_cond1, keep_pickOps, keep_putOps, keep_fwdOps, keep_fwdTail, keep_bwdHead, keep_bwdOps, keep_bwdTail]
    exact ih

/-! The first loop. -/
theorem in0_0 (c : Dev nD) (k : ℕ) (hk : k < 64) : pickAt (after cond0 (X0 m k c) (Proc.devRef .tc main_v20_0)) (after cond0 (X0 m k c) (Proc.devRef .tc main_v20_6)) = (inp m c).u k := by
  rw [keep_cond0 _ _ (by decide), keep_cond0 _ _ (by decide), ctr0, still0 m c _ (by decide), e0_0]; exact pick_row _ k hk
theorem in0_1 (c : Dev nD) (k : ℕ) (hk : k < 64) : pickAt (after cond0 (X0 m k c) (Proc.devRef .tc main_v20_1)) (after cond0 (X0 m k c) (Proc.devRef .tc main_v20_6)) = (inp m c).w k := by
  rw [keep_cond0 _ _ (by decide), keep_cond0 _ _ (by decide), ctr0, still0 m c _ (by decide), e0_1]; exact pick_row _ k hk
theorem in0_2 (c : Dev nD) (k : ℕ) (hk : k < 64) : pickAt (after cond0 (X0 m k c) (Proc.devRef .tc main_v20_2)) (after cond0 (X0 m k c) (Proc.devRef .tc main_v20_6)) = (inp m c).qk k := by
  rw [keep_cond0 _ _ (by decide), keep_cond0 _ _ (by decide), ctr0, still0 m c _ (by decide), e0_2]; exact pick_row _ k hk
theorem in0_3 (c : Dev nD) (k : ℕ) (hk : k < 64) : pickAt (after cond0 (X0 m k c) (Proc.devRef .tc main_v20_3)) (after cond0 (X0 m k c) (Proc.devRef .tc main_v20_6)) = (inp m c).qd k := by
  rw [keep_cond0 _ _ (by decide), keep_cond0 _ _ (by decide), ctr0, still0 m c _ (by decide), e0_3]; exact pick_row _ k hk
theorem in0_4 (c : Dev nD) (k : ℕ) (hk : k < 64) : pickAt (after cond0 (X0 m k c) (Proc.devRef .tc main_v20_4)) (after cond0 (X0 m k c) (Proc.devRef .tc main_v20_6)) = (inp m c).kt k := by
  rw [keep_cond0 _ _ (by decide), keep_cond0 _ _ (by decide), ctr0, still0 m c _ (by decide), e0_4]; exact pick_row _ k hk
theorem in0_5 (c : Dev nD) (k : ℕ) (hk : k < 64) : pickAt (after cond0 (X0 m k c) (Proc.devRef .tc main_v20_5)) (after cond0 (X0 m k c) (Proc.devRef .tc main_v20_6)) = (inp m c).cd k := by
  rw [keep_cond0 _ _ (by decide), keep_cond0 _ _ (by decide), ctr0, still0 m c _ (by decide), e0_5]; exact pick_row _ k hk

/-- The state before chunk `k`. -/
theorem state0 (c : Dev nD) : ∀ k, k ≤ 64 → X0 m k c (Proc.devRef .tc main_v20_7) = st (inp m c) k
  | 0, _ => e0_7 m c
  | k + 1, hk => by
    rw [show X0 m (k + 1) c = afterL body0 (after cond0 (X0 m k c)) from rfl, trip0_s, in0_0 m c k hk, in0_1 m c k hk, in0_4 m c k hk, in0_5 m c k hk,
      keep_cond0 _ _ (by decide), state0 c k (by omega)]
    rfl

/-- The outputs so far. -/
theorem rows_trip0_o (c : Dev nD) : ∀ k, k ≤ 64 → ∀ n, n < k → row (X0 m k c (Proc.devRef .tc main_v20_8)) n = oo (inp m c) n
  | 0, _, n, hn => absurd hn (Nat.not_lt_zero n)
  | k + 1, hk, n, hn => by
    rw [show X0 m (k + 1) c = afterL body0 (after cond0 (X0 m k c)) from rfl, trip0_o, in0_0 m c k hk, in0_1 m c k hk, in0_2 m c k hk, in0_3 m c k hk, keep_cond0 _ main_v20_7 (by decide), state0 m c k (by omega),
      keep_cond0 _ main_v20_6 (by decide), keep_cond0 _ main_v20_8 (by decide), ctw0 m c k, put_row _ _ k n hk (by omega)]
    by_cases e : n = k
    · subst e; exact if_pos rfl
    · rw [if_neg e]; exact rows_trip0_o c k (by omega) n (by omega)

/-- The saved states so far. -/
theorem rows_trip0_z (c : Dev nD) : ∀ k, k ≤ 64 → ∀ n, n < k → row (X0 m k c (Proc.devRef .tc main_v20_9)) n = st (inp m c) n
  | 0, _, n, hn => absurd hn (Nat.not_lt_zero n)
  | k + 1, hk, n, hn => by
    rw [show X0 m (k + 1) c = afterL body0 (after cond0 (X0 m k c)) from rfl, trip0_z, keep_cond0 _ main_v20_7 (by decide), state0 m c k (by omega),
      keep_cond0 _ main_v20_6 (by decide), keep_cond0 _ main_v20_9 (by decide), ctw0 m c k, put_row _ _ k n hk (by omega)]
    by_cases e : n = k
    · subst e; exact if_pos rfl
    · rw [if_neg e]; exact rows_trip0_z c k (by omega) n (by omega)

/-- The saved values so far. -/
theorem rows_trip0_v (c : Dev nD) : ∀ k, k ≤ 64 → ∀ n, n < k → row (X0 m k c (Proc.devRef .tc main_v20_10)) n = vv (inp m c) n
  | 0, _, n, hn => absurd hn (Nat.not_lt_zero n)
  | k + 1, hk, n, hn => by
    rw [show X0 m (k + 1) c = afterL body0 (after cond0 (X0 m k c)) from rfl, trip0_v, in0_0 m c k hk, in0_1 m c k hk, keep_cond0 _ main_v20_7 (by decide), state0 m c k (by omega),
      keep_cond0 _ main_v20_6 (by decide), keep_cond0 _ main_v20_10 (by decide), ctw0 m c k, put_row _ _ k n hk (by omega)]
    by_cases e : n = k
    · subst e; exact if_pos rfl
    · rw [if_neg e]; exact rows_trip0_v c k (by omega) n (by omega)

/-! What the second loop is entered with. -/
theorem e1_0 (c : Dev nD) : E1 m c (Proc.devRef .tc main_v33_0) = chunked (m (c.tc.loc main_arg6)) := by
  simp only [E1, afterL_cons, afterL_nil]
  rw [keep_midOps1 _ _ (by decide)]
  have e : ∀ V : Valuation τ sig (Elt F), after midOps V (Proc.devRef .tc main_v33_0) = chunked (V (Proc.devRef .tc main_arg6)) := fun V => by unfold midOps; after_reads_simp; rfl
  rw [e, M0, keep_cond0 _ _ (by decide), still0 m c _ (by decide), E0, afterL_cons, afterL_nil, keep_preOps _ _ (by decide)]
theorem e1_1 (c : Dev nD) : E1 m c (Proc.devRef .tc main_v33_1) = X0 m 64 c (Proc.devRef .tc main_v20_9) := by
  simp only [E1, afterL_cons, afterL_nil]
  rw [keep_midOps1 _ _ (by decide)]
  have e : ∀ V : Valuation τ sig (Elt F), after midOps V (Proc.devRef .tc main_v33_1) = V (Proc.devRef .tc main_v20_9) := fun V => by unfold midOps; after_reads_simp; rfl
  rw [e, M0, keep_cond0 _ _ (by decide)]
theorem e1_2 (c : Dev nD) : E1 m c (Proc.devRef .tc main_v33_2) = chunked (widen (m (c.tc.loc main_arg1))) := by
  simp only [E1, afterL_cons, afterL_nil]
  have e : ∀ V : Valuation τ sig (Elt F), after midOps1 V (Proc.devRef .tc main_v33_2) = V (Proc.devRef .tc main_v5) := fun V => by unfold midOps1; after_reads_simp; rfl
  rw [e, keep_midOps _ _ (by decide), M0, keep_cond0 _ _ (by decide), still0 m c _ (by decide), E0, afterL_cons, afterL_nil]
  unfold preOps; after_reads_simp; rfl
theorem e1_3 (c : Dev nD) : E1 m c (Proc.devRef .tc main_v33_3) = chunked (widen (m (c.tc.loc main_arg3))) := by
  simp only [E1, afterL_cons, afterL_nil]
  have e : ∀ V : Valuation τ sig (Elt F), after midOps1 V (Proc.devRef .tc main_v33_3) = V (Proc.devRef .tc main_v11) := fun V => by unfold midOps1; after_reads_simp; rfl
  rw [e, keep_midOps _ _ (by decide), M0, keep_cond0 _ _ (by decide), still0 m c _ (by decide), E0, afterL_cons, afterL_nil]
  unfold preOps; after_reads_simp; rfl
theorem e1_4 (c : Dev nD) : E1 m c (Proc.devRef .tc main_v33_4) = X0 m 64 c (Proc.devRef .tc main_v20_10) := by
  simp only [E1, afterL_cons, afterL_nil]
  have e : ∀ V : Valuation τ sig (Elt F), after midOps1 V (Proc.devRef .tc main_v33_4) = V (Proc.devRef .tc main_v20_10) := fun V => by unfold midOps1; after_reads_simp; rfl
  rw [e, keep_midOps _ _ (by decide), M0, keep_cond0 _ _ (by decide)]
theorem e1_5 (c : Dev nD) : E1 m c (Proc.devRef .tc main_v33_5) = chunked (widen (m (c.tc.loc main_arg2))) := by
  simp only [E1, afterL_cons, afterL_nil]
  have e : ∀ V : Valuation τ sig (Elt F), after midOps1 V (Proc.devRef .tc main_v33_5) = V (Proc.devRef .tc main_v8) := fun V => by unfold midOps1; after_reads_simp; rfl
  rw [e, keep_midOps _ _ (by decide), M0, keep_cond0 _ _ (by decide), still0 m c _ (by decide), E0, afterL_cons, afterL_nil]
  unfold preOps; after_reads_simp; rfl
theorem e1_6 (c : Dev nD) : E1 m c (Proc.devRef .tc main_v33_6) = chunked (m (c.tc.loc main_arg5)) := by
  simp only [E1, afterL_cons, afterL_nil]
  have e : ∀ V : Valuation τ sig (Elt F), after midOps1 V (Proc.devRef .tc main_v33_6) = V (Proc.devRef .tc main_v16) := fun V => by unfold midOps1; after_reads_simp; rfl
  rw [e, keep_midOps _ _ (by decide), M0, keep_cond0 _ _ (by decide), still0 m c _ (by decide), E0, afterL_cons, afterL_nil]
  unfold preOps; after_reads_simp; rfl
theorem e1_7 (c : Dev nD) : E1 m c (Proc.devRef .tc main_v33_7) = chunked (widen (m (c.tc.loc main_arg4))) := by
  simp only [E1, afterL_cons, afterL_nil]
  have e : ∀ V : Valuation τ sig (Elt F), after midOps1 V (Proc.devRef .tc main_v33_7) = V (Proc.devRef .tc main_v14) := fun V => by unfold midOps1; after_reads_simp; rfl
  rw [e, keep_midOps _ _ (by decide), M0, keep_cond0 _ _ (by decide), still0 m c _ (by decide), E0, afterL_cons, afterL_nil]
  unfold preOps; after_reads_simp; rfl
theorem e1_9 (c : Dev nD) : E1 m c (Proc.devRef .tc main_v33_9) = zero := by
  simp only [E1, afterL_cons, afterL_nil]
  have e : ∀ V : Valuation τ sig (Elt F), after midOps1 V (Proc.devRef .tc main_v33_9) = V (Proc.devRef .tc main_v26) := fun V => by unfold midOps1; after_reads_simp; rfl
  rw [e]; unfold midOps; after_reads_simp; rfl

/-! The second loop: trip `k` works on chunk `63 - k`. -/
theorem in1_0 (c : Dev nD) (k : ℕ) (hk : k < 64) : pickAt (after cond1 (X1 m k c) (Proc.devRef .tc main_v33_0)) (back (after cond1 (X1 m k c) (Proc.devRef .tc main_v33_8))) = (inp m c).g (63 - k) := by
  rw [keep_cond1 _ _ (by decide), keep_cond1 _ _ (by decide), ctw1 m c k, still1 m c _ (by decide), e1_0, back_wd k hk, pick_row _ _ (by omega)]
  rfl
theorem in1_1 (c : Dev nD) (k : ℕ) (hk : k < 64) : pickAt (after cond1 (X1 m k c) (Proc.devRef .tc main_v33_1)) (back (after cond1 (X1 m k c) (Proc.devRef .tc main_v33_8))) = st (inp m c) (63 - k) := by
  rw [keep_cond1 _ _ (by decide), keep_cond1 _ _ (by decide), ctw1 m c k, still1 m c _ (by decide), e1_1, back_wd k hk, pick_row _ _ (by omega)]
  exact rows_trip0_z m c 64 (by omega) _ (by omega)
theorem in1_2 (c : Dev nD) (k : ℕ) (hk : k < 64) : pickAt (after cond1 (X1 m k c) (Proc.devRef .tc main_v33_2)) (back (after cond1 (X1 m k c) (Proc.devRef .tc main_v33_8))) = (inp m c).w (63 - k) := by
  rw [keep_cond1 _ _ (by decide), keep_cond1 _ _ (by decide), ctw1 m c k, still1 m c _ (by decide), e1_2, back_wd k hk, pick_row _ _ (by omega)]
  rfl
theorem in1_3 (c : Dev nD) (k : ℕ) (hk : k < 64) : pickAt (after cond1 (X1 m k c) (Proc.devRef .tc main_v33_3)) (back (after cond1 (X1 m k c) (Proc.devRef .tc main_v33_8))) = (inp m c).qd (63 - k) := by
  rw [keep_cond1 _ _ (by decide), keep_cond1 _ _ (by decide), ctw1 m c k, still1 m c _ (by decide), e1_3, back_wd k hk, pick_row _ _ (by omega)]
  rfl
theorem in1_4 (c : Dev nD) (k : ℕ) (hk : k < 64) : pickAt (after cond1 (X1 m k c) (Proc.devRef .tc main_v33_4)) (back (after cond1 (X1 m k c) (Proc.devRef .tc main_v33_8))) = vv (inp m c) (63 - k) := by
  rw [keep_cond1 _ _ (by decide), keep_cond1 _ _ (by decide), ctw1 m c k, still1 m c _ (by decide), e1_4, back_wd k hk, pick_row _ _ (by omega)]
  exact rows_trip0_v m c 64 (by omega) _ (by omega)
theorem in1_5 (c : Dev nD) (k : ℕ) (hk : k < 64) : pickAt (after cond1 (X1 m k c) (Proc.devRef .tc main_v33_5)) (back (after cond1 (X1 m k c) (Proc.devRef .tc main_v33_8))) = (inp m c).qk (63 - k) := by
  rw [keep_cond1 _ _ (by decide), keep_cond1 _ _ (by decide), ctw1 m c k, still1 m c _ (by decide), e1_5, back_wd k hk, pick_row _ _ (by omega)]
  rfl
theorem in1_6 (c : Dev nD) (k : ℕ) (hk : k < 64) : pickAt (after cond1 (X1 m k c) (Proc.devRef .tc main_v33_6)) (back (after cond1 (X1 m k c) (Proc.devRef .tc main_v33_8))) = (inp m c).cd (63 - k) := by
  rw [keep_cond1 _ _ (by decide), keep_cond1 _ _ (by decide), ctw1 m c k, still1 m c _ (by decide), e1_6, back_wd k hk, pick_row _ _ (by omega)]
  rfl
theorem in1_7 (c : Dev nD) (k : ℕ) (hk : k < 64) : pickAt (after cond1 (X1 m k c) (Proc.devRef .tc main_v33_7)) (back (after cond1 (X1 m k c) (Proc.devRef .tc main_v33_8))) = (inp m c).kt (63 - k) := by
  rw [keep_cond1 _ _ (by decide), keep_cond1 _ _ (by decide), ctw1 m c k, still1 m c _ (by decide), e1_7, back_wd k hk, pick_row _ _ (by omega)]
  rfl

/-- The state's gradient before trip `k`. -/
theorem state1 (c : Dev nD) : ∀ k, k ≤ 64 → X1 m k c (Proc.devRef .tc main_v33_9) = dd (inp m c) k
  | 0, _ => e1_9 m c
  | k + 1, hk => by
    rw [show X1 m (k + 1) c = afterL body1 (after cond1 (X1 m k c)) from rfl, trip1_s, in1_2 m c k hk, in1_5 m c k hk, in1_3 m c k hk, in1_7 m c k hk, in1_6 m c k hk, in1_0 m c k hk,
      keep_cond1 _ _ (by decide), state1 c k (by omega)]
    rfl

/-- The gradient of `u` so far. -/
theorem rows_gu (c : Dev nD) : ∀ k, k ≤ 64 → ∀ n, n < 64 → 64 - k ≤ n → row (X1 m k c (Proc.devRef .tc main_v33_10)) n = gu (inp m c) n
  | 0, _, n, hn, hl => absurd hn (by omega)
  | k + 1, hk, n, hn, hl => by
    rw [show X1 m (k + 1) c = afterL body1 (after cond1 (X1 m k c)) from rfl, trip1_10, in1_5 m c k hk, in1_7 m c k hk, in1_0 m c k hk, keep_cond1 _ main_v33_9 (by decide), state1 m c k (by omega),
      keep_cond1 _ main_v33_8 (by decide), keep_cond1 _ main_v33_10 (by decide), ctw1 m c k, back_wd k hk, put_row _ _ (63 - k) n (by omega) hn]
    by_cases e : n = 63 - k
    · rw [if_pos e, e]; unfold gu; rw [show 63 - (63 - k) = k by omega]
    · rw [if_neg e]; exact rows_gu c k (by omega) n hn (by omega)

/-- The gradient of `w` so far. -/
theorem rows_gw (c : Dev nD) : ∀ k, k ≤ 64 → ∀ n, n < 64 → 64 - k ≤ n → row (X1 m k c (Proc.devRef .tc main_v33_11)) n = gw (inp m c) n
  | 0, _, n, hn, hl => absurd hn (by omega)
  | k + 1, hk, n, hn, hl => by
    rw [show X1 m (k + 1) c = afterL body1 (after cond1 (X1 m k c)) from rfl, trip1_11, in1_1 m c k hk, in1_5 m c k hk, in1_7 m c k hk, in1_0 m c k hk, keep_cond1 _ main_v33_9 (by decide), state1 m c k (by omega),
      keep_cond1 _ main_v33_8 (by decide), keep_cond1 _ main_v33_11 (by decide), ctw1 m c k, back_wd k hk, put_row _ _ (63 - k) n (by omega) hn]
    by_cases e : n = 63 - k
    · rw [if_pos e, e]; unfold gw; rw [show 63 - (63 - k) = k by omega]
    · rw [if_neg e]; exact rows_gw c k (by omega) n hn (by omega)

/-- The gradient of `qk` so far. -/
theorem rows_gk (c : Dev nD) : ∀ k, k ≤ 64 → ∀ n, n < 64 → 64 - k ≤ n → row (X1 m k c (Proc.devRef .tc main_v33_12)) n = gk (inp m c) n
  | 0, _, n, hn, hl => absurd hn (by omega)
  | k + 1, hk, n, hn, hl => by
    rw [show X1 m (k + 1) c = afterL body1 (after cond1 (X1 m k c)) from rfl, trip1_12, in1_4 m c k hk, in1_0 m c k hk, keep_cond1 _ main_v33_8 (by decide), keep_cond1 _ main_v33_12 (by decide), ctw1 m c k, back_wd k hk, put_row _ _ (63 - k) n (by omega) hn]
    by_cases e : n = 63 - k
    · rw [if_pos e, e]; unfold gk; rfl
    · rw [if_neg e]; exact rows_gk c k (by omega) n hn (by omega)

/-- The gradient of `qd` so far. -/
theorem rows_gq (c : Dev nD) : ∀ k, k ≤ 64 → ∀ n, n < 64 → 64 - k ≤ n → row (X1 m k c (Proc.devRef .tc main_v33_13)) n = gq (inp m c) n
  | 0, _, n, hn, hl => absurd hn (by omega)
  | k + 1, hk, n, hn, hl => by
    rw [show X1 m (k + 1) c = afterL body1 (after cond1 (X1 m k c)) from rfl, trip1_13, in1_1 m c k hk, in1_0 m c k hk, keep_cond1 _ main_v33_8 (by decide), keep_cond1 _ main_v33_13 (by decide), ctw1 m c k, back_wd k hk, put_row _ _ (63 - k) n (by omega) hn]
    by_cases e : n = 63 - k
    · rw [if_pos e, e]; unfold gq; rfl
    · rw [if_neg e]; exact rows_gq c k (by omega) n hn (by omega)

/-- The gradient of `kt` so far. -/
theorem rows_gt (c : Dev nD) : ∀ k, k ≤ 64 → ∀ n, n < 64 → 64 - k ≤ n → row (X1 m k c (Proc.devRef .tc main_v33_14)) n = gt (inp m c) n
  | 0, _, n, hn, hl => absurd hn (by omega)
  | k + 1, hk, n, hn, hl => by
    rw [show X1 m (k + 1) c = afterL body1 (after cond1 (X1 m k c)) from rfl, trip1_14, in1_4 m c k hk, keep_cond1 _ main_v33_9 (by decide), state1 m c k (by omega),
      keep_cond1 _ main_v33_8 (by decide), keep_cond1 _ main_v33_14 (by decide), ctw1 m c k, back_wd k hk, put_row _ _ (63 - k) n (by omega) hn]
    by_cases e : n = 63 - k
    · rw [if_pos e, e]; unfold gt; rw [show 63 - (63 - k) = k by omega]
    · rw [if_neg e]; exact rows_gt c k (by omega) n hn (by omega)

/-- The gradient of `cd` so far. -/
theorem rows_gc (c : Dev nD) : ∀ k, k ≤ 64 → ∀ n, n < 64 → 64 - k ≤ n → row (X1 m k c (Proc.devRef .tc main_v33_15)) n = gc (inp m c) n
  | 0, _, n, hn, hl => absurd hn (by omega)
  | k + 1, hk, n, hn, hl => by
    rw [show X1 m (k + 1) c = afterL body1 (after cond1 (X1 m k c)) from rfl, trip1_15, in1_1 m c k hk, keep_cond1 _ main_v33_9 (by decide), state1 m c k (by omega),
      keep_cond1 _ main_v33_8 (by decide), keep_cond1 _ main_v33_15 (by decide), ctw1 m c k, back_wd k hk, put_row _ _ (63 - k) n (by omega) hn]
    by_cases e : n = 63 - k
    · rw [if_pos e, e]; unfold gc; rw [show 63 - (63 - k) = k by omega]
    · rw [if_neg e]; exact rows_gc c k (by omega) n hn (by omega)

/-! The results. -/
theorem z_o (c : Dev nD) : Z m c (Proc.devRef .tc main_v22) = flat (X0 m 64 c (Proc.devRef .tc main_v20_8)) := by
  rw [Z, afterL_cons, afterL_nil, keep_postOps _ _ (by decide), M1, keep_cond1 _ _ (by decide), still1 m c _ (by decide), E1, afterL_cons, afterL_cons, afterL_nil, keep_midOps1 _ _ (by decide)]
  have e : ∀ V : Valuation τ sig (Elt F), after midOps V (Proc.devRef .tc main_v22) = flat (V (Proc.devRef .tc main_v20_8)) := fun V => by unfold midOps; after_reads_simp; rfl
  rw [e, M0, keep_cond0 _ _ (by decide)]
theorem z_gu (c : Dev nD) : Z m c (Proc.devRef .tc main_v49) = flat (X1 m 64 c (Proc.devRef .tc main_v33_10)) := by
  have e : ∀ V : Valuation τ sig (Elt F), after postOps V (Proc.devRef .tc main_v49) = flat (V (Proc.devRef .tc main_v33_10)) := fun V => by unfold postOps; after_reads_simp; rfl
  rw [Z, afterL_cons, afterL_nil, e, M1, keep_cond1 _ _ (by decide)]
theorem z_gw (c : Dev nD) : Z m c (Proc.devRef .tc main_v47) = narrow (flat (X1 m 64 c (Proc.devRef .tc main_v33_11))) := by
  have e : ∀ V : Valuation τ sig (Elt F), after postOps V (Proc.devRef .tc main_v47) = narrow (flat (V (Proc.devRef .tc main_v33_11))) := fun V => by unfold postOps; after_reads_simp; rfl
  rw [Z, afterL_cons, afterL_nil, e, M1, keep_cond1 _ _ (by decide)]
theorem z_gk (c : Dev nD) : Z m c (Proc.devRef .tc main_v44) = narrow (flat (X1 m 64 c (Proc.devRef .tc main_v33_12))) := by
  have e : ∀ V : Valuation τ sig (Elt F), after postOps V (Proc.devRef .tc main_v44) = narrow (flat (V (Proc.devRef .tc main_v33_12))) := fun V => by unfold postOps; after_reads_simp; rfl
  rw [Z, afterL_cons, afterL_nil, e, M1, keep_cond1 _ _ (by decide)]
theorem z_gq (c : Dev nD) : Z m c (Proc.devRef .tc main_v41) = narrow (flat (X1 m 64 c (Proc.devRef .tc main_v33_13))) := by
  have e : ∀ V : Valuation τ sig (Elt F), after postOps V (Proc.devRef .tc main_v41) = narrow (flat (V (Proc.devRef .tc main_v33_13))) := fun V => by unfold postOps; after_reads_simp; rfl
  rw [Z, afterL_cons, afterL_nil, e, M1, keep_cond1 _ _ (by decide)]
theorem z_gt (c : Dev nD) : Z m c (Proc.devRef .tc main_v38) = narrow (flat (X1 m 64 c (Proc.devRef .tc main_v33_14))) := by
  have e : ∀ V : Valuation τ sig (Elt F), after postOps V (Proc.devRef .tc main_v38) = narrow (flat (V (Proc.devRef .tc main_v33_14))) := fun V => by unfold postOps; after_reads_simp; rfl
  rw [Z, afterL_cons, afterL_nil, e, M1, keep_cond1 _ _ (by decide)]
theorem z_gc (c : Dev nD) : Z m c (Proc.devRef .tc main_v35) = flat (X1 m 64 c (Proc.devRef .tc main_v33_15)) := by
  have e : ∀ V : Valuation τ sig (Elt F), after postOps V (Proc.devRef .tc main_v35) = flat (V (Proc.devRef .tc main_v33_15)) := fun V => by unfold postOps; after_reads_simp; rfl
  rw [Z, afterL_cons, afterL_nil, e, M1, keep_cond1 _ _ (by decide)]

/-- No operation writes an argument. -/
theorem z_arg (c : Dev nD) (r : Ref sig .tc) (h0 : r ∉ preOpsW) (h1 : r ∉ tripW0) (h2 : r ∉ midOpsW) (h3 : r ∉ midOps1W) (h4 : r ∉ tripW1) (h5 : r ∉ postOpsW)
    (h6 : r ∉ cond0W) (h7 : r ∉ cond1W) : Z m c (Proc.devRef .tc r) = m (c.tc.loc r) := by
  rw [Z, afterL_cons, afterL_nil, keep_postOps _ _ h5, M1, keep_cond1 _ _ h7, still1 m c _ h4, E1, afterL_cons, afterL_cons, afterL_nil, keep_midOps1 _ _ h3, keep_midOps _ _ h2,
    M0, keep_cond0 _ _ h6, still0 m c _ h1, E0, afterL_cons, afterL_nil, keep_preOps _ _ h0]

end Cert.ReferenceIdeal.Scan

end
-- ==== Proof.Conds.lean ====
/- Which grid points the bodies of the two calls take for the first. -/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Exec
public import Idealize.ShloMosaic.Lib.WordCmp
public import Idealize.ShloMosaic.Lib.Ring
public import Idealize.ShloMosaic.Lib.Tactic
public import Idealize.ShloMosaic.Lib.Pipeline.FrameBody

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition the body of call 0 tests: the grid point is the first. -/
abbrev cond0 (i : grid0.Coords) : Prop := (Scalar.cmpi .ne (Scalar.extui (Scalar.cmpi .eq (BitVec.ofNat 32 (i 0).val) 0#32)) 0#32) = 1#1

/-- It holds at point 0 alone. -/
theorem cond0_iff (t : Fin cfg0.N) : cond0 (grid0.coords t) ↔ t.val = 0 := by
  have ht : t.val < 64 := Nat.lt_of_lt_of_eq t.isLt N_0
  have e0 : (grid0.coords t 0).val = t.val / 1 % 64 := Pipeline.Grid.coords_val t 0 (by decide) rfl
  rw [Nat.div_one, Nat.mod_eq_of_lt ht] at e0
  simp only [cond0, e0]
  word_cmp

/-- The condition the body of call 1 tests: the grid point is the first. -/
abbrev cond1 (i : grid1.Coords) : Prop := (Scalar.cmpi .ne (Scalar.extui (Scalar.cmpi .eq (BitVec.ofNat 32 (i 0).val) 0#32)) 0#32) = 1#1

/-- It holds at point 0 alone. -/
theorem cond1_iff (t : Fin cfg1.N) : cond1 (grid1.coords t) ↔ t.val = 0 := by
  have ht : t.val < 64 := Nat.lt_of_lt_of_eq t.isLt N_1
  have e0 : (grid1.coords t 0).val = t.val / 1 % 64 := Pipeline.Grid.coords_val t 0 (by decide) rfl
  rw [Nat.div_one, Nat.mod_eq_of_lt ht] at e0
  simp only [cond1, e0]
  word_cmp

end Cert.KernelIdeal.Scan

end
-- ==== Proof.RunFwd.lean ====
/- The body of the forward scan, run at one grid point. -/
module

public import proofs.«01_k».proof.Proof.Conds

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole)

set_option maxHeartbeats 1000000 in
/-- The pieces the body of the forward scan leaves in each output's memref and in the carried state's, at the first point, where the state is cleared, with the proof that it runs from the inputs' blocks `x·` to them. -/
noncomputable def run0A (hc : cond0 i)
    (x0 : Vec F S128x1024 .f32) (x1 x2 x3 x4 : Vec F S128x1024 .bf16) (x5 : Vec F S128x1024 .f32) :
    Σ' (L6 : List (View.Piece (Elt F) S128x1024 .f32)), Σ' (L7 : List (View.Piece (Elt F) S128x1024 .f32)), { LS : List (View.Piece (Elt F) S128x1024 .f32) //
      ∀ (E : Set ℕ) (K : PUnit → sProp 𝕄),
        iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ d, owns c.tc a6 fullShare d) ∗ (∃ d, owns c.tc a7 fullShare d) ∗ (∃ d, owns c.tc a8 fullShare d)
            ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f LS)) -∗ K ⟨⟩))
          ⊢ wp frame (wpE (defs₀ (F := F)) Variants.none c none) E (cc0_gdn_scan_fwd i a0 h0 a1 h1 a2 h2 a3 h3 a4 h4 a5 h5 a6 h6 a7 h7 a8 h8) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

set_option maxHeartbeats 1000000 in
/-- The pieces the body of the forward scan leaves in each output's memref and in the carried state's, at a later point, where the state holds `s`, with the proof that it runs from the inputs' blocks `x·` to them. -/
noncomputable def run0B (hc : ¬cond0 i)
    (x0 : Vec F S128x1024 .f32) (x1 x2 x3 x4 : Vec F S128x1024 .bf16) (x5 s : Vec F S128x1024 .f32) :
    Σ' (L6 : List (View.Piece (Elt F) S128x1024 .f32)), Σ' (L7 : List (View.Piece (Elt F) S128x1024 .f32)), { LS : List (View.Piece (Elt F) S128x1024 .f32) //
      ∀ (E : Set ℕ) (K : PUnit → sProp 𝕄),
        iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ d, owns c.tc a6 fullShare d) ∗ (∃ d, owns c.tc a7 fullShare d) ∗ owns c.tc a8 fullShare s
            ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, a8.view.loc (c : Thread nD τ) ↦[a8.view.set]{fullShare} a8.view.writes (Elt F) f LS)) -∗ K ⟨⟩))
          ⊢ wp frame (wpE (defs₀ (F := F)) Variants.none c none) E (cc0_gdn_scan_fwd i a0 h0 a1 h1 a2 h2 a3 h3 a4 h4 a5 h5 a6 h6 a7 h7 a8 h8) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h8.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

end Cert.KernelIdeal.Scan

end
-- ==== Proof.Tiles.lean ====
/- A block of eight heads side by side, and the same block head by head: the two layouts of the scan kernels. -/
module

public import proofs.«01_k».proof.Proof.Gen.KernelIdeal.Skeleton
public import Idealize.ShloMosaic.Lib.Exec
public import Idealize.ShloMosaic.Lib.Ring
public import Idealize.ShloMosaic.Lib.Tactic
public import Idealize.ShloMosaic.Lib.Pointwise
public import Idealize.ShloMosaic.Lib.WholeRead
public import Idealize.ShloMosaic.Lib.Writes
public import Idealize.ShloMosaic.Lib.Pipeline.FrameBody

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem colLt (h : Fin 8) (j : Fin 128) : 128 * h.val + j.val < 1024 := by omega
theorem headLt (c : Fin 1024) : c.val / 128 < 8 := by omega
theorem lane_lt (c : ℕ) : c % 128 < 128 := Nat.mod_lt _ (by decide)

/-- The block of 8 heads side by side (head `h` in columns `128 h …`) read head by head. -/
def tile {e : EltTy} (x : Vec F S128x1024 e) : Vec F S8x128x128 e :=
  fun j => x (ix2 (j 1) ⟨128 * (j 0).val + (j 2).val, colLt (j 0) (j 2)⟩)

/-- The heads put side by side again. -/
def untile {e : EltTy} (X : Vec F S8x128x128 e) : Vec F S128x1024 e :=
  fun j => X (ix3 ⟨(j 1).val / 128, headLt (j 1)⟩ (j 0) ⟨(j 1).val % 128, lane_lt _⟩)

/-- Reading the heads of heads put side by side gives them back. -/
theorem tile_untile {e : EltTy} (X : Vec F S8x128x128 e) : tile (untile X) = X := by
  funext j
  idx_vars j
  unfold tile untile
  pointwise
  congr 1
  apply congrArg₂ (fun a b => ix3 a j1 b) <;> (apply Fin.ext; dsimp only; omega)

/-- Eight tiles stacked are the block head by head, if tile `h` holds the columns of head `h`. -/
theorem stack_eq {e : EltTy} (x : Vec F S128x1024 e) (v0 v1 v2 v3 v4 v5 v6 v7 : Vec F S128x128 e)
    (e0 : ∀ j, v0 j = x (ix2 (j 0) ⟨0 + (j 1).val, by have : (j 1).val < 128 := (j 1).isLt; show _ < 1024; omega⟩))
    (e1 : ∀ j, v1 j = x (ix2 (j 0) ⟨128 + (j 1).val, by have : (j 1).val < 128 := (j 1).isLt; show _ < 1024; omega⟩))
    (e2 : ∀ j, v2 j = x (ix2 (j 0) ⟨256 + (j 1).val, by have : (j 1).val < 128 := (j 1).isLt; show _ < 1024; omega⟩))
    (e3 : ∀ j, v3 j = x (ix2 (j 0) ⟨384 + (j 1).val, by have : (j 1).val < 128 := (j 1).isLt; show _ < 1024; omega⟩))
    (e4 : ∀ j, v4 j = x (ix2 (j 0) ⟨512 + (j 1).val, by have : (j 1).val < 128 := (j 1).isLt; show _ < 1024; omega⟩))
    (e5 : ∀ j, v5 j = x (ix2 (j 0) ⟨640 + (j 1).val, by have : (j 1).val < 128 := (j 1).isLt; show _ < 1024; omega⟩))
    (e6 : ∀ j, v6 j = x (ix2 (j 0) ⟨768 + (j 1).val, by have : (j 1).val < 128 := (j 1).isLt; show _ < 1024; omega⟩))
    (e7 : ∀ j, v7 j = x (ix2 (j 0) ⟨896 + (j 1).val, by have : (j 1).val < 128 := (j 1).isLt; show _ < 1024; omega⟩))
    (hc : Shape.Concatenates [S1x128x128, S1x128x128, S1x128x128, S1x128x128, S1x128x128, S1x128x128, S1x128x128, S1x128x128] S8x128x128 0) :
    concatenate S8x128x128 0 [⟨S1x128x128, shapeCast S1x128x128 v0 shapeCasts_S128x128_S1x128x128⟩, ⟨S1x128x128, shapeCast S1x128x128 v1 shapeCasts_S128x128_S1x128x128⟩, ⟨S1x128x128, shapeCast S1x128x128 v2 shapeCasts_S128x128_S1x128x128⟩, ⟨S1x128x128, shapeCast S1x128x128 v3 shapeCasts_S128x128_S1x128x128⟩, ⟨S1x128x128, shapeCast S1x128x128 v4 shapeCasts_S128x128_S1x128x128⟩, ⟨S1x128x128, shapeCast S1x128x128 v5 shapeCasts_S128x128_S1x128x128⟩, ⟨S1x128x128, shapeCast S1x128x128 v6 shapeCasts_S128x128_S1x128x128⟩, ⟨S1x128x128, shapeCast S1x128x128 v7 shapeCasts_S128x128_S1x128x128⟩] hc = tile x := by
  funext j
  idx_vars j
  pointwise [tile, e0, e1, e2, e3, e4, e5, e6, e7]
  split_ifs <;> exact congrArg (fun c => x (ix2 j1 c)) (Fin.ext (by dsimp only; omega))

/-- A load of 128 columns of a whole buffer's contents. -/
theorem ld_cols {e : EltTy} (a : Memref sig .tc .vmem S128x1024 e) (ha : a.IsWhole) (x : Vec F S128x1024 e) (n : ℕ)
    (inb : ∀ d, (![0, n] : Fin 2 → ℕ) d + S128x128.size d ≤ S128x1024.size d) (hn : n + 128 ≤ 1024) (j : S128x128.Idx) :
    View.readAt (Elt F) a.view (Rect.unit (s := S128x1024) ![0, n] S128x128.size inb).toLoadRect (ha.unread x) j
      = x (ix2 (j 0) ⟨n + (j 1).val, by have : (j 1).val < 128 := (j 1).isLt; show _ < 1024; omega⟩) := by
  rw [ha.readAt_unread]
  congr 1
  idx_vars j
  pointwise

/-- A load of 128 columns of a buffer just filled whole. -/
theorem cov_cols {e : EltTy} (a : Memref sig .tc .vmem S128x1024 e) (x : Vec F S128x1024 e) (n : ℕ)
    (inb0 : ∀ d, (![0, 0] : Fin 2 → ℕ) d + S128x1024.size d ≤ S128x1024.size d)
    (inb : ∀ d, (![0, n] : Fin 2 → ℕ) d + S128x128.size d ≤ S128x1024.size d) (hn : n + 128 ≤ 1024) (j : S128x128.Idx) :
    a.view.readCov (Val := Elt F) [⟨Rect.unit (s := S128x1024) ![0, 0] S128x1024.size inb0, x⟩] (Rect.unit (s := S128x1024) ![0, n] S128x128.size inb).toLoadRect j
      = x (ix2 (j 0) ⟨n + (j 1).val, by have : (j 1).val < 128 := (j 1).isLt; show _ < 1024; omega⟩) := by
  unfold View.readCov
  rw [View.readAt_apply]
  refine View.read_writes_cons_hit_of_coords a.view _ _ _ _ _ _ fun d => ?_
  match d with
  | ⟨0, _⟩ => pointwise
  | ⟨1, _⟩ => pointwise

/-- 128 columns from `n` lie in the block. -/
theorem inb_cols {n : ℕ} (hn : n + 128 ≤ 1024) : ∀ d, (![0, n] : Fin 2 → ℕ) d + S128x128.size d ≤ S128x1024.size d := fun d => by
  match d with
  | ⟨0, _⟩ => show 0 + 128 ≤ 128; omega
  | ⟨1, _⟩ => exact hn

/-- A tile as one of eight to stack. -/
abbrev up {e : EltTy} (v : Vec F S128x128 e) : (S : Shape) × Vec F S e := ⟨S1x128x128, shapeCast S1x128x128 v shapeCasts_S128x128_S1x128x128⟩

/-- The 128 columns from `n` of a buffer. -/
abbrev cols {e : EltTy} (a : Memref sig .tc .vmem S128x1024 e) (ha : a.IsWhole) (x : Vec F S128x1024 e) (n : ℕ) (hn : n + 128 ≤ 1024) : Vec F S128x128 e :=
  View.readAt (Elt F) a.view (Rect.unit (s := S128x1024) ![0, n] S128x128.size (inb_cols hn)).toLoadRect (ha.unread x)

/-- The 128 columns from `n` of a buffer just filled whole. -/
abbrev covs {e : EltTy} (a : Memref sig .tc .vmem S128x1024 e) (x : Vec F S128x1024 e) (inb0 : ∀ d, (![0, 0] : Fin 2 → ℕ) d + S128x1024.size d ≤ S128x1024.size d) (n : ℕ) (hn : n + 128 ≤ 1024) : Vec F S128x128 e :=
  a.view.readCov (Val := Elt F) [⟨Rect.unit (s := S128x1024) ![0, 0] S128x1024.size inb0, x⟩] (Rect.unit (s := S128x1024) ![0, n] S128x128.size (inb_cols hn)).toLoadRect

/-- The eight tiles loaded from a buffer are its block head by head. -/
theorem stack_ld {e : EltTy} (a : Memref sig .tc .vmem S128x1024 e) (ha : a.IsWhole) (x : Vec F S128x1024 e) :
    concatenate S8x128x128 0 [up (cols a ha x 0 (by decide)), up (cols a ha x 128 (by decide)), up (cols a ha x 256 (by decide)), up (cols a ha x 384 (by decide)), up (cols a ha x 512 (by decide)), up (cols a ha x 640 (by decide)), up (cols a ha x 768 (by decide)), up (cols a ha x 896 (by decide))] concatenates_S1x128x128_S1x128x128_S1x128x128_S1x128x128_S1x128x128_S1x128x128_S1x128x128_S1x128x128_S8x128x128_d0 = tile x :=
  stack_eq x _ _ _ _ _ _ _ _ (ld_cols a ha x 0 _ (by decide)) (ld_cols a ha x 128 _ (by decide)) (ld_cols a ha x 256 _ (by decide)) (ld_cols a ha x 384 _ (by decide)) (ld_cols a ha x 512 _ (by decide)) (ld_cols a ha x 640 _ (by decide)) (ld_cols a ha x 768 _ (by decide)) (ld_cols a ha x 896 _ (by decide)) _

/-- The same, each tile cast to its own shape. -/
theorem stack_self (a : Memref sig .tc .vmem S128x1024 .f32) (ha : a.IsWhole) (x : Vec F S128x1024 .f32) (h : S128x128.ShapeCasts S128x128) :
    concatenate S8x128x128 0 [up (shapeCast S128x128 (cols a ha x 0 (by decide)) h), up (shapeCast S128x128 (cols a ha x 128 (by decide)) h), up (shapeCast S128x128 (cols a ha x 256 (by decide)) h), up (shapeCast S128x128 (cols a ha x 384 (by decide)) h), up (shapeCast S128x128 (cols a ha x 512 (by decide)) h), up (shapeCast S128x128 (cols a ha x 640 (by decide)) h), up (shapeCast S128x128 (cols a ha x 768 (by decide)) h), up (shapeCast S128x128 (cols a ha x 896 (by decide)) h)] concatenates_S1x128x128_S1x128x128_S1x128x128_S1x128x128_S1x128x128_S1x128x128_S1x128x128_S1x128x128_S8x128x128_d0 = tile x := by
  have e := fun n hn j => (congrFun (shapeCast_id (cols a ha x n hn) h) j).trans (ld_cols a ha x n _ hn j)
  exact stack_eq x _ _ _ _ _ _ _ _ (e _ _) (e _ _) (e _ _) (e _ _) (e _ _) (e _ _) (e _ _) (e _ _) _

/-- The eight tiles loaded from a buffer just filled whole. -/
theorem stack_cov {e : EltTy} (a : Memref sig .tc .vmem S128x1024 e) (x : Vec F S128x1024 e) (inb0 : ∀ d, (![0, 0] : Fin 2 → ℕ) d + S128x1024.size d ≤ S128x1024.size d) :
    concatenate S8x128x128 0 [up (covs a x inb0 0 (by decide)), up (covs a x inb0 128 (by decide)), up (covs a x inb0 256 (by decide)), up (covs a x inb0 384 (by decide)), up (covs a x inb0 512 (by decide)), up (covs a x inb0 640 (by decide)), up (covs a x inb0 768 (by decide)), up (covs a x inb0 896 (by decide))] concatenates_S1x128x128_S1x128x128_S1x128x128_S1x128x128_S1x128x128_S1x128x128_S1x128x128_S1x128x128_S8x128x128_d0 = tile x :=
  stack_eq x _ _ _ _ _ _ _ _ (cov_cols a x 0 _ _ (by decide)) (cov_cols a x 128 _ _ (by decide)) (cov_cols a x 256 _ _ (by decide)) (cov_cols a x 384 _ _ (by decide)) (cov_cols a x 512 _ _ (by decide)) (cov_cols a x 640 _ _ (by decide)) (cov_cols a x 768 _ _ (by decide)) (cov_cols a x 896 _ _ (by decide)) _

/-- Where 128 columns from `n` place an index. -/
theorem emb_cols (n : ℕ) (inb : ∀ d, (![0, n] : Fin 2 → ℕ) d + S128x128.size d ≤ S128x1024.size d) (hn : n + 128 ≤ 1024) (x : S128x128.Idx) :
    (Rect.unit (s := S128x1024) ![0, n] S128x128.size inb).emb x
      = ix2 (x 0) ⟨n + (x 1).val, by have : (x 1).val < 128 := (x 1).isLt; show _ < 1024; omega⟩ := by
  funext d
  match d with
  | ⟨0, _⟩ => exact Fin.ext (show 0 + 1 * (x 0).val = (x 0).val by omega)
  | ⟨1, _⟩ => exact Fin.ext (show n + 1 * (x 1).val = n + (x 1).val by omega)

/-- Head `h` of heads put side by side. -/
theorem untile_cols {e : EltTy} (X : Vec F S8x128x128 e) (h : Fin 8) (n : ℕ) (hn : n = 128 * h.val)
    (inb : ∀ d, (![0, n] : Fin 2 → ℕ) d + S128x128.size d ≤ S128x1024.size d) (x : S128x128.Idx) :
    untile X ((Rect.unit (s := S128x1024) ![0, n] S128x128.size inb).emb x) = X (ix3 h (x 0) (x 1)) := by
  have hx : (x 1).val < 128 := (x 1).isLt
  rw [emb_cols n inb (by omega)]
  unfold untile
  congr 1
  apply congrArg₂ (fun a b => ix3 a (x 0) b)
  · exact Fin.ext (show (n + (x 1).val) / 128 = h.val by omega)
  · exact Fin.ext (show (n + (x 1).val) % 128 = (x 1).val by omega)

/-- Eight tiles stored in turn, each on its 128 columns. -/
abbrev pieces {e : EltTy} (p0 p1 p2 p3 p4 p5 p6 p7 : Vec F S128x128 e) (rest : List (View.Piece (Elt F) S128x1024 e)) : List (View.Piece (Elt F) S128x1024 e) :=
  ⟨Rect.unit (s := S128x1024) ![0, 896] S128x128.size (inb_cols (by decide)), p7⟩ :: ⟨Rect.unit (s := S128x1024) ![0, 768] S128x128.size (inb_cols (by decide)), p6⟩ :: ⟨Rect.unit (s := S128x1024) ![0, 640] S128x128.size (inb_cols (by decide)), p5⟩ :: ⟨Rect.unit (s := S128x1024) ![0, 512] S128x128.size (inb_cols (by decide)), p4⟩ :: ⟨Rect.unit (s := S128x1024) ![0, 384] S128x128.size (inb_cols (by decide)), p3⟩ :: ⟨Rect.unit (s := S128x1024) ![0, 256] S128x128.size (inb_cols (by decide)), p2⟩ :: ⟨Rect.unit (s := S128x1024) ![0, 128] S128x128.size (inb_cols (by decide)), p1⟩ :: ⟨Rect.unit (s := S128x1024) ![0, 0] S128x128.size (inb_cols (by decide)), p0⟩ :: rest

/-- Eight stores, tile `h` in the columns of head `h`, leave the heads side by side, whatever was there. -/
theorem read_tiles {sig' : RefSig} {κ : Kind} {sp : Space} {e : EltTy} (v : View sig' κ sp S128x1024 e) (f : v.ty.Contents (Elt F)) (X : Vec F S8x128x128 e)
    (p0 p1 p2 p3 p4 p5 p6 p7 : Vec F S128x128 e)
    (e0 : ∀ j, p0 j = X (ix3 0 (j 0) (j 1)))
    (e1 : ∀ j, p1 j = X (ix3 1 (j 0) (j 1)))
    (e2 : ∀ j, p2 j = X (ix3 2 (j 0) (j 1)))
    (e3 : ∀ j, p3 j = X (ix3 3 (j 0) (j 1)))
    (e4 : ∀ j, p4 j = X (ix3 4 (j 0) (j 1)))
    (e5 : ∀ j, p5 j = X (ix3 5 (j 0) (j 1)))
    (e6 : ∀ j, p6 j = X (ix3 6 (j 0) (j 1)))
    (e7 : ∀ j, p7 j = X (ix3 7 (j 0) (j 1)))
    (rest : List (View.Piece (Elt F) S128x1024 e)) :
    v.read (Elt F) (v.writes (Elt F) f (pieces p0 p1 p2 p3 p4 p5 p6 p7 rest)) = untile X := by
  have key : ∀ f' : v.ty.Contents (Elt F), v.read (Elt F) (v.writes (Elt F) f' (pieces p0 p1 p2 p3 p4 p5 p6 p7 [])) = untile X := fun f' => by
    funext y
    refine View.read_writes_apply_of_pieces v f' (untile X) _ ?_ y
      (View.cover_of_tiled (s := S128x1024) _ S128x128.size (by rfl) y)
    simp only [List.forall_mem_cons]
    refine ⟨?_, ?_, ?_, ?_, ?_, ?_, ?_, ?_, fun _ h => absurd h List.not_mem_nil⟩ <;>
      (intro x; simp only [e0, e1, e2, e3, e4, e5, e6, e7]; exact (untile_cols X _ _ rfl _ x).symm)
  have := key (v.writes (Elt F) f rest)
  rwa [← View.writes_append] at this

end Cert.KernelIdeal.Scan

end
-- ==== Proof.BodyFwd.lean ====
/- What the body of the forward scan leaves, in closed form over the input blocks and the carried state's block. -/
module

public import proofs.«01_k».proof.Proof.RunFwd
public import proofs.«01_k».proof.Proof.Tiles

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block read head by head and put side by side again is the block. -/
theorem untile_tile {e : EltTy} (x : Vec F S128x1024 e) : untile (tile x) = x := by
  funext j
  idx_vars j
  unfold tile untile
  pointwise
  exact congrArg (fun b => x (ix2 j0 b)) (Fin.ext (by dsimp only; omega))

/-- A tile cast to its own shape is the tile. -/
theorem self_apply (v : FVec F S128x128 .f32) (h : S128x128.ShapeCasts S128x128) (j : S128x128.Idx) : shapeCast S128x128 v h j = v j :=
  congrFun (shapeCast_id v h) j

/-- Head `h` cut out of the heads, as a tile. -/
theorem slice_tile {e : EltTy} (Y : Vec F S8x128x128 e) (h : Fin 8) (hs : Shape.Slices S8x128x128 ![h.val, 0, 0] S1x128x128) (j : S128x128.Idx) :
    shapeCast S128x128 (extractStridedSlice S1x128x128 ![h.val, 0, 0] Y hs) shapeCasts_S1x128x128_S128x128 j = Y (ix3 h (j 0) (j 1)) := by
  idx_vars j
  pointwise

/-- The same, cast once more to its own shape. -/
theorem slice_self (Y : FVec F S8x128x128 .f32) (h : Fin 8) (hs : Shape.Slices S8x128x128 ![h.val, 0, 0] S1x128x128) (j : S128x128.Idx) :
    shapeCast S128x128 (shapeCast S128x128 (extractStridedSlice S1x128x128 ![h.val, 0, 0] Y hs) shapeCasts_S1x128x128_S128x128) shapeCasts_S128x128_S128x128 j
      = Y (ix3 h (j 0) (j 1)) := (self_apply _ _ j).trans (slice_tile (F := F) (e := .f32) Y h hs j)

/-- The same, rounded. -/
theorem slice_half (Y : FVec F S8x128x128 .f32) (h : Fin 8) (hs : Shape.Slices S8x128x128 ![h.val, 0, 0] S1x128x128) (j : S128x128.Idx) :
    truncf .bf16 (shapeCast S128x128 (extractStridedSlice S1x128x128 ![h.val, 0, 0] Y hs) shapeCasts_S1x128x128_S128x128) bitsLt_bf16_f32 j
      = truncf .bf16 Y bitsLt_bf16_f32 (ix3 h (j 0) (j 1)) := congrArg (FloatOps.truncf .bf16 bitsLt_bf16_f32) (slice_tile (F := F) (e := .f32) Y h hs j)

/-- Head `h` cut out of the heads. -/
abbrev cut (Y : FVec F S8x128x128 .f32) {h : ℕ} (hs : Shape.Slices S8x128x128 ![h, 0, 0] S1x128x128) : FVec F S128x128 .f32 :=
  shapeCast S128x128 (extractStridedSlice S1x128x128 ![h, 0, 0] Y hs) shapeCasts_S1x128x128_S128x128

/-- The eight heads stored one by one. -/
theorem put_cut {sig' : RefSig} {κ : Kind} {sp : Space} (v : View sig' κ sp S128x1024 .f32) (f : v.ty.Contents (Elt F)) (Y : FVec F S8x128x128 .f32) (rest : List (View.Piece (Elt F) S128x1024 .f32)) :
    v.read (Elt F) (v.writes (Elt F) f (pieces (cut Y slices_S8x128x128_o0_0_0_S1x128x128) (cut Y slices_S8x128x128_o1_0_0_S1x128x128) (cut Y slices_S8x128x128_o2_0_0_S1x128x128) (cut Y slices_S8x128x128_o3_0_0_S1x128x128) (cut Y slices_S8x128x128_o4_0_0_S1x128x128) (cut Y slices_S8x128x128_o5_0_0_S1x128x128) (cut Y slices_S8x128x128_o6_0_0_S1x128x128) (cut Y slices_S8x128x128_o7_0_0_S1x128x128) rest)) = untile Y :=
  read_tiles v f Y _ _ _ _ _ _ _ _ (slice_tile (F := F) (e := .f32) Y 0 _) (slice_tile (F := F) (e := .f32) Y 1 _) (slice_tile (F := F) (e := .f32) Y 2 _) (slice_tile (F := F) (e := .f32) Y 3 _) (slice_tile (F := F) (e := .f32) Y 4 _) (slice_tile (F := F) (e := .f32) Y 5 _) (slice_tile (F := F) (e := .f32) Y 6 _) (slice_tile (F := F) (e := .f32) Y 7 _) rest

/-- The same, each cast once more to its own shape. -/
theorem put_self {sig' : RefSig} {κ : Kind} {sp : Space} (v : View sig' κ sp S128x1024 .f32) (f : v.ty.Contents (Elt F)) (Y : FVec F S8x128x128 .f32) (rest : List (View.Piece (Elt F) S128x1024 .f32)) :
    v.read (Elt F) (v.writes (Elt F) f (pieces (shapeCast S128x128 (cut Y slices_S8x128x128_o0_0_0_S1x128x128) shapeCasts_S128x128_S128x128) (shapeCast S128x128 (cut Y slices_S8x128x128_o1_0_0_S1x128x128) shapeCasts_S128x128_S128x128) (shapeCast S128x128 (cut Y slices_S8x128x128_o2_0_0_S1x128x128) shapeCasts_S128x128_S128x128) (shapeCast S128x128 (cut Y slices_S8x128x128_o3_0_0_S1x128x128) shapeCasts_S128x128_S128x128) (shapeCast S128x128 (cut Y slices_S8x128x128_o4_0_0_S1x128x128) shapeCasts_S128x128_S128x128) (shapeCast S128x128 (cut Y slices_S8x128x128_o5_0_0_S1x128x128) shapeCasts_S128x128_S128x128) (shapeCast S128x128 (cut Y slices_S8x128x128_o6_0_0_S1x128x128) shapeCasts_S128x128_S128x128) (shapeCast S128x128 (cut Y slices_S8x128x128_o7_0_0_S1x128x128) shapeCasts_S128x128_S128x128) rest)) = untile Y :=
  read_tiles v f Y _ _ _ _ _ _ _ _ (slice_self Y 0 _) (slice_self Y 1 _) (slice_self Y 2 _) (slice_self Y 3 _) (slice_self Y 4 _) (slice_self Y 5 _) (slice_self Y 6 _) (slice_self Y 7 _) rest

/-- The same, each rounded. -/
theorem put_half {sig' : RefSig} {κ : Kind} {sp : Space} (v : View sig' κ sp S128x1024 .bf16) (f : v.ty.Contents (Elt F)) (Y : FVec F S8x128x128 .f32) (rest : List (View.Piece (Elt F) S128x1024 .bf16)) :
    v.read (Elt F) (v.writes (Elt F) f (pieces (truncf .bf16 (cut Y slices_S8x128x128_o0_0_0_S1x128x128) bitsLt_bf16_f32) (truncf .bf16 (cut Y slices_S8x128x128_o1_0_0_S1x128x128) bitsLt_bf16_f32) (truncf .bf16 (cut Y slices_S8x128x128_o2_0_0_S1x128x128) bitsLt_bf16_f32) (truncf .bf16 (cut Y slices_S8x128x128_o3_0_0_S1x128x128) bitsLt_bf16_f32) (truncf .bf16 (cut Y slices_S8x128x128_o4_0_0_S1x128x128) bitsLt_bf16_f32) (truncf .bf16 (cut Y slices_S8x128x128_o5_0_0_S1x128x128) bitsLt_bf16_f32) (truncf .bf16 (cut Y slices_S8x128x128_o6_0_0_S1x128x128) bitsLt_bf16_f32) (truncf .bf16 (cut Y slices_S8x128x128_o7_0_0_S1x128x128) bitsLt_bf16_f32) rest)) = untile (truncf .bf16 Y bitsLt_bf16_f32) :=
  read_tiles v f (truncf .bf16 Y bitsLt_bf16_f32) _ _ _ _ _ _ _ _ (slice_half Y 0 _) (slice_half Y 1 _) (slice_half Y 2 _) (slice_half Y 3 _) (slice_half Y 4 _) (slice_half Y 5 _) (slice_half Y 6 _) (slice_half Y 7 _) rest

/-- A block of heads, head by head, as numbers. -/
abbrev t32 (x : Vec F S128x1024 .f32) : FVec F S8x128x128 .f32 := tile x

/-- A rounded block of heads, head by head. -/
abbrev t16 (x : Vec F S128x1024 .bf16) : FVec F S8x128x128 .bf16 := tile x

/-- A rounded block of heads, widened. -/
abbrev wide (x : Vec F S128x1024 .bf16) : FVec F S8x128x128 .f32 := extf .f32 (t16 x) bitsLt_bf16_f32

/-- Heads of numbers put side by side. -/
abbrev u32 (X : FVec F S8x128x128 .f32) : Vec F S128x1024 .f32 := untile (F := F) (e := .f32) X

/-- Heads of rounded numbers put side by side. -/
abbrev u16 (X : FVec F S8x128x128 .bf16) : Vec F S128x1024 .bf16 := untile (F := F) (e := .bf16) X

/-- A chunk's outputs: the carried state's block `s` under the queries, plus the local products. -/
def fwdO (s x0 : Vec F S128x1024 .f32) (x1 x2 x3 _x4 : Vec F S128x1024 .bf16) (_x5 : Vec F S128x1024 .f32) : Vec F S128x1024 .f32 :=
  u32 (k0_pay30 (k0_pay27 (t32 s) (t32 x0) (wide x1)) (k0_pay28 (t32 s) (wide x3)) (k0_pay29 (wide x2)))

/-- The carried state saved before the chunk. -/
def fwdT (s _x0 : Vec F S128x1024 .f32) (_x1 _x2 _x3 _x4 : Vec F S128x1024 .bf16) (_x5 : Vec F S128x1024 .f32) : Vec F S128x1024 .f32 := s

/-- The carried state after the chunk. -/
def fwdS (s x0 : Vec F S128x1024 .f32) (x1 _x2 _x3 x4 : Vec F S128x1024 .bf16) (x5 : Vec F S128x1024 .f32) : Vec F S128x1024 .f32 :=
  u32 (k0_pay31 (t32 s) (wide x4) (t32 x5) (k0_pay27 (t32 s) (t32 x0) (wide x1)))

theorem fwdO_of (S U : FVec F S8x128x128 .f32) (W K D : FVec F S8x128x128 .bf16) (s x0 : Vec F S128x1024 .f32) (x1 x2 x3 x4 : Vec F S128x1024 .bf16) (x5 : Vec F S128x1024 .f32)
    (hS : S = t32 s) (hU : U = t32 x0) (hW : W = t16 x1) (hK : K = t16 x2) (hD : D = t16 x3) :
    u32 (k0_pay30 (k0_pay27 S U (extf .f32 W bitsLt_bf16_f32)) (k0_pay28 S (extf .f32 D bitsLt_bf16_f32)) (k0_pay29 (extf .f32 K bitsLt_bf16_f32))) = fwdO s x0 x1 x2 x3 x4 x5 := by
  subst hS hU hW hK hD; rfl

theorem fwdT_of (S : FVec F S8x128x128 .f32) (s x0 : Vec F S128x1024 .f32) (x1 x2 x3 x4 : Vec F S128x1024 .bf16) (x5 : Vec F S128x1024 .f32)
    (hS : S = t32 s) : u32 S = fwdT s x0 x1 x2 x3 x4 x5 := by
  subst hS; exact untile_tile (F := F) (e := .f32) s

theorem fwdS_of (S U : FVec F S8x128x128 .f32) (W K : FVec F S8x128x128 .bf16) (C : FVec F S8x128x128 .f32) (s x0 : Vec F S128x1024 .f32) (x1 x2 x3 x4 : Vec F S128x1024 .bf16) (x5 : Vec F S128x1024 .f32)
    (hS : S = t32 s) (hU : U = t32 x0) (hW : W = t16 x1) (hK : K = t16 x4) (hC : C = t32 x5) :
    u32 (k0_pay31 S (extf .f32 K bitsLt_bf16_f32) C (k0_pay27 S U (extf .f32 W bitsLt_bf16_f32))) = fwdS s x0 x1 x2 x3 x4 x5 := by
  subst hS hU hW hK hC; rfl

variable (c : Dev nD) (i : grid0.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole)

section
variable (hc : ¬cond0 i)

/-- What the stores of case B leave in `fwdO`'s buffer. -/
theorem read0B_fwdO
    (x0 : Vec F S128x1024 .f32) (x1 x2 x3 x4 : Vec F S128x1024 .bf16) (x5 s : Vec F S128x1024 .f32) (f : a6.view.ty.Contents (Elt F)) :
    a6.view.read (Elt F) (a6.view.writes (Elt F) f (run0B c i a0 h0 a1 h1 a2 h2 a3 h3 a4 h4 a5 h5 a6 h6 a7 h7 a8 h8 hc x0 x1 x2 x3 x4 x5 s).1) = fwdO s x0 x1 x2 x3 x4 x5 := by
  unfold run0B; dsimp only
  refine Eq.trans (put_cut _ f _ []) ?_
  refine fwdO_of _ _ _ _ _ s x0 x1 x2 x3 x4 x5 ?_ ?_ ?_ ?_ ?_
  · exact stack_ld a8 h8 s
  · exact stack_ld a0 h0 x0
  · exact stack_ld a1 h1 x1
  · exact stack_ld a2 h2 x2
  · exact stack_ld a3 h3 x3

/-- What the stores of case B leave in `fwdT`'s buffer. -/
theorem read0B_fwdT
    (x0 : Vec F S128x1024 .f32) (x1 x2 x3 x4 : Vec F S128x1024 .bf16) (x5 s : Vec F S128x1024 .f32) (f : a7.view.ty.Contents (Elt F)) :
    a7.view.read (Elt F) (a7.view.writes (Elt F) f (run0B c i a0 h0 a1 h1 a2 h2 a3 h3 a4 h4 a5 h5 a6 h6 a7 h7 a8 h8 hc x0 x1 x2 x3 x4 x5 s).2.1) = fwdT s x0 x1 x2 x3 x4 x5 := by
  unfold run0B; dsimp only
  refine Eq.trans (put_cut _ f _ []) ?_
  refine fwdT_of _ s x0 x1 x2 x3 x4 x5 ?_
  · exact stack_ld a8 h8 s

/-- What the stores of case B leave in `fwdS`'s buffer. -/
theorem read0B_fwdS
    (x0 : Vec F S128x1024 .f32) (x1 x2 x3 x4 : Vec F S128x1024 .bf16) (x5 s : Vec F S128x1024 .f32) (f : a8.view.ty.Contents (Elt F)) :
    a8.view.read (Elt F) (a8.view.writes (Elt F) f (run0B c i a0 h0 a1 h1 a2 h2 a3 h3 a4 h4 a5 h5 a6 h6 a7 h7 a8 h8 hc x0 x1 x2 x3 x4 x5 s).2.2.1) = fwdS s x0 x1 x2 x3 x4 x5 := by
  unfold run0B; dsimp only
  refine Eq.trans (put_self _ f _ []) ?_
  refine fwdS_of _ _ _ _ _ s x0 x1 x2 x3 x4 x5 ?_ ?_ ?_ ?_ ?_
  · exact stack_ld a8 h8 s
  · exact stack_ld a0 h0 x0
  · exact stack_ld a1 h1 x1
  · exact stack_ld a4 h4 x4
  · exact stack_ld a5 h5 x5

end

section
variable (hc : cond0 i)

/-- What the stores of case A leave in `fwdO`'s buffer. -/
theorem read0A_fwdO
    (x0 : Vec F S128x1024 .f32) (x1 x2 x3 x4 : Vec F S128x1024 .bf16) (x5 : Vec F S128x1024 .f32) (f : a6.view.ty.Contents (Elt F)) :
    a6.view.read (Elt F) (a6.view.writes (Elt F) f (run0A c i a0 h0 a1 h1 a2 h2 a3 h3 a4 h4 a5 h5 a6 h6 a7 h7 a8 h8 hc x0 x1 x2 x3 x4 x5).1) = fwdO k0_pay2 x0 x1 x2 x3 x4 x5 := by
  unfold run0A; dsimp only
  refine Eq.trans (put_cut _ f _ []) ?_
  refine fwdO_of _ _ _ _ _ k0_pay2 x0 x1 x2 x3 x4 x5 ?_ ?_ ?_ ?_ ?_
  · exact stack_cov a8 k0_pay2 _
  · exact stack_ld a0 h0 x0
  · exact stack_ld a1 h1 x1
  · exact stack_ld a2 h2 x2
  · exact stack_ld a3 h3 x3

/-- What the stores of case A leave in `fwdT`'s buffer. -/
theorem read0A_fwdT
    (x0 : Vec F S128x1024 .f32) (x1 x2 x3 x4 : Vec F S128x1024 .bf16) (x5 : Vec F S128x1024 .f32) (f : a7.view.ty.Contents (Elt F)) :
    a7.view.read (Elt F) (a7.view.writes (Elt F) f (run0A c i a0 h0 a1 h1 a2 h2 a3 h3 a4 h4 a5 h5 a6 h6 a7 h7 a8 h8 hc x0 x1 x2 x3 x4 x5).2.1) = fwdT k0_pay2 x0 x1 x2 x3 x4 x5 := by
  unfold run0A; dsimp only
  refine Eq.trans (put_cut _ f _ []) ?_
  refine fwdT_of _ k0_pay2 x0 x1 x2 x3 x4 x5 ?_
  · exact stack_cov a8 k0_pay2 _

/-- What the stores of case A leave in `fwdS`'s buffer. -/
theorem read0A_fwdS
    (x0 : Vec F S128x1024 .f32) (x1 x2 x3 x4 : Vec F S128x1024 .bf16) (x5 : Vec F S128x1024 .f32) (f : a8.view.ty.Contents (Elt F)) :
    a8.view.read (Elt F) (a8.view.writes (Elt F) f (run0A c i a0 h0 a1 h1 a2 h2 a3 h3 a4 h4 a5 h5 a6 h6 a7 h7 a8 h8 hc x0 x1 x2 x3 x4 x5).2.2.1) = fwdS k0_pay2 x0 x1 x2 x3 x4 x5 := by
  unfold run0A; dsimp only
  refine Eq.trans (put_self _ f _ run0A.sl.HS_1) ?_
  refine fwdS_of _ _ _ _ _ k0_pay2 x0 x1 x2 x3 x4 x5 ?_ ?_ ?_ ?_ ?_
  · exact stack_cov a8 k0_pay2 _
  · exact stack_ld a0 h0 x0
  · exact stack_ld a1 h1 x1
  · exact stack_ld a4 h4 x4
  · exact stack_ld a5 h5 x5

end

end Cert.KernelIdeal.Scan

end
-- ==== Proof.DataFwd.lean ====
/- The forward scan at every point of its grid: what it holds between points, and its obligation to the pipeline. -/
module

public import proofs.«01_k».proof.Proof.BodyFwd
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole)

/-- The body of the forward scan, at the first point: whatever the carried block held, it is taken as zero. -/
theorem body0A (hc : cond0 i)
    (x0 : Vec F S128x1024 .f32) (x1 x2 x3 x4 : Vec F S128x1024 .bf16) (x5 : Vec F S128x1024 .f32) (E : Set ℕ) (K : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ d, owns c.tc a6 fullShare d) ∗ (∃ d, owns c.tc a7 fullShare d) ∗ (∃ d, owns c.tc a8 fullShare d)
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare (fwdO k0_pay2 x0 x1 x2 x3 x4 x5) ∗ owns c.tc a7 fullShare (fwdT k0_pay2 x0 x1 x2 x3 x4 x5) ∗ owns c.tc a8 fullShare (fwdS k0_pay2 x0 x1 x2 x3 x4 x5)) -∗ K ⟨⟩))
      ⊢ wp frame (wpE (defs₀ (F := F)) Variants.none c none) E (cc0_gdn_scan_fwd i a0 h0 a1 h1 a2 h2 a3 h3 a4 h4 a5 h5 a6 h6 a7 h7 a8 h8) K := by
  refine BIBase.Entails.trans ?_ ((run0A c i a0 h0 a1 h1 a2 h2 a3 h3 a4 h4 a5 h5 a6 h6 a7 h7 a8 h8 hc x0 x1 x2 x3 x4 x5).2.2.2 E K)
  iintro ⟨H0, H1, H2, H3, H4, H5, H6, H7, HS, Hk⟩
  iframe H0 H1 H2 H3 H4 H5 H6 H7 HS
  iintro ⟨H0, H1, H2, H3, H4, H5, ⟨%e6, H6⟩, ⟨%e7, H7⟩, ⟨%es, HS⟩⟩
  iapply Hk
  iframe H0 H1 H2 H3 H4 H5
  isplitl [H6]
  · unfold owns; iexists _; isplitr
    swap; · iexact H6
    ipureintro; exact read0A_fwdO ..
  isplitl [H7]
  · unfold owns; iexists _; isplitr
    swap; · iexact H7
    ipureintro; exact read0A_fwdT ..
  unfold owns; iexists _; isplitr
  swap; · iexact HS
  ipureintro; exact read0A_fwdS ..

/-- The body of the forward scan, at a later point, from the carried block `s`. -/
theorem body0B (hc : ¬cond0 i)
    (x0 : Vec F S128x1024 .f32) (x1 x2 x3 x4 : Vec F S128x1024 .bf16) (x5 s : Vec F S128x1024 .f32) (E : Set ℕ) (K : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ (∃ d, owns c.tc a6 fullShare d) ∗ (∃ d, owns c.tc a7 fullShare d) ∗ owns c.tc a8 fullShare s
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare (fwdO s x0 x1 x2 x3 x4 x5) ∗ owns c.tc a7 fullShare (fwdT s x0 x1 x2 x3 x4 x5) ∗ owns c.tc a8 fullShare (fwdS s x0 x1 x2 x3 x4 x5)) -∗ K ⟨⟩))
      ⊢ wp frame (wpE (defs₀ (F := F)) Variants.none c none) E (cc0_gdn_scan_fwd i a0 h0 a1 h1 a2 h2 a3 h3 a4 h4 a5 h5 a6 h6 a7 h7 a8 h8) K := by
  refine BIBase.Entails.trans ?_ ((run0B c i a0 h0 a1 h1 a2 h2 a3 h3 a4 h4 a5 h5 a6 h6 a7 h7 a8 h8 hc x0 x1 x2 x3 x4 x5 s).2.2.2 E K)
  iintro ⟨H0, H1, H2, H3, H4, H5, H6, H7, HS, Hk⟩
  iframe H0 H1 H2 H3 H4 H5 H6 H7 HS
  iintro ⟨H0, H1, H2, H3, H4, H5, ⟨%e6, H6⟩, ⟨%e7, H7⟩, ⟨%es, HS⟩⟩
  iapply Hk
  iframe H0 H1 H2 H3 H4 H5
  isplitl [H6]
  · unfold owns; iexists _; isplitr
    swap; · iexact H6
    ipureintro; exact read0B_fwdO ..
  isplitl [H7]
  · unfold owns; iexists _; isplitr
    swap; · iexact H7
    ipureintro; exact read0B_fwdT ..
  unfold owns; iexists _; isplitr
  swap; · iexact HS
  ipureintro; exact read0B_fwdS ..

end

section Regions
variable (V : (c : Dev nD) → (b : Ref sig .tc) → Buf (Elt F) ((c : Thread nD τ).loc b))

/-! ## The forward scan: its blocks, its carried block and its proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the forward scan carries before point `n`: zero, then what each point leaves. -/
def car0 (c : Dev nD) : ℕ → Vec F S128x1024 .f32
  | 0 => k0_pay2
  | n + 1 => if h : n < cfg0.N then fwdS (car0 c n) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) else car0 c n

theorem car0_succ (c : Dev nD) (t : Fin cfg0.N) : car0 V c (t.val + 1) = fwdS (car0 V c t.val) (iblk0 V c 0 t) (iblk0 V c 1 t) (iblk0 V c 2 t) (iblk0 V c 3 t) (iblk0 V c 4 t) (iblk0 V c 5 t) := by
  rw [car0, dif_pos t.isLt]

/-- The carried block's memref. -/
abbrev scM0 : Memref sig .tc .vmem S128x1024 .f32 := Memref.whole cc0_scratch0

/-- What the forward scan holds between points: the carried block, the rest of the scratch and the generator register. -/
def phi0 (c : Dev nD) (n : ℕ) : sProp 𝕄 :=
  iprop((if n = 0 then iprop(∃ d, owns c.tc scM0 fullShare d) else owns c.tc scM0 fullShare (car0 V c n))
    ∗ Pipeline.scopedRestBut spec0 c [cc0_scratch0] ∗ ∃ r, prngReg c r)

/-- The scratch buffers at anything are the carried block's at anything beside the others. -/
theorem rest0_eq (c : Dev nD) :
    (Pipeline.scopedRest spec0 c : sProp 𝕄) = iprop((∃ d, owns c.tc scM0 fullShare d) ∗ Pipeline.scopedRestBut spec0 c [cc0_scratch0]) := by
  rw [Pipeline.scopedRest_split_of_list spec0 c [cc0_scratch0] (by decide) (by decide)]
  simp only [scM0, owns_whole]; rfl

/-- The region's data: the arrays as found; after point `t` each input's buffer at its block and each output's in closed form. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => fwdO (car0 V c t.val) (iblk0 V c 0 t) (iblk0 V c 1 t) (iblk0 V c 2 t) (iblk0 V c 3 t) (iblk0 V c 4 t) (iblk0 V c 5 t)
    | ⟨7, _⟩ => fwdT (car0 V c t.val) (iblk0 V c 0 t) (iblk0 V c 1 t) (iblk0 V c 2 t) (iblk0 V c 3 t) (iblk0 V c 4 t) (iblk0 V c 5 t)
  Φ t := phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = fwdO (car0 V c t.val) (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = fwdT (car0 V c t.val) (iblk0 V c 0 t) (iblk0 V c 1 t) (iblk0 V c 2 t) (iblk0 V c 3 t) (iblk0 V c 4 t) (iblk0 V c 5 t) := by dsimp only [dat0]

/-- Input 0's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input 1's staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input 2's staging buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input 3's staging buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input 4's staging buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input 5's staging buffer holds its block at every point. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns c.tc (st0_0 t) fullShare ((dat0 V c).before 0 t d))
    ∗ (∃ d, owns c.tc (st0_1 t) fullShare ((dat0 V c).before 1 t d))
    ∗ (∃ d, owns c.tc (st0_2 t) fullShare ((dat0 V c).before 2 t d))
    ∗ (∃ d, owns c.tc (st0_3 t) fullShare ((dat0 V c).before 3 t d))
    ∗ (∃ d, owns c.tc (st0_4 t) fullShare ((dat0 V c).before 4 t d))
    ∗ (∃ d, owns c.tc (st0_5 t) fullShare ((dat0 V c).before 5 t d))
    ∗ (∃ d, owns c.tc (st0_6 t) fullShare ((dat0 V c).before 6 t d))
    ∗ (∃ d, owns c.tc (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns c.tc (st0_0 t) fullShare ((dat0 V c).after 0 t)
    ∗ owns c.tc (st0_1 t) fullShare ((dat0 V c).after 1 t)
    ∗ owns c.tc (st0_2 t) fullShare ((dat0 V c).after 2 t)
    ∗ owns c.tc (st0_3 t) fullShare ((dat0 V c).after 3 t)
    ∗ owns c.tc (st0_4 t) fullShare ((dat0 V c).after 4 t)
    ∗ owns c.tc (st0_5 t) fullShare ((dat0 V c).after 5 t)
    ∗ owns c.tc (st0_6 t) fullShare ((dat0 V c).after 6 t)
    ∗ owns c.tc (st0_7 t) fullShare ((dat0 V c).after 7 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7,
    show (dat0 V c).Φ t.succ = phi0 V c (t.val + 1) from rfl, show (dat0 V c).Φ t.castSucc = phi0 V c t.val from rfl]
  unfold phi0
  rw [if_neg (Nat.succ_ne_zero t.val), car0_succ]
  by_cases hz : t.val = 0
  · rw [if_pos hz, show car0 V c t.val = k0_pay2 from by rw [hz]; rfl]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0A c (grid0.coords t) _ _ _ _ _ _ _ _ _ _ _ _ _ _ _ _ _ _ ((cond0_iff t).mpr hz) (iblk0 V c 0 t) (iblk0 V c 1 t) (iblk0 V c 2 t) (iblk0 V c 3 t) (iblk0 V c 4 t) (iblk0 V c 5 t) Set.univ _)
    iframe H0 H1 H2 H3 H4 H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    iframe Ho H0 H1 H2 H3 H4 H5 H6
    iexact H7
  · rw [if_neg hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body0B c (grid0.coords t) _ _ _ _ _ _ _ _ _ _ _ _ _ _ _ _ _ _ (fun h => hz ((cond0_iff t).mp h)) (iblk0 V c 0 t) (iblk0 V c 1 t) (iblk0 V c 2 t) (iblk0 V c 3 t) (iblk0 V c 4 t) (iblk0 V c 5 t) (car0 V c t.val) Set.univ _)
    iframe H0 H1 H2 H3 H4 H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    iframe Ho H0 H1 H2 H3 H4 H5 H6
    iexact H7

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The region enters with its scratch at anything, -/
theorem hin0 (c : Dev nD) : Pipeline.scopedRest spec0 c ⊢ iprop((∃ r, prngReg c r) -∗ phi0 V c 0) := by
  unfold phi0; rw [if_pos rfl, rest0_eq]
  iintro ⟨HS, HR⟩ Hg
  isplitl [HS]; · iexact HS
  isplitl [HR]; · iexact HR
  iexact Hg

/-- and leaves it so. -/
theorem hout0 (c : Dev nD) (n : ℕ) (hn : n ≠ 0) : phi0 V c n ⊢ iprop(Pipeline.scopedRest spec0 c ∗ ∃ r, prngReg c r) := by
  unfold phi0; rw [if_neg hn, rest0_eq]
  iintro ⟨HS, HR, Hg⟩
  isplitl [HS HR]
  · isplitl [HS]; · iexists _; iexact HS
    iexact HR
  iexact Hg

end Regions

end Cert.KernelIdeal.Scan

end
-- ==== Proof.RunBwd.lean ====
/- The body of the backward scan, run at one grid point. -/
module

public import proofs.«01_k».proof.Proof.RunFwd

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .bf16) (h9 : a9.IsWhole) (a10 : Memref sig .tc .vmem S128x1024 .bf16) (h10 : a10.IsWhole) (a11 : Memref sig .tc .vmem S128x1024 .bf16) (h11 : a11.IsWhole) (a12 : Memref sig .tc .vmem S128x1024 .bf16) (h12 : a12.IsWhole) (a13 : Memref sig .tc .vmem S128x1024 .f32) (h13 : a13.IsWhole) (a14 : Memref sig .tc .vmem S128x1024 .f32) (h14 : a14.IsWhole)

set_option maxHeartbeats 1000000 in
/-- The pieces the body of the backward scan leaves in each output's memref and in the carried state's, at the first point, where the state is cleared, with the proof that it runs from the inputs' blocks `x·` to them. -/
noncomputable def run1A (hc : cond1 i)
    (x0 : Vec F S128x1024 .f32) (x1 x2 x3 x4 : Vec F S128x1024 .bf16) (x5 x6 x7 : Vec F S128x1024 .f32) :
    Σ' (L8 : List (View.Piece (Elt F) S128x1024 .f32)), Σ' (L9 : List (View.Piece (Elt F) S128x1024 .bf16)), Σ' (L10 : List (View.Piece (Elt F) S128x1024 .bf16)), Σ' (L11 : List (View.Piece (Elt F) S128x1024 .bf16)), Σ' (L12 : List (View.Piece (Elt F) S128x1024 .bf16)), Σ' (L13 : List (View.Piece (Elt F) S128x1024 .f32)), { LS : List (View.Piece (Elt F) S128x1024 .f32) //
      ∀ (E : Set ℕ) (K : PUnit → sProp 𝕄),
        iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ d, owns c.tc a8 fullShare d) ∗ (∃ d, owns c.tc a9 fullShare d) ∗ (∃ d, owns c.tc a10 fullShare d) ∗ (∃ d, owns c.tc a11 fullShare d) ∗ (∃ d, owns c.tc a12 fullShare d) ∗ (∃ d, owns c.tc a13 fullShare d) ∗ (∃ d, owns c.tc a14 fullShare d)
            ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f LS)) -∗ K ⟨⟩))
          ⊢ wp frame (wpE (defs₀ (F := F)) Variants.none c none) E (cc1_gdn_scan_bwd i a0 h0 a1 h1 a2 h2 a3 h3 a4 h4 a5 h5 a6 h6 a7 h7 a8 h8 a9 h9 a10 h10 a11 h11 a12 h12 a13 h13 a14 h14) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

set_option maxHeartbeats 1000000 in
/-- The pieces the body of the backward scan leaves in each output's memref and in the carried state's, at a later point, where the state holds `s`, with the proof that it runs from the inputs' blocks `x·` to them. -/
noncomputable def run1B (hc : ¬cond1 i)
    (x0 : Vec F S128x1024 .f32) (x1 x2 x3 x4 : Vec F S128x1024 .bf16) (x5 x6 x7 s : Vec F S128x1024 .f32) :
    Σ' (L8 : List (View.Piece (Elt F) S128x1024 .f32)), Σ' (L9 : List (View.Piece (Elt F) S128x1024 .bf16)), Σ' (L10 : List (View.Piece (Elt F) S128x1024 .bf16)), Σ' (L11 : List (View.Piece (Elt F) S128x1024 .bf16)), Σ' (L12 : List (View.Piece (Elt F) S128x1024 .bf16)), Σ' (L13 : List (View.Piece (Elt F) S128x1024 .f32)), { LS : List (View.Piece (Elt F) S128x1024 .f32) //
      ∀ (E : Set ℕ) (K : PUnit → sProp 𝕄),
        iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ d, owns c.tc a8 fullShare d) ∗ (∃ d, owns c.tc a9 fullShare d) ∗ (∃ d, owns c.tc a10 fullShare d) ∗ (∃ d, owns c.tc a11 fullShare d) ∗ (∃ d, owns c.tc a12 fullShare d) ∗ (∃ d, owns c.tc a13 fullShare d) ∗ owns c.tc a14 fullShare s
            ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f LS)) -∗ K ⟨⟩))
          ⊢ wp frame (wpE (defs₀ (F := F)) Variants.none c none) E (cc1_gdn_scan_bwd i a0 h0 a1 h1 a2 h2 a3 h3 a4 h4 a5 h5 a6 h6 a7 h7 a8 h8 a9 h9 a10 h10 a11 h11 a12 h12 a13 h13 a14 h14) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.KernelIdeal.Scan

end
-- ==== Proof.BodyBwd.lean ====
/- What the body of the backward scan leaves, in closed form over the input blocks and the block of the carried state's gradient. -/
module

public import proofs.«01_k».proof.Proof.RunBwd
public import proofs.«01_k».proof.Proof.BodyFwd

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero the backward scan subtracts from. -/
abbrev czero : F .f32 := Scalar.ofBits .f32 0x00000000#32

/-- The gradient of a chunk's `v_new`, of the outputs' gradient `G` and the carried state's `D`. -/
def gV (K T G D : FVec F S8x128x128 .f32) : FVec F S8x128x128 .f32 :=
  addf (extf .f32 (truncf .bf16 (transpose S8x128x128 [0, 2, 1] (matmul dot_S8x128x128_S8x128x128_S8x128x128_1_2_2_1_0_0 none D (k1_pay29 T) (constant S8x128x128 .f32 0x00000000#32)) transposes_S8x128x128_p0_2_1_S8x128x128) bitsLt_bf16_f32) bitsLt_bf16_f32)
    (extf .f32 (truncf .bf16 (transpose S8x128x128 [0, 2, 1] (matmul dot_S8x128x128_S8x128x128_S8x128x128_1_1_2_2_0_0 none G (k1_pay27 K) (constant S8x128x128 .f32 0x00000000#32)) transposes_S8x128x128_p0_2_1_S8x128x128) bitsLt_bf16_f32) bitsLt_bf16_f32)

/-- The gradient of a chunk's `kt`. -/
def gT (S U W D : FVec F S8x128x128 .f32) : FVec F S8x128x128 .f32 :=
  extf .f32 (truncf .bf16 (transpose S8x128x128 [0, 2, 1] (matmul dot_S8x128x128_S8x128x128_S8x128x128_2_2_1_1_0_0 none D (k1_pay30 S U W) (constant S8x128x128 .f32 0x00000000#32)) transposes_S8x128x128_p0_2_1_S8x128x128) bitsLt_bf16_f32) bitsLt_bf16_f32

/-- The part of the carried state's gradient that goes through the decay and the queries. -/
def gA (Q C G D : FVec F S8x128x128 .f32) : FVec F S8x128x128 .f32 :=
  addf (mulf D C) (extf .f32 (truncf .bf16 (transpose S8x128x128 [0, 2, 1] (matmul dot_S8x128x128_S8x128x128_S8x128x128_1_1_2_2_0_0 none G (k1_pay25 Q) (constant S8x128x128 .f32 0x00000000#32)) transposes_S8x128x128_p0_2_1_S8x128x128) bitsLt_bf16_f32) bitsLt_bf16_f32)

/-- The carried state's gradient before the chunk. -/
def gS (W K Q T C G D : FVec F S8x128x128 .f32) : FVec F S8x128x128 .f32 := k1_pay40 (k1_pay22 W) (gV K T G D) (gA Q C G D) czero

/-- The gradient of a chunk's `w`. -/
def gW (S K T G D : FVec F S8x128x128 .f32) : FVec F S8x128x128 .f32 := k1_pay41 (k1_pay23 S) (gV K T G D) czero

/-- The gradient of the chunk's `u`. -/
def bwdU (d _x0 : Vec F S128x1024 .f32) (_x1 x2 _x3 x4 : Vec F S128x1024 .bf16) (_x5 _x6 x7 : Vec F S128x1024 .f32) : Vec F S128x1024 .f32 :=
  u32 (gV (wide x2) (wide x4) (t32 x7) (t32 d))

theorem bwdU_of (K T : FVec F S8x128x128 .bf16) (G D : FVec F S8x128x128 .f32) (d x0 : Vec F S128x1024 .f32) (x1 x2 x3 x4 : Vec F S128x1024 .bf16) (x5 x6 x7 : Vec F S128x1024 .f32)
    (hK : K = t16 x2) (hT : T = t16 x4) (hG : G = t32 x7) (hD : D = t32 d) :
    u32 (gV (extf .f32 K bitsLt_bf16_f32) (extf .f32 T bitsLt_bf16_f32) G D) = bwdU d x0 x1 x2 x3 x4 x5 x6 x7 := by
  subst hK hT hG hD; rfl

/-- The gradient of the chunk's `w`. -/
def bwdW (d _x0 : Vec F S128x1024 .f32) (_x1 x2 _x3 x4 : Vec F S128x1024 .bf16) (_x5 x6 x7 : Vec F S128x1024 .f32) : Vec F S128x1024 .bf16 :=
  u16 (truncf .bf16 (gW (t32 x6) (wide x2) (wide x4) (t32 x7) (t32 d)) bitsLt_bf16_f32)

theorem bwdW_of (S : FVec F S8x128x128 .f32) (K T : FVec F S8x128x128 .bf16) (G D : FVec F S8x128x128 .f32) (d x0 : Vec F S128x1024 .f32) (x1 x2 x3 x4 : Vec F S128x1024 .bf16) (x5 x6 x7 : Vec F S128x1024 .f32)
    (hS : S = t32 x6) (hK : K = t16 x2) (hT : T = t16 x4) (hG : G = t32 x7) (hD : D = t32 d) :
    u16 (truncf .bf16 (gW S (extf .f32 K bitsLt_bf16_f32) (extf .f32 T bitsLt_bf16_f32) G D) bitsLt_bf16_f32) = bwdW d x0 x1 x2 x3 x4 x5 x6 x7 := by
  subst hS hK hT hG hD; rfl

/-- The gradient of the chunk's `qk`. -/
def bwdK (_d x0 : Vec F S128x1024 .f32) (x1 _x2 _x3 _x4 : Vec F S128x1024 .bf16) (_x5 x6 x7 : Vec F S128x1024 .f32) : Vec F S128x1024 .bf16 :=
  u16 (truncf .bf16 (k1_pay36 (k1_pay28 (t32 x6) (t32 x0) (wide x1)) (t32 x7)) bitsLt_bf16_f32)

theorem bwdK_of (S U : FVec F S8x128x128 .f32) (W : FVec F S8x128x128 .bf16) (G : FVec F S8x128x128 .f32) (d x0 : Vec F S128x1024 .f32) (x1 x2 x3 x4 : Vec F S128x1024 .bf16) (x5 x6 x7 : Vec F S128x1024 .f32)
    (hS : S = t32 x6) (hU : U = t32 x0) (hW : W = t16 x1) (hG : G = t32 x7) :
    u16 (truncf .bf16 (k1_pay36 (k1_pay28 S U (extf .f32 W bitsLt_bf16_f32)) G) bitsLt_bf16_f32) = bwdK d x0 x1 x2 x3 x4 x5 x6 x7 := by
  subst hS hU hW hG; rfl

/-- The gradient of the chunk's `qd`. -/
def bwdQ (_d _x0 : Vec F S128x1024 .f32) (_x1 _x2 _x3 _x4 : Vec F S128x1024 .bf16) (_x5 x6 x7 : Vec F S128x1024 .f32) : Vec F S128x1024 .bf16 :=
  u16 (truncf .bf16 (k1_pay38 (k1_pay26 (t32 x6)) (t32 x7)) bitsLt_bf16_f32)

theorem bwdQ_of (S G : FVec F S8x128x128 .f32) (d x0 : Vec F S128x1024 .f32) (x1 x2 x3 x4 : Vec F S128x1024 .bf16) (x5 x6 x7 : Vec F S128x1024 .f32)
    (hS : S = t32 x6) (hG : G = t32 x7) :
    u16 (truncf .bf16 (k1_pay38 (k1_pay26 S) G) bitsLt_bf16_f32) = bwdQ d x0 x1 x2 x3 x4 x5 x6 x7 := by
  subst hS hG; rfl

/-- The gradient of the chunk's `kt`. -/
def bwdT (d x0 : Vec F S128x1024 .f32) (x1 _x2 _x3 _x4 : Vec F S128x1024 .bf16) (_x5 x6 _x7 : Vec F S128x1024 .f32) : Vec F S128x1024 .bf16 :=
  u16 (truncf .bf16 (gT (t32 x6) (t32 x0) (wide x1) (t32 d)) bitsLt_bf16_f32)

theorem bwdT_of (S U : FVec F S8x128x128 .f32) (W : FVec F S8x128x128 .bf16) (D : FVec F S8x128x128 .f32) (d x0 : Vec F S128x1024 .f32) (x1 x2 x3 x4 : Vec F S128x1024 .bf16) (x5 x6 x7 : Vec F S128x1024 .f32)
    (hS : S = t32 x6) (hU : U = t32 x0) (hW : W = t16 x1) (hD : D = t32 d) :
    u16 (truncf .bf16 (gT S U (extf .f32 W bitsLt_bf16_f32) D) bitsLt_bf16_f32) = bwdT d x0 x1 x2 x3 x4 x5 x6 x7 := by
  subst hS hU hW hD; rfl

/-- The gradient of the chunk's decay. -/
def bwdC (d _x0 : Vec F S128x1024 .f32) (_x1 _x2 _x3 _x4 : Vec F S128x1024 .bf16) (_x5 x6 _x7 : Vec F S128x1024 .f32) : Vec F S128x1024 .f32 :=
  u32 (mulf (t32 x6) (t32 d))

theorem bwdC_of (S D : FVec F S8x128x128 .f32) (d x0 : Vec F S128x1024 .f32) (x1 x2 x3 x4 : Vec F S128x1024 .bf16) (x5 x6 x7 : Vec F S128x1024 .f32)
    (hS : S = t32 x6) (hD : D = t32 d) :
    u32 (mulf S D) = bwdC d x0 x1 x2 x3 x4 x5 x6 x7 := by
  subst hS hD; rfl

/-- The carried state's gradient before the chunk. -/
def bwdD (d _x0 : Vec F S128x1024 .f32) (x1 x2 x3 x4 : Vec F S128x1024 .bf16) (x5 _x6 x7 : Vec F S128x1024 .f32) : Vec F S128x1024 .f32 :=
  u32 (gS (wide x1) (wide x2) (wide x3) (wide x4) (t32 x5) (t32 x7) (t32 d))

theorem bwdD_of (W K Q T : FVec F S8x128x128 .bf16) (C G D : FVec F S8x128x128 .f32) (d x0 : Vec F S128x1024 .f32) (x1 x2 x3 x4 : Vec F S128x1024 .bf16) (x5 x6 x7 : Vec F S128x1024 .f32)
    (hW : W = t16 x1) (hK : K = t16 x2) (hQ : Q = t16 x3) (hT : T = t16 x4) (hC : C = t32 x5) (hG : G = t32 x7) (hD : D = t32 d) :
    u32 (gS (extf .f32 W bitsLt_bf16_f32) (extf .f32 K bitsLt_bf16_f32) (extf .f32 Q bitsLt_bf16_f32) (extf .f32 T bitsLt_bf16_f32) C G D) = bwdD d x0 x1 x2 x3 x4 x5 x6 x7 := by
  subst hW hK hQ hT hC hG hD; rfl

variable (c : Dev nD) (i : grid1.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .bf16) (h9 : a9.IsWhole) (a10 : Memref sig .tc .vmem S128x1024 .bf16) (h10 : a10.IsWhole) (a11 : Memref sig .tc .vmem S128x1024 .bf16) (h11 : a11.IsWhole) (a12 : Memref sig .tc .vmem S128x1024 .bf16) (h12 : a12.IsWhole) (a13 : Memref sig .tc .vmem S128x1024 .f32) (h13 : a13.IsWhole) (a14 : Memref sig .tc .vmem S128x1024 .f32) (h14 : a14.IsWhole)

section
variable (hc : ¬cond1 i)

/-- What the stores of case B leave in `bwdU`'s buffer. -/
theorem read1B_bwdU
    (x0 : Vec F S128x1024 .f32) (x1 x2 x3 x4 : Vec F S128x1024 .bf16) (x5 x6 x7 s : Vec F S128x1024 .f32) (f : a8.view.ty.Contents (Elt F)) :
    a8.view.read (Elt F) (a8.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).1) = bwdU s x0 x1 x2 x3 x4 x5 x6 x7 := by
  unfold run1B; dsimp only
  refine Eq.trans (put_cut _ f _ []) ?_
  refine bwdU_of _ _ _ _ s x0 x1 x2 x3 x4 x5 x6 x7 ?_ ?_ ?_ ?_
  · exact stack_ld a2 h2 x2
  · exact stack_ld a4 h4 x4
  · exact stack_ld a7 h7 x7
  · exact stack_ld a14 h14 s

/-- What the stores of case B leave in `bwdW`'s buffer. -/
theorem read1B_bwdW
    (x0 : Vec F S128x1024 .f32) (x1 x2 x3 x4 : Vec F S128x1024 .bf16) (x5 x6 x7 s : Vec F S128x1024 .f32) (f : a9.view.ty.Contents (Elt F)) :
    a9.view.read (Elt F) (a9.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.1) = bwdW s x0 x1 x2 x3 x4 x5 x6 x7 := by
  unfold run1B; dsimp only
  refine Eq.trans (put_half _ f _ []) ?_
  refine bwdW_of _ _ _ _ _ s x0 x1 x2 x3 x4 x5 x6 x7 ?_ ?_ ?_ ?_ ?_
  · exact stack_self a6 h6 x6 _
  · exact stack_ld a2 h2 x2
  · exact stack_ld a4 h4 x4
  · exact stack_ld a7 h7 x7
  · exact stack_ld a14 h14 s

/-- What the stores of case B leave in `bwdK`'s buffer. -/
theorem read1B_bwdK
    (x0 : Vec F S128x1024 .f32) (x1 x2 x3 x4 : Vec F S128x1024 .bf16) (x5 x6 x7 s : Vec F S128x1024 .f32) (f : a10.view.ty.Contents (Elt F)) :
    a10.view.read (Elt F) (a10.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.1) = bwdK s x0 x1 x2 x3 x4 x5 x6 x7 := by
  unfold run1B; dsimp only
  refine Eq.trans (put_half _ f _ []) ?_
  refine bwdK_of _ _ _ _ s x0 x1 x2 x3 x4 x5 x6 x7 ?_ ?_ ?_ ?_
  · exact stack_self a6 h6 x6 _
  · exact stack_ld a0 h0 x0
  · exact stack_ld a1 h1 x1
  · exact stack_ld a7 h7 x7

/-- What the stores of case B leave in `bwdQ`'s buffer. -/
theorem read1B_bwdQ
    (x0 : Vec F S128x1024 .f32) (x1 x2 x3 x4 : Vec F S128x1024 .bf16) (x5 x6 x7 s : Vec F S128x1024 .f32) (f : a11.view.ty.Contents (Elt F)) :
    a11.view.read (Elt F) (a11.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.2.1) = bwdQ s x0 x1 x2 x3 x4 x5 x6 x7 := by
  unfold run1B; dsimp only
  refine Eq.trans (put_half _ f _ []) ?_
  refine bwdQ_of _ _ s x0 x1 x2 x3 x4 x5 x6 x7 ?_ ?_
  · exact stack_self a6 h6 x6 _
  · exact stack_ld a7 h7 x7

/-- What the stores of case B leave in `bwdT`'s buffer. -/
theorem read1B_bwdT
    (x0 : Vec F S128x1024 .f32) (x1 x2 x3 x4 : Vec F S128x1024 .bf16) (x5 x6 x7 s : Vec F S128x1024 .f32) (f : a12.view.ty.Contents (Elt F)) :
    a12.view.read (Elt F) (a12.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.2.2.1) = bwdT s x0 x1 x2 x3 x4 x5 x6 x7 := by
  unfold run1B; dsimp only
  refine Eq.trans (put_half _ f _ []) ?_
  refine bwdT_of _ _ _ _ s x0 x1 x2 x3 x4 x5 x6 x7 ?_ ?_ ?_ ?_
  · exact stack_self a6 h6 x6 _
  · exact stack_ld a0 h0 x0
  · exact stack_ld a1 h1 x1
  · exact stack_ld a14 h14 s

/-- What the stores of case B leave in `bwdC`'s buffer. -/
theorem read1B_bwdC
    (x0 : Vec F S128x1024 .f32) (x1 x2 x3 x4 : Vec F S128x1024 .bf16) (x5 x6 x7 s : Vec F S128x1024 .f32) (f : a13.view.ty.Contents (Elt F)) :
    a13.view.read (Elt F) (a13.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.2.2.2.1) = bwdC s x0 x1 x2 x3 x4 x5 x6 x7 := by
  unfold run1B; dsimp only
  refine Eq.trans (put_cut _ f _ []) ?_
  refine bwdC_of _ _ s x0 x1 x2 x3 x4 x5 x6 x7 ?_ ?_
  · exact stack_self a6 h6 x6 _
  · exact stack_ld a14 h14 s

/-- What the stores of case B leave in `bwdD`'s buffer. -/
theorem read1B_bwdD
    (x0 : Vec F S128x1024 .f32) (x1 x2 x3 x4 : Vec F S128x1024 .bf16) (x5 x6 x7 s : Vec F S128x1024 .f32) (f : a14.view.ty.Contents (Elt F)) :
    a14.view.read (Elt F) (a14.view.writes (Elt F) f (run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.2.2.2.2.1) = bwdD s x0 x1 x2 x3 x4 x5 x6 x7 := by
  unfold run1B; dsimp only
  refine Eq.trans (put_self _ f _ []) ?_
  refine bwdD_of _ _ _ _ _ _ _ s x0 x1 x2 x3 x4 x5 x6 x7 ?_ ?_ ?_ ?_ ?_ ?_ ?_
  · exact stack_ld a1 h1 x1
  · exact stack_ld a2 h2 x2
  · exact stack_ld a3 h3 x3
  · exact stack_ld a4 h4 x4
  · exact stack_ld a5 h5 x5
  · exact stack_ld a7 h7 x7
  · exact stack_ld a14 h14 s

end

section
variable (hc : cond1 i)

/-- What the stores of case A leave in `bwdU`'s buffer. -/
theorem read1A_bwdU
    (x0 : Vec F S128x1024 .f32) (x1 x2 x3 x4 : Vec F S128x1024 .bf16) (x5 x6 x7 : Vec F S128x1024 .f32) (f : a8.view.ty.Contents (Elt F)) :
    a8.view.read (Elt F) (a8.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).1) = bwdU k1_pay7 x0 x1 x2 x3 x4 x5 x6 x7 := by
  unfold run1A; dsimp only
  refine Eq.trans (put_cut _ f _ []) ?_
  refine bwdU_of _ _ _ _ k1_pay7 x0 x1 x2 x3 x4 x5 x6 x7 ?_ ?_ ?_ ?_
  · exact stack_ld a2 h2 x2
  · exact stack_ld a4 h4 x4
  · exact stack_ld a7 h7 x7
  · exact stack_cov a14 k1_pay7 _

/-- What the stores of case A leave in `bwdW`'s buffer. -/
theorem read1A_bwdW
    (x0 : Vec F S128x1024 .f32) (x1 x2 x3 x4 : Vec F S128x1024 .bf16) (x5 x6 x7 : Vec F S128x1024 .f32) (f : a9.view.ty.Contents (Elt F)) :
    a9.view.read (Elt F) (a9.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.1) = bwdW k1_pay7 x0 x1 x2 x3 x4 x5 x6 x7 := by
  unfold run1A; dsimp only
  refine Eq.trans (put_half _ f _ []) ?_
  refine bwdW_of _ _ _ _ _ k1_pay7 x0 x1 x2 x3 x4 x5 x6 x7 ?_ ?_ ?_ ?_ ?_
  · exact stack_self a6 h6 x6 _
  · exact stack_ld a2 h2 x2
  · exact stack_ld a4 h4 x4
  · exact stack_ld a7 h7 x7
  · exact stack_cov a14 k1_pay7 _

/-- What the stores of case A leave in `bwdK`'s buffer. -/
theorem read1A_bwdK
    (x0 : Vec F S128x1024 .f32) (x1 x2 x3 x4 : Vec F S128x1024 .bf16) (x5 x6 x7 : Vec F S128x1024 .f32) (f : a10.view.ty.Contents (Elt F)) :
    a10.view.read (Elt F) (a10.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.1) = bwdK k1_pay7 x0 x1 x2 x3 x4 x5 x6 x7 := by
  unfold run1A; dsimp only
  refine Eq.trans (put_half _ f _ []) ?_
  refine bwdK_of _ _ _ _ k1_pay7 x0 x1 x2 x3 x4 x5 x6 x7 ?_ ?_ ?_ ?_
  · exact stack_self a6 h6 x6 _
  · exact stack_ld a0 h0 x0
  · exact stack_ld a1 h1 x1
  · exact stack_ld a7 h7 x7

/-- What the stores of case A leave in `bwdQ`'s buffer. -/
theorem read1A_bwdQ
    (x0 : Vec F S128x1024 .f32) (x1 x2 x3 x4 : Vec F S128x1024 .bf16) (x5 x6 x7 : Vec F S128x1024 .f32) (f : a11.view.ty.Contents (Elt F)) :
    a11.view.read (Elt F) (a11.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.2.1) = bwdQ k1_pay7 x0 x1 x2 x3 x4 x5 x6 x7 := by
  unfold run1A; dsimp only
  refine Eq.trans (put_half _ f _ []) ?_
  refine bwdQ_of _ _ k1_pay7 x0 x1 x2 x3 x4 x5 x6 x7 ?_ ?_
  · exact stack_self a6 h6 x6 _
  · exact stack_ld a7 h7 x7

/-- What the stores of case A leave in `bwdT`'s buffer. -/
theorem read1A_bwdT
    (x0 : Vec F S128x1024 .f32) (x1 x2 x3 x4 : Vec F S128x1024 .bf16) (x5 x6 x7 : Vec F S128x1024 .f32) (f : a12.view.ty.Contents (Elt F)) :
    a12.view.read (Elt F) (a12.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.2.2.1) = bwdT k1_pay7 x0 x1 x2 x3 x4 x5 x6 x7 := by
  unfold run1A; dsimp only
  refine Eq.trans (put_half _ f _ []) ?_
  refine bwdT_of _ _ _ _ k1_pay7 x0 x1 x2 x3 x4 x5 x6 x7 ?_ ?_ ?_ ?_
  · exact stack_self a6 h6 x6 _
  · exact stack_ld a0 h0 x0
  · exact stack_ld a1 h1 x1
  · exact stack_cov a14 k1_pay7 _

/-- What the stores of case A leave in `bwdC`'s buffer. -/
theorem read1A_bwdC
    (x0 : Vec F S128x1024 .f32) (x1 x2 x3 x4 : Vec F S128x1024 .bf16) (x5 x6 x7 : Vec F S128x1024 .f32) (f : a13.view.ty.Contents (Elt F)) :
    a13.view.read (Elt F) (a13.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.2.2.2.1) = bwdC k1_pay7 x0 x1 x2 x3 x4 x5 x6 x7 := by
  unfold run1A; dsimp only
  refine Eq.trans (put_cut _ f _ []) ?_
  refine bwdC_of _ _ k1_pay7 x0 x1 x2 x3 x4 x5 x6 x7 ?_ ?_
  · exact stack_self a6 h6 x6 _
  · exact stack_cov a14 k1_pay7 _

/-- What the stores of case A leave in `bwdD`'s buffer. -/
theorem read1A_bwdD
    (x0 : Vec F S128x1024 .f32) (x1 x2 x3 x4 : Vec F S128x1024 .bf16) (x5 x6 x7 : Vec F S128x1024 .f32) (f : a14.view.ty.Contents (Elt F)) :
    a14.view.read (Elt F) (a14.view.writes (Elt F) f (run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.2.2.2.2.1) = bwdD k1_pay7 x0 x1 x2 x3 x4 x5 x6 x7 := by
  unfold run1A; dsimp only
  refine Eq.trans (put_self _ f _ run1A.sl.HS_1) ?_
  refine bwdD_of _ _ _ _ _ _ _ k1_pay7 x0 x1 x2 x3 x4 x5 x6 x7 ?_ ?_ ?_ ?_ ?_ ?_ ?_
  · exact stack_ld a1 h1 x1
  · exact stack_ld a2 h2 x2
  · exact stack_ld a3 h3 x3
  · exact stack_ld a4 h4 x4
  · exact stack_ld a5 h5 x5
  · exact stack_ld a7 h7 x7
  · exact stack_cov a14 k1_pay7 _

end

end Cert.KernelIdeal.Scan

end
-- ==== Proof.DataBwd.lean ====
/- The backward scan at every point of its grid: what it holds between points, and its obligation to the pipeline. -/
module

public import proofs.«01_k».proof.Proof.BodyBwd
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (a0 : Memref sig .tc .vmem S128x1024 .f32) (h0 : a0.IsWhole) (a1 : Memref sig .tc .vmem S128x1024 .bf16) (h1 : a1.IsWhole) (a2 : Memref sig .tc .vmem S128x1024 .bf16) (h2 : a2.IsWhole) (a3 : Memref sig .tc .vmem S128x1024 .bf16) (h3 : a3.IsWhole) (a4 : Memref sig .tc .vmem S128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .bf16) (h9 : a9.IsWhole) (a10 : Memref sig .tc .vmem S128x1024 .bf16) (h10 : a10.IsWhole) (a11 : Memref sig .tc .vmem S128x1024 .bf16) (h11 : a11.IsWhole) (a12 : Memref sig .tc .vmem S128x1024 .bf16) (h12 : a12.IsWhole) (a13 : Memref sig .tc .vmem S128x1024 .f32) (h13 : a13.IsWhole) (a14 : Memref sig .tc .vmem S128x1024 .f32) (h14 : a14.IsWhole)

/-- The body of the backward scan, at the first point: whatever the carried block held, it is taken as zero. -/
theorem body1A (hc : cond1 i)
    (x0 : Vec F S128x1024 .f32) (x1 x2 x3 x4 : Vec F S128x1024 .bf16) (x5 x6 x7 : Vec F S128x1024 .f32) (E : Set ℕ) (K : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ d, owns c.tc a8 fullShare d) ∗ (∃ d, owns c.tc a9 fullShare d) ∗ (∃ d, owns c.tc a10 fullShare d) ∗ (∃ d, owns c.tc a11 fullShare d) ∗ (∃ d, owns c.tc a12 fullShare d) ∗ (∃ d, owns c.tc a13 fullShare d) ∗ (∃ d, owns c.tc a14 fullShare d)
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare (bwdU k1_pay7 x0 x1 x2 x3 x4 x5 x6 x7) ∗ owns c.tc a9 fullShare (bwdW k1_pay7 x0 x1 x2 x3 x4 x5 x6 x7) ∗ owns c.tc a10 fullShare (bwdK k1_pay7 x0 x1 x2 x3 x4 x5 x6 x7) ∗ owns c.tc a11 fullShare (bwdQ k1_pay7 x0 x1 x2 x3 x4 x5 x6 x7) ∗ owns c.tc a12 fullShare (bwdT k1_pay7 x0 x1 x2 x3 x4 x5 x6 x7) ∗ owns c.tc a13 fullShare (bwdC k1_pay7 x0 x1 x2 x3 x4 x5 x6 x7) ∗ owns c.tc a14 fullShare (bwdD k1_pay7 x0 x1 x2 x3 x4 x5 x6 x7)) -∗ K ⟨⟩))
      ⊢ wp frame (wpE (defs₀ (F := F)) Variants.none c none) E (cc1_gdn_scan_bwd i a0 h0 a1 h1 a2 h2 a3 h3 a4 h4 a5 h5 a6 h6 a7 h7 a8 h8 a9 h9 a10 h10 a11 h11 a12 h12 a13 h13 a14 h14) K := by
  refine BIBase.Entails.trans ?_ ((run1A c i a0 h0 a1 h1 a2 h2 a3 h3 a4 h4 a5 h5 a6 h6 a7 h7 a8 h8 a9 h9 a10 h10 a11 h11 a12 h12 a13 h13 a14 h14 hc x0 x1 x2 x3 x4 x5 x6 x7).2.2.2.2.2.2.2 E K)
  iintro ⟨H0, H1, H2, H3, H4, H5, H6, H7, H8, H9, H10, H11, H12, H13, HS, Hk⟩
  iframe H0 H1 H2 H3 H4 H5 H6 H7 H8 H9 H10 H11 H12 H13 HS
  iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
  iapply Hk
  iframe H0 H1 H2 H3 H4 H5 H6 H7
  isplitl [H8]
  · unfold owns; iexists _; isplitr
    swap; · iexact H8
    ipureintro; exact read1A_bwdU ..
  isplitl [H9]
  · unfold owns; iexists _; isplitr
    swap; · iexact H9
    ipureintro; exact read1A_bwdW ..
  isplitl [H10]
  · unfold owns; iexists _; isplitr
    swap; · iexact H10
    ipureintro; exact read1A_bwdK ..
  isplitl [H11]
  · unfold owns; iexists _; isplitr
    swap; · iexact H11
    ipureintro; exact read1A_bwdQ ..
  isplitl [H12]
  · unfold owns; iexists _; isplitr
    swap; · iexact H12
    ipureintro; exact read1A_bwdT ..
  isplitl [H13]
  · unfold owns; iexists _; isplitr
    swap; · iexact H13
    ipureintro; exact read1A_bwdC ..
  unfold owns; iexists _; isplitr
  swap; · iexact HS
  ipureintro; exact read1A_bwdD ..

/-- The body of the backward scan, at a later point, from the carried block `s`. -/
theorem body1B (hc : ¬cond1 i)
    (x0 : Vec F S128x1024 .f32) (x1 x2 x3 x4 : Vec F S128x1024 .bf16) (x5 x6 x7 s : Vec F S128x1024 .f32) (E : Set ℕ) (K : PUnit → sProp 𝕄) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ (∃ d, owns c.tc a8 fullShare d) ∗ (∃ d, owns c.tc a9 fullShare d) ∗ (∃ d, owns c.tc a10 fullShare d) ∗ (∃ d, owns c.tc a11 fullShare d) ∗ (∃ d, owns c.tc a12 fullShare d) ∗ (∃ d, owns c.tc a13 fullShare d) ∗ owns c.tc a14 fullShare s
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare (bwdU s x0 x1 x2 x3 x4 x5 x6 x7) ∗ owns c.tc a9 fullShare (bwdW s x0 x1 x2 x3 x4 x5 x6 x7) ∗ owns c.tc a10 fullShare (bwdK s x0 x1 x2 x3 x4 x5 x6 x7) ∗ owns c.tc a11 fullShare (bwdQ s x0 x1 x2 x3 x4 x5 x6 x7) ∗ owns c.tc a12 fullShare (bwdT s x0 x1 x2 x3 x4 x5 x6 x7) ∗ owns c.tc a13 fullShare (bwdC s x0 x1 x2 x3 x4 x5 x6 x7) ∗ owns c.tc a14 fullShare (bwdD s x0 x1 x2 x3 x4 x5 x6 x7)) -∗ K ⟨⟩))
      ⊢ wp frame (wpE (defs₀ (F := F)) Variants.none c none) E (cc1_gdn_scan_bwd i a0 h0 a1 h1 a2 h2 a3 h3 a4 h4 a5 h5 a6 h6 a7 h7 a8 h8 a9 h9 a10 h10 a11 h11 a12 h12 a13 h13 a14 h14) K := by
  refine BIBase.Entails.trans ?_ ((run1B c i a0 h0 a1 h1 a2 h2 a3 h3 a4 h4 a5 h5 a6 h6 a7 h7 a8 h8 a9 h9 a10 h10 a11 h11 a12 h12 a13 h13 a14 h14 hc x0 x1 x2 x3 x4 x5 x6 x7 s).2.2.2.2.2.2.2 E K)
  iintro ⟨H0, H1, H2, H3, H4, H5, H6, H7, H8, H9, H10, H11, H12, H13, HS, Hk⟩
  iframe H0 H1 H2 H3 H4 H5 H6 H7 H8 H9 H10 H11 H12 H13 HS
  iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
  iapply Hk
  iframe H0 H1 H2 H3 H4 H5 H6 H7
  isplitl [H8]
  · unfold owns; iexists _; isplitr
    swap; · iexact H8
    ipureintro; exact read1B_bwdU ..
  isplitl [H9]
  · unfold owns; iexists _; isplitr
    swap; · iexact H9
    ipureintro; exact read1B_bwdW ..
  isplitl [H10]
  · unfold owns; iexists _; isplitr
    swap; · iexact H10
    ipureintro; exact read1B_bwdK ..
  isplitl [H11]
  · unfold owns; iexists _; isplitr
    swap; · iexact H11
    ipureintro; exact read1B_bwdQ ..
  isplitl [H12]
  · unfold owns; iexists _; isplitr
    swap; · iexact H12
    ipureintro; exact read1B_bwdT ..
  isplitl [H13]
  · unfold owns; iexists _; isplitr
    swap; · iexact H13
    ipureintro; exact read1B_bwdC ..
  unfold owns; iexists _; isplitr
  swap; · iexact HS
  ipureintro; exact read1B_bwdD ..

end

section Regions
variable (V : (c : Dev nD) → (b : Ref sig .tc) → Buf (Elt F) ((c : Thread nD τ).loc b))

/-! ## The backward scan: its blocks, its carried block and its proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block the backward scan carries before point `n`: zero, then what each point leaves. -/
def car1 (c : Dev nD) : ℕ → Vec F S128x1024 .f32
  | 0 => k1_pay7
  | n + 1 => if h : n < cfg1.N then bwdD (car1 c n) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩) (iblk1 V c 7 ⟨n, h⟩) else car1 c n

theorem car1_succ (c : Dev nD) (t : Fin cfg1.N) : car1 V c (t.val + 1) = bwdD (car1 V c t.val) (iblk1 V c 0 t) (iblk1 V c 1 t) (iblk1 V c 2 t) (iblk1 V c 3 t) (iblk1 V c 4 t) (iblk1 V c 5 t) (iblk1 V c 6 t) (iblk1 V c 7 t) := by
  rw [car1, dif_pos t.isLt]

/-- The carried block's memref. -/
abbrev scM1 : Memref sig .tc .vmem S128x1024 .f32 := Memref.whole cc1_scratch0

/-- What the backward scan holds between points: the carried block, the rest of the scratch and the generator register. -/
def phi1 (c : Dev nD) (n : ℕ) : sProp 𝕄 :=
  iprop((if n = 0 then iprop(∃ d, owns c.tc scM1 fullShare d) else owns c.tc scM1 fullShare (car1 V c n))
    ∗ Pipeline.scopedRestBut spec1 c [cc1_scratch0] ∗ ∃ r, prngReg c r)

/-- The scratch buffers at anything are the carried block's at anything beside the others. -/
theorem rest1_eq (c : Dev nD) :
    (Pipeline.scopedRest spec1 c : sProp 𝕄) = iprop((∃ d, owns c.tc scM1 fullShare d) ∗ Pipeline.scopedRestBut spec1 c [cc1_scratch0]) := by
  rw [Pipeline.scopedRest_split_of_list spec1 c [cc1_scratch0] (by decide) (by decide)]
  simp only [scM1, owns_whole]; rfl

/-- The region's data: the arrays as found; after point `t` each input's buffer at its block and each output's in closed form. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => bwdU (car1 V c t.val) (iblk1 V c 0 t) (iblk1 V c 1 t) (iblk1 V c 2 t) (iblk1 V c 3 t) (iblk1 V c 4 t) (iblk1 V c 5 t) (iblk1 V c 6 t) (iblk1 V c 7 t)
    | ⟨9, _⟩ => bwdW (car1 V c t.val) (iblk1 V c 0 t) (iblk1 V c 1 t) (iblk1 V c 2 t) (iblk1 V c 3 t) (iblk1 V c 4 t) (iblk1 V c 5 t) (iblk1 V c 6 t) (iblk1 V c 7 t)
    | ⟨10, _⟩ => bwdK (car1 V c t.val) (iblk1 V c 0 t) (iblk1 V c 1 t) (iblk1 V c 2 t) (iblk1 V c 3 t) (iblk1 V c 4 t) (iblk1 V c 5 t) (iblk1 V c 6 t) (iblk1 V c 7 t)
    | ⟨11, _⟩ => bwdQ (car1 V c t.val) (iblk1 V c 0 t) (iblk1 V c 1 t) (iblk1 V c 2 t) (iblk1 V c 3 t) (iblk1 V c 4 t) (iblk1 V c 5 t) (iblk1 V c 6 t) (iblk1 V c 7 t)
    | ⟨12, _⟩ => bwdT (car1 V c t.val) (iblk1 V c 0 t) (iblk1 V c 1 t) (iblk1 V c 2 t) (iblk1 V c 3 t) (iblk1 V c 4 t) (iblk1 V c 5 t) (iblk1 V c 6 t) (iblk1 V c 7 t)
    | ⟨13, _⟩ => bwdC (car1 V c t.val) (iblk1 V c 0 t) (iblk1 V c 1 t) (iblk1 V c 2 t) (iblk1 V c 3 t) (iblk1 V c 4 t) (iblk1 V c 5 t) (iblk1 V c 6 t) (iblk1 V c 7 t)
  Φ t := phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = bwdU (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = bwdW (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]
theorem after1_10 (c : Dev nD) (t : Fin cfg1.N) : (dat1 V c).after 10 t = bwdK (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]
theorem after1_11 (c : Dev nD) (t : Fin cfg1.N) : (dat1 V c).after 11 t = bwdQ (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]
theorem after1_12 (c : Dev nD) (t : Fin cfg1.N) : (dat1 V c).after 12 t = bwdT (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]
theorem after1_13 (c : Dev nD) (t : Fin cfg1.N) : (dat1 V c).after 13 t = bwdC (car1 V c t.val) (iblk1 V c 0 t) (iblk1 V c 1 t) (iblk1 V c 2 t) (iblk1 V c 3 t) (iblk1 V c 4 t) (iblk1 V c 5 t) (iblk1 V c 6 t) (iblk1 V c 7 t) := by dsimp only [dat1]

/-- Input 0's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input 1's staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input 2's staging buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input 3's staging buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input 4's staging buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input 5's staging buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input 6's staging buffer holds its block at every point. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- Input 7's staging buffer holds its block at every point. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns c.tc (st1_0 t) fullShare ((dat1 V c).before 0 t d))
    ∗ (∃ d, owns c.tc (st1_1 t) fullShare ((dat1 V c).before 1 t d))
    ∗ (∃ d, owns c.tc (st1_2 t) fullShare ((dat1 V c).before 2 t d))
    ∗ (∃ d, owns c.tc (st1_3 t) fullShare ((dat1 V c).before 3 t d))
    ∗ (∃ d, owns c.tc (st1_4 t) fullShare ((dat1 V c).before 4 t d))
    ∗ (∃ d, owns c.tc (st1_5 t) fullShare ((dat1 V c).before 5 t d))
    ∗ (∃ d, owns c.tc (st1_6 t) fullShare ((dat1 V c).before 6 t d))
    ∗ (∃ d, owns c.tc (st1_7 t) fullShare ((dat1 V c).before 7 t d))
    ∗ (∃ d, owns c.tc (st1_8 t) fullShare ((dat1 V c).before 8 t d))
    ∗ (∃ d, owns c.tc (st1_9 t) fullShare ((dat1 V c).before 9 t d))
    ∗ (∃ d, owns c.tc (st1_10 t) fullShare ((dat1 V c).before 10 t d))
    ∗ (∃ d, owns c.tc (st1_11 t) fullShare ((dat1 V c).before 11 t d))
    ∗ (∃ d, owns c.tc (st1_12 t) fullShare ((dat1 V c).before 12 t d))
    ∗ (∃ d, owns c.tc (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns c.tc (st1_0 t) fullShare ((dat1 V c).after 0 t)
    ∗ owns c.tc (st1_1 t) fullShare ((dat1 V c).after 1 t)
    ∗ owns c.tc (st1_2 t) fullShare ((dat1 V c).after 2 t)
    ∗ owns c.tc (st1_3 t) fullShare ((dat1 V c).after 3 t)
    ∗ owns c.tc (st1_4 t) fullShare ((dat1 V c).after 4 t)
    ∗ owns c.tc (st1_5 t) fullShare ((dat1 V c).after 5 t)
    ∗ owns c.tc (st1_6 t) fullShare ((dat1 V c).after 6 t)
    ∗ owns c.tc (st1_7 t) fullShare ((dat1 V c).after 7 t)
    ∗ owns c.tc (st1_8 t) fullShare ((dat1 V c).after 8 t)
    ∗ owns c.tc (st1_9 t) fullShare ((dat1 V c).after 9 t)
    ∗ owns c.tc (st1_10 t) fullShare ((dat1 V c).after 10 t)
    ∗ owns c.tc (st1_11 t) fullShare ((dat1 V c).after 11 t)
    ∗ owns c.tc (st1_12 t) fullShare ((dat1 V c).after 12 t)
    ∗ owns c.tc (st1_13 t) fullShare ((dat1 V c).after 13 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13,
    show (dat1 V c).Φ t.succ = phi1 V c (t.val + 1) from rfl, show (dat1 V c).Φ t.castSucc = phi1 V c t.val from rfl]
  unfold phi1
  rw [if_neg (Nat.succ_ne_zero t.val), car1_succ]
  by_cases hz : t.val = 0
  · rw [if_pos hz, show car1 V c t.val = k1_pay7 from by rw [hz]; rfl]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body1A c (grid1.coords t) _ _ _ _ _ _ _ _ _ _ _ _ _ _ _ _ _ _ _ _ _ _ _ _ _ _ _ _ _ _ ((cond1_iff t).mpr hz) (iblk1 V c 0 t) (iblk1 V c 1 t) (iblk1 V c 2 t) (iblk1 V c 3 t) (iblk1 V c 4 t) (iblk1 V c 5 t) (iblk1 V c 6 t) (iblk1 V c 7 t) Set.univ _)
    iframe H0 H1 H2 H3 H4 H5 H6 H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS HR Hg]
    · isplitl [HS]; · iexact HS
      isplitl [HR]; · iexact HR
      iexact Hg
    iframe Ho H0 H1 H2 H3 H4 H5 H6 H7 H8 H9 H10 H11 H12
    iexact H13
  · rw [if_neg hz]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body1B c (grid1.coords t) _ _ _ _ _ _ _ _ _ _ _ _ _ _ _ _ _ _ _ _ _ _ _ _ _ _ _ _ _ _ (fun h => hz ((cond1_iff t).mp h)) (iblk1 V c 0 t) (iblk1 V c 1 t) (iblk1 V c 2 t) (iblk1 V c 3 t) (iblk1 V c 4 t) (iblk1 V c 5 t) (iblk1 V c 6 t) (iblk1 V c 7 t) (car1 V c t.val) Set.univ _)
    iframe H0 H1 H2 H3 H4 H5 H6 H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS HR Hg]
    · isplitl [HS]; · iexact HS
      isplitl [HR]; · iexact HR
      iexact Hg
    iframe Ho H0 H1 H2 H3 H4 H5 H6 H7 H8 H9 H10 H11 H12
    iexact H13

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The region enters with its scratch at anything, -/
theorem hin1 (c : Dev nD) : Pipeline.scopedRest spec1 c ⊢ iprop((∃ r, prngReg c r) -∗ phi1 V c 0) := by
  unfold phi1; rw [if_pos rfl, rest1_eq]
  iintro ⟨HS, HR⟩ Hg
  isplitl [HS]; · iexact HS
  isplitl [HR]; · iexact HR
  iexact Hg

/-- and leaves it so. -/
theorem hout1 (c : Dev nD) (n : ℕ) (hn : n ≠ 0) : phi1 V c n ⊢ iprop(Pipeline.scopedRest spec1 c ∗ ∃ r, prngReg c r) := by
  unfold phi1; rw [if_neg hn, rest1_eq]
  iintro ⟨HS, HR, Hg⟩
  isplitl [HS HR]
  · isplitl [HS]; · iexists _; iexact HS
    iexact HR
  iexact Hg

end Regions

end Cert.KernelIdeal.Scan

end
-- ==== Proof.RunMain.lean ====
/- The two scans one after the other: the launch, and what memory holds at the end. -/
module

public import proofs.«01_k».proof.Proof.DataFwd
public import proofs.«01_k».proof.Proof.DataBwd

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

/-- A core's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
theorem W0_args (c : Dev nD) : ∀ a ∈ argRefs, W0 m ρ c (Proc.devRef .tc a) = m (c.tc.loc a) := fun _ _ => rfl

/-- The buffers after the forward scan: its arrays at what the scan leaves, the others as before it. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

/-- What is no output of the forward scan is unchanged by it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m (c.tc.loc a) :=
  fun a ha => (W1_of m ρ c a (argsIn0 a ha)).trans (W0_args m ρ c a ha)
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the backward scan: its arrays at what the scan leaves, the others as before it. -/
def W2 (c : Dev nD) : Valuation τ sig (Elt F) :=
  Pipeline.withArrays spec1 c (W1 m ρ c) fun w => (dat1 (V1 m ρ) c).arrAt w cfg1.N
abbrev V2 : (c : Dev nD) → (b : Ref sig .tc) → Buf (Elt F) ((c : Thread nD τ).loc b) := fun c b => W2 m ρ c b
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

/-- What is no output of the backward scan is unchanged by it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn1 a ha)).trans (W1_args m ρ c a ha)
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The thread state between the scans -/

abbrev adm : (p : Fin 2) → (pcfgs (F := F) p).Adm := fun p => (cfgs p).toPCfg_adm

/-- Each scan's data, at the contents it is entered from. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0

/-- Beside the buffers: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The buffers and the register at the end. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The forward scan as a step from one thread state to the next. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = phi0 (V0 m ρ) c 0 from rfl]
    have h := hin0 (V0 m ρ) c
    iintro ⟨Hp, -, Hr⟩
    iapply h $$ Hr Hp
  hout c := by
    rw [Pipeline.ownSems0_none, show (pdats m ρ 0 c).Φ (Fin.last _) = phi0 (V0 m ρ) c cfg0.N from rfl]
    have h := hout0 (V0 m ρ) c cfg0.N (by rw [show cfg0.N = 64 from N_0]; decide)
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward scan as a step from one thread state to the next. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = phi1 (V1 m ρ) c 0 from rfl]
    have h := hin1 (V1 m ρ) c
    iintro ⟨Hp, -, Hr⟩
    iapply h $$ Hr Hp
  hout c := by
    rw [Pipeline.ownSems0_none, show (pdats m ρ 1 c).Φ (Fin.last _) = phi1 (V1 m ρ) c cfg1.N from rfl]
    have h := hout1 (V1 m ρ) c cfg1.N (by rw [show cfg1.N = 64 from N_1]; decide)
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two steps. -/
abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program ends, without a fault, with every buffer at the fold's last contents and every counter at zero. -/
theorem run_all : θ_run defs (onTc (τ := τ) (main (F := F))) ⟨m, fun _ => 0, ρ⟩ (fun r => (∀ c : Dev nD,
      ∀ b : Ref sig .tc, ¬ (Proc.devRef .tc b : DevRef τ sig).isScoped → r.2.mem (c.tc.loc b) = W2 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c b hb => h c _ (mem_uc b hb), funext fun g => hz g (.inr (no_unscoped g.2))⟩)

/-- The program ends with its arguments unchanged and every counter at zero. -/
theorem frame_main : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  (θ_run defs _ _).mono (fun r h => ⟨fun c =>
    have key : ∀ a ∈ argRefs, r.2.mem (c.tc.loc a) = m (c.tc.loc a) := fun a ha =>
      (h.1 c a (by revert a; decide)).trans (W2_args m ρ c a ha)
    ⟨key main_arg0 (by decide), key main_arg1 (by decide), key main_arg2 (by decide), key main_arg3 (by decide), key main_arg4 (by decide), key main_arg5 (by decide), key main_arg6 (by decide)⟩, h.2⟩) (run_all m ρ)

end Cert.KernelIdeal.Scan

end
-- ==== Proof.Steps.lean ====
/- One chunk of the kernel is one step of the reference, over the extended reals. -/
module

public import proofs.«01_k».proof.Proof.DataFwd
public import proofs.«01_k».proof.Proof.DataBwd
public import proofs.«01_k».proof.Proof.RefTrip
public import Idealize.ShloMosaic.Lib.Pointwise

@[expose] public section

set_option maxRecDepth 16384

noncomputable section

namespace Cert.Scan

open Idealize.ShloMosaic Idealize.ShloMosaic.TcCoe Idealize.ShloMosaic.Tactic
open Idealize.SL.Sem
open Cert.KernelIdeal (S128x1024 S8x128x128 S8192x1024)
open Cert.KernelIdeal.Gen
open Cert.KernelIdeal.Scan
open Cert.ReferenceIdeal.Scan (Stack Slab Index pickAt putAt rV rO rS rdU rdW rdK rdQ rdT rdC rdS back mm mmT mmR mmL tr)

/-- The corrected values. -/
theorem step_v (S U W : Slab Ideal) : k0_pay27 (F := Ideal) S U W = rV S U W := by
  funext j
  unfold k0_pay27 rV
  pointwise

/-- The output. -/
theorem step_o (S U W K Q : Slab Ideal) : k0_pay30 (F := Ideal) (k0_pay27 S U W) (k0_pay28 S Q) (k0_pay29 K) = rO S U W K Q := by
  rw [step_v]
  funext j
  unfold k0_pay30 k0_pay28 k0_pay29 rO
  pointwise

/-- The next state. -/
theorem step_s (S U W T C : Slab Ideal) : k0_pay31 (F := Ideal) S T C (k0_pay27 S U W) = rS S U W T C := by
  rw [step_v]
  funext j
  unfold k0_pay31 rS
  pointwise

/-- The gradient of the corrected values. -/
theorem step_du (K T G D : Slab Ideal) : gV (F := Ideal) K T G D = rdU D K T G := by
  funext j
  unfold gV rdU k1_pay29 k1_pay27
  pointwise

/-- The corrected values, computed again on the way back. -/
theorem step_v1 (S U W : Slab Ideal) : k1_pay24 (F := Ideal) S U W = rV S U W := by
  funext j
  unfold k1_pay24 k1_pay22 k1_pay23 rV
  pointwise

/-- The gradient of the keys. -/
theorem step_dw (S K T G D : Slab Ideal) : gW (F := Ideal) S K T G D = rdW D S K T G := by
  unfold gW rdW
  rw [step_du]
  funext j
  unfold k1_pay41 k1_pay39 k1_pay23
  pointwise
  simp only [zero_sub]

/-- The gradient of the local weights. -/
theorem step_dk (S U W G : Slab Ideal) : k1_pay36 (F := Ideal) (k1_pay28 S U W) G = rdK (rV S U W) G := by
  unfold k1_pay28
  rw [step_v1]
  funext j
  unfold k1_pay36 rdK
  pointwise

/-- The gradient of the queries. -/
theorem step_dq (S G : Slab Ideal) : k1_pay38 (F := Ideal) (k1_pay26 S) G = rdQ S G := by
  funext j
  unfold k1_pay38 k1_pay26 rdQ
  pointwise

/-- The gradient of the writing keys. -/
theorem step_dt (S U W D : Slab Ideal) : gT (F := Ideal) S U W D = rdT D (rV S U W) := by
  unfold gT k1_pay30
  rw [step_v1]
  funext j
  unfold rdT
  pointwise

/-- The gradient of the state. -/
theorem step_ds (W K Q T C G D : Slab Ideal) : gS (F := Ideal) W K Q T C G D = rdS D W K Q T C G := by
  unfold gS rdS
  rw [step_du]
  funext j
  unfold k1_pay40 k1_pay39 k1_pay22 gA k1_pay25
  pointwise
  simp only [zero_sub]

end Cert.Scan

end
-- ==== Proof.Layout.lean ====
/- Blocks of rows in arrays of tokens by features, and the chunks of the reference. -/
module

public import proofs.«01_k».proof.Proof.RefValue
public import proofs.«01_k».proof.Proof.RunMain
public import proofs.«01_k».proof.Proof.Steps
public import Idealize.ShloMosaic.Lib.Pipeline.ValueKit

@[expose] public section

set_option maxRecDepth 16384

noncomputable section

namespace Cert.Scan

open Idealize.ShloMosaic Idealize.ShloMosaic.TcCoe Idealize.ShloMosaic.Tactic
open Idealize.SL.Sem
open Cert.KernelIdeal (S128x1024 S8x128x128 S8192x1024)
open Cert.KernelIdeal.Gen
open Cert.KernelIdeal.Scan
open Cert.ReferenceIdeal.Scan (row chunked flat widen narrow Inputs st dd vv oo gu gw gk gq gt gc zero inp Stack Slab Index pickAt putAt rV rO rS rdU rdW rdK rdQ rdT rdC rdS back mm mmT mmR mmL tr)

/-- An array of tokens by features. -/
abbrev Arr : Type := (⟨S8192x1024, .f32⟩ : BufTy).Contents (Elt Ideal)

theorem tokLt (n : ℕ) (i : Fin 128) : 128 * (n % 64) + i.val < 8192 := by omega
theorem featLt (h : Fin 8) (j : Fin 128) : 128 * h.val + j.val < 1024 := by omega
theorem chunkOfLt (r : Fin 8192) : r.val / 128 < 64 := by omega
theorem headOfLt (r : Fin 1024) : r.val / 128 < 8 := by omega
theorem laneLt (r : ℕ) : r % 128 < 128 := Nat.mod_lt _ (by decide)

/-- Chunk `n` of an array, head by head: rows `128 n …`, head `h` in columns `128 h …`. -/
theorem row_chunked (x : Arr) (n : ℕ) (j : S8x128x128.Idx) :
    row (F := Ideal) (chunked x) n j = x (ix2 ⟨128 * (n % 64) + (j 1).val, tokLt n (j 1)⟩ ⟨128 * (j 0).val + (j 2).val, featLt (j 0) (j 2)⟩) := by
  idx_vars j
  unfold row chunked
  pointwise
  exact congrArg x (congrArg₂ (fun a b => ix2 a b) (Fin.ext (by dsimp only; omega)) (Fin.ext (by dsimp only; omega)))

/-- The array whose chunks are the given ones. -/
def flatOf (f : ℕ → Slab Ideal) : Arr := fun i => f ((i 0).val / 128) (ix3 ⟨(i 1).val / 128, headOfLt (i 1)⟩ ⟨(i 0).val % 128, laneLt _⟩ ⟨(i 1).val % 128, laneLt _⟩)

theorem flat_eq (X : Stack Ideal) (f : ℕ → Slab Ideal) (h : ∀ n, n < 64 → row X n = f n) : flat X = flatOf f := by
  funext i
  unfold flatOf
  rw [← h _ (chunkOfLt (i 0))]
  idx_vars i
  unfold row flat
  pointwise
  exact congrArg X (congrArg (fun a => ix4 a _ _ _) (Fin.ext (Nat.mod_eq_of_lt (chunkOfLt i0)).symm))

open Cert.KernelIdeal (cfg0 spec0 cfg1 spec1 grid0 grid1)

theorem index0_0 : ∀ t : Fin grid0.N, Cert.KernelIdeal.win0_0.index t 0 = t.val ∧ Cert.KernelIdeal.win0_0.index t 1 = 0 := by decide +kernel
theorem index0_1 : ∀ t : Fin grid0.N, Cert.KernelIdeal.win0_1.index t 0 = t.val ∧ Cert.KernelIdeal.win0_1.index t 1 = 0 := by decide +kernel
theorem index0_2 : ∀ t : Fin grid0.N, Cert.KernelIdeal.win0_2.index t 0 = t.val ∧ Cert.KernelIdeal.win0_2.index t 1 = 0 := by decide +kernel
theorem index0_3 : ∀ t : Fin grid0.N, Cert.KernelIdeal.win0_3.index t 0 = t.val ∧ Cert.KernelIdeal.win0_3.index t 1 = 0 := by decide +kernel
theorem index0_4 : ∀ t : Fin grid0.N, Cert.KernelIdeal.win0_4.index t 0 = t.val ∧ Cert.KernelIdeal.win0_4.index t 1 = 0 := by decide +kernel
theorem index0_5 : ∀ t : Fin grid0.N, Cert.KernelIdeal.win0_5.index t 0 = t.val ∧ Cert.KernelIdeal.win0_5.index t 1 = 0 := by decide +kernel
theorem index0_6 : ∀ t : Fin grid0.N, Cert.KernelIdeal.win0_6.index t 0 = t.val ∧ Cert.KernelIdeal.win0_6.index t 1 = 0 := by decide +kernel
theorem index0_7 : ∀ t : Fin grid0.N, Cert.KernelIdeal.win0_7.index t 0 = t.val ∧ Cert.KernelIdeal.win0_7.index t 1 = 0 := by decide +kernel
/-- Where window 0's block of point `t` lies in its array. -/
theorem emb0_0 (t : Fin cfg0.N) (y : S128x1024.Idx) : ((cfg0.win 0).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_0]; show _ + (y 0).val = 128 * (t.val % 64) + (y 0).val; omega
  | ⟨1, _⟩ => blk_simp [index0_0]; rfl
/-- Where window 1's block of point `t` lies in its array. -/
theorem emb0_1 (t : Fin cfg0.N) (y : S128x1024.Idx) : ((cfg0.win 1).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_1]; show _ + (y 0).val = 128 * (t.val % 64) + (y 0).val; omega
  | ⟨1, _⟩ => blk_simp [index0_1]; rfl
/-- Where window 2's block of point `t` lies in its array. -/
theorem emb0_2 (t : Fin cfg0.N) (y : S128x1024.Idx) : ((cfg0.win 2).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_2]; show _ + (y 0).val = 128 * (t.val % 64) + (y 0).val; omega
  | ⟨1, _⟩ => blk_simp [index0_2]; rfl
/-- Where window 3's block of point `t` lies in its array. -/
theorem emb0_3 (t : Fin cfg0.N) (y : S128x1024.Idx) : ((cfg0.win 3).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_3]; show _ + (y 0).val = 128 * (t.val % 64) + (y 0).val; omega
  | ⟨1, _⟩ => blk_simp [index0_3]; rfl
/-- Where window 4's block of point `t` lies in its array. -/
theorem emb0_4 (t : Fin cfg0.N) (y : S128x1024.Idx) : ((cfg0.win 4).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_4]; show _ + (y 0).val = 128 * (t.val % 64) + (y 0).val; omega
  | ⟨1, _⟩ => blk_simp [index0_4]; rfl
/-- Where window 5's block of point `t` lies in its array. -/
theorem emb0_5 (t : Fin cfg0.N) (y : S128x1024.Idx) : ((cfg0.win 5).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_5]; show _ + (y 0).val = 128 * (t.val % 64) + (y 0).val; omega
  | ⟨1, _⟩ => blk_simp [index0_5]; rfl
/-- Where window 6's block of point `t` lies in its array. -/
theorem emb0_6 (t : Fin cfg0.N) (y : S128x1024.Idx) : ((cfg0.win 6).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_6]; show _ + (y 0).val = 128 * (t.val % 64) + (y 0).val; omega
  | ⟨1, _⟩ => blk_simp [index0_6]; rfl
/-- Where window 7's block of point `t` lies in its array. -/
theorem emb0_7 (t : Fin cfg0.N) (y : S128x1024.Idx) : ((cfg0.win 7).blk t).view.emb y = ix2 ⟨128 * (t.val % 64) + (y 0).val, tokLt (t.val) (y 0)⟩ (y 1) := by
  have ht : t.val < 64 := t.isLt
  funext d
  apply Fin.ext
  match d with
  | ⟨0, _⟩ => blk_simp [index0_7]; show _ + (y 0).val = 128 * (t.val % 64) + (y 0).val; omega
  | ⟨1, _⟩ => blk_simp [index0_7]; rfl
theorem index1_0 : ∀ t : Fin grid1.N, Cert.KernelIdeal.win1_0.index t 0 = 63 - t.val ∧ Cert.KernelIdeal.win1_0.index t 1 = 0 := by decide +kernel
theorem index1_1 : ∀ t : Fin grid1.N, Cert.KernelIdeal.win1_1.index t 0 = 63 - t.val ∧ Cert.KernelIdeal.win1_1.index t 1 = 0 := by decide +kernel
theorem index1_2 : ∀ t : Fin grid1.N, Cert.KernelIdeal.win1_2.index t 0 = 63 - t.val ∧ Cert.KernelIdeal.win1_2.index t 1 = 0 := by decide +kernel
theorem index1_3 : ∀ t : Fin grid1.N, Cert.KernelIdeal.win1_3.index t 0 = 63 - t.val ∧ Cert.KernelIdeal.win1_3.index t 1 = 0 := by decide +kernel
theorem index1_4 : ∀ t : Fin grid1.N, Cert.KernelIdeal.win1_4.index t 0 = 63 - t.val ∧ Cert.KernelIdeal.win1_4.index t 1 = 0 := by decide +kernel
theorem index1_5 : ∀ t : Fin grid1.N, Cert.KernelIdeal.win1_5.index t 0 = 63 - t.val ∧ Cert.KernelIdeal.win1_5.index t 1 = 0 := by decide +kernel
theorem index1_6 : ∀ t : Fin grid1.N, Cert.KernelIdeal.win1_6.index t 0 = 63 - t.val ∧ Cert.KernelIdeal.win1_6.index t 1 = 0 := by decide +kernel
theorem index1_7 : ∀ t : Fin grid1.N, Cert.KernelIdeal.win1_7.index t 0 = 63 - t.val ∧ Cert.KernelIdeal.win1_7.index t 1 = 0 := by decide +kernel
theorem index1_8 : ∀ t : Fin grid1.N, Cert.KernelIdeal.win1_8.index t 0 = 63 - t.val ∧ Cert.KernelIdeal.win1_8.index t 1 = 0 := by decide +kernel
theorem index1_9 : ∀ t : Fin grid1.N, Cert.KernelIdeal.win1_9.index t 0 = 63 - t.val ∧ Cert.KernelIdeal.win1_9.index t 1 = 0 := by decide +kernel
theorem index1_10 : ∀ t : Fin grid1.N, Cert.KernelIdeal.win1_10.index t 0 = 63 - t.val ∧ Cert.KernelIdeal.win1_10.index t 1 = 0 := by decide +kernel
theorem index1_11 : ∀ t : Fin grid1.N, Cert.KernelIdeal.win1_11.index t 0 = 63 - t.val ∧ Cert.KernelIdeal.win1_11.index t 1 = 0 := by decide +kernel
theorem index1_12 : ∀ t : Fin grid1.N, Cert.KernelIdeal.win1_12.index t 0 = 63 - t.val ∧ Cert.KernelIdeal.win1_12.index t 1 = 0 := by decide +kernel
theorem index1_13 : ∀ t : Fin grid1.N, Cert.KernelIdeal.win1_13.index t 0 = 63 - t.val ∧ Cert.KernelIdeal.win1_13.index t 1 = 0 := by decide +kernel
/-- Where window 0's block of point `t` lies in its array. -/
theorem emb1_0 (t : Fin cfg1.N) (y : S128x1024.Idx) : ((cfg1.win 0).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_0]; show _ + (y 0).val = 128 * ((63 - t.val) % 64) + (y 0).val; omega
  | ⟨1, _⟩ => blk_simp [index1_0]; rfl
/-- Where window 1's block of point `t` lies in its array. -/
theorem emb1_1 (t : Fin cfg1.N) (y : S128x1024.Idx) : ((cfg1.win 1).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_1]; show _ + (y 0).val = 128 * ((63 - t.val) % 64) + (y 0).val; omega
  | ⟨1, _⟩ => blk_simp [index1_1]; rfl
/-- Where window 2's block of point `t` lies in its array. -/
theorem emb1_2 (t : Fin cfg1.N) (y : S128x1024.Idx) : ((cfg1.win 2).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_2]; show _ + (y 0).val = 128 * ((63 - t.val) % 64) + (y 0).val; omega
  | ⟨1, _⟩ => blk_simp [index1_2]; rfl
/-- Where window 3's block of point `t` lies in its array. -/
theorem emb1_3 (t : Fin cfg1.N) (y : S128x1024.Idx) : ((cfg1.win 3).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_3]; show _ + (y 0).val = 128 * ((63 - t.val) % 64) + (y 0).val; omega
  | ⟨1, _⟩ => blk_simp [index1_3]; rfl
/-- Where window 4's block of point `t` lies in its array. -/
theorem emb1_4 (t : Fin cfg1.N) (y : S128x1024.Idx) : ((cfg1.win 4).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_4]; show _ + (y 0).val = 128 * ((63 - t.val) % 64) + (y 0).val; omega
  | ⟨1, _⟩ => blk_simp [index1_4]; rfl
/-- Where window 5's block of point `t` lies in its array. -/
theorem emb1_5 (t : Fin cfg1.N) (y : S128x1024.Idx) : ((cfg1.win 5).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_5]; show _ + (y 0).val = 128 * ((63 - t.val) % 64) + (y 0).val; omega
  | ⟨1, _⟩ => blk_simp [index1_5]; rfl
/-- Where window 6's block of point `t` lies in its array. -/
theorem emb1_6 (t : Fin cfg1.N) (y : S128x1024.Idx) : ((cfg1.win 6).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_6]; show _ + (y 0).val = 128 * ((63 - t.val) % 64) + (y 0).val; omega
  | ⟨1, _⟩ => blk_simp [index1_6]; rfl
/-- Where window 7's block of point `t` lies in its array. -/
theorem emb1_7 (t : Fin cfg1.N) (y : S128x1024.Idx) : ((cfg1.win 7).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_7]; show _ + (y 0).val = 128 * ((63 - t.val) % 64) + (y 0).val; omega
  | ⟨1, _⟩ => blk_simp [index1_7]; rfl
/-- Where window 8's block of point `t` lies in its array. -/
theorem emb1_8 (t : Fin cfg1.N) (y : S128x1024.Idx) : ((cfg1.win 8).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_8]; show _ + (y 0).val = 128 * ((63 - t.val) % 64) + (y 0).val; omega
  | ⟨1, _⟩ => blk_simp [index1_8]; rfl
/-- Where window 9's block of point `t` lies in its array. -/
theorem emb1_9 (t : Fin cfg1.N) (y : S128x1024.Idx) : ((cfg1.win 9).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_9]; show _ + (y 0).val = 128 * ((63 - t.val) % 64) + (y 0).val; omega
  | ⟨1, _⟩ => blk_simp [index1_9]; rfl
/-- Where window 10's block of point `t` lies in its array. -/
theorem emb1_10 (t : Fin cfg1.N) (y : S128x1024.Idx) : ((cfg1.win 10).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_10]; show _ + (y 0).val = 128 * ((63 - t.val) % 64) + (y 0).val; omega
  | ⟨1, _⟩ => blk_simp [index1_10]; rfl
/-- Where window 11's block of point `t` lies in its array. -/
theorem emb1_11 (t : Fin cfg1.N) (y : S128x1024.Idx) : ((cfg1.win 11).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_11]; show _ + (y 0).val = 128 * ((63 - t.val) % 64) + (y 0).val; omega
  | ⟨1, _⟩ => blk_simp [index1_11]; rfl
/-- Where window 12's block of point `t` lies in its array. -/
theorem emb1_12 (t : Fin cfg1.N) (y : S128x1024.Idx) : ((cfg1.win 12).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_12]; show _ + (y 0).val = 128 * ((63 - t.val) % 64) + (y 0).val; omega
  | ⟨1, _⟩ => blk_simp [index1_12]; rfl
/-- Where window 13's block of point `t` lies in its array. -/
theorem emb1_13 (t : Fin cfg1.N) (y : S128x1024.Idx) : ((cfg1.win 13).blk t).view.emb y = ix2 ⟨128 * ((63 - t.val) % 64) + (y 0).val, tokLt (63 - t.val) (y 0)⟩ (y 1) := by
  have ht : t.val < 64 := t.isLt
  funext d
  apply Fin.ext
  match d with
  | ⟨0, _⟩ => blk_simp [index1_13]; show _ + (y 0).val = 128 * ((63 - t.val) % 64) + (y 0).val; omega
  | ⟨1, _⟩ => blk_simp [index1_13]; rfl

variable (V : (c : Dev Cert.KernelIdeal.nD) → (b : Ref Cert.KernelIdeal.sig .tc) → Buf (Elt Ideal) ((c : Thread Cert.KernelIdeal.nD Cert.KernelIdeal.τ).loc b))

/-- The rows of the seven inputs of the kernel, chunk by chunk. -/
def kin (c : Dev Cert.KernelIdeal.nD) : Inputs Ideal where
  u n := row (chunked (V c Cert.KernelIdeal.main_arg0)) n
  w n := row (chunked (widen (V c Cert.KernelIdeal.main_arg1))) n
  qk n := row (chunked (widen (V c Cert.KernelIdeal.main_arg2))) n
  qd n := row (chunked (widen (V c Cert.KernelIdeal.main_arg3))) n
  kt n := row (chunked (widen (V c Cert.KernelIdeal.main_arg4))) n
  cd n := row (chunked (V c Cert.KernelIdeal.main_arg5)) n
  g n := row (chunked (V c Cert.KernelIdeal.main_arg6)) n

/-! The blocks of region 0 are the chunks. -/
theorem in0_0 (c : Dev Cert.KernelIdeal.nD) (t : Fin cfg0.N) : t32 (F := Ideal) (iblk0 V c 0 t) = (kin V c).u t.val := by
  funext j
  refine Eq.trans ?_ (row_chunked _ _ j).symm
  show (V c Cert.KernelIdeal.main_arg0) (((cfg0.win 0).blk t).view.emb (ix2 (j 1) ⟨128 * (j 0).val + (j 2).val, featLt (j 0) (j 2)⟩)) = _
  rw [emb0_0]
  rfl
theorem in0_1 (c : Dev Cert.KernelIdeal.nD) (t : Fin cfg0.N) : wide (F := Ideal) (iblk0 V c 1 t) = (kin V c).w t.val := by
  funext j
  refine Eq.trans ?_ (row_chunked _ _ j).symm
  show (V c Cert.KernelIdeal.main_arg1) (((cfg0.win 1).blk t).view.emb (ix2 (j 1) ⟨128 * (j 0).val + (j 2).val, featLt (j 0) (j 2)⟩)) = _
  rw [emb0_1]
  rfl
theorem in0_2 (c : Dev Cert.KernelIdeal.nD) (t : Fin cfg0.N) : wide (F := Ideal) (iblk0 V c 2 t) = (kin V c).qk t.val := by
  funext j
  refine Eq.trans ?_ (row_chunked _ _ j).symm
  show (V c Cert.KernelIdeal.main_arg2) (((cfg0.win 2).blk t).view.emb (ix2 (j 1) ⟨128 * (j 0).val + (j 2).val, featLt (j 0) (j 2)⟩)) = _
  rw [emb0_2]
  rfl
theorem in0_3 (c : Dev Cert.KernelIdeal.nD) (t : Fin cfg0.N) : wide (F := Ideal) (iblk0 V c 3 t) = (kin V c).qd t.val := by
  funext j
  refine Eq.trans ?_ (row_chunked _ _ j).symm
  show (V c Cert.KernelIdeal.main_arg3) (((cfg0.win 3).blk t).view.emb (ix2 (j 1) ⟨128 * (j 0).val + (j 2).val, featLt (j 0) (j 2)⟩)) = _
  rw [emb0_3]
  rfl
theorem in0_4 (c : Dev Cert.KernelIdeal.nD) (t : Fin cfg0.N) : wide (F := Ideal) (iblk0 V c 4 t) = (kin V c).kt t.val := by
  funext j
  refine Eq.trans ?_ (row_chunked _ _ j).symm
  show (V c Cert.KernelIdeal.main_arg4) (((cfg0.win 4).blk t).view.emb (ix2 (j 1) ⟨128 * (j 0).val + (j 2).val, featLt (j 0) (j 2)⟩)) = _
  rw [emb0_4]
  rfl
theorem in0_5 (c : Dev Cert.KernelIdeal.nD) (t : Fin cfg0.N) : t32 (F := Ideal) (iblk0 V c 5 t) = (kin V c).cd t.val := by
  funext j
  refine Eq.trans ?_ (row_chunked _ _ j).symm
  show (V c Cert.KernelIdeal.main_arg5) (((cfg0.win 5).blk t).view.emb (ix2 (j 1) ⟨128 * (j 0).val + (j 2).val, featLt (j 0) (j 2)⟩)) = _
  rw [emb0_5]
  rfl

/-! The blocks of region 1 are the chunks. -/
theorem in1_0 (c : Dev Cert.KernelIdeal.nD) (t : Fin cfg1.N) : t32 (F := Ideal) (iblk1 V c 0 t) = (kin V c).u (63 - t.val) := by
  funext j
  refine Eq.trans ?_ (row_chunked _ _ j).symm
  show (V c Cert.KernelIdeal.main_arg0) (((cfg1.win 0).blk t).view.emb (ix2 (j 1) ⟨128 * (j 0).val + (j 2).val, featLt (j 0) (j 2)⟩)) = _
  rw [emb1_0]
  rfl
theorem in1_1 (c : Dev Cert.KernelIdeal.nD) (t : Fin cfg1.N) : wide (F := Ideal) (iblk1 V c 1 t) = (kin V c).w (63 - t.val) := by
  funext j
  refine Eq.trans ?_ (row_chunked _ _ j).symm
  show (V c Cert.KernelIdeal.main_arg1) (((cfg1.win 1).blk t).view.emb (ix2 (j 1) ⟨128 * (j 0).val + (j 2).val, featLt (j 0) (j 2)⟩)) = _
  rw [emb1_1]
  rfl
theorem in1_2 (c : Dev Cert.KernelIdeal.nD) (t : Fin cfg1.N) : wide (F := Ideal) (iblk1 V c 2 t) = (kin V c).qk (63 - t.val) := by
  funext j
  refine Eq.trans ?_ (row_chunked _ _ j).symm
  show (V c Cert.KernelIdeal.main_arg2) (((cfg1.win 2).blk t).view.emb (ix2 (j 1) ⟨128 * (j 0).val + (j 2).val, featLt (j 0) (j 2)⟩)) = _
  rw [emb1_2]
  rfl
theorem in1_3 (c : Dev Cert.KernelIdeal.nD) (t : Fin cfg1.N) : wide (F := Ideal) (iblk1 V c 3 t) = (kin V c).qd (63 - t.val) := by
  funext j
  refine Eq.trans ?_ (row_chunked _ _ j).symm
  show (V c Cert.KernelIdeal.main_arg3) (((cfg1.win 3).blk t).view.emb (ix2 (j 1) ⟨128 * (j 0).val + (j 2).val, featLt (j 0) (j 2)⟩)) = _
  rw [emb1_3]
  rfl
theorem in1_4 (c : Dev Cert.KernelIdeal.nD) (t : Fin cfg1.N) : wide (F := Ideal) (iblk1 V c 4 t) = (kin V c).kt (63 - t.val) := by
  funext j
  refine Eq.trans ?_ (row_chunked _ _ j).symm
  show (V c Cert.KernelIdeal.main_arg4) (((cfg1.win 4).blk t).view.emb (ix2 (j 1) ⟨128 * (j 0).val + (j 2).val, featLt (j 0) (j 2)⟩)) = _
  rw [emb1_4]
  rfl
theorem in1_5 (c : Dev Cert.KernelIdeal.nD) (t : Fin cfg1.N) : t32 (F := Ideal) (iblk1 V c 5 t) = (kin V c).cd (63 - t.val) := by
  funext j
  refine Eq.trans ?_ (row_chunked _ _ j).symm
  show (V c Cert.KernelIdeal.main_arg5) (((cfg1.win 5).blk t).view.emb (ix2 (j 1) ⟨128 * (j 0).val + (j 2).val, featLt (j 0) (j 2)⟩)) = _
  rw [emb1_5]
  rfl
theorem in1_7 (c : Dev Cert.KernelIdeal.nD) (t : Fin cfg1.N) : t32 (F := Ideal) (iblk1 V c 7 t) = (kin V c).g (63 - t.val) := by
  funext j
  refine Eq.trans ?_ (row_chunked _ _ j).symm
  show (V c Cert.KernelIdeal.main_arg6) (((cfg1.win 7).blk t).view.emb (ix2 (j 1) ⟨128 * (j 0).val + (j 2).val, featLt (j 0) (j 2)⟩)) = _
  rw [emb1_7]
  rfl

end Cert.Scan

end
-- ==== Proof.Values.lean ====
/- What the two kernels leave in their result arrays, over the reals: the chunks of the reference. -/
module

public import proofs.«01_k».proof.Proof.Layout

@[expose] public section

set_option maxRecDepth 16384

noncomputable section

namespace Cert.Scan

open Idealize.ShloMosaic Idealize.ShloMosaic.TcCoe Idealize.ShloMosaic.Tactic
open Idealize.SL.Sem
open Cert.KernelIdeal (S128x1024 S8x128x128 S8192x1024)
open Cert.KernelIdeal.Gen
open Cert.KernelIdeal.Scan
open Cert.ReferenceIdeal.Scan (row chunked flat widen narrow Inputs st dd vv oo gu gw gk gq gt gc zero inp Stack Slab Index pickAt putAt rV rO rS rdU rdW rdK rdQ rdT rdC rdS back mm mmT mmR mmL tr)

open Cert.KernelIdeal (cfg0 spec0 cfg1 spec1 grid0 grid1)

variable (V : (c : Dev Cert.KernelIdeal.nD) → (b : Ref Cert.KernelIdeal.sig .tc) → Buf (Elt Ideal) ((c : Thread Cert.KernelIdeal.nD Cert.KernelIdeal.τ).loc b))

theorem t32_u32 (X : Slab Ideal) : t32 (F := Ideal) (u32 X) = X := tile_untile (F := Ideal) (e := .f32) X

theorem zero0 : t32 (F := Ideal) (k0_pay2 (F := Ideal)) = zero (F := Ideal) := by
  funext j; unfold k0_pay2 zero; rfl
theorem zero1 : t32 (F := Ideal) (k1_pay7 (F := Ideal)) = zero (F := Ideal) := by
  funext j; unfold k1_pay7 zero; rfl

/-- The carried block of the forward scan before chunk `k` is the reference's state. -/
theorem car0_st (c : Dev Cert.KernelIdeal.nD) : ∀ k, k ≤ 64 → t32 (F := Ideal) (car0 V c k) = st (kin V c) k
  | 0, _ => zero0
  | k + 1, hk => by
    have e := car0_succ V c (⟨k, hk⟩ : Fin cfg0.N)
    rw [show car0 V c (k + 1) = _ from e]
    unfold fwdS
    rw [t32_u32, step_s, in0_0, in0_1, in0_4, in0_5]
    rw [show t32 (F := Ideal) (car0 V c k) = _ from car0_st c k (by omega)]
    rfl

/-- A chunk's heads put side by side are its rows of the whole array. -/
theorem untile_flat (f : ℕ → Slab Ideal) (n : ℕ) (hn : n < 64) (y : S128x1024.Idx) :
    u32 (F := Ideal) (f n) y = flatOf f (ix2 ⟨128 * (n % 64) + (y 0).val, tokLt n (y 0)⟩ (y 1)) := by
  have h0 : (y 0).val < 128 := (y 0).isLt
  have e1 : (128 * (n % 64) + (y 0).val) / 128 = n := by omega
  have e2 : (128 * (n % 64) + (y 0).val) % 128 = (y 0).val := by omega
  show f n (ix3 _ (y 0) _) = f ((128 * (n % 64) + (y 0).val) / 128) (ix3 _ ⟨(128 * (n % 64) + (y 0).val) % 128, _⟩ _)
  rw [e1]
  exact congrArg (f n) (congrArg (fun a => ix3 _ a _) (Fin.ext e2.symm))

theorem untile_flat16 (f : ℕ → Slab Ideal) (n : ℕ) (hn : n < 64) (y : S128x1024.Idx) :
    u16 (F := Ideal) (truncf .bf16 (f n) bitsLt_bf16_f32) y = narrow (F := Ideal) (flatOf f) (ix2 ⟨128 * (n % 64) + (y 0).val, tokLt n (y 0)⟩ (y 1)) :=
  untile_flat f n hn y

/-- A block of a chunk's heads side by side, head by head again. -/
theorem in_saved (c : Dev Cert.KernelIdeal.nD) (t : Fin cfg1.N) (f : ℕ → Slab Ideal) (h : V c Cert.KernelIdeal.main_v0_1 = flatOf f) :
    t32 (F := Ideal) (iblk1 V c 6 t) = f (63 - t.val) := by
  have ht : t.val < 64 := t.isLt
  have e : (iblk1 V c 6 t : Vec Ideal S128x1024 .f32) = u32 (F := Ideal) (f (63 - t.val)) := by
    funext y
    show (V c Cert.KernelIdeal.main_v0_1) (((cfg1.win 6).blk t).view.emb y) = _
    rw [emb1_6, h]
    exact (untile_flat f (63 - t.val) (by omega) y).symm
  rw [e, t32_u32]

/-- The forward scan's outputs. -/
theorem out0_6 (c : Dev Cert.KernelIdeal.nD) : (dat0 (F := Ideal) V c).arrAt 6 cfg0.N = flatOf (oo (kin V c)) := by
  refine (dat0 V c).arrAt_eq_of_covers 6 _ (by decide +kernel) fun t hf y => ?_
  have ht : t.val < 64 := t.isLt
  rw [show ((cfg0.win 6).blk t).view.emb y = _ from emb0_6 t y]
  refine Eq.trans ?_ (untile_flat (oo (kin V c)) (t.val) (by omega) y)
  show (dat0 V c).after 6 t y = _
  rw [after0_6]
  unfold fwdO
  rw [step_o, in0_0, in0_1, in0_2, in0_3, show t32 (F := Ideal) (car0 V c t.val) = _ from car0_st V c t.val (by omega)]
  rfl

/-- The states the forward scan saves. -/
theorem out0_7 (c : Dev Cert.KernelIdeal.nD) : (dat0 (F := Ideal) V c).arrAt 7 cfg0.N = flatOf (st (kin V c)) := by
  refine (dat0 V c).arrAt_eq_of_covers 7 _ (by decide +kernel) fun t hf y => ?_
  have ht : t.val < 64 := t.isLt
  rw [show ((cfg0.win 7).blk t).view.emb y = _ from emb0_7 t y]
  refine Eq.trans ?_ (untile_flat (st (kin V c)) (t.val) (by omega) y)
  show (dat0 V c).after 7 t y = _
  rw [after0_7]
  unfold fwdT
  rw [← car0_st V c t.val (by omega)]
  exact congrFun (untile_tile (F := Ideal) (e := .f32) _).symm y

/-- The carried block of the backward scan before its point `k` is the reference's gradient of the state. -/
theorem car1_dd (c : Dev Cert.KernelIdeal.nD) (hS : V c Cert.KernelIdeal.main_v0_1 = flatOf (st (kin V c))) : ∀ k, k ≤ 64 → t32 (F := Ideal) (car1 V c k) = dd (kin V c) k
  | 0, _ => zero1
  | k + 1, hk => by
    have e := car1_succ V c (⟨k, hk⟩ : Fin cfg1.N)
    rw [show car1 V c (k + 1) = _ from e]
    unfold bwdD
    rw [t32_u32, step_ds, in1_1, in1_2, in1_3, in1_4, in1_5, in1_7]
    rw [show t32 (F := Ideal) (car1 V c k) = _ from car1_dd c hS k (by omega)]
    rfl

/-- The gradient of `u`. -/
theorem out1_8 (c : Dev Cert.KernelIdeal.nD) (hS : V c Cert.KernelIdeal.main_v0_1 = flatOf (st (kin V c))) : (dat1 (F := Ideal) V c).arrAt 8 cfg1.N = flatOf (gu (kin V c)) := by
  refine (dat1 V c).arrAt_eq_of_covers 8 _ (by decide +kernel) fun t hf y => ?_
  have ht : t.val < 64 := t.isLt
  rw [show ((cfg1.win 8).blk t).view.emb y = _ from emb1_8 t y]
  refine Eq.trans ?_ (untile_flat (gu (kin V c)) (63 - t.val) (by omega) y)
  show (dat1 V c).after 8 t y = _
  rw [after1_8]
  unfold bwdU
  rw [step_du, in1_2, in1_4, in1_7, show t32 (F := Ideal) (car1 V c t.val) = _ from car1_dd V c hS t.val (by omega)]
  unfold gu
  rw [show 63 - (63 - t.val) = t.val by omega]

/-- The gradient of `w`. -/
theorem out1_9 (c : Dev Cert.KernelIdeal.nD) (hS : V c Cert.KernelIdeal.main_v0_1 = flatOf (st (kin V c))) : (dat1 (F := Ideal) V c).arrAt 9 cfg1.N = narrow (F := Ideal) (flatOf (gw (kin V c))) := by
  refine (dat1 V c).arrAt_eq_of_covers 9 _ (by decide +kernel) fun t hf y => ?_
  have ht : t.val < 64 := t.isLt
  rw [show ((cfg1.win 9).blk t).view.emb y = _ from emb1_9 t y]
  refine Eq.trans ?_ (untile_flat16 (gw (kin V c)) (63 - t.val) (by omega) y)
  show (dat1 V c).after 9 t y = _
  rw [after1_9]
  unfold bwdW
  rw [step_dw, in1_2, in1_4, in1_7, in_saved V c t _ hS, show t32 (F := Ideal) (car1 V c t.val) = _ from car1_dd V c hS t.val (by omega)]
  unfold gw
  rw [show 63 - (63 - t.val) = t.val by omega]

/-- The gradient of `qk`. -/
theorem out1_10 (c : Dev Cert.KernelIdeal.nD) (hS : V c Cert.KernelIdeal.main_v0_1 = flatOf (st (kin V c))) : (dat1 (F := Ideal) V c).arrAt 10 cfg1.N = narrow (F := Ideal) (flatOf (gk (kin V c))) := by
  refine (dat1 V c).arrAt_eq_of_covers 10 _ (by decide +kernel) fun t hf y => ?_
  have ht : t.val < 64 := t.isLt
  rw [show ((cfg1.win 10).blk t).view.emb y = _ from emb1_10 t y]
  refine Eq.trans ?_ (untile_flat16 (gk (kin V c)) (63 - t.val) (by omega) y)
  show (dat1 V c).after 10 t y = _
  rw [after1_10]
  unfold bwdK
  rw [step_dk, in1_0, in1_1, in1_7, in_saved V c t _ hS]
  rfl

/-- The gradient of `qd`. -/
theorem out1_11 (c : Dev Cert.KernelIdeal.nD) (hS : V c Cert.KernelIdeal.main_v0_1 = flatOf (st (kin V c))) : (dat1 (F := Ideal) V c).arrAt 11 cfg1.N = narrow (F := Ideal) (flatOf (gq (kin V c))) := by
  refine (dat1 V c).arrAt_eq_of_covers 11 _ (by decide +kernel) fun t hf y => ?_
  have ht : t.val < 64 := t.isLt
  rw [show ((cfg1.win 11).blk t).view.emb y = _ from emb1_11 t y]
  refine Eq.trans ?_ (untile_flat16 (gq (kin V c)) (63 - t.val) (by omega) y)
  show (dat1 V c).after 11 t y = _
  rw [after1_11]
  unfold bwdQ
  rw [step_dq, in1_7, in_saved V c t _ hS]
  rfl

/-- The gradient of `kt`. -/
theorem out1_12 (c : Dev Cert.KernelIdeal.nD) (hS : V c Cert.KernelIdeal.main_v0_1 = flatOf (st (kin V c))) : (dat1 (F := Ideal) V c).arrAt 12 cfg1.N = narrow (F := Ideal) (flatOf (gt (kin V c))) := by
  refine (dat1 V c).arrAt_eq_of_covers 12 _ (by decide +kernel) fun t hf y => ?_
  have ht : t.val < 64 := t.isLt
  rw [show ((cfg1.win 12).blk t).view.emb y = _ from emb1_12 t y]
  refine Eq.trans ?_ (untile_flat16 (gt (kin V c)) (63 - t.val) (by omega) y)
  show (dat1 V c).after 12 t y = _
  rw [after1_12]
  unfold bwdT
  rw [step_dt, in1_0, in1_1, in_saved V c t _ hS, show t32 (F := Ideal) (car1 V c t.val) = _ from car1_dd V c hS t.val (by omega)]
  unfold gt
  rw [show 63 - (63 - t.val) = t.val by omega]
  rfl

/-- The gradient of `cd`. -/
theorem out1_13 (c : Dev Cert.KernelIdeal.nD) (hS : V c Cert.KernelIdeal.main_v0_1 = flatOf (st (kin V c))) : (dat1 (F := Ideal) V c).arrAt 13 cfg1.N = flatOf (gc (kin V c)) := by
  refine (dat1 V c).arrAt_eq_of_covers 13 _ (by decide +kernel) fun t hf y => ?_
  have ht : t.val < 64 := t.isLt
  rw [show ((cfg1.win 13).blk t).view.emb y = _ from emb1_13 t y]
  refine Eq.trans ?_ (untile_flat (gc (kin V c)) (63 - t.val) (by omega) y)
  show (dat1 V c).after 13 t y = _
  rw [after1_13]
  unfold bwdC
  rw [in_saved V c t _ hS, show t32 (F := Ideal) (car1 V c t.val) = _ from car1_dd V c hS t.val (by omega)]
  unfold gc
  rw [show 63 - (63 - t.val) = t.val by omega]
  rfl

end Cert.Scan

end
-- ==== Proof.Results.lean ====
/- The results of the two programs, from memories that agree on the arguments. -/
module

public import proofs.«01_k».proof.Proof.Values

@[expose] public section

set_option maxRecDepth 16384

noncomputable section

namespace Cert.Scan

open Idealize.ShloMosaic Idealize.ShloMosaic.TcCoe Idealize.ShloMosaic.Tactic
open Idealize.SL.Sem
open Cert.KernelIdeal (S128x1024 S8x128x128 S8192x1024)
open Cert.KernelIdeal.Gen
open Cert.KernelIdeal.Scan
open Cert.ReferenceIdeal.Scan (row chunked flat widen narrow Inputs st dd vv oo gu gw gk gq gt gc zero inp Stack Slab Index pickAt putAt rV rO rS rdU rdW rdK rdQ rdT rdC rdS back mm mmT mmR mmL tr)

open Cert.KernelIdeal (cfg0 spec0 cfg1 spec1)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The memories hold the same seven arguments. -/
def Same : Prop := ∀ c : Dev Cert.KernelIdeal.nD,
m' (c.tc.loc Cert.ReferenceIdeal.main_arg0) = m (c.tc.loc Cert.KernelIdeal.main_arg0)
  ∧ m' (c.tc.loc Cert.ReferenceIdeal.main_arg1) = m (c.tc.loc Cert.KernelIdeal.main_arg1)
  ∧ m' (c.tc.loc Cert.ReferenceIdeal.main_arg2) = m (c.tc.loc Cert.KernelIdeal.main_arg2)
  ∧ m' (c.tc.loc Cert.ReferenceIdeal.main_arg3) = m (c.tc.loc Cert.KernelIdeal.main_arg3)
  ∧ m' (c.tc.loc Cert.ReferenceIdeal.main_arg4) = m (c.tc.loc Cert.KernelIdeal.main_arg4)
  ∧ m' (c.tc.loc Cert.ReferenceIdeal.main_arg5) = m (c.tc.loc Cert.KernelIdeal.main_arg5)
  ∧ m' (c.tc.loc Cert.ReferenceIdeal.main_arg6) = m (c.tc.loc Cert.KernelIdeal.main_arg6)

/-- The chunks of the kernel's inputs, from memory. -/
def kmem (c : Dev Cert.KernelIdeal.nD) : Inputs Ideal := kin (V0 m ρ) c

theorem inp_eq (h : Same m m') (c : Dev Cert.KernelIdeal.nD) : inp m' c = kmem m ρ c := by
  obtain ⟨h0, h1, h2, h3, h4, h5, h6⟩ := h c
  unfold inp kmem kin
  rw [h0, h1, h2, h3, h4, h5, h6]

/-- The forward scan leaves the arguments, so the backward scan finds the same chunks. -/
theorem kin1 (c : Dev Cert.KernelIdeal.nD) : kin (V1 m ρ) c = kmem m ρ c := by
  have key : ∀ a ∈ argRefs, V1 m ρ c a = V0 m ρ c a := fun a ha => W1_args m ρ c a ha
  unfold kmem kin
  rw [key _ (by decide), key _ (by decide), key _ (by decide), key _ (by decide), key _ (by decide), key _ (by decide), key _ (by decide)]

/-- The backward scan finds the reference's states saved. -/
theorem saved (c : Dev Cert.KernelIdeal.nD) : V1 m ρ c Cert.KernelIdeal.main_v0_1 = flatOf (st (kin (V1 m ρ) c)) := by
  rw [kin1]
  exact (W1_arr m ρ c 7).trans (out0_7 (V0 m ρ) c)

/-! The seven results of the kernel. -/
theorem k_o (c : Dev Cert.KernelIdeal.nD) : W2 m ρ c (Proc.devRef .tc Cert.KernelIdeal.main_v0_0) = flatOf (oo (kmem m ρ c)) :=
  (W2_of m ρ c Cert.KernelIdeal.main_v0_0 (by decide)).trans ((W1_arr m ρ c 6).trans (out0_6 (V0 m ρ) c))
theorem k_gu (c : Dev Cert.KernelIdeal.nD) : W2 m ρ c (Proc.devRef .tc Cert.KernelIdeal.main_v1_0) = flatOf (gu (kmem m ρ c)) := by
  rw [← kin1]; exact (W2_arr m ρ c 8).trans (out1_8 (V1 m ρ) c (saved m ρ c))
theorem k_gw (c : Dev Cert.KernelIdeal.nD) : W2 m ρ c (Proc.devRef .tc Cert.KernelIdeal.main_v1_1) = narrow (F := Ideal) (flatOf (gw (kmem m ρ c))) := by
  rw [← kin1]; exact (W2_arr m ρ c 9).trans (out1_9 (V1 m ρ) c (saved m ρ c))
theorem k_gk (c : Dev Cert.KernelIdeal.nD) : W2 m ρ c (Proc.devRef .tc Cert.KernelIdeal.main_v1_2) = narrow (F := Ideal) (flatOf (gk (kmem m ρ c))) := by
  rw [← kin1]; exact (W2_arr m ρ c 10).trans (out1_10 (V1 m ρ) c (saved m ρ c))
theorem k_gq (c : Dev Cert.KernelIdeal.nD) : W2 m ρ c (Proc.devRef .tc Cert.KernelIdeal.main_v1_3) = narrow (F := Ideal) (flatOf (gq (kmem m ρ c))) := by
  rw [← kin1]; exact (W2_arr m ρ c 11).trans (out1_11 (V1 m ρ) c (saved m ρ c))
theorem k_gt (c : Dev Cert.KernelIdeal.nD) : W2 m ρ c (Proc.devRef .tc Cert.KernelIdeal.main_v1_4) = narrow (F := Ideal) (flatOf (gt (kmem m ρ c))) := by
  rw [← kin1]; exact (W2_arr m ρ c 12).trans (out1_12 (V1 m ρ) c (saved m ρ c))
theorem k_gc (c : Dev Cert.KernelIdeal.nD) : W2 m ρ c (Proc.devRef .tc Cert.KernelIdeal.main_v1_5) = flatOf (gc (kmem m ρ c)) := by
  rw [← kin1]; exact (W2_arr m ρ c 13).trans (out1_13 (V1 m ρ) c (saved m ρ c))

/-! The seven results of the reference. -/
theorem r_o (h : Same m m') (c : Dev Cert.KernelIdeal.nD) : Cert.ReferenceIdeal.Scan.Z m' c (Proc.devRef .tc Cert.ReferenceIdeal.main_v22) = flatOf (oo (kmem m ρ c)) := by
  rw [← inp_eq m ρ m' h]
  exact (Cert.ReferenceIdeal.Scan.z_o m' c).trans (flat_eq _ _ (Cert.ReferenceIdeal.Scan.rows_trip0_o m' c 64 (by omega)))
theorem r_gu (h : Same m m') (c : Dev Cert.KernelIdeal.nD) : Cert.ReferenceIdeal.Scan.Z m' c (Proc.devRef .tc Cert.ReferenceIdeal.main_v49) = flatOf (gu (kmem m ρ c)) := by
  rw [← inp_eq m ρ m' h]
  exact (Cert.ReferenceIdeal.Scan.z_gu m' c).trans ((flat_eq _ _ fun n hn => Cert.ReferenceIdeal.Scan.rows_gu m' c 64 (by omega) n hn (by omega)))
theorem r_gw (h : Same m m') (c : Dev Cert.KernelIdeal.nD) : Cert.ReferenceIdeal.Scan.Z m' c (Proc.devRef .tc Cert.ReferenceIdeal.main_v47) = narrow (F := Ideal) (flatOf (gw (kmem m ρ c))) := by
  rw [← inp_eq m ρ m' h]
  exact (Cert.ReferenceIdeal.Scan.z_gw m' c).trans (congrArg (narrow (F := Ideal)) (flat_eq _ _ fun n hn => Cert.ReferenceIdeal.Scan.rows_gw m' c 64 (by omega) n hn (by omega)))
theorem r_gk (h : Same m m') (c : Dev Cert.KernelIdeal.nD) : Cert.ReferenceIdeal.Scan.Z m' c (Proc.devRef .tc Cert.ReferenceIdeal.main_v44) = narrow (F := Ideal) (flatOf (gk (kmem m ρ c))) := by
  rw [← inp_eq m ρ m' h]
  exact (Cert.ReferenceIdeal.Scan.z_gk m' c).trans (congrArg (narrow (F := Ideal)) (flat_eq _ _ fun n hn => Cert.ReferenceIdeal.Scan.rows_gk m' c 64 (by omega) n hn (by omega)))
theorem r_gq (h : Same m m') (c : Dev Cert.KernelIdeal.nD) : Cert.ReferenceIdeal.Scan.Z m' c (Proc.devRef .tc Cert.ReferenceIdeal.main_v41) = narrow (F := Ideal) (flatOf (gq (kmem m ρ c))) := by
  rw [← inp_eq m ρ m' h]
  exact (Cert.ReferenceIdeal.Scan.z_gq m' c).trans (congrArg (narrow (F := Ideal)) (flat_eq _ _ fun n hn => Cert.ReferenceIdeal.Scan.rows_gq m' c 64 (by omega) n hn (by omega)))
theorem r_gt (h : Same m m') (c : Dev Cert.KernelIdeal.nD) : Cert.ReferenceIdeal.Scan.Z m' c (Proc.devRef .tc Cert.ReferenceIdeal.main_v38) = narrow (F := Ideal) (flatOf (gt (kmem m ρ c))) := by
  rw [← inp_eq m ρ m' h]
  exact (Cert.ReferenceIdeal.Scan.z_gt m' c).trans (congrArg (narrow (F := Ideal)) (flat_eq _ _ fun n hn => Cert.ReferenceIdeal.Scan.rows_gt m' c 64 (by omega) n hn (by omega)))
theorem r_gc (h : Same m m') (c : Dev Cert.KernelIdeal.nD) : Cert.ReferenceIdeal.Scan.Z m' c (Proc.devRef .tc Cert.ReferenceIdeal.main_v35) = flatOf (gc (kmem m ρ c)) := by
  rw [← inp_eq m ρ m' h]
  exact (Cert.ReferenceIdeal.Scan.z_gc m' c).trans ((flat_eq _ _ fun n hn => Cert.ReferenceIdeal.Scan.rows_gc m' c 64 (by omega) n hn (by omega)))

end Cert.Scan

end
-- ==== Proof.lean ====
/- The scan of the gated recurrence, forward and backward: the claims of `Cert.Claim`, from the runs of the two programs and their values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.GwOut
public import proofs.«01_k».proof.Proof.GwIn
public import proofs.«01_k».proof.Proof.FfnIn
public import proofs.«01_k».proof.Proof.FfnOut
public import proofs.«01_k».proof.Proof.FfnDact
public import proofs.«01_k».proof.Proof.FfnDhn
public import proofs.«01_k».proof.Proof.GdnProj
public import proofs.«01_k».proof.Proof.GdnGwQkv
public import proofs.«01_k».proof.Proof.GdnGwOut
public import proofs.«01_k».proof.Proof.GdnDhnQkv
public import proofs.«01_k».proof.Proof.GdnDhnZ
public import proofs.«01_k».proof.Proof.GdnDgate
public import proofs.«01_k».proof.Proof.GdnOut
public import proofs.«01_k».proof.Proof.DilDmerged
public import proofs.«01_k».proof.Proof.DilOut
public import proofs.«01_k».proof.Proof.DilProj
public import proofs.«01_k».proof.Proof.DilGwParts
public import proofs.«01_k».proof.Proof.DilGw
public import proofs.«01_k».proof.Proof.DilDhn
public import proofs.«01_k».proof.Proof.DilDhnParts
public import proofs.«01_k».proof.Proof.Layer
public import proofs.«01_k».proof.Proof.Same
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference runs, and ends with its arguments unchanged and every counter at zero. -/
theorem frame_reference (m : (ℓ : Loc Cert.ReferenceIdeal.nD Cert.ReferenceIdeal.τ Cert.ReferenceIdeal.sig) → Buf (Elt Ideal) ℓ) (g : Dev Cert.ReferenceIdeal.nD → PrngReg) (c : Dev Cert.ReferenceIdeal.nD) :
    ∀ a ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6], Cert.ReferenceIdeal.Scan.Z m c (Proc.devRef .tc a) = m ((c.tc : Thread Cert.ReferenceIdeal.nD Cert.ReferenceIdeal.τ).loc a) := by
  intro a ha
  simp only [List.mem_cons, List.not_mem_nil, or_false] at ha
  rcases ha with rfl | rfl | rfl | rfl | rfl | rfl | rfl <;>
    exact Cert.ReferenceIdeal.Scan.z_arg m c _ (by decide) (by decide) (by decide) (by decide) (by decide) (by decide) (by decide) (by decide)

theorem frameR : Cert.quiescent_ReferenceIdeal := by
  intro m g _
  refine (θ_run (Cert.ReferenceIdeal.defs (F := Ideal)) _ _).mono (fun r h => ⟨fun c => ?_, h.2⟩) (Cert.ReferenceIdeal.Scan.run_all m g)
  exact ⟨(h.1 c Cert.ReferenceIdeal.main_arg0 (by decide)).trans (frame_reference m g c _ (by decide)), (h.1 c Cert.ReferenceIdeal.main_arg1 (by decide)).trans (frame_reference m g c _ (by decide)), (h.1 c Cert.ReferenceIdeal.main_arg2 (by decide)).trans (frame_reference m g c _ (by decide)), (h.1 c Cert.ReferenceIdeal.main_arg3 (by decide)).trans (frame_reference m g c _ (by decide)), (h.1 c Cert.ReferenceIdeal.main_arg4 (by decide)).trans (frame_reference m g c _ (by decide)), (h.1 c Cert.ReferenceIdeal.main_arg5 (by decide)).trans (frame_reference m g c _ (by decide)), (h.1 c Cert.ReferenceIdeal.main_arg6 (by decide)).trans (frame_reference m g c _ (by decide))⟩

set_option maxHeartbeats 4000000 in
theorem frameK : Cert.quiescent_Kernel := fun m g _ => by
  have h := Cert.KernelIdeal.Scan.frame_main (F := Bits) m g
  rw [← Cert.Scan.same_defs] at h
  exact h

theorem frameKI : Cert.quiescent_KernelIdeal := fun m g _ => Cert.KernelIdeal.Scan.frame_main (F := Ideal) m g

/-- From memories with the same arguments the kernel and the reference end with equal results over the reals. -/
theorem values : Cert.algebraic_KernelIdeal_ReferenceIdeal := by
  intro m g m' g' _ h
  refine ⟨fun c => Cert.KernelIdeal.Scan.W2 m g c (Proc.devRef .tc Cert.KernelIdeal.main_v0_0), fun c => Cert.KernelIdeal.Scan.W2 m g c (Proc.devRef .tc Cert.KernelIdeal.main_v1_0), fun c => Cert.KernelIdeal.Scan.W2 m g c (Proc.devRef .tc Cert.KernelIdeal.main_v1_1), fun c => Cert.KernelIdeal.Scan.W2 m g c (Proc.devRef .tc Cert.KernelIdeal.main_v1_2), fun c => Cert.KernelIdeal.Scan.W2 m g c (Proc.devRef .tc Cert.KernelIdeal.main_v1_3), fun c => Cert.KernelIdeal.Scan.W2 m g c (Proc.devRef .tc Cert.KernelIdeal.main_v1_4), fun c => Cert.KernelIdeal.Scan.W2 m g c (Proc.devRef .tc Cert.KernelIdeal.main_v1_5), ?_, ?_⟩
  · refine (θ_run (Cert.KernelIdeal.defs (F := Ideal)) _ _).mono (fun r q c => ?_) (Cert.KernelIdeal.Scan.run_all (F := Ideal) m g)
    have key : ∀ a ∈ Cert.KernelIdeal.Scan.argRefs, r.2.mem ((c.tc : Thread Cert.KernelIdeal.nD Cert.KernelIdeal.τ).loc a) = m ((c.tc : Thread Cert.KernelIdeal.nD Cert.KernelIdeal.τ).loc a) := fun a ha =>
      (q.1 c a (by revert a; decide)).trans (Cert.KernelIdeal.Scan.W2_args m g c a ha)
    exact ⟨q.1 c Cert.KernelIdeal.main_v0_0 (by decide), q.1 c Cert.KernelIdeal.main_v1_0 (by decide), q.1 c Cert.KernelIdeal.main_v1_1 (by decide), q.1 c Cert.KernelIdeal.main_v1_2 (by decide), q.1 c Cert.KernelIdeal.main_v1_3 (by decide), q.1 c Cert.KernelIdeal.main_v1_4 (by decide), q.1 c Cert.KernelIdeal.main_v1_5 (by decide),
      key Cert.KernelIdeal.main_arg0 (by decide), key Cert.KernelIdeal.main_arg1 (by decide), key Cert.KernelIdeal.main_arg2 (by decide), key Cert.KernelIdeal.main_arg3 (by decide), key Cert.KernelIdeal.main_arg4 (by decide), key Cert.KernelIdeal.main_arg5 (by decide), key Cert.KernelIdeal.main_arg6 (by decide)⟩
  · refine (θ_run (Cert.ReferenceIdeal.defs (F := Ideal)) _ _).mono (fun r q c => ?_) (Cert.ReferenceIdeal.Scan.run_all (F := Ideal) m' g')
    exact ⟨(q.1 c Cert.ReferenceIdeal.main_v22 (by decide)).trans ((Cert.Scan.r_o m g m' h c).trans (Cert.Scan.k_o m g c).symm), (q.1 c Cert.ReferenceIdeal.main_v49 (by decide)).trans ((Cert.Scan.r_gu m g m' h c).trans (Cert.Scan.k_gu m g c).symm), (q.1 c Cert.ReferenceIdeal.main_v47 (by decide)).trans ((Cert.Scan.r_gw m g m' h c).trans (Cert.Scan.k_gw m g c).symm), (q.1 c Cert.ReferenceIdeal.main_v44 (by decide)).trans ((Cert.Scan.r_gk m g m' h c).trans (Cert.Scan.k_gk m g c).symm), (q.1 c Cert.ReferenceIdeal.main_v41 (by decide)).trans ((Cert.Scan.r_gq m g m' h c).trans (Cert.Scan.k_gq m g c).symm), (q.1 c Cert.ReferenceIdeal.main_v38 (by decide)).trans ((Cert.Scan.r_gt m g m' h c).trans (Cert.Scan.k_gt m g c).symm), (q.1 c Cert.ReferenceIdeal.main_v35 (by decide)).trans ((Cert.Scan.r_gc m g m' h c).trans (Cert.Scan.k_gc m g c).symm),
      (q.1 c Cert.ReferenceIdeal.main_arg0 (by decide)).trans (frame_reference m' g' c _ (by decide)), (q.1 c Cert.ReferenceIdeal.main_arg1 (by decide)).trans (frame_reference m' g' c _ (by decide)), (q.1 c Cert.ReferenceIdeal.main_arg2 (by decide)).trans (frame_reference m' g' c _ (by decide)), (q.1 c Cert.ReferenceIdeal.main_arg3 (by decide)).trans (frame_reference m' g' c _ (by decide)), (q.1 c Cert.ReferenceIdeal.main_arg4 (by decide)).trans (frame_reference m' g' c _ (by decide)), (q.1 c Cert.ReferenceIdeal.main_arg5 (by decide)).trans (frame_reference m' g' c _ (by decide)), (q.1 c Cert.ReferenceIdeal.main_arg6 (by decide)).trans (frame_reference m' g' c _ (by decide))⟩

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite6.Gen.facts, Cert.Pre_finite7.Gen.facts, Cert.Pre_padded18.Gen.facts, Cert.Pre_padded19.Gen.facts, Cert.Pre_padded20.Gen.facts, Cert.Pre_padded21.Gen.facts, Cert.Pre_padded22.Gen.facts, Cert.Pre_finite23.Gen.facts, frameK, frameKI, frameR, frameK2, frameKI2, frameR2, frameK3, frameKI3, frameR3, frameK4, frameKI4, frameR4, frameK5, frameKI5, frameR5, frameK6, frameKI6, frameKP6, frameR6, frameRP6, frameK7, frameKI7, frameKP7, frameR7, frameRP7, frameK8, frameKI8, frameR8, frameK9, frameKI9, frameR9, frameK10, frameKI10, frameR10, frameK11, frameKI11, frameR11, frameK12, frameKI12, frameR12, frameK13, frameKI13, frameR13, frameK14, frameKI14, frameR14, frameK15, frameKI15, frameR15, frameK16, frameKI16, frameR16, frameK17, frameKI17, frameR17, frameK18, frameKI18, frameKP18, frameR18, frameRP18, frameK19, frameKI19, frameKP19, frameR19, frameRP19, frameK20, frameKI20, frameKP20, frameR20, frameRP20, frameK21, frameKI21, frameKP21, frameR21, frameRP21, frameK22, frameKI22, frameKP22, frameR22, frameRP22, frameK23, frameKI23, frameKP23, frameR23, frameRP23, frameK24, frameKI24, frameR24, frameK25, frameKI25, frameR25, trivial, values, trivial, values2, trivial, values3, trivial, values4, trivial, values5, trivial, values6, trivial, values7, trivial, values8, trivial, values9, trivial, values10, trivial, values11, trivial, values12, trivial, values13, trivial, values14, trivial, values15, trivial, values16, trivial, values17, trivial, values18, trivial, values19, trivial, values20, trivial, values21, trivial, values22, trivial, values23, trivial, values24, trivial, values25⟩

end Cert.Proof

end
